-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_DWin (m : (ℓ : Loc Cert.DWin.nD Cert.DWin.τ Cert.DWin.sig) → Buf (Elt Bits) ℓ) : Prop :=
  True

def Pre_DWinIdeal (m : (ℓ : Loc Cert.DWinIdeal.nD Cert.DWinIdeal.τ Cert.DWinIdeal.sig) → Buf (Elt Ideal) ℓ) : Prop :=
  True

def Pre_DWinRefIdeal (m : (ℓ : Loc Cert.DWinRefIdeal.nD Cert.DWinRefIdeal.τ Cert.DWinRefIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1RefIdeal (m : (ℓ : Loc Cert.DH1RefIdeal.nD Cert.DH1RefIdeal.τ Cert.DH1RefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DWout (m : (ℓ : Loc Cert.DWout.nD Cert.DWout.τ Cert.DWout.sig) → Buf (Elt Bits) ℓ) : Prop :=
  True

def Pre_DWoutIdeal (m : (ℓ : Loc Cert.DWoutIdeal.nD Cert.DWoutIdeal.τ Cert.DWoutIdeal.sig) → Buf (Elt Ideal) ℓ) : Prop :=
  True

def Pre_DWoutRefIdeal (m : (ℓ : Loc Cert.DWoutRefIdeal.nD Cert.DWoutRefIdeal.τ Cert.DWoutRefIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleRefIdeal (m : (ℓ : Loc Cert.MiddleRefIdeal.nD Cert.MiddleRefIdeal.τ Cert.MiddleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_DWin [hDWin : Cert.DWin.Facts] : Prop :=
  ∀ (m : (ℓ : Loc Cert.DWin.nD Cert.DWin.τ Cert.DWin.sig) → Buf (Elt Bits) ℓ) (g : Dev Cert.DWin.nD → PrngReg), Pre_DWin m →
    θ_run (Cert.DWin.defs (F := Bits)) (onTc (τ := Cert.DWin.τ) (Cert.DWin.main (F := Bits))) ⟨m, fun _ => 0, g⟩ (fun r => (∀ c : Dev Cert.DWin.nD,
      r.2.mem ((c.tc : Thread Cert.DWin.nD Cert.DWin.τ).loc Cert.DWin.main_arg0) = m ((c.tc : Thread Cert.DWin.nD Cert.DWin.τ).loc Cert.DWin.main_arg0)
      ∧ r.2.mem ((c.tc : Thread Cert.DWin.nD Cert.DWin.τ).loc Cert.DWin.main_arg1) = m ((c.tc : Thread Cert.DWin.nD Cert.DWin.τ).loc Cert.DWin.main_arg1))
      ∧ r.2.sem = fun _ => 0)

def quiescent_DWinIdeal [hDWinIdeal : Cert.DWinIdeal.Facts] : Prop :=
  ∀ (m : (ℓ : Loc Cert.DWinIdeal.nD Cert.DWinIdeal.τ Cert.DWinIdeal.sig) → Buf (Elt Ideal) ℓ) (g : Dev Cert.DWinIdeal.nD → PrngReg), Pre_DWinIdeal m →
    θ_run (Cert.DWinIdeal.defs (F := Ideal)) (onTc (τ := Cert.DWinIdeal.τ) (Cert.DWinIdeal.main (F := Ideal))) ⟨m, fun _ => 0, g⟩ (fun r => (∀ c : Dev Cert.DWinIdeal.nD,
      r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
      ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ r.2.sem = fun _ => 0)

def quiescent_DWinRefIdeal [hDWinRefIdeal : Cert.DWinRefIdeal.Facts] : Prop :=
  ∀ (m : (ℓ : Loc Cert.DWinRefIdeal.nD Cert.DWinRefIdeal.τ Cert.DWinRefIdeal.sig) → Buf (Elt Ideal) ℓ) (g : Dev Cert.DWinRefIdeal.nD → PrngReg), Pre_DWinRefIdeal m →
    θ_run (Cert.DWinRefIdeal.defs (F := Ideal)) (onTc (τ := Cert.DWinRefIdeal.τ) (Cert.DWinRefIdeal.main (F := Ideal))) ⟨m, fun _ => 0, g⟩ (fun r => (∀ c : Dev Cert.DWinRefIdeal.nD,
      r.2.mem ((c.tc : Thread Cert.DWinRefIdeal.nD Cert.DWinRefIdeal.τ).loc Cert.DWinRefIdeal.main_arg0) = m ((c.tc : Thread Cert.DWinRefIdeal.nD Cert.DWinRefIdeal.τ).loc Cert.DWinRefIdeal.main_arg0)
      ∧ r.2.mem ((c.tc : Thread Cert.DWinRefIdeal.nD Cert.DWinRefIdeal.τ).loc Cert.DWinRefIdeal.main_arg1) = m ((c.tc : Thread Cert.DWinRefIdeal.nD Cert.DWinRefIdeal.τ).loc Cert.DWinRefIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1RefIdeal [hDH1RefIdeal : Cert.DH1RefIdeal.Facts] : Prop :=
  ∀ (m : (ℓ : Loc Cert.DH1RefIdeal.nD Cert.DH1RefIdeal.τ Cert.DH1RefIdeal.sig) → Buf (Elt Ideal) ℓ) (g : Dev Cert.DH1RefIdeal.nD → PrngReg), Pre_DH1RefIdeal m →
    θ_run (Cert.DH1RefIdeal.defs (F := Ideal)) (onTc (τ := Cert.DH1RefIdeal.τ) (Cert.DH1RefIdeal.main (F := Ideal))) ⟨m, fun _ => 0, g⟩ (fun r => (∀ c : Dev Cert.DH1RefIdeal.nD,
      r.2.mem ((c.tc : Thread Cert.DH1RefIdeal.nD Cert.DH1RefIdeal.τ).loc Cert.DH1RefIdeal.main_arg0) = m ((c.tc : Thread Cert.DH1RefIdeal.nD Cert.DH1RefIdeal.τ).loc Cert.DH1RefIdeal.main_arg0)
      ∧ r.2.mem ((c.tc : Thread Cert.DH1RefIdeal.nD Cert.DH1RefIdeal.τ).loc Cert.DH1RefIdeal.main_arg1) = m ((c.tc : Thread Cert.DH1RefIdeal.nD Cert.DH1RefIdeal.τ).loc Cert.DH1RefIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DWout [hDWout : Cert.DWout.Facts] : Prop :=
  ∀ (m : (ℓ : Loc Cert.DWout.nD Cert.DWout.τ Cert.DWout.sig) → Buf (Elt Bits) ℓ) (g : Dev Cert.DWout.nD → PrngReg), Pre_DWout m →
    θ_run (Cert.DWout.defs (F := Bits)) (onTc (τ := Cert.DWout.τ) (Cert.DWout.main (F := Bits))) ⟨m, fun _ => 0, g⟩ (fun r => (∀ c : Dev Cert.DWout.nD,
      r.2.mem ((c.tc : Thread Cert.DWout.nD Cert.DWout.τ).loc Cert.DWout.main_arg0) = m ((c.tc : Thread Cert.DWout.nD Cert.DWout.τ).loc Cert.DWout.main_arg0)
      ∧ r.2.mem ((c.tc : Thread Cert.DWout.nD Cert.DWout.τ).loc Cert.DWout.main_arg1) = m ((c.tc : Thread Cert.DWout.nD Cert.DWout.τ).loc Cert.DWout.main_arg1))
      ∧ r.2.sem = fun _ => 0)

def quiescent_DWoutIdeal [hDWoutIdeal : Cert.DWoutIdeal.Facts] : Prop :=
  ∀ (m : (ℓ : Loc Cert.DWoutIdeal.nD Cert.DWoutIdeal.τ Cert.DWoutIdeal.sig) → Buf (Elt Ideal) ℓ) (g : Dev Cert.DWoutIdeal.nD → PrngReg), Pre_DWoutIdeal m →
    θ_run (Cert.DWoutIdeal.defs (F := Ideal)) (onTc (τ := Cert.DWoutIdeal.τ) (Cert.DWoutIdeal.main (F := Ideal))) ⟨m, fun _ => 0, g⟩ (fun r => (∀ c : Dev Cert.DWoutIdeal.nD,
      r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
      ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ r.2.sem = fun _ => 0)

def quiescent_DWoutRefIdeal [hDWoutRefIdeal : Cert.DWoutRefIdeal.Facts] : Prop :=
  ∀ (m : (ℓ : Loc Cert.DWoutRefIdeal.nD Cert.DWoutRefIdeal.τ Cert.DWoutRefIdeal.sig) → Buf (Elt Ideal) ℓ) (g : Dev Cert.DWoutRefIdeal.nD → PrngReg), Pre_DWoutRefIdeal m →
    θ_run (Cert.DWoutRefIdeal.defs (F := Ideal)) (onTc (τ := Cert.DWoutRefIdeal.τ) (Cert.DWoutRefIdeal.main (F := Ideal))) ⟨m, fun _ => 0, g⟩ (fun r => (∀ c : Dev Cert.DWoutRefIdeal.nD,
      r.2.mem ((c.tc : Thread Cert.DWoutRefIdeal.nD Cert.DWoutRefIdeal.τ).loc Cert.DWoutRefIdeal.main_arg0) = m ((c.tc : Thread Cert.DWoutRefIdeal.nD Cert.DWoutRefIdeal.τ).loc Cert.DWoutRefIdeal.main_arg0)
      ∧ r.2.mem ((c.tc : Thread Cert.DWoutRefIdeal.nD Cert.DWoutRefIdeal.τ).loc Cert.DWoutRefIdeal.main_arg1) = m ((c.tc : Thread Cert.DWoutRefIdeal.nD Cert.DWoutRefIdeal.τ).loc Cert.DWoutRefIdeal.main_arg1))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3))
      ∧ r.2.sem = fun _ => 0)

def quiescent_MiddleRefIdeal [hMiddleRefIdeal : Cert.MiddleRefIdeal.Facts] : Prop :=
  ∀ (m : (ℓ : Loc Cert.MiddleRefIdeal.nD Cert.MiddleRefIdeal.τ Cert.MiddleRefIdeal.sig) → Buf (Elt Ideal) ℓ) (g : Dev Cert.MiddleRefIdeal.nD → PrngReg), Pre_MiddleRefIdeal m →
    θ_run (Cert.MiddleRefIdeal.defs (F := Ideal)) (onTc (τ := Cert.MiddleRefIdeal.τ) (Cert.MiddleRefIdeal.main (F := Ideal))) ⟨m, fun _ => 0, g⟩ (fun r => (∀ c : Dev Cert.MiddleRefIdeal.nD,
      r.2.mem ((c.tc : Thread Cert.MiddleRefIdeal.nD Cert.MiddleRefIdeal.τ).loc Cert.MiddleRefIdeal.main_arg0) = m ((c.tc : Thread Cert.MiddleRefIdeal.nD Cert.MiddleRefIdeal.τ).loc Cert.MiddleRefIdeal.main_arg0)
      ∧ r.2.mem ((c.tc : Thread Cert.MiddleRefIdeal.nD Cert.MiddleRefIdeal.τ).loc Cert.MiddleRefIdeal.main_arg1) = m ((c.tc : Thread Cert.MiddleRefIdeal.nD Cert.MiddleRefIdeal.τ).loc Cert.MiddleRefIdeal.main_arg1)
      ∧ r.2.mem ((c.tc : Thread Cert.MiddleRefIdeal.nD Cert.MiddleRefIdeal.τ).loc Cert.MiddleRefIdeal.main_arg2) = m ((c.tc : Thread Cert.MiddleRefIdeal.nD Cert.MiddleRefIdeal.τ).loc Cert.MiddleRefIdeal.main_arg2)
      ∧ r.2.mem ((c.tc : Thread Cert.MiddleRefIdeal.nD Cert.MiddleRefIdeal.τ).loc Cert.MiddleRefIdeal.main_arg3) = m ((c.tc : Thread Cert.MiddleRefIdeal.nD Cert.MiddleRefIdeal.τ).loc Cert.MiddleRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31))
      ∧ r.2.sem = fun _ => 0)

def preserves_Kernel_KernelIdeal : Prop :=
  IdealRules.named_const.Statement Cert.KernelIdeal.κ "cube" .f32 0x3D372713#32 ((8943 / 200000 : ℝ) : EReal)
  ∧ IdealRules.named_const.Statement Cert.KernelIdeal.κ "cube3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v125) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v3)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v3) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v6) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_Up_UpIdeal : Prop :=
  IdealRules.named_const.Statement Cert.UpIdeal.κ "cube" .f32 0x3D372713#32 ((8943 / 200000 : ℝ) : EReal)

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v34) = v0 c
          ∧ r.2.mem ((c.tc : Thread Cert.UpRefIdeal.nD Cert.UpRefIdeal.τ).loc Cert.UpRefIdeal.main_v50) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v21)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v21) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v100) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_DWin_DWinIdeal : Prop :=
  True

def algebraic_DWinIdeal_DWinRefIdeal [hDWinIdeal : Cert.DWinIdeal.Facts] [hDWinRefIdeal : Cert.DWinRefIdeal.Facts] : Prop :=
  ∀ (m : (ℓ : Loc Cert.DWinIdeal.nD Cert.DWinIdeal.τ Cert.DWinIdeal.sig) → Buf (Elt Ideal) ℓ) (g : Dev Cert.DWinIdeal.nD → PrngReg)
    (m' : (ℓ : Loc Cert.DWinRefIdeal.nD Cert.DWinRefIdeal.τ Cert.DWinRefIdeal.sig) → Buf (Elt Ideal) ℓ) (g' : Dev Cert.DWinRefIdeal.nD → PrngReg), Pre_DWinIdeal m →
    (∀ c : Dev Cert.DWinIdeal.nD,
      m' ((c.tc : Thread Cert.DWinRefIdeal.nD Cert.DWinRefIdeal.τ).loc Cert.DWinRefIdeal.main_arg0) = m ((c.tc : Thread Cert.DWinIdeal.nD Cert.DWinIdeal.τ).loc Cert.DWinIdeal.main_arg0)
      ∧ m' ((c.tc : Thread Cert.DWinRefIdeal.nD Cert.DWinRefIdeal.τ).loc Cert.DWinRefIdeal.main_arg1) = m ((c.tc : Thread Cert.DWinIdeal.nD Cert.DWinIdeal.τ).loc Cert.DWinIdeal.main_arg1)) →
    ∃ (v0 : (c : Dev Cert.DWinIdeal.nD) → Buf (Elt Ideal) ((c.tc : Thread Cert.DWinIdeal.nD Cert.DWinIdeal.τ).loc Cert.DWinIdeal.main_v0)),
      θ_run (Cert.DWinIdeal.defs (F := Ideal)) (onTc (τ := Cert.DWinIdeal.τ) (Cert.DWinIdeal.main (F := Ideal))) ⟨m, fun _ => 0, g⟩ (fun r => ∀ c : Dev Cert.DWinIdeal.nD,
          r.2.mem ((c.tc : Thread Cert.DWinIdeal.nD Cert.DWinIdeal.τ).loc Cert.DWinIdeal.main_v0) = v0 c
          ∧ r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
          ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1))
      ∧ θ_run (Cert.DWinRefIdeal.defs (F := Ideal)) (onTc (τ := Cert.DWinRefIdeal.τ) (Cert.DWinRefIdeal.main (F := Ideal))) ⟨m', fun _ => 0, g'⟩ (fun r => ∀ c : Dev Cert.DWinRefIdeal.nD,
          r.2.mem ((c.tc : Thread Cert.DWinRefIdeal.nD Cert.DWinRefIdeal.τ).loc Cert.DWinRefIdeal.main_v8) = v0 c
          ∧ r.2.mem ((c.tc : Thread Cert.DWinRefIdeal.nD Cert.DWinRefIdeal.τ).loc Cert.DWinRefIdeal.main_arg0) = m' ((c.tc : Thread Cert.DWinRefIdeal.nD Cert.DWinRefIdeal.τ).loc Cert.DWinRefIdeal.main_arg0)
          ∧ r.2.mem ((c.tc : Thread Cert.DWinRefIdeal.nD Cert.DWinRefIdeal.τ).loc Cert.DWinRefIdeal.main_arg1) = m' ((c.tc : Thread Cert.DWinRefIdeal.nD Cert.DWinRefIdeal.τ).loc Cert.DWinRefIdeal.main_arg1))

def preserves_DH1_DH1Ideal : Prop :=
  True

def algebraic_DH1Ideal_DH1RefIdeal [hDH1Ideal : Cert.DH1Ideal.Facts] [hDH1RefIdeal : Cert.DH1RefIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1RefIdeal.nD Cert.DH1RefIdeal.τ Cert.DH1RefIdeal.sig) → Buf (Elt Ideal) ℓ) (g' : Dev Cert.DH1RefIdeal.nD → PrngReg), Pre_DH1Ideal m →
    (∀ c : Dev Cert.DH1Ideal.nD,
      m' ((c.tc : Thread Cert.DH1RefIdeal.nD Cert.DH1RefIdeal.τ).loc Cert.DH1RefIdeal.main_arg0) = m ((c.tc : Thread Cert.DH1Ideal.nD Cert.DH1Ideal.τ).loc Cert.DH1Ideal.main_arg0)
      ∧ m' ((c.tc : Thread Cert.DH1RefIdeal.nD Cert.DH1RefIdeal.τ).loc Cert.DH1RefIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1RefIdeal.defs (F := Ideal)) (onTc (τ := Cert.DH1RefIdeal.τ) (Cert.DH1RefIdeal.main (F := Ideal))) ⟨m', fun _ => 0, g'⟩ (fun r => ∀ c : Dev Cert.DH1RefIdeal.nD,
          r.2.mem ((c.tc : Thread Cert.DH1RefIdeal.nD Cert.DH1RefIdeal.τ).loc Cert.DH1RefIdeal.main_v6) = v0 c
          ∧ r.2.mem ((c.tc : Thread Cert.DH1RefIdeal.nD Cert.DH1RefIdeal.τ).loc Cert.DH1RefIdeal.main_arg0) = m' ((c.tc : Thread Cert.DH1RefIdeal.nD Cert.DH1RefIdeal.τ).loc Cert.DH1RefIdeal.main_arg0)
          ∧ r.2.mem ((c.tc : Thread Cert.DH1RefIdeal.nD Cert.DH1RefIdeal.τ).loc Cert.DH1RefIdeal.main_arg1) = m' ((c.tc : Thread Cert.DH1RefIdeal.nD Cert.DH1RefIdeal.τ).loc Cert.DH1RefIdeal.main_arg1))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v4) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DWout_DWoutIdeal : Prop :=
  True

def algebraic_DWoutIdeal_DWoutRefIdeal [hDWoutIdeal : Cert.DWoutIdeal.Facts] [hDWoutRefIdeal : Cert.DWoutRefIdeal.Facts] : Prop :=
  ∀ (m : (ℓ : Loc Cert.DWoutIdeal.nD Cert.DWoutIdeal.τ Cert.DWoutIdeal.sig) → Buf (Elt Ideal) ℓ) (g : Dev Cert.DWoutIdeal.nD → PrngReg)
    (m' : (ℓ : Loc Cert.DWoutRefIdeal.nD Cert.DWoutRefIdeal.τ Cert.DWoutRefIdeal.sig) → Buf (Elt Ideal) ℓ) (g' : Dev Cert.DWoutRefIdeal.nD → PrngReg), Pre_DWoutIdeal m →
    (∀ c : Dev Cert.DWoutIdeal.nD,
      m' ((c.tc : Thread Cert.DWoutRefIdeal.nD Cert.DWoutRefIdeal.τ).loc Cert.DWoutRefIdeal.main_arg0) = m ((c.tc : Thread Cert.DWoutIdeal.nD Cert.DWoutIdeal.τ).loc Cert.DWoutIdeal.main_arg0)
      ∧ m' ((c.tc : Thread Cert.DWoutRefIdeal.nD Cert.DWoutRefIdeal.τ).loc Cert.DWoutRefIdeal.main_arg1) = m ((c.tc : Thread Cert.DWoutIdeal.nD Cert.DWoutIdeal.τ).loc Cert.DWoutIdeal.main_arg1)) →
    ∃ (v0 : (c : Dev Cert.DWoutIdeal.nD) → Buf (Elt Ideal) ((c.tc : Thread Cert.DWoutIdeal.nD Cert.DWoutIdeal.τ).loc Cert.DWoutIdeal.main_v0)),
      θ_run (Cert.DWoutIdeal.defs (F := Ideal)) (onTc (τ := Cert.DWoutIdeal.τ) (Cert.DWoutIdeal.main (F := Ideal))) ⟨m, fun _ => 0, g⟩ (fun r => ∀ c : Dev Cert.DWoutIdeal.nD,
          r.2.mem ((c.tc : Thread Cert.DWoutIdeal.nD Cert.DWoutIdeal.τ).loc Cert.DWoutIdeal.main_v0) = v0 c
          ∧ r.2.mem ((c.tc : Thread Cert.DWoutIdeal.nD Cert.DWoutIdeal.τ).loc Cert.DWoutIdeal.main_arg0) = m ((c.tc : Thread Cert.DWoutIdeal.nD Cert.DWoutIdeal.τ).loc Cert.DWoutIdeal.main_arg0)
          ∧ r.2.mem ((c.tc : Thread Cert.DWoutIdeal.nD Cert.DWoutIdeal.τ).loc Cert.DWoutIdeal.main_arg1) = m ((c.tc : Thread Cert.DWoutIdeal.nD Cert.DWoutIdeal.τ).loc Cert.DWoutIdeal.main_arg1))
      ∧ θ_run (Cert.DWoutRefIdeal.defs (F := Ideal)) (onTc (τ := Cert.DWoutRefIdeal.τ) (Cert.DWoutRefIdeal.main (F := Ideal))) ⟨m', fun _ => 0, g'⟩ (fun r => ∀ c : Dev Cert.DWoutRefIdeal.nD,
          r.2.mem ((c.tc : Thread Cert.DWoutRefIdeal.nD Cert.DWoutRefIdeal.τ).loc Cert.DWoutRefIdeal.main_v6) = v0 c
          ∧ r.2.mem ((c.tc : Thread Cert.DWoutRefIdeal.nD Cert.DWoutRefIdeal.τ).loc Cert.DWoutRefIdeal.main_arg0) = m' ((c.tc : Thread Cert.DWoutRefIdeal.nD Cert.DWoutRefIdeal.τ).loc Cert.DWoutRefIdeal.main_arg0)
          ∧ r.2.mem ((c.tc : Thread Cert.DWoutRefIdeal.nD Cert.DWoutRefIdeal.τ).loc Cert.DWoutRefIdeal.main_arg1) = m' ((c.tc : Thread Cert.DWoutRefIdeal.nD Cert.DWoutRefIdeal.τ).loc Cert.DWoutRefIdeal.main_arg1))

def preserves_Middle_MiddleIdeal : Prop :=
  True

def algebraic_MiddleIdeal_MiddleRefIdeal [hMiddleIdeal : Cert.MiddleIdeal.Facts] [hMiddleRefIdeal : Cert.MiddleRefIdeal.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleRefIdeal.nD Cert.MiddleRefIdeal.τ Cert.MiddleRefIdeal.sig) → Buf (Elt Ideal) ℓ) (g' : Dev Cert.MiddleRefIdeal.nD → PrngReg), Pre_MiddleIdeal m →
    (∀ c : Dev Cert.MiddleIdeal.nD,
      m' ((c.tc : Thread Cert.MiddleRefIdeal.nD Cert.MiddleRefIdeal.τ).loc Cert.MiddleRefIdeal.main_arg0) = m ((c.tc : Thread Cert.MiddleIdeal.nD Cert.MiddleIdeal.τ).loc Cert.MiddleIdeal.main_arg0)
      ∧ m' ((c.tc : Thread Cert.MiddleRefIdeal.nD Cert.MiddleRefIdeal.τ).loc Cert.MiddleRefIdeal.main_arg1) = m ((c.tc : Thread Cert.MiddleIdeal.nD Cert.MiddleIdeal.τ).loc Cert.MiddleIdeal.main_arg1)
      ∧ m' ((c.tc : Thread Cert.MiddleRefIdeal.nD Cert.MiddleRefIdeal.τ).loc Cert.MiddleRefIdeal.main_arg2) = m ((c.tc : Thread Cert.MiddleIdeal.nD Cert.MiddleIdeal.τ).loc Cert.MiddleIdeal.main_arg2)
      ∧ m' ((c.tc : Thread Cert.MiddleRefIdeal.nD Cert.MiddleRefIdeal.τ).loc Cert.MiddleRefIdeal.main_arg3) = m ((c.tc : Thread Cert.MiddleIdeal.nD Cert.MiddleIdeal.τ).loc Cert.MiddleIdeal.main_arg3)) →
    ∃ (v0 : (c : Dev Cert.MiddleIdeal.nD) → Buf (Elt Ideal) ((c.tc : Thread Cert.MiddleIdeal.nD Cert.MiddleIdeal.τ).loc Cert.MiddleIdeal.main_v0_0)) (v1 : (c : Dev Cert.MiddleIdeal.nD) → Buf (Elt Ideal) ((c.tc : Thread Cert.MiddleIdeal.nD Cert.MiddleIdeal.τ).loc Cert.MiddleIdeal.main_v0_1)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v0_0) = v0 c
          ∧ r.2.mem ((c.tc : Thread Cert.MiddleIdeal.nD Cert.MiddleIdeal.τ).loc Cert.MiddleIdeal.main_v0_1) = v1 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3))
      ∧ θ_run (Cert.MiddleRefIdeal.defs (F := Ideal)) (onTc (τ := Cert.MiddleRefIdeal.τ) (Cert.MiddleRefIdeal.main (F := Ideal))) ⟨m', fun _ => 0, g'⟩ (fun r => ∀ c : Dev Cert.MiddleRefIdeal.nD,
          r.2.mem ((c.tc : Thread Cert.MiddleRefIdeal.nD Cert.MiddleRefIdeal.τ).loc Cert.MiddleRefIdeal.main_v14) = v0 c
          ∧ r.2.mem ((c.tc : Thread Cert.MiddleRefIdeal.nD Cert.MiddleRefIdeal.τ).loc Cert.MiddleRefIdeal.main_v29) = v1 c
          ∧ r.2.mem ((c.tc : Thread Cert.MiddleRefIdeal.nD Cert.MiddleRefIdeal.τ).loc Cert.MiddleRefIdeal.main_arg0) = m' ((c.tc : Thread Cert.MiddleRefIdeal.nD Cert.MiddleRefIdeal.τ).loc Cert.MiddleRefIdeal.main_arg0)
          ∧ r.2.mem ((c.tc : Thread Cert.MiddleRefIdeal.nD Cert.MiddleRefIdeal.τ).loc Cert.MiddleRefIdeal.main_arg1) = m' ((c.tc : Thread Cert.MiddleRefIdeal.nD Cert.MiddleRefIdeal.τ).loc Cert.MiddleRefIdeal.main_arg1)
          ∧ r.2.mem ((c.tc : Thread Cert.MiddleRefIdeal.nD Cert.MiddleRefIdeal.τ).loc Cert.MiddleRefIdeal.main_arg2) = m' ((c.tc : Thread Cert.MiddleRefIdeal.nD Cert.MiddleRefIdeal.τ).loc Cert.MiddleRefIdeal.main_arg2)
          ∧ r.2.mem ((c.tc : Thread Cert.MiddleRefIdeal.nD Cert.MiddleRefIdeal.τ).loc Cert.MiddleRefIdeal.main_arg3) = m' ((c.tc : Thread Cert.MiddleRefIdeal.nD Cert.MiddleRefIdeal.τ).loc Cert.MiddleRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg3) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg3) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_arg3) = v0 c
          ∧ r.2.mem ((c.tc : Thread Cert.AdamDownRefIdeal.nD Cert.AdamDownRefIdeal.τ).loc Cert.AdamDownRefIdeal.main_v23) = v1 c
          ∧ r.2.mem ((c.tc : Thread Cert.AdamDownRefIdeal.nD Cert.AdamDownRefIdeal.τ).loc Cert.AdamDownRefIdeal.main_v4) = v2 c
          ∧ r.2.mem ((c.tc : Thread Cert.AdamDownRefIdeal.nD Cert.AdamDownRefIdeal.τ).loc Cert.AdamDownRefIdeal.main_v10) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v0_0)) (v1 : (c : Dev Cert.FirstIdeal.nD) → Buf (Elt Ideal) ((c.tc : Thread Cert.FirstIdeal.nD Cert.FirstIdeal.τ).loc Cert.FirstIdeal.main_v0_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v0_0) = v0 c
          ∧ r.2.mem ((c.tc : Thread Cert.FirstIdeal.nD Cert.FirstIdeal.τ).loc Cert.FirstIdeal.main_v0_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v37) = v0 c
          ∧ r.2.mem ((c.tc : Thread Cert.FirstRefIdeal.nD Cert.FirstRefIdeal.τ).loc Cert.FirstRefIdeal.main_v38) = v1 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v37) = v0 c
          ∧ r.2.mem ((c.tc : Thread Cert.MidRefIdeal.nD Cert.MidRefIdeal.τ).loc Cert.MidRefIdeal.main_v75) = v1 c
          ∧ r.2.mem ((c.tc : Thread Cert.MidRefIdeal.nD Cert.MidRefIdeal.τ).loc Cert.MidRefIdeal.main_v76) = v2 c
          ∧ r.2.mem ((c.tc : Thread Cert.MidRefIdeal.nD Cert.MidRefIdeal.τ).loc Cert.MidRefIdeal.main_v77) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v32) = v0 c
          ∧ r.2.mem ((c.tc : Thread Cert.HeadRefIdeal.nD Cert.HeadRefIdeal.τ).loc Cert.HeadRefIdeal.main_v54) = v1 c
          ∧ r.2.mem ((c.tc : Thread Cert.HeadRefIdeal.nD Cert.HeadRefIdeal.τ).loc Cert.HeadRefIdeal.main_v53) = v2 c
          ∧ r.2.mem ((c.tc : Thread Cert.HeadRefIdeal.nD Cert.HeadRefIdeal.τ).loc Cert.HeadRefIdeal.main_v55) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)) (v27 : (c : Dev Cert.AdamSmallIdeal.nD) → Buf (Elt Ideal) ((c.tc : Thread Cert.AdamSmallIdeal.nD Cert.AdamSmallIdeal.τ).loc Cert.AdamSmallIdeal.main_v0_27)) (v28 : (c : Dev Cert.AdamSmallIdeal.nD) → Buf (Elt Ideal) ((c.tc : Thread Cert.AdamSmallIdeal.nD Cert.AdamSmallIdeal.τ).loc Cert.AdamSmallIdeal.main_v0_28)) (v29 : (c : Dev Cert.AdamSmallIdeal.nD) → Buf (Elt Ideal) ((c.tc : Thread Cert.AdamSmallIdeal.nD Cert.AdamSmallIdeal.τ).loc Cert.AdamSmallIdeal.main_v0_29)) (v30 : (c : Dev Cert.AdamSmallIdeal.nD) → Buf (Elt Ideal) ((c.tc : Thread Cert.AdamSmallIdeal.nD Cert.AdamSmallIdeal.τ).loc Cert.AdamSmallIdeal.main_v0_30)) (v31 : (c : Dev Cert.AdamSmallIdeal.nD) → Buf (Elt Ideal) ((c.tc : Thread Cert.AdamSmallIdeal.nD Cert.AdamSmallIdeal.τ).loc Cert.AdamSmallIdeal.main_v0_31)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_v0_27) = v27 c
          ∧ r.2.mem ((c.tc : Thread Cert.AdamSmallIdeal.nD Cert.AdamSmallIdeal.τ).loc Cert.AdamSmallIdeal.main_v0_28) = v28 c
          ∧ r.2.mem ((c.tc : Thread Cert.AdamSmallIdeal.nD Cert.AdamSmallIdeal.τ).loc Cert.AdamSmallIdeal.main_v0_29) = v29 c
          ∧ r.2.mem ((c.tc : Thread Cert.AdamSmallIdeal.nD Cert.AdamSmallIdeal.τ).loc Cert.AdamSmallIdeal.main_v0_30) = v30 c
          ∧ r.2.mem ((c.tc : Thread Cert.AdamSmallIdeal.nD Cert.AdamSmallIdeal.τ).loc Cert.AdamSmallIdeal.main_v0_31) = v31 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg3) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg7) = v4 c
          ∧ r.2.mem ((c.tc : Thread Cert.AdamSmallRefIdeal.nD Cert.AdamSmallRefIdeal.τ).loc Cert.AdamSmallRefIdeal.main_v47) = v5 c
          ∧ r.2.mem ((c.tc : Thread Cert.AdamSmallRefIdeal.nD Cert.AdamSmallRefIdeal.τ).loc Cert.AdamSmallRefIdeal.main_v28) = v6 c
          ∧ r.2.mem ((c.tc : Thread Cert.AdamSmallRefIdeal.nD Cert.AdamSmallRefIdeal.τ).loc Cert.AdamSmallRefIdeal.main_v34) = v7 c
          ∧ r.2.mem ((c.tc : Thread Cert.AdamSmallRefIdeal.nD Cert.AdamSmallRefIdeal.τ).loc Cert.AdamSmallRefIdeal.main_arg11) = v8 c
          ∧ r.2.mem ((c.tc : Thread Cert.AdamSmallRefIdeal.nD Cert.AdamSmallRefIdeal.τ).loc Cert.AdamSmallRefIdeal.main_v71) = v9 c
          ∧ r.2.mem ((c.tc : Thread Cert.AdamSmallRefIdeal.nD Cert.AdamSmallRefIdeal.τ).loc Cert.AdamSmallRefIdeal.main_v52) = v10 c
          ∧ r.2.mem ((c.tc : Thread Cert.AdamSmallRefIdeal.nD Cert.AdamSmallRefIdeal.τ).loc Cert.AdamSmallRefIdeal.main_v58) = v11 c
          ∧ r.2.mem ((c.tc : Thread Cert.AdamSmallRefIdeal.nD Cert.AdamSmallRefIdeal.τ).loc Cert.AdamSmallRefIdeal.main_arg15) = v12 c
          ∧ r.2.mem ((c.tc : Thread Cert.AdamSmallRefIdeal.nD Cert.AdamSmallRefIdeal.τ).loc Cert.AdamSmallRefIdeal.main_v95) = v13 c
          ∧ r.2.mem ((c.tc : Thread Cert.AdamSmallRefIdeal.nD Cert.AdamSmallRefIdeal.τ).loc Cert.AdamSmallRefIdeal.main_v76) = v14 c
          ∧ r.2.mem ((c.tc : Thread Cert.AdamSmallRefIdeal.nD Cert.AdamSmallRefIdeal.τ).loc Cert.AdamSmallRefIdeal.main_v82) = v15 c
          ∧ r.2.mem ((c.tc : Thread Cert.AdamSmallRefIdeal.nD Cert.AdamSmallRefIdeal.τ).loc Cert.AdamSmallRefIdeal.main_arg19) = v16 c
          ∧ r.2.mem ((c.tc : Thread Cert.AdamSmallRefIdeal.nD Cert.AdamSmallRefIdeal.τ).loc Cert.AdamSmallRefIdeal.main_v119) = v17 c
          ∧ r.2.mem ((c.tc : Thread Cert.AdamSmallRefIdeal.nD Cert.AdamSmallRefIdeal.τ).loc Cert.AdamSmallRefIdeal.main_v100) = v18 c
          ∧ r.2.mem ((c.tc : Thread Cert.AdamSmallRefIdeal.nD Cert.AdamSmallRefIdeal.τ).loc Cert.AdamSmallRefIdeal.main_v106) = v19 c
          ∧ r.2.mem ((c.tc : Thread Cert.AdamSmallRefIdeal.nD Cert.AdamSmallRefIdeal.τ).loc Cert.AdamSmallRefIdeal.main_arg23) = v20 c
          ∧ r.2.mem ((c.tc : Thread Cert.AdamSmallRefIdeal.nD Cert.AdamSmallRefIdeal.τ).loc Cert.AdamSmallRefIdeal.main_v143) = v21 c
          ∧ r.2.mem ((c.tc : Thread Cert.AdamSmallRefIdeal.nD Cert.AdamSmallRefIdeal.τ).loc Cert.AdamSmallRefIdeal.main_v124) = v22 c
          ∧ r.2.mem ((c.tc : Thread Cert.AdamSmallRefIdeal.nD Cert.AdamSmallRefIdeal.τ).loc Cert.AdamSmallRefIdeal.main_v130) = v23 c
          ∧ r.2.mem ((c.tc : Thread Cert.AdamSmallRefIdeal.nD Cert.AdamSmallRefIdeal.τ).loc Cert.AdamSmallRefIdeal.main_arg27) = v24 c
          ∧ r.2.mem ((c.tc : Thread Cert.AdamSmallRefIdeal.nD Cert.AdamSmallRefIdeal.τ).loc Cert.AdamSmallRefIdeal.main_v167) = v25 c
          ∧ r.2.mem ((c.tc : Thread Cert.AdamSmallRefIdeal.nD Cert.AdamSmallRefIdeal.τ).loc Cert.AdamSmallRefIdeal.main_v148) = v26 c
          ∧ r.2.mem ((c.tc : Thread Cert.AdamSmallRefIdeal.nD Cert.AdamSmallRefIdeal.τ).loc Cert.AdamSmallRefIdeal.main_v154) = v27 c
          ∧ r.2.mem ((c.tc : Thread Cert.AdamSmallRefIdeal.nD Cert.AdamSmallRefIdeal.τ).loc Cert.AdamSmallRefIdeal.main_arg31) = v28 c
          ∧ r.2.mem ((c.tc : Thread Cert.AdamSmallRefIdeal.nD Cert.AdamSmallRefIdeal.τ).loc Cert.AdamSmallRefIdeal.main_v191) = v29 c
          ∧ r.2.mem ((c.tc : Thread Cert.AdamSmallRefIdeal.nD Cert.AdamSmallRefIdeal.τ).loc Cert.AdamSmallRefIdeal.main_v172) = v30 c
          ∧ r.2.mem ((c.tc : Thread Cert.AdamSmallRefIdeal.nD Cert.AdamSmallRefIdeal.τ).loc Cert.AdamSmallRefIdeal.main_v178) = v31 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31))

def Claim : Prop :=
  ∃ (hKernel : Cert.Kernel.Facts) (hKernelIdeal : Cert.KernelIdeal.Facts) (hReferenceIdeal : Cert.ReferenceIdeal.Facts) (hDH2 : Cert.DH2.Facts) (hDH2Ideal : Cert.DH2Ideal.Facts) (hDH2RefIdeal : Cert.DH2RefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hDWin : Cert.DWin.Facts) (hDWinIdeal : Cert.DWinIdeal.Facts) (hDWinRefIdeal : Cert.DWinRefIdeal.Facts) (hDH1 : Cert.DH1.Facts) (hDH1Ideal : Cert.DH1Ideal.Facts) (hDH1RefIdeal : Cert.DH1RefIdeal.Facts) (hMix : Cert.Mix.Facts) (hMixIdeal : Cert.MixIdeal.Facts) (hMixRefIdeal : Cert.MixRefIdeal.Facts) (hDMixed : Cert.DMixed.Facts) (hDMixedIdeal : Cert.DMixedIdeal.Facts) (hDMixedRefIdeal : Cert.DMixedRefIdeal.Facts) (hDWout : Cert.DWout.Facts) (hDWoutIdeal : Cert.DWoutIdeal.Facts) (hDWoutRefIdeal : Cert.DWoutRefIdeal.Facts) (hMiddle : Cert.Middle.Facts) (hMiddleIdeal : Cert.MiddleIdeal.Facts) (hMiddleRefIdeal : Cert.MiddleRefIdeal.Facts) (hNorm : Cert.Norm.Facts) (hNormIdeal : Cert.NormIdeal.Facts) (hNormRefIdeal : Cert.NormRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hFirst : Cert.First.Facts) (hFirstIdeal : Cert.FirstIdeal.Facts) (hFirstRefIdeal : Cert.FirstRefIdeal.Facts) (hMid : Cert.Mid.Facts) (hMidIdeal : Cert.MidIdeal.Facts) (hMidRefIdeal : Cert.MidRefIdeal.Facts) (hHead : Cert.Head.Facts) (hHeadIdeal : Cert.HeadIdeal.Facts) (hHeadRefIdeal : Cert.HeadRefIdeal.Facts) (hAdamSmall : Cert.AdamSmall.Facts) (hAdamSmallIdeal : Cert.AdamSmallIdeal.Facts) (hAdamSmallRefIdeal : Cert.AdamSmallRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DH2 (hDH2 := hDH2)
    ∧ quiescent_DH2Ideal (hDH2Ideal := hDH2Ideal)
    ∧ quiescent_DH2RefIdeal (hDH2RefIdeal := hDH2RefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_DWin (hDWin := hDWin)
    ∧ quiescent_DWinIdeal (hDWinIdeal := hDWinIdeal)
    ∧ quiescent_DWinRefIdeal (hDWinRefIdeal := hDWinRefIdeal)
    ∧ quiescent_DH1 (hDH1 := hDH1)
    ∧ quiescent_DH1Ideal (hDH1Ideal := hDH1Ideal)
    ∧ quiescent_DH1RefIdeal (hDH1RefIdeal := hDH1RefIdeal)
    ∧ quiescent_Mix (hMix := hMix)
    ∧ quiescent_MixIdeal (hMixIdeal := hMixIdeal)
    ∧ quiescent_MixRefIdeal (hMixRefIdeal := hMixRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DWout (hDWout := hDWout)
    ∧ quiescent_DWoutIdeal (hDWoutIdeal := hDWoutIdeal)
    ∧ quiescent_DWoutRefIdeal (hDWoutRefIdeal := hDWoutRefIdeal)
    ∧ quiescent_Middle (hMiddle := hMiddle)
    ∧ quiescent_MiddleIdeal (hMiddleIdeal := hMiddleIdeal)
    ∧ quiescent_MiddleRefIdeal (hMiddleRefIdeal := hMiddleRefIdeal)
    ∧ quiescent_Norm (hNorm := hNorm)
    ∧ quiescent_NormIdeal (hNormIdeal := hNormIdeal)
    ∧ quiescent_NormRefIdeal (hNormRefIdeal := hNormRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_First (hFirst := hFirst)
    ∧ quiescent_FirstIdeal (hFirstIdeal := hFirstIdeal)
    ∧ quiescent_FirstRefIdeal (hFirstRefIdeal := hFirstRefIdeal)
    ∧ quiescent_Mid (hMid := hMid)
    ∧ quiescent_MidIdeal (hMidIdeal := hMidIdeal)
    ∧ quiescent_MidRefIdeal (hMidRefIdeal := hMidRefIdeal)
    ∧ quiescent_Head (hHead := hHead)
    ∧ quiescent_HeadIdeal (hHeadIdeal := hHeadIdeal)
    ∧ quiescent_HeadRefIdeal (hHeadRefIdeal := hHeadRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DH2_DH2Ideal
    ∧ algebraic_DH2Ideal_DH2RefIdeal (hDH2Ideal := hDH2Ideal) (hDH2RefIdeal := hDH2RefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_DWin_DWinIdeal
    ∧ algebraic_DWinIdeal_DWinRefIdeal (hDWinIdeal := hDWinIdeal) (hDWinRefIdeal := hDWinRefIdeal)
    ∧ preserves_DH1_DH1Ideal
    ∧ algebraic_DH1Ideal_DH1RefIdeal (hDH1Ideal := hDH1Ideal) (hDH1RefIdeal := hDH1RefIdeal)
    ∧ preserves_Mix_MixIdeal
    ∧ algebraic_MixIdeal_MixRefIdeal (hMixIdeal := hMixIdeal) (hMixRefIdeal := hMixRefIdeal)
    ∧ preserves_DMixed_DMixedIdeal
    ∧ algebraic_DMixedIdeal_DMixedRefIdeal (hDMixedIdeal := hDMixedIdeal) (hDMixedRefIdeal := hDMixedRefIdeal)
    ∧ preserves_DWout_DWoutIdeal
    ∧ algebraic_DWoutIdeal_DWoutRefIdeal (hDWoutIdeal := hDWoutIdeal) (hDWoutRefIdeal := hDWoutRefIdeal)
    ∧ preserves_Middle_MiddleIdeal
    ∧ algebraic_MiddleIdeal_MiddleRefIdeal (hMiddleIdeal := hMiddleIdeal) (hMiddleRefIdeal := hMiddleRefIdeal)
    ∧ preserves_Norm_NormIdeal
    ∧ algebraic_NormIdeal_NormRefIdeal (hNormIdeal := hNormIdeal) (hNormRefIdeal := hNormRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_First_FirstIdeal
    ∧ algebraic_FirstIdeal_FirstRefIdeal (hFirstIdeal := hFirstIdeal) (hFirstRefIdeal := hFirstRefIdeal)
    ∧ preserves_Mid_MidIdeal
    ∧ algebraic_MidIdeal_MidRefIdeal (hMidIdeal := hMidIdeal) (hMidRefIdeal := hMidRefIdeal)
    ∧ preserves_Head_HeadIdeal
    ∧ algebraic_HeadIdeal_HeadRefIdeal (hHeadIdeal := hHeadIdeal) (hHeadRefIdeal := hHeadRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite.lean ====
abbrev S2048x2048 : Shape := ⟨2, ![2048, 2048]⟩
abbrev S2048x11264 : Shape := ⟨2, ![2048, 11264]⟩
abbrev S3x11264 : Shape := ⟨2, ![3, 11264]⟩
abbrev S1x11264 : Shape := ⟨2, ![1, 11264]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S2048x11264 : S_.BroadcastsInDim S2048x11264 (![] : Fin 0 → Fin S2048x11264.rank)
  bcast_S_S3x11264 : S_.BroadcastsInDim S3x11264 (![] : Fin 0 → Fin S3x11264.rank)
  bcast_S_S1x11264 : S_.BroadcastsInDim S1x11264 (![] : Fin 0 → Fin S1x11264.rank)
  bcast_S_S5632x2048 : S_.BroadcastsInDim S5632x2048 (![] : Fin 0 → Fin S5632x2048.rank)

variable [Facts]

def fn {F : FTy → Type} [FloatOps F] (main_arg0 : FVec F S2048x2048 .bf16) (main_arg1 : FVec F S2048x2048 .bf16) (main_arg2 : FVec F S2048x11264 .bf16) (main_arg3 : FVec F S3x11264 .f32) (main_arg4 : FVec F S1x11264 .f32) (main_arg5 : FVec F S5632x2048 .bf16) : IVec S2048x2048 1 × IVec S2048x2048 1 × IVec S2048x11264 1 × IVec S3x11264 1 × IVec S1x11264 1 × IVec S5632x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S2048x2048 .bf16 := Host.absf main_arg1
  let main_cst_0 : FVec F S_ .bf16 := constant S_ .bf16 0x7F80#16
  let main_v4 : FVec F S2048x2048 .bf16 := broadcastInDim S2048x2048 ![] bcast_S_S2048x2048 main_cst_0
  let main_v5 : IVec S2048x2048 1 := cmpf .olt main_v3 main_v4
  let main_v6 : FVec F S2048x11264 .bf16 := Host.absf main_arg2
  let main_cst_1 : FVec F S_ .bf16 := constant S_ .bf16 0x7F80#16
  let main_v7 : FVec F S2048x11264 .bf16 := broadcastInDim S2048x11264 ![] bcast_S_S2048x11264 main_cst_1
  let main_v8 : IVec S2048x11264 1 := cmpf .olt main_v6 main_v7
  let main_v9 : FVec F S3x11264 .f32 := Host.absf main_arg3
  let main_cst_2 : FVec F S_ .f32 := constant S_ .f32 0x7F800000#32
  let main_v10 : FVec F S3x11264 .f32 := broadcastInDim S3x11264 ![] bcast_S_S3x11264 main_cst_2
  let main_v11 : IVec S3x11264 1 := cmpf .olt main_v9 main_v10
  let main_v12 : FVec F S1x11264 .f32 := Host.absf main_arg4
  let main_cst_3 : FVec F S_ .f32 := constant S_ .f32 0x7F800000#32
  let main_v13 : FVec F S1x11264 .f32 := broadcastInDim S1x11264 ![] bcast_S_S1x11264 main_cst_3
  let main_v14 : IVec S1x11264 1 := cmpf .olt main_v12 main_v13
  let main_v15 : FVec F S5632x2048 .bf16 := Host.absf main_arg5
  let main_cst_4 : FVec F S_ .bf16 := constant S_ .bf16 0x7F80#16
  let main_v16 : FVec F S5632x2048 .bf16 := broadcastInDim S5632x2048 ![] bcast_S_S5632x2048 main_cst_4
  let main_v17 : IVec S5632x2048 1 := cmpf .olt main_v15 main_v16
  (main_v2, main_v5, main_v8, main_v11, main_v14, main_v17)
-- ==== Kernel.lean ====
abbrev S2048x2048 : Shape := ⟨2, ![2048, 2048]⟩
abbrev S2048x11264 : Shape := ⟨2, ![2048, 11264]⟩
abbrev S3x11264 : Shape := ⟨2, ![3, 11264]⟩
abbrev S1x11264 : Shape := ⟨2, ![1, 11264]⟩
abbrev S5632x2048 : Shape := ⟨2, ![5632, 2048]⟩
abbrev S2048x2x5632 : Shape := ⟨3, ![2048, 2, 5632]⟩
abbrev S2x2048x5632 : Shape := ⟨3, ![2, 2048, 5632]⟩
abbrev S2x5632x2048 : Shape := ⟨3, ![2, 5632, 2048]⟩
abbrev S2x3x5632 : Shape := ⟨3, ![2, 3, 5632]⟩
abbrev S2x1x5632 : Shape := ⟨3, ![2, 1, 5632]⟩
abbrev S256x2048 : Shape := ⟨2, ![256, 2048]⟩
abbrev S2x2048x256 : Shape := ⟨3, ![2, 2048, 256]⟩
abbrev S3x256 : Shape := ⟨2, ![3, 256]⟩
abbrev S1x256 : Shape := ⟨2, ![1, 256]⟩
abbrev S2x256x2048 : Shape := ⟨3, ![2, 256, 2048]⟩
abbrev S2x3x256 : Shape := ⟨3, ![2, 3, 256]⟩
abbrev S2x1x256 : Shape := ⟨3, ![2, 1, 256]⟩
abbrev S8x256 : Shape := ⟨2, ![8, 256]⟩
abbrev S512x2048 : Shape := ⟨2, ![512, 2048]⟩
abbrev S512x256 : Shape := ⟨2, ![512, 256]⟩
abbrev S1x512x256 : Shape := ⟨3, ![1, 512, 256]⟩
abbrev S1x8x256 : Shape := ⟨3, ![1, 8, 256]⟩
abbrev S504x256 : Shape := ⟨2, ![504, 256]⟩
abbrev S256 : Shape := ⟨1, ![256]⟩
abbrev S1x256x2048 : Shape := ⟨3, ![1, 256, 2048]⟩
abbrev S1x1x256 : Shape := ⟨3, ![1, 1, 256]⟩

abbrev nBuf : Space → Nat
  | .hbm => 16
  | .vmem => 24
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x11264, .bf16⟩
  | .hbm, ⟨3, _⟩ => ⟨S3x11264, .f32⟩
  | .hbm, ⟨4, _⟩ => ⟨S1x11264, .f32⟩
  | .hbm, ⟨5, _⟩ => ⟨S5632x2048, .bf16⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S2048x2x5632, .f32⟩
  | .hbm, ⟨10, _⟩ => ⟨S2x2048x5632, .f32⟩
  | .hbm, ⟨11, _⟩ => ⟨S2x2048x5632, .bf16⟩
  | .hbm, ⟨12, _⟩ => ⟨S5632x2048, .bf16⟩
  | .hbm, ⟨13, _⟩ => ⟨S2x5632x2048, .bf16⟩
  | .hbm, ⟨14, _⟩ => ⟨S2x3x5632, .f32⟩
  | .hbm, ⟨15, _⟩ => ⟨S2x1x5632, .f32⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S2x2048x256, .f32⟩
  | .local _ .vmem, ⟨5, _⟩ => ⟨S2x2048x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2x2048x256, .bf16⟩
  | .local _ .vmem, ⟨15, _⟩ => ⟨S2x2048x256, .bf16⟩
  | .local _ .vmem, ⟨16, _⟩ => ⟨S256x2048, .bf16⟩
  | .local _ .vmem, ⟨17, _⟩ => ⟨S256x2048, .bf16⟩
  | .local _ .vmem, ⟨18, _⟩ => ⟨S2x256x2048, .bf16⟩
  | .local _ .vmem, ⟨19, _⟩ => ⟨S2x256x2048, .bf16⟩
  | .local _ .vmem, ⟨20, _⟩ => ⟨S2x3x256, .f32⟩
  | .local _ .vmem, ⟨21, _⟩ => ⟨S2x3x256, .f32⟩
  | .local _ .vmem, ⟨22, _⟩ => ⟨S2x1x256, .f32⟩
  | .local _ .vmem, ⟨23, _⟩ => ⟨S2x1x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "cube" => some ((8943 / 200000 : ℝ) : EReal)
  | "cube3" => some ((26829 / 200000 : ℝ) : EReal)
  | _ => none
-- ==== ReferenceIdeal.lean ====
abbrev S2048x2048 : Shape := ⟨2, ![2048, 2048]⟩
abbrev S2048x11264 : Shape := ⟨2, ![2048, 11264]⟩
abbrev S3x11264 : Shape := ⟨2, ![3, 11264]⟩
abbrev S1x11264 : Shape := ⟨2, ![1, 11264]⟩
abbrev S5632x2048 : Shape := ⟨2, ![5632, 2048]⟩
abbrev S11264 : Shape := ⟨1, ![11264]⟩
abbrev S_ : Shape := ⟨0, ![]⟩
abbrev S2x11264 : Shape := ⟨2, ![2, 11264]⟩
abbrev S2050x11264 : Shape := ⟨2, ![2050, 11264]⟩
abbrev S2048x5632 : Shape := ⟨2, ![2048, 5632]⟩
abbrev S11264x2048 : Shape := ⟨2, ![11264, 2048]⟩
abbrev S2048x2x5632 : Shape := ⟨3, ![2048, 2, 5632]⟩
abbrev S2x2048x5632 : Shape := ⟨3, ![2, 2048, 5632]⟩
abbrev S2x5632x2048 : Shape := ⟨3, ![2, 5632, 2048]⟩
abbrev S3x2x5632 : Shape := ⟨3, ![3, 2, 5632]⟩
abbrev S2x3x5632 : Shape := ⟨3, ![2, 3, 5632]⟩
abbrev S2x1x5632 : Shape := ⟨3, ![2, 1, 5632]⟩

abbrev nBuf : Space → Nat
  | .hbm => 159
  | .vmem => 0
  | .smem => 0
  | _ => 0

abbrev hbmTy0_0 (i : Nat) : BufTy := match i % 128 with
  | 0 => ⟨S2048x2048, .bf16⟩
  | 1 => ⟨S2048x2048, .bf16⟩
  | 2 => ⟨S2048x11264, .bf16⟩
  | 3 => ⟨S3x11264, .f32⟩
  | 4 => ⟨S1x11264, .f32⟩
  | 5 => ⟨S5632x2048, .bf16⟩
  | 6 => ⟨S2048x2048, .f32⟩
  | 7 => ⟨S2048x2048, .f32⟩
  | 8 => ⟨S2048x11264, .f32⟩
  | 9 => ⟨S5632x2048, .f32⟩
  | 10 => ⟨S2048x11264, .f32⟩
  | 11 => ⟨S11264, .f32⟩
  | 12 => ⟨S_, .f32⟩
  | 13 => ⟨S2x11264, .f32⟩
  | 14 => ⟨S2050x11264, .f32⟩
  | 15 => ⟨S_, .f32⟩
  | 16 => ⟨S2x11264, .f32⟩
  | 17 => ⟨S2048x11264, .f32⟩
  | 18 => ⟨S1x11264, .f32⟩
  | 19 => ⟨S11264, .f32⟩
  | 20 => ⟨S1x11264, .f32⟩
  | 21 => ⟨S2048x11264, .f32⟩
  | 22 => ⟨S2048x11264, .f32⟩
  | 23 => ⟨S_, .f32⟩
  | 24 => ⟨S2048x11264, .f32⟩
  | 25 => ⟨S2048x11264, .f32⟩
  | 26 => ⟨S2048x11264, .f32⟩
  | 27 => ⟨S1x11264, .f32⟩
  | 28 => ⟨S11264, .f32⟩
  | 29 => ⟨S1x11264, .f32⟩
  | 30 => ⟨S2048x11264, .f32⟩
  | 31 => ⟨S2048x11264, .f32⟩
  | 32 => ⟨S2048x11264, .f32⟩
  | 33 => ⟨S2048x11264, .f32⟩
  | 34 => ⟨S1x11264, .f32⟩
  | 35 => ⟨S11264, .f32⟩
  | 36 => ⟨S1x11264, .f32⟩
  | 37 => ⟨S2048x11264, .f32⟩
  | 38 => ⟨S2048x11264, .f32⟩
  | 39 => ⟨S2048x11264, .f32⟩
  | 40 => ⟨S1x11264, .f32⟩
  | 41 => ⟨S2048x11264, .f32⟩
  | 42 => ⟨S2048x11264, .f32⟩
  | 43 => ⟨S2048x5632, .f32⟩
  | 44 => ⟨S2048x5632, .f32⟩
  | 45 => ⟨S_, .f32⟩
  | 46 => ⟨S_, .f32⟩
  | 47 => ⟨S_, .f32⟩
  | 48 => ⟨S2048x5632, .f32⟩
  | 49 => ⟨S2048x5632, .f32⟩
  | 50 => ⟨S2048x5632, .f32⟩
  | 51 => ⟨S_, .f32⟩
  | 52 => ⟨S2048x5632, .f32⟩
  | 53 => ⟨S2048x5632, .f32⟩
  | 54 => ⟨S2048x5632, .f32⟩
  | 55 => ⟨S2048x5632, .f32⟩
  | 56 => ⟨S2048x5632, .f32⟩
  | 57 => ⟨S_, .f32⟩
  | 58 => ⟨S2048x5632, .f32⟩
  | 59 => ⟨S2048x5632, .f32⟩
  | 60 => ⟨S2048x5632, .f32⟩
  | 61 => ⟨S_, .f32⟩
  | 62 => ⟨S2048x5632, .f32⟩
  | 63 => ⟨S2048x5632, .f32⟩
  | 64 => ⟨S_, .f32⟩
  | 65 => ⟨S2048x5632, .f32⟩
  | 66 => ⟨S2048x5632, .f32⟩
  | 67 => ⟨S2048x5632, .f32⟩
  | 68 => ⟨S_, .f32⟩
  | 69 => ⟨S2048x5632, .f32⟩
  | 70 => ⟨S2048x5632, .f32⟩
  | 71 => ⟨S_, .f32⟩
  | 72 => ⟨S2048x5632, .f32⟩
  | 73 => ⟨S2048x5632, .f32⟩
  | 74 => ⟨S2048x5632, .f32⟩
  | 75 => ⟨S2048x5632, .f32⟩
  | 76 => ⟨S2048x2048, .f32⟩
  | 77 => ⟨S2048x5632, .f32⟩
  | 78 => ⟨S5632x2048, .f32⟩
  | 79 => ⟨S2048x5632, .f32⟩
  | 80 => ⟨S2048x5632, .f32⟩
  | 81 => ⟨S2048x5632, .f32⟩
  | 82 => ⟨S2048x5632, .f32⟩
  | 83 => ⟨S2048x5632, .f32⟩
  | 84 => ⟨S_, .f32⟩
  | 85 => ⟨S2048x5632, .f32⟩
  | 86 => ⟨S2048x5632, .f32⟩
  | 87 => ⟨S2048x5632, .f32⟩
  | 88 => ⟨S_, .f32⟩
  | 89 => ⟨S2048x5632, .f32⟩
  | 90 => ⟨S2048x5632, .f32⟩
  | 91 => ⟨S2048x5632, .f32⟩
  | 92 => ⟨S2048x5632, .f32⟩
  | 93 => ⟨S2048x5632, .f32⟩
  | 94 => ⟨S2048x5632, .f32⟩
  | 95 => ⟨S2048x5632, .f32⟩
  | 96 => ⟨S2048x11264, .f32⟩
  | 97 => ⟨S_, .f32⟩
  | 98 => ⟨S11264, .f32⟩
  | 99 => ⟨S1x11264, .f32⟩
  | 100 => ⟨S_, .f32⟩
  | 101 => ⟨S11264, .f32⟩
  | 102 => ⟨S2048x11264, .f32⟩
  | 103 => ⟨S_, .f32⟩
  | 104 => ⟨S11264, .f32⟩
  | 105 => ⟨S1x11264, .f32⟩
  | 106 => ⟨S2048x11264, .f32⟩
  | 107 => ⟨S2048x11264, .f32⟩
  | 108 => ⟨S_, .f32⟩
  | 109 => ⟨S11264, .f32⟩
  | 110 => ⟨S1x11264, .f32⟩
  | 111 => ⟨S_, .f32⟩
  | 112 => ⟨S3x11264, .f32⟩
  | 113 => ⟨S_, .f32⟩
  | 114 => ⟨S2050x11264, .f32⟩
  | 115 => ⟨S2048x11264, .f32⟩
  | 116 => ⟨S_, .f32⟩
  | 117 => ⟨S11264, .f32⟩
  | 118 => ⟨S1x11264, .f32⟩
  | 119 => ⟨S2048x11264, .f32⟩
  | 120 => ⟨S2048x11264, .f32⟩
  | 121 => ⟨S_, .f32⟩
  | 122 => ⟨S11264, .f32⟩
  | 123 => ⟨S1x11264, .f32⟩
  | 124 => ⟨S_, .f32⟩
  | 125 => ⟨S3x11264, .f32⟩
  | 126 => ⟨S3x11264, .f32⟩
  | 127 => ⟨S_, .f32⟩
  | _ => ⟨S2048x2048, .bf16⟩

abbrev hbmTy0_1 (i : Nat) : BufTy := match i % 128 with
  | 0 => ⟨S2050x11264, .f32⟩
  | 1 => ⟨S2050x11264, .f32⟩
  | 2 => ⟨S2048x11264, .f32⟩
  | 3 => ⟨S_, .f32⟩
  | 4 => ⟨S11264, .f32⟩
  | 5 => ⟨S1x11264, .f32⟩
  | 6 => ⟨S2048x11264, .f32⟩
  | 7 => ⟨S2048x11264, .f32⟩
  | 8 => ⟨S_, .f32⟩
  | 9 => ⟨S11264, .f32⟩
  | 10 => ⟨S1x11264, .f32⟩
  | 11 => ⟨S_, .f32⟩
  | 12 => ⟨S3x11264, .f32⟩
  | 13 => ⟨S3x11264, .f32⟩
  | 14 => ⟨S_, .f32⟩
  | 15 => ⟨S2050x11264, .f32⟩
  | 16 => ⟨S2050x11264, .f32⟩
  | 17 => ⟨S2x11264, .f32⟩
  | 18 => ⟨S2048x11264, .f32⟩
  | 19 => ⟨S11264x2048, .f32⟩
  | 20 => ⟨S2048x11264, .f32⟩
  | 21 => ⟨S2048x2x5632, .f32⟩
  | 22 => ⟨S2x2048x5632, .f32⟩
  | 23 => ⟨S2x2048x5632, .bf16⟩
  | 24 => ⟨S5632x2048, .bf16⟩
  | 25 => ⟨S11264x2048, .f32⟩
  | 26 => ⟨S2x5632x2048, .f32⟩
  | 27 => ⟨S2x5632x2048, .bf16⟩
  | 28 => ⟨S3x2x5632, .f32⟩
  | 29 => ⟨S2x3x5632, .f32⟩
  | 30 => ⟨S2x1x5632, .f32⟩
  | _ => ⟨S2048x2048, .bf16⟩

abbrev hbmTy (i : Nat) : BufTy := match i / 128 with
  | 0 => hbmTy0_0 i
  | 1 => hbmTy0_1 i
  | _ => ⟨S2048x2048, .bf16⟩

abbrev bufTy : (tb : Table) → Fin (tcTables nBuf tb) → BufTy
  | .hbm, ⟨i, _⟩ => hbmTy i
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_11 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_12 : Ref sig .tc := ⟨.hbm, 97, rfl⟩
abbrev main_v78 : Ref sig .tc := ⟨.hbm, 98, rfl⟩
abbrev main_v79 : Ref sig .tc := ⟨.hbm, 99, rfl⟩
abbrev main_cst_13 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_15 : Ref sig .tc := ⟨.hbm, 108, rfl⟩
abbrev main_v86 : Ref sig .tc := ⟨.hbm, 109, rfl⟩
abbrev main_v87 : Ref sig .tc := ⟨.hbm, 110, rfl⟩
abbrev main_cst_16 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_cst_20 : Ref sig .tc := ⟨.hbm, 124, rfl⟩
abbrev main_v97 : Ref sig .tc := ⟨.hbm, 125, rfl⟩
abbrev main_v98 : Ref sig .tc := ⟨.hbm, 126, rfl⟩
abbrev main_cst_21 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_22 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_23 : Ref sig .tc := ⟨.hbm, 136, rfl⟩
abbrev main_v106 : Ref sig .tc := ⟨.hbm, 137, rfl⟩
abbrev main_v107 : Ref sig .tc := ⟨.hbm, 138, rfl⟩
abbrev main_cst_24 : Ref sig .tc := ⟨.hbm, 139, rfl⟩
abbrev main_v108 : Ref sig .tc := ⟨.hbm, 140, rfl⟩
abbrev main_v109 : Ref sig .tc := ⟨.hbm, 141, rfl⟩
abbrev main_cst_25 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩

abbrev nD : Nat := 1
abbrev τ : Topo := Topo.v7x

variable {F : FTy → Type} [FloatOps F]
-- ==== DH2.lean ====
abbrev S2x2048x5632 : Shape := ⟨3, ![2, 2048, 5632]⟩
abbrev S2048x11264 : Shape := ⟨2, ![2048, 11264]⟩
abbrev S11264x2048 : Shape := ⟨2, ![11264, 2048]⟩
abbrev S2048x2048 : Shape := ⟨2, ![2048, 2048]⟩
abbrev S1x2048x2816 : Shape := ⟨3, ![1, 2048, 2816]⟩
abbrev S2816x512 : Shape := ⟨2, ![2816, 512]⟩
abbrev S2048x512 : Shape := ⟨2, ![2048, 512]⟩
abbrev S2048x2816 : Shape := ⟨2, ![2048, 2816]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S2048x11264, .bf16⟩
  | .hbm, ⟨2, _⟩ => ⟨S2048x11264, .f32⟩
  | .hbm, ⟨3, _⟩ => ⟨S11264x2048, .f32⟩
  | .hbm, ⟨4, _⟩ => ⟨S11264x2048, .bf16⟩
  | .hbm, ⟨5, _⟩ => ⟨S2048x2048, .f32⟩
  | .local _ .vmem, ⟨0, _⟩ => ⟨S1x2048x2816, .bf16⟩
  | .local _ .vmem, ⟨1, _⟩ => ⟨S1x2048x2816, .bf16⟩
  | .local _ .vmem, ⟨2, _⟩ => ⟨S2816x512, .bf16⟩
  | .local _ .vmem, ⟨3, _⟩ => ⟨S2816x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DH2RefIdeal.lean ====
abbrev S2x2048x5632 : Shape := ⟨3, ![2, 2048, 5632]⟩
abbrev S2048x11264 : Shape := ⟨2, ![2048, 11264]⟩
abbrev S_ : Shape := ⟨0, ![]⟩
abbrev S2048x2048 : Shape := ⟨2, ![2048, 2048]⟩
abbrev S2048x2x5632 : Shape := ⟨3, ![2048, 2, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S2048x11264, .bf16⟩
  | .hbm, ⟨2, _⟩ => ⟨S2x2048x5632, .f32⟩
  | .hbm, ⟨3, _⟩ => ⟨S2048x11264, .f32⟩
  | .hbm, ⟨4, _⟩ => ⟨S_, .f32⟩
  | .hbm, ⟨5, _⟩ => ⟨S2048x2048, .f32⟩
  | .hbm, ⟨6, _⟩ => ⟨S2048x11264, .f32⟩
  | .hbm, ⟨7, _⟩ => ⟨S2048x2x5632, .f32⟩
  | .hbm, ⟨8, _⟩ => ⟨S2048x11264, .f32⟩
  | .hbm, ⟨9, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S2048x11264 : Shape := ⟨2, ![2048, 11264]⟩
abbrev S3x11264 : Shape := ⟨2, ![3, 11264]⟩
abbrev S1x11264 : Shape := ⟨2, ![1, 11264]⟩
abbrev S11264x2048 : Shape := ⟨2, ![11264, 2048]⟩
abbrev S2x2048x5632 : Shape := ⟨3, ![2, 2048, 5632]⟩
abbrev S2048x5632 : Shape := ⟨2, ![2048, 5632]⟩
abbrev S256x2048 : Shape := ⟨2, ![256, 2048]⟩
abbrev S3x256 : Shape := ⟨2, ![3, 256]⟩
abbrev S1x256 : Shape := ⟨2, ![1, 256]⟩
abbrev S2x2048x256 : Shape := ⟨3, ![2, 2048, 256]⟩
abbrev S2048x256 : Shape := ⟨2, ![2048, 256]⟩
abbrev S8x256 : Shape := ⟨2, ![8, 256]⟩
abbrev S512x2048 : Shape := ⟨2, ![512, 2048]⟩
abbrev S512x256 : Shape := ⟨2, ![512, 256]⟩
abbrev S1x512x256 : Shape := ⟨3, ![1, 512, 256]⟩
abbrev S504x256 : Shape := ⟨2, ![504, 256]⟩

abbrev nBuf : Space → Nat
  | .hbm => 9
  | .vmem => 17
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S2048x11264, .f32⟩
  | .hbm, ⟨5, _⟩ => ⟨S11264x2048, .f32⟩
  | .hbm, ⟨6, _⟩ => ⟨S11264x2048, .bf16⟩
  | .hbm, ⟨7, _⟩ => ⟨S2x2048x5632, .f32⟩
  | .hbm, ⟨8, _⟩ => ⟨S2048x5632, .bf16⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2x2048x256, .f32⟩
  | .local _ .vmem, ⟨14, _⟩ => ⟨S2x2048x256, .f32⟩
  | .local _ .vmem, ⟨15, _⟩ => ⟨S2048x256, .bf16⟩
  | .local _ .vmem, ⟨16, _⟩ => ⟨S2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpIdeal.lean ====
variable {F : FTy → Type} [FloatOps F] [Named F]
def κ : String → Option EReal := fun
  | "cube" => some ((8943 / 200000 : ℝ) : EReal)
  | _ => none
-- ==== UpRefIdeal.lean ====
abbrev S2048x2048 : Shape := ⟨2, ![2048, 2048]⟩
abbrev S2048x11264 : Shape := ⟨2, ![2048, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S2050x11264 : Shape := ⟨2, ![2050, 11264]⟩
abbrev S11264 : Shape := ⟨1, ![11264]⟩
abbrev S2048x5632 : Shape := ⟨2, ![2048, 5632]⟩
abbrev S2048x2x5632 : Shape := ⟨3, ![2048, 2, 5632]⟩
abbrev S2x2048x5632 : Shape := ⟨3, ![2, 2048, 5632]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S_, .f32⟩
  | .hbm, ⟨8, _⟩ => ⟨S2x11264, .f32⟩
  | .hbm, ⟨9, _⟩ => ⟨S2050x11264, .f32⟩
  | .hbm, ⟨10, _⟩ => ⟨S2048x11264, .f32⟩
  | .hbm, ⟨11, _⟩ => ⟨S1x11264, .f32⟩
  | .hbm, ⟨12, _⟩ => ⟨S11264, .f32⟩
  | .hbm, ⟨13, _⟩ => ⟨S1x11264, .f32⟩
  | .hbm, ⟨14, _⟩ => ⟨S2048x11264, .f32⟩
  | .hbm, ⟨15, _⟩ => ⟨S2048x11264, .f32⟩
  | .hbm, ⟨16, _⟩ => ⟨S_, .f32⟩
  | .hbm, ⟨17, _⟩ => ⟨S2048x11264, .f32⟩
  | .hbm, ⟨18, _⟩ => ⟨S2048x11264, .f32⟩
  | .hbm, ⟨19, _⟩ => ⟨S2048x11264, .f32⟩
  | .hbm, ⟨20, _⟩ => ⟨S1x11264, .f32⟩
  | .hbm, ⟨21, _⟩ => ⟨S11264, .f32⟩
  | .hbm, ⟨22, _⟩ => ⟨S1x11264, .f32⟩
  | .hbm, ⟨23, _⟩ => ⟨S2048x11264, .f32⟩
  | .hbm, ⟨24, _⟩ => ⟨S2048x11264, .f32⟩
  | .hbm, ⟨25, _⟩ => ⟨S2048x11264, .f32⟩
  | .hbm, ⟨26, _⟩ => ⟨S2048x11264, .f32⟩
  | .hbm, ⟨27, _⟩ => ⟨S1x11264, .f32⟩
  | .hbm, ⟨28, _⟩ => ⟨S11264, .f32⟩
  | .hbm, ⟨29, _⟩ => ⟨S1x11264, .f32⟩
  | .hbm, ⟨30, _⟩ => ⟨S2048x11264, .f32⟩
  | .hbm, ⟨31, _⟩ => ⟨S2048x11264, .f32⟩
  | .hbm, ⟨32, _⟩ => ⟨S2048x11264, .f32⟩
  | .hbm, ⟨33, _⟩ => ⟨S11264, .f32⟩
  | .hbm, ⟨34, _⟩ => ⟨S1x11264, .f32⟩
  | .hbm, ⟨35, _⟩ => ⟨S2048x11264, .f32⟩
  | .hbm, ⟨36, _⟩ => ⟨S2048x11264, .f32⟩
  | .hbm, ⟨37, _⟩ => ⟨S2048x5632, .f32⟩
  | .hbm, ⟨38, _⟩ => ⟨S2048x5632, .f32⟩
  | .hbm, ⟨39, _⟩ => ⟨S2048x2x5632, .f32⟩
  | .hbm, ⟨40, _⟩ => ⟨S2x2048x5632, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S_, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S_, .f32⟩
  | .hbm, ⟨54, _⟩ => ⟨S2048x5632, .f32⟩
  | .hbm, ⟨55, _⟩ => ⟨S2048x5632, .f32⟩
  | .hbm, ⟨56, _⟩ => ⟨S_, .f32⟩
  | .hbm, ⟨57, _⟩ => ⟨S2048x5632, .f32⟩
  | .hbm, ⟨58, _⟩ => ⟨S2048x5632, .f32⟩
  | .hbm, ⟨59, _⟩ => ⟨S2048x5632, .f32⟩
  | .hbm, ⟨60, _⟩ => ⟨S2048x5632, .f32⟩
  | .hbm, ⟨61, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S2048x2816 : Shape := ⟨2, ![2048, 2816]⟩
abbrev S2816x512 : Shape := ⟨2, ![2816, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .local _ .vmem, ⟨0, _⟩ => ⟨S2048x2816, .bf16⟩
  | .local _ .vmem, ⟨1, _⟩ => ⟨S2048x2816, .bf16⟩
  | .local _ .vmem, ⟨2, _⟩ => ⟨S2816x512, .bf16⟩
  | .local _ .vmem, ⟨3, _⟩ => ⟨S2816x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x5632, .f32⟩
  | .hbm, ⟨3, _⟩ => ⟨S5632x2048, .f32⟩
  | .hbm, ⟨4, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qkv.lean ====
abbrev S2048x2048 : Shape := ⟨2, ![2048, 2048]⟩
abbrev S2048x6144 : Shape := ⟨2, ![2048, 6144]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S6x2048x1024 : Shape := ⟨3, ![6, 2048, 1024]⟩
abbrev S2048x256 : Shape := ⟨2, ![2048, 256]⟩
abbrev S1x2048x256 : Shape := ⟨3, ![1, 2048, 256]⟩
abbrev S1x2048x128 : Shape := ⟨3, ![1, 2048, 128]⟩

abbrev nBuf : Space → Nat
  | .hbm => 28
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S64, .f32⟩
  | .hbm, ⟨3, _⟩ => ⟨S_, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S2048, .f32⟩
  | .hbm, ⟨17, _⟩ => ⟨S2048x1, .f32⟩
  | .hbm, ⟨18, _⟩ => ⟨S1x64, .f32⟩
  | .hbm, ⟨19, _⟩ => ⟨S2048x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x128, .f32⟩
  | .hbm, ⟨25, _⟩ => ⟨S2048x64, .f32⟩
  | .hbm, ⟨26, _⟩ => ⟨S2048x128, .f32⟩
  | .hbm, ⟨27, _⟩ => ⟨S6x2048x1024, .bf16⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x128, .f32⟩
  | .local _ .vmem, ⟨4, _⟩ => ⟨S2048x128, .f32⟩
  | .local _ .vmem, ⟨5, _⟩ => ⟨S1x2048x256, .bf16⟩
  | .local _ .vmem, ⟨6, _⟩ => ⟨S1x2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c12_i32 : BitVec 32 := 12#32
  let v3 : BitVec 1 := Scalar.cmpi .sge arg0 c12_i32
  let c20_i32 : BitVec 32 := 20#32
  let v4 : BitVec 1 := Scalar.cmpi .slt arg0 c20_i32
  let v5 : BitVec 1 := Scalar.andi v3 v4
  let v6 : BitVec 32 := Scalar.extui v5
  let c0_i32 : BitVec 32 := 0#32
  let v7 : BitVec 1 := Scalar.cmpi .ne v6 c0_i32
  v7

def k0_cond2 (i : grid0.Coords) : BitVec 1 :=
  let arg0 : BitVec 32 := BitVec.ofNat 32 (i 0).val
  let c12_i32 : BitVec 32 := 12#32
  let v3 : BitVec 1 := Scalar.cmpi .sge arg0 c12_i32
  let c20_i32 : BitVec 32 := 20#32
  let v4 : BitVec 1 := Scalar.cmpi .slt arg0 c20_i32
  let v5 : BitVec 1 := Scalar.andi v3 v4
  let v_true : BitVec 1 := 1#1
  let v8 : BitVec 1 := Scalar.xori v5 v_true
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S2048x2048 : Shape := ⟨2, ![2048, 2048]⟩
abbrev S2048x6144 : Shape := ⟨2, ![2048, 6144]⟩
abbrev S2048x1024 : Shape := ⟨2, ![2048, 1024]⟩
abbrev S2048x8x128 : Shape := ⟨3, ![2048, 8, 128]⟩
abbrev S8x2048x128 : Shape := ⟨3, ![8, 2048, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S8x2048x64 : Shape := ⟨3, ![8, 2048, 64]⟩
abbrev S1x2048x64 : Shape := ⟨3, ![1, 2048, 64]⟩
abbrev S1x8x2048x128 : Shape := ⟨4, ![1, 8, 2048, 128]⟩
abbrev S6x8x2048x128 : Shape := ⟨4, ![6, 8, 2048, 128]⟩
abbrev S6x2048x8x128 : Shape := ⟨4, ![6, 2048, 8, 128]⟩
abbrev S6x2048x1024 : Shape := ⟨3, ![6, 2048, 1024]⟩

abbrev nBuf : Space → Nat
  | .hbm => 111
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x2048, .f32⟩
  | .hbm, ⟨3, _⟩ => ⟨S2048x6144, .f32⟩
  | .hbm, ⟨4, _⟩ => ⟨S2048x6144, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x8x128, .f32⟩
  | .hbm, ⟨12, _⟩ => ⟨S8x2048x128, .f32⟩
  | .hbm, ⟨13, _⟩ => ⟨S2048x8x128, .f32⟩
  | .hbm, ⟨14, _⟩ => ⟨S8x2048x128, .f32⟩
  | .hbm, ⟨15, _⟩ => ⟨S2048x8x128, .f32⟩
  | .hbm, ⟨16, _⟩ => ⟨S8x2048x128, .f32⟩
  | .hbm, ⟨17, _⟩ => ⟨S2048x8x128, .f32⟩
  | .hbm, ⟨18, _⟩ => ⟨S8x2048x128, .f32⟩
  | .hbm, ⟨19, _⟩ => ⟨S2048x8x128, .f32⟩
  | .hbm, ⟨20, _⟩ => ⟨S8x2048x128, .f32⟩
  | .hbm, ⟨21, _⟩ => ⟨S2048x8x128, .f32⟩
  | .hbm, ⟨22, _⟩ => ⟨S8x2048x128, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S2048, .f32⟩
  | .hbm, ⟨38, _⟩ => ⟨S2048x1, .f32⟩
  | .hbm, ⟨39, _⟩ => ⟨S1x64, .f32⟩
  | .hbm, ⟨40, _⟩ => ⟨S2048x64, .f32⟩
  | .hbm, ⟨41, _⟩ => ⟨S2048x64, .f32⟩
  | .hbm, ⟨42, _⟩ => ⟨S2048x64, .f32⟩
  | .hbm, ⟨43, _⟩ => ⟨S2048x64, .f32⟩
  | .hbm, ⟨44, _⟩ => ⟨S2048x64, .f32⟩
  | .hbm, ⟨45, _⟩ => ⟨S8x2048x64, .f32⟩
  | .hbm, ⟨46, _⟩ => ⟨S8x2048x64, .f32⟩
  | .hbm, ⟨47, _⟩ => ⟨S1x2048x64, .f32⟩
  | .hbm, ⟨48, _⟩ => ⟨S8x2048x64, .f32⟩
  | .hbm, ⟨49, _⟩ => ⟨S8x2048x64, .f32⟩
  | .hbm, ⟨50, _⟩ => ⟨S1x2048x64, .f32⟩
  | .hbm, ⟨51, _⟩ => ⟨S8x2048x64, .f32⟩
  | .hbm, ⟨52, _⟩ => ⟨S8x2048x64, .f32⟩
  | .hbm, ⟨53, _⟩ => ⟨S8x2048x64, .f32⟩
  | .hbm, ⟨54, _⟩ => ⟨S1x2048x64, .f32⟩
  | .hbm, ⟨55, _⟩ => ⟨S8x2048x64, .f32⟩
  | .hbm, ⟨56, _⟩ => ⟨S8x2048x64, .f32⟩
  | .hbm, ⟨57, _⟩ => ⟨S1x2048x64, .f32⟩
  | .hbm, ⟨58, _⟩ => ⟨S8x2048x64, .f32⟩
  | .hbm, ⟨59, _⟩ => ⟨S8x2048x64, .f32⟩
  | .hbm, ⟨60, _⟩ => ⟨S8x2048x64, .f32⟩
  | .hbm, ⟨61, _⟩ => ⟨S8x2048x128, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S2048, .f32⟩
  | .hbm, ⟨77, _⟩ => ⟨S2048x1, .f32⟩
  | .hbm, ⟨78, _⟩ => ⟨S1x64, .f32⟩
  | .hbm, ⟨79, _⟩ => ⟨S2048x64, .f32⟩
  | .hbm, ⟨80, _⟩ => ⟨S2048x64, .f32⟩
  | .hbm, ⟨81, _⟩ => ⟨S2048x64, .f32⟩
  | .hbm, ⟨82, _⟩ => ⟨S2048x64, .f32⟩
  | .hbm, ⟨83, _⟩ => ⟨S2048x64, .f32⟩
  | .hbm, ⟨84, _⟩ => ⟨S8x2048x64, .f32⟩
  | .hbm, ⟨85, _⟩ => ⟨S8x2048x64, .f32⟩
  | .hbm, ⟨86, _⟩ => ⟨S1x2048x64, .f32⟩
  | .hbm, ⟨87, _⟩ => ⟨S8x2048x64, .f32⟩
  | .hbm, ⟨88, _⟩ => ⟨S8x2048x64, .f32⟩
  | .hbm, ⟨89, _⟩ => ⟨S1x2048x64, .f32⟩
  | .hbm, ⟨90, _⟩ => ⟨S8x2048x64, .f32⟩
  | .hbm, ⟨91, _⟩ => ⟨S8x2048x64, .f32⟩
  | .hbm, ⟨92, _⟩ => ⟨S8x2048x64, .f32⟩
  | .hbm, ⟨93, _⟩ => ⟨S1x2048x64, .f32⟩
  | .hbm, ⟨94, _⟩ => ⟨S8x2048x64, .f32⟩
  | .hbm, ⟨95, _⟩ => ⟨S8x2048x64, .f32⟩
  | .hbm, ⟨96, _⟩ => ⟨S1x2048x64, .f32⟩
  | .hbm, ⟨97, _⟩ => ⟨S8x2048x64, .f32⟩
  | .hbm, ⟨98, _⟩ => ⟨S8x2048x64, .f32⟩
  | .hbm, ⟨99, _⟩ => ⟨S8x2048x64, .f32⟩
  | .hbm, ⟨100, _⟩ => ⟨S8x2048x128, .f32⟩
  | .hbm, ⟨101, _⟩ => ⟨S1x8x2048x128, .f32⟩
  | .hbm, ⟨102, _⟩ => ⟨S1x8x2048x128, .f32⟩
  | .hbm, ⟨103, _⟩ => ⟨S1x8x2048x128, .f32⟩
  | .hbm, ⟨104, _⟩ => ⟨S1x8x2048x128, .f32⟩
  | .hbm, ⟨105, _⟩ => ⟨S1x8x2048x128, .f32⟩
  | .hbm, ⟨106, _⟩ => ⟨S1x8x2048x128, .f32⟩
  | .hbm, ⟨107, _⟩ => ⟨S6x8x2048x128, .f32⟩
  | .hbm, ⟨108, _⟩ => ⟨S6x2048x8x128, .f32⟩
  | .hbm, ⟨109, _⟩ => ⟨S6x2048x1024, .f32⟩
  | .hbm, ⟨110, _⟩ => ⟨S6x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_cst_3 : Ref sig .tc := ⟨.hbm, 63, rfl⟩
abbrev main_v57 : Ref sig .tc := ⟨.hbm, 64, rfl⟩
abbrev main_v58 : Ref sig .tc := ⟨.hbm, 65, rfl⟩
abbrev main_cst_4 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_5 : Ref sig .tc := ⟨.hbm, 70, rfl⟩
abbrev main_v62 : Ref sig .tc := ⟨.hbm, 71, rfl⟩
abbrev main_v63 : Ref sig .tc := ⟨.hbm, 72, rfl⟩
abbrev main_cst_6 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩

abbrev nD : Nat := 1
abbrev τ : Topo := Topo.v7x

variable {F : FTy → Type} [FloatOps F]
-- ==== DWin.lean ====
abbrev S2048x2048 : Shape := ⟨2, ![2048, 2048]⟩
abbrev S6x2048x1024 : Shape := ⟨3, ![6, 2048, 1024]⟩
abbrev S2048x6144 : Shape := ⟨2, ![2048, 6144]⟩
abbrev S1x2048x512 : Shape := ⟨3, ![1, 2048, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S6x2048x1024, .bf16⟩
  | .hbm, ⟨2, _⟩ => ⟨S2048x6144, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DWinRefIdeal.lean ====
abbrev S2048x2048 : Shape := ⟨2, ![2048, 2048]⟩
abbrev S6x2048x1024 : Shape := ⟨3, ![6, 2048, 1024]⟩
abbrev S_ : Shape := ⟨0, ![]⟩
abbrev S2048x6144 : Shape := ⟨2, ![2048, 6144]⟩
abbrev S2048x6x1024 : Shape := ⟨3, ![2048, 6, 1024]⟩
abbrev S6144x2048 : Shape := ⟨2, ![6144, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S6x2048x1024, .bf16⟩
  | .hbm, ⟨2, _⟩ => ⟨S2048x2048, .f32⟩
  | .hbm, ⟨3, _⟩ => ⟨S6x2048x1024, .f32⟩
  | .hbm, ⟨4, _⟩ => ⟨S_, .f32⟩
  | .hbm, ⟨5, _⟩ => ⟨S2048x6144, .f32⟩
  | .hbm, ⟨6, _⟩ => ⟨S2048x6144, .f32⟩
  | .hbm, ⟨7, _⟩ => ⟨S2048x6x1024, .f32⟩
  | .hbm, ⟨8, _⟩ => ⟨S2048x6144, .f32⟩
  | .hbm, ⟨9, _⟩ => ⟨S6144x2048, .f32⟩
  | .hbm, ⟨10, _⟩ => ⟨S2048x6144, .f32⟩
  | .hbm, ⟨11, _⟩ => ⟨S2048x6144, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DH1.lean ====
abbrev S6x2048x1024 : Shape := ⟨3, ![6, 2048, 1024]⟩
abbrev S2048x6144 : Shape := ⟨2, ![2048, 6144]⟩
abbrev S2048x2048 : Shape := ⟨2, ![2048, 2048]⟩
abbrev S1x2048x1024 : Shape := ⟨3, ![1, 2048, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S6x2048x1024, .bf16⟩
  | .hbm, ⟨1, _⟩ => ⟨S2048x6144, .bf16⟩
  | .hbm, ⟨2, _⟩ => ⟨S2048x2048, .f32⟩
  | .local _ .vmem, ⟨0, _⟩ => ⟨S1x2048x1024, .bf16⟩
  | .local _ .vmem, ⟨1, _⟩ => ⟨S1x2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S6x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def k0_cond3 (i : grid0.Coords) : BitVec 1 :=
  let arg1 : BitVec 32 := BitVec.ofNat 32 (i 1).val
  let c5_i32 : BitVec 32 := 5#32
  let v10 : BitVec 1 := Scalar.cmpi .eq arg1 c5_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DH1RefIdeal.lean ====
abbrev S6x2048x1024 : Shape := ⟨3, ![6, 2048, 1024]⟩
abbrev S2048x6144 : Shape := ⟨2, ![2048, 6144]⟩
abbrev S_ : Shape := ⟨0, ![]⟩
abbrev S2048x2048 : Shape := ⟨2, ![2048, 2048]⟩
abbrev S2048x6x1024 : Shape := ⟨3, ![2048, 6, 1024]⟩

abbrev nBuf : Space → Nat
  | .hbm => 10
  | .vmem => 0
  | .smem => 0
  | _ => 0

abbrev bufTy : (tb : Table) → Fin (tcTables nBuf tb) → BufTy
  | .hbm, ⟨0, _⟩ => ⟨S6x2048x1024, .bf16⟩
  | .hbm, ⟨1, _⟩ => ⟨S2048x6144, .bf16⟩
  | .hbm, ⟨2, _⟩ => ⟨S6x2048x1024, .f32⟩
  | .hbm, ⟨3, _⟩ => ⟨S2048x6144, .f32⟩
  | .hbm, ⟨4, _⟩ => ⟨S_, .f32⟩
  | .hbm, ⟨5, _⟩ => ⟨S2048x2048, .f32⟩
  | .hbm, ⟨6, _⟩ => ⟨S2048x6144, .f32⟩
  | .hbm, ⟨7, _⟩ => ⟨S2048x6x1024, .f32⟩
  | .hbm, ⟨8, _⟩ => ⟨S2048x6144, .f32⟩
  | .hbm, ⟨9, _⟩ => ⟨S2048x2048, .f32⟩
  | _, _ => ⟨S6x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Mix.lean ====
abbrev S2048x2048 : Shape := ⟨2, ![2048, 2048]⟩
abbrev S2048x512 : Shape := ⟨2, ![2048, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MixRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DMixed.lean ====
abbrev S2048x2048 : Shape := ⟨2, ![2048, 2048]⟩
abbrev S512x2048 : Shape := ⟨2, ![512, 2048]⟩
abbrev S2048x512 : Shape := ⟨2, ![2048, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DMixedRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DWout.lean ====
abbrev S2048x2048 : Shape := ⟨2, ![2048, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DWoutRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Middle.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MiddleRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S1x2048, .f32⟩
  | .hbm, ⟨37, _⟩ => ⟨S2048x2048, .f32⟩
  | .hbm, ⟨38, _⟩ => ⟨S2048x2048, .f32⟩
  | .hbm, ⟨39, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AdamIn.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2752x2048 : Shape := ⟨2, ![2752, 2048]⟩
abbrev S2816x2048 : Shape := ⟨2, ![2816, 2048]⟩
abbrev S344x2048 : Shape := ⟨2, ![344, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2752x2048, .f32⟩
  | .hbm, ⟨1, _⟩ => ⟨S2752x2048, .f32⟩
  | .hbm, ⟨2, _⟩ => ⟨S2752x2048, .f32⟩
  | .hbm, ⟨3, _⟩ => ⟨S2816x2048, .f32⟩
  | .hbm, ⟨4, _⟩ => ⟨S2752x2048, .f32⟩
  | .hbm, ⟨5, _⟩ => ⟨S2752x2048, .f32⟩
  | .hbm, ⟨6, _⟩ => ⟨S2752x2048, .f32⟩
  | .hbm, ⟨7, _⟩ => ⟨S2752x2048, .f32⟩
  | .local _ .vmem, ⟨0, _⟩ => ⟨S344x2048, .f32⟩
  | .local _ .vmem, ⟨1, _⟩ => ⟨S344x2048, .f32⟩
  | .local _ .vmem, ⟨2, _⟩ => ⟨S344x2048, .f32⟩
  | .local _ .vmem, ⟨3, _⟩ => ⟨S344x2048, .f32⟩
  | .local _ .vmem, ⟨4, _⟩ => ⟨S344x2048, .f32⟩
  | .local _ .vmem, ⟨5, _⟩ => ⟨S344x2048, .f32⟩
  | .local _ .vmem, ⟨6, _⟩ => ⟨S344x2048, .f32⟩
  | .local _ .vmem, ⟨7, _⟩ => ⟨S344x2048, .f32⟩
  | .local _ .vmem, ⟨8, _⟩ => ⟨S344x2048, .f32⟩
  | .local _ .vmem, ⟨9, _⟩ => ⟨S344x2048, .f32⟩
  | .local _ .vmem, ⟨10, _⟩ => ⟨S344x2048, .f32⟩
  | .local _ .vmem, ⟨11, _⟩ => ⟨S344x2048, .f32⟩
  | .local _ .vmem, ⟨12, _⟩ => ⟨S344x2048, .f32⟩
  | .local _ .vmem, ⟨13, _⟩ => ⟨S344x2048, .f32⟩
  | .local _ .vmem, ⟨14, _⟩ => ⟨S344x2048, .f32⟩
  | .local _ .vmem, ⟨15, _⟩ => ⟨S344x2048, .f32⟩
  | _, _ => ⟨S2752x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S344x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S344x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S344x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamUpRefIdeal.lean ====
abbrev S2752x2048 : Shape := ⟨2, ![2752, 2048]⟩
abbrev S2816x2048 : Shape := ⟨2, ![2816, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2752x2048, .f32⟩
  | .hbm, ⟨1, _⟩ => ⟨S2752x2048, .f32⟩
  | .hbm, ⟨2, _⟩ => ⟨S2752x2048, .f32⟩
  | .hbm, ⟨3, _⟩ => ⟨S2816x2048, .f32⟩
  | .hbm, ⟨4, _⟩ => ⟨S2752x2048, .f32⟩
  | .hbm, ⟨5, _⟩ => ⟨S_, .f32⟩
  | .hbm, ⟨6, _⟩ => ⟨S2752x2048, .f32⟩
  | .hbm, ⟨7, _⟩ => ⟨S2752x2048, .f32⟩
  | .hbm, ⟨8, _⟩ => ⟨S_, .f32⟩
  | .hbm, ⟨9, _⟩ => ⟨S2752x2048, .f32⟩
  | .hbm, ⟨10, _⟩ => ⟨S2752x2048, .f32⟩
  | .hbm, ⟨11, _⟩ => ⟨S2752x2048, .f32⟩
  | .hbm, ⟨12, _⟩ => ⟨S_, .f32⟩
  | .hbm, ⟨13, _⟩ => ⟨S2752x2048, .f32⟩
  | .hbm, ⟨14, _⟩ => ⟨S2752x2048, .f32⟩
  | .hbm, ⟨15, _⟩ => ⟨S2752x2048, .f32⟩
  | .hbm, ⟨16, _⟩ => ⟨S_, .f32⟩
  | .hbm, ⟨17, _⟩ => ⟨S2752x2048, .f32⟩
  | .hbm, ⟨18, _⟩ => ⟨S2752x2048, .f32⟩
  | .hbm, ⟨19, _⟩ => ⟨S2752x2048, .f32⟩
  | .hbm, ⟨20, _⟩ => ⟨S_, .f32⟩
  | .hbm, ⟨21, _⟩ => ⟨S2752x2048, .f32⟩
  | .hbm, ⟨22, _⟩ => ⟨S2752x2048, .f32⟩
  | .hbm, ⟨23, _⟩ => ⟨S_, .f32⟩
  | .hbm, ⟨24, _⟩ => ⟨S2752x2048, .f32⟩
  | .hbm, ⟨25, _⟩ => ⟨S2752x2048, .f32⟩
  | .hbm, ⟨26, _⟩ => ⟨S2752x2048, .f32⟩
  | .hbm, ⟨27, _⟩ => ⟨S_, .f32⟩
  | .hbm, ⟨28, _⟩ => ⟨S2752x2048, .f32⟩
  | .hbm, ⟨29, _⟩ => ⟨S2752x2048, .f32⟩
  | .hbm, ⟨30, _⟩ => ⟨S2752x2048, .f32⟩
  | .hbm, ⟨31, _⟩ => ⟨S_, .f32⟩
  | .hbm, ⟨32, _⟩ => ⟨S2752x2048, .f32⟩
  | .hbm, ⟨33, _⟩ => ⟨S2752x2048, .f32⟩
  | .hbm, ⟨34, _⟩ => ⟨S2752x2048, .f32⟩
  | .hbm, ⟨35, _⟩ => ⟨S_, .f32⟩
  | .hbm, ⟨36, _⟩ => ⟨S2752x2048, .f32⟩
  | .hbm, ⟨37, _⟩ => ⟨S2752x2048, .f32⟩
  | _, _ => ⟨S2752x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamDown.lean ====
abbrev S1376x2048 : Shape := ⟨2, ![1376, 2048]⟩
abbrev S1376x256 : Shape := ⟨2, ![1376, 256]⟩

abbrev nBuf : Space → Nat
  | .hbm => 8
  | .vmem => 16
  | .smem => 0
  | _ => 0

abbrev bufTy : (tb : Table) → Fin (tcTables nBuf tb) → BufTy
  | .hbm, ⟨0, _⟩ => ⟨S1376x2048, .f32⟩
  | .hbm, ⟨1, _⟩ => ⟨S1376x2048, .f32⟩
  | .hbm, ⟨2, _⟩ => ⟨S1376x2048, .f32⟩
  | .hbm, ⟨3, _⟩ => ⟨S1376x2048, .f32⟩
  | .hbm, ⟨4, _⟩ => ⟨S1376x2048, .f32⟩
  | .hbm, ⟨5, _⟩ => ⟨S1376x2048, .f32⟩
  | .hbm, ⟨6, _⟩ => ⟨S1376x2048, .f32⟩
  | .hbm, ⟨7, _⟩ => ⟨S1376x2048, .f32⟩
  | .local _ .vmem, ⟨0, _⟩ => ⟨S1376x256, .f32⟩
  | .local _ .vmem, ⟨1, _⟩ => ⟨S1376x256, .f32⟩
  | .local _ .vmem, ⟨2, _⟩ => ⟨S1376x256, .f32⟩
  | .local _ .vmem, ⟨3, _⟩ => ⟨S1376x256, .f32⟩
  | .local _ .vmem, ⟨4, _⟩ => ⟨S1376x256, .f32⟩
  | .local _ .vmem, ⟨5, _⟩ => ⟨S1376x256, .f32⟩
  | .local _ .vmem, ⟨6, _⟩ => ⟨S1376x256, .f32⟩
  | .local _ .vmem, ⟨7, _⟩ => ⟨S1376x256, .f32⟩
  | .local _ .vmem, ⟨8, _⟩ => ⟨S1376x256, .f32⟩
  | .local _ .vmem, ⟨9, _⟩ => ⟨S1376x256, .f32⟩
  | .local _ .vmem, ⟨10, _⟩ => ⟨S1376x256, .f32⟩
  | .local _ .vmem, ⟨11, _⟩ => ⟨S1376x256, .f32⟩
  | .local _ .vmem, ⟨12, _⟩ => ⟨S1376x256, .f32⟩
  | .local _ .vmem, ⟨13, _⟩ => ⟨S1376x256, .f32⟩
  | .local _ .vmem, ⟨14, _⟩ => ⟨S1376x256, .f32⟩
  | .local _ .vmem, ⟨15, _⟩ => ⟨S1376x256, .f32⟩
  | _, _ => ⟨S1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1376x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1376x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1376x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1376x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1376x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1376x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1376x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamDownRefIdeal.lean ====
abbrev S1376x2048 : Shape := ⟨2, ![1376, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1376x2048, .f32⟩
  | .hbm, ⟨1, _⟩ => ⟨S1376x2048, .f32⟩
  | .hbm, ⟨2, _⟩ => ⟨S1376x2048, .f32⟩
  | .hbm, ⟨3, _⟩ => ⟨S1376x2048, .f32⟩
  | .hbm, ⟨4, _⟩ => ⟨S_, .f32⟩
  | .hbm, ⟨5, _⟩ => ⟨S1376x2048, .f32⟩
  | .hbm, ⟨6, _⟩ => ⟨S1376x2048, .f32⟩
  | .hbm, ⟨7, _⟩ => ⟨S_, .f32⟩
  | .hbm, ⟨8, _⟩ => ⟨S1376x2048, .f32⟩
  | .hbm, ⟨9, _⟩ => ⟨S1376x2048, .f32⟩
  | .hbm, ⟨10, _⟩ => ⟨S1376x2048, .f32⟩
  | .hbm, ⟨11, _⟩ => ⟨S_, .f32⟩
  | .hbm, ⟨12, _⟩ => ⟨S1376x2048, .f32⟩
  | .hbm, ⟨13, _⟩ => ⟨S1376x2048, .f32⟩
  | .hbm, ⟨14, _⟩ => ⟨S1376x2048, .f32⟩
  | .hbm, ⟨15, _⟩ => ⟨S_, .f32⟩
  | .hbm, ⟨16, _⟩ => ⟨S1376x2048, .f32⟩
  | .hbm, ⟨17, _⟩ => ⟨S1376x2048, .f32⟩
  | .hbm, ⟨18, _⟩ => ⟨S1376x2048, .f32⟩
  | .hbm, ⟨19, _⟩ => ⟨S_, .f32⟩
  | .hbm, ⟨20, _⟩ => ⟨S1376x2048, .f32⟩
  | .hbm, ⟨21, _⟩ => ⟨S1376x2048, .f32⟩
  | .hbm, ⟨22, _⟩ => ⟨S_, .f32⟩
  | .hbm, ⟨23, _⟩ => ⟨S1376x2048, .f32⟩
  | .hbm, ⟨24, _⟩ => ⟨S1376x2048, .f32⟩
  | .hbm, ⟨25, _⟩ => ⟨S1376x2048, .f32⟩
  | .hbm, ⟨26, _⟩ => ⟨S_, .f32⟩
  | .hbm, ⟨27, _⟩ => ⟨S1376x2048, .f32⟩
  | .hbm, ⟨28, _⟩ => ⟨S1376x2048, .f32⟩
  | .hbm, ⟨29, _⟩ => ⟨S1376x2048, .f32⟩
  | .hbm, ⟨30, _⟩ => ⟨S_, .f32⟩
  | .hbm, ⟨31, _⟩ => ⟨S1376x2048, .f32⟩
  | .hbm, ⟨32, _⟩ => ⟨S1376x2048, .f32⟩
  | .hbm, ⟨33, _⟩ => ⟨S1376x2048, .f32⟩
  | .hbm, ⟨34, _⟩ => ⟨S_, .f32⟩
  | .hbm, ⟨35, _⟩ => ⟨S1376x2048, .f32⟩
  | .hbm, ⟨36, _⟩ => ⟨S1376x2048, .f32⟩
  | _, _ => ⟨S1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== First.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FirstRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Mid.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S1x2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S2048x2048, .f32⟩
  | .hbm, ⟨79, _⟩ => ⟨S2048x2048, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x2048, .f32⟩
  | .hbm, ⟨87, _⟩ => ⟨S2048x2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S2048x2048, .f32⟩
  | .hbm, ⟨98, _⟩ => ⟨S2048x2048, .f32⟩
  | .hbm, ⟨99, _⟩ => ⟨S2048x2048, .bf16⟩
  | .hbm, ⟨100, _⟩ => ⟨S1x2048, .f32⟩
  | .hbm, ⟨101, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Head.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== HeadRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x2048, .f32⟩
  | .hbm, ⟨62, _⟩ => ⟨S2048x2048, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .f32⟩
  | .hbm, ⟨74, _⟩ => ⟨S1x2048, .f32⟩
  | .hbm, ⟨75, _⟩ => ⟨S2048x2048, .bf16⟩
  | .hbm, ⟨76, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== AdamSmall.lean ====
abbrev S3x2752 : Shape := ⟨2, ![3, 2752]⟩
abbrev S1x11008 : Shape := ⟨2, ![1, 11008]⟩
abbrev S1x2048 : Shape := ⟨2, ![1, 2048]⟩
abbrev S1x1024 : Shape := ⟨2, ![1, 1024]⟩

abbrev nBuf : Space → Nat
  | .hbm => 64
  | .vmem => 64
  | .smem => 0
  | _ => 0

abbrev bufTy : (tb : Table) → Fin (tcTables nBuf tb) → BufTy
  | .hbm, ⟨0, _⟩ => ⟨S3x2752, .f32⟩
  | .hbm, ⟨1, _⟩ => ⟨S3x2752, .f32⟩
  | .hbm, ⟨2, _⟩ => ⟨S3x2752, .f32⟩
  | .hbm, ⟨3, _⟩ => ⟨S3x2752, .f32⟩
  | .hbm, ⟨4, _⟩ => ⟨S1x11008, .f32⟩
  | .hbm, ⟨5, _⟩ => ⟨S1x11008, .f32⟩
  | .hbm, ⟨6, _⟩ => ⟨S1x11008, .f32⟩
  | .hbm, ⟨7, _⟩ => ⟨S1x11008, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S3x2752, .f32⟩
  | .hbm, ⟨33, _⟩ => ⟨S3x2752, .f32⟩
  | .hbm, ⟨34, _⟩ => ⟨S3x2752, .f32⟩
  | .hbm, ⟨35, _⟩ => ⟨S3x2752, .f32⟩
  | .hbm, ⟨36, _⟩ => ⟨S1x11008, .f32⟩
  | .hbm, ⟨37, _⟩ => ⟨S1x11008, .f32⟩
  | .hbm, ⟨38, _⟩ => ⟨S1x11008, .f32⟩
  | .hbm, ⟨39, _⟩ => ⟨S1x11008, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x2048, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S1x2048, .f32⟩
  | .hbm, ⟨52, _⟩ => ⟨S1x2048, .f32⟩
  | .hbm, ⟨53, _⟩ => ⟨S1x2048, .f32⟩
  | .hbm, ⟨54, _⟩ => ⟨S1x2048, .f32⟩
  | .hbm, ⟨55, _⟩ => ⟨S1x2048, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .local _ .vmem, ⟨0, _⟩ => ⟨S3x2752, .f32⟩
  | .local _ .vmem, ⟨1, _⟩ => ⟨S3x2752, .f32⟩
  | .local _ .vmem, ⟨2, _⟩ => ⟨S3x2752, .f32⟩
  | .local _ .vmem, ⟨3, _⟩ => ⟨S3x2752, .f32⟩
  | .local _ .vmem, ⟨4, _⟩ => ⟨S1x11008, .f32⟩
  | .local _ .vmem, ⟨5, _⟩ => ⟨S1x11008, .f32⟩
  | .local _ .vmem, ⟨6, _⟩ => ⟨S1x11008, .f32⟩
  | .local _ .vmem, ⟨7, _⟩ => ⟨S1x11008, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S3x2752, .f32⟩
  | .local _ .vmem, ⟨33, _⟩ => ⟨S3x2752, .f32⟩
  | .local _ .vmem, ⟨34, _⟩ => ⟨S3x2752, .f32⟩
  | .local _ .vmem, ⟨35, _⟩ => ⟨S3x2752, .f32⟩
  | .local _ .vmem, ⟨36, _⟩ => ⟨S1x11008, .f32⟩
  | .local _ .vmem, ⟨37, _⟩ => ⟨S1x11008, .f32⟩
  | .local _ .vmem, ⟨38, _⟩ => ⟨S1x11008, .f32⟩
  | .local _ .vmem, ⟨39, _⟩ => ⟨S1x11008, .f32⟩
  | .local _ .vmem, ⟨40, _⟩ => ⟨S1x2048, .f32⟩
  | .local _ .vmem, ⟨41, _⟩ => ⟨S1x2048, .f32⟩
  | .local _ .vmem, ⟨42, _⟩ => ⟨S1x2048, .f32⟩
  | .local _ .vmem, ⟨43, _⟩ => ⟨S1x2048, .f32⟩
  | .local _ .vmem, ⟨44, _⟩ => ⟨S1x2048, .f32⟩
  | .local _ .vmem, ⟨45, _⟩ => ⟨S1x2048, .f32⟩
  | .local _ .vmem, ⟨46, _⟩ => ⟨S1x2048, .f32⟩
  | .local _ .vmem, ⟨47, _⟩ => ⟨S1x2048, .f32⟩
  | .local _ .vmem, ⟨48, _⟩ => ⟨S1x2048, .f32⟩
  | .local _ .vmem, ⟨49, _⟩ => ⟨S1x2048, .f32⟩
  | .local _ .vmem, ⟨50, _⟩ => ⟨S1x2048, .f32⟩
  | .local _ .vmem, ⟨51, _⟩ => ⟨S1x2048, .f32⟩
  | .local _ .vmem, ⟨52, _⟩ => ⟨S1x2048, .f32⟩
  | .local _ .vmem, ⟨53, _⟩ => ⟨S1x2048, .f32⟩
  | .local _ .vmem, ⟨54, _⟩ => ⟨S1x2048, .f32⟩
  | .local _ .vmem, ⟨55, _⟩ => ⟨S1x2048, .f32⟩
  | .local _ .vmem, ⟨56, _⟩ => ⟨S1x1024, .f32⟩
  | .local _ .vmem, ⟨57, _⟩ => ⟨S1x1024, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | _, _ => ⟨S3x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev main_v0_5 : Ref sig .tc := ⟨.hbm, 37, rfl⟩
abbrev main_v0_6 : Ref sig .tc := ⟨.hbm, 38, rfl⟩
abbrev main_v0_7 : Ref sig .tc := ⟨.hbm, 39, rfl⟩
abbrev main_v0_8 : Ref sig .tc := ⟨.hbm, 40, rfl⟩
abbrev main_v0_9 : Ref sig .tc := ⟨.hbm, 41, rfl⟩
abbrev main_v0_10 : Ref sig .tc := ⟨.hbm, 42, rfl⟩
abbrev main_v0_11 : Ref sig .tc := ⟨.hbm, 43, rfl⟩
abbrev main_v0_12 : Ref sig .tc := ⟨.hbm, 44, rfl⟩
abbrev main_v0_13 : Ref sig .tc := ⟨.hbm, 45, rfl⟩
abbrev main_v0_14 : Ref sig .tc := ⟨.hbm, 46, rfl⟩
abbrev main_v0_15 : Ref sig .tc := ⟨.hbm, 47, rfl⟩
abbrev main_v0_16 : Ref sig .tc := ⟨.hbm, 48, rfl⟩
abbrev main_v0_17 : Ref sig .tc := ⟨.hbm, 49, rfl⟩
abbrev main_v0_18 : Ref sig .tc := ⟨.hbm, 50, rfl⟩
abbrev main_v0_19 : Ref sig .tc := ⟨.hbm, 51, rfl⟩
abbrev main_v0_20 : Ref sig .tc := ⟨.hbm, 52, rfl⟩
abbrev main_v0_21 : Ref sig .tc := ⟨.hbm, 53, rfl⟩
abbrev main_v0_22 : Ref sig .tc := ⟨.hbm, 54, rfl⟩
abbrev main_v0_23 : Ref sig .tc := ⟨.hbm, 55, rfl⟩
abbrev main_v0_24 : Ref sig .tc := ⟨.hbm, 56, rfl⟩
abbrev main_v0_25 : Ref sig .tc := ⟨.hbm, 57, rfl⟩
abbrev main_v0_26 : Ref sig .tc := ⟨.hbm, 58, rfl⟩
abbrev main_v0_27 : Ref sig .tc := ⟨.hbm, 59, rfl⟩
abbrev main_v0_28 : Ref sig .tc := ⟨.hbm, 60, rfl⟩
abbrev main_v0_29 : Ref sig .tc := ⟨.hbm, 61, rfl⟩
abbrev main_v0_30 : Ref sig .tc := ⟨.hbm, 62, rfl⟩
abbrev main_v0_31 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63

abbrev nD : Nat := 1
abbrev τ : Topo := Topo.v7x

variable {F : FTy → Type} [FloatOps F]

abbrev grid0 : Pipeline.Grid := .none

abbrev stage0_0 : Fin 1 → Memref sig .tc .vmem S3x2752 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2752 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2752 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2752 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x11008 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x11008 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x2048 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S3x2752 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S3x2752 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S3x2752 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S3x2752 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x11008 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x11008 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x11008 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x11008 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x2048 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x2048 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x2048 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x2048 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x2048 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x2048 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x2048 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S1x2048 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x2048 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x2048 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x2048 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x2048 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x2048 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x2048 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x2048 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x2048 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x1024 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))
-- ==== AdamSmallRefIdeal.lean ====
abbrev S3x2752 : Shape := ⟨2, ![3, 2752]⟩
abbrev S1x11008 : Shape := ⟨2, ![1, 11008]⟩
abbrev S1x2048 : Shape := ⟨2, ![1, 2048]⟩
abbrev S1x1024 : Shape := ⟨2, ![1, 1024]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S3x2752, .f32⟩
  | 1 => ⟨S3x2752, .f32⟩
  | 2 => ⟨S3x2752, .f32⟩
  | 3 => ⟨S3x2752, .f32⟩
  | 4 => ⟨S1x11008, .f32⟩
  | 5 => ⟨S1x11008, .f32⟩
  | 6 => ⟨S1x11008, .f32⟩
  | 7 => ⟨S1x11008, .f32⟩
  | 8 => ⟨S1x2048, .f32⟩
  | 9 => ⟨S1x2048, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S1x2048, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S_, .f32⟩
  | 33 => ⟨S3x2752, .f32⟩
  | 34 => ⟨S3x2752, .f32⟩
  | 35 => ⟨S_, .f32⟩
  | 36 => ⟨S3x2752, .f32⟩
  | 37 => ⟨S3x2752, .f32⟩
  | 38 => ⟨S3x2752, .f32⟩
  | 39 => ⟨S_, .f32⟩
  | 40 => ⟨S3x2752, .f32⟩
  | 41 => ⟨S3x2752, .f32⟩
  | 42 => ⟨S3x2752, .f32⟩
  | 43 => ⟨S_, .f32⟩
  | 44 => ⟨S3x2752, .f32⟩
  | 45 => ⟨S3x2752, .f32⟩
  | 46 => ⟨S3x2752, .f32⟩
  | 47 => ⟨S_, .f32⟩
  | 48 => ⟨S3x2752, .f32⟩
  | 49 => ⟨S3x2752, .f32⟩
  | 50 => ⟨S_, .f32⟩
  | 51 => ⟨S3x2752, .f32⟩
  | 52 => ⟨S3x2752, .f32⟩
  | 53 => ⟨S3x2752, .f32⟩
  | 54 => ⟨S_, .f32⟩
  | 55 => ⟨S3x2752, .f32⟩
  | 56 => ⟨S3x2752, .f32⟩
  | 57 => ⟨S3x2752, .f32⟩
  | 58 => ⟨S_, .f32⟩
  | 59 => ⟨S3x2752, .f32⟩
  | 60 => ⟨S3x2752, .f32⟩
  | 61 => ⟨S3x2752, .f32⟩
  | 62 => ⟨S_, .f32⟩
  | 63 => ⟨S3x2752, .f32⟩
  | 64 => ⟨S3x2752, .f32⟩
  | 65 => ⟨S_, .f32⟩
  | 66 => ⟨S1x11008, .f32⟩
  | 67 => ⟨S1x11008, .f32⟩
  | 68 => ⟨S_, .f32⟩
  | 69 => ⟨S1x11008, .f32⟩
  | 70 => ⟨S1x11008, .f32⟩
  | 71 => ⟨S1x11008, .f32⟩
  | 72 => ⟨S_, .f32⟩
  | 73 => ⟨S1x11008, .f32⟩
  | 74 => ⟨S1x11008, .f32⟩
  | 75 => ⟨S1x11008, .f32⟩
  | 76 => ⟨S_, .f32⟩
  | 77 => ⟨S1x11008, .f32⟩
  | 78 => ⟨S1x11008, .f32⟩
  | 79 => ⟨S1x11008, .f32⟩
  | 80 => ⟨S_, .f32⟩
  | 81 => ⟨S1x11008, .f32⟩
  | 82 => ⟨S1x11008, .f32⟩
  | 83 => ⟨S_, .f32⟩
  | 84 => ⟨S1x11008, .f32⟩
  | 85 => ⟨S1x11008, .f32⟩
  | 86 => ⟨S1x11008, .f32⟩
  | 87 => ⟨S_, .f32⟩
  | 88 => ⟨S1x11008, .f32⟩
  | 89 => ⟨S1x11008, .f32⟩
  | 90 => ⟨S1x11008, .f32⟩
  | 91 => ⟨S_, .f32⟩
  | 92 => ⟨S1x11008, .f32⟩
  | 93 => ⟨S1x11008, .f32⟩
  | 94 => ⟨S1x11008, .f32⟩
  | 95 => ⟨S_, .f32⟩
  | 96 => ⟨S1x11008, .f32⟩
  | 97 => ⟨S1x11008, .f32⟩
  | 98 => ⟨S_, .f32⟩
  | 99 => ⟨S1x2048, .f32⟩
  | 100 => ⟨S1x2048, .f32⟩
  | 101 => ⟨S_, .f32⟩
  | 102 => ⟨S1x2048, .f32⟩
  | 103 => ⟨S1x2048, .f32⟩
  | 104 => ⟨S1x2048, .f32⟩
  | 105 => ⟨S_, .f32⟩
  | 106 => ⟨S1x2048, .f32⟩
  | 107 => ⟨S1x2048, .f32⟩
  | 108 => ⟨S1x2048, .f32⟩
  | 109 => ⟨S_, .f32⟩
  | 110 => ⟨S1x2048, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S_, .f32⟩
  | 117 => ⟨S1x2048, .f32⟩
  | 118 => ⟨S1x2048, .f32⟩
  | 119 => ⟨S1x2048, .f32⟩
  | 120 => ⟨S_, .f32⟩
  | 121 => ⟨S1x2048, .f32⟩
  | 122 => ⟨S1x2048, .f32⟩
  | 123 => ⟨S1x2048, .f32⟩
  | 124 => ⟨S_, .f32⟩
  | 125 => ⟨S1x2048, .f32⟩
  | 126 => ⟨S1x2048, .f32⟩
  | 127 => ⟨S1x2048, .f32⟩
  | _ => ⟨S3x2752, .f32⟩

abbrev hbmTy0_1 (i : Nat) : BufTy := match i % 128 with
  | 0 => ⟨S_, .f32⟩
  | 1 => ⟨S1x2048, .f32⟩
  | 2 => ⟨S1x2048, .f32⟩
  | 3 => ⟨S_, .f32⟩
  | 4 => ⟨S1x2048, .f32⟩
  | 5 => ⟨S1x2048, .f32⟩
  | 6 => ⟨S_, .f32⟩
  | 7 => ⟨S1x2048, .f32⟩
  | 8 => ⟨S1x2048, .f32⟩
  | 9 => ⟨S1x2048, .f32⟩
  | 10 => ⟨S_, .f32⟩
  | 11 => ⟨S1x2048, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S_, .f32⟩
  | 22 => ⟨S1x2048, .f32⟩
  | 23 => ⟨S1x2048, .f32⟩
  | 24 => ⟨S1x2048, .f32⟩
  | 25 => ⟨S_, .f32⟩
  | 26 => ⟨S1x2048, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S_, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S_, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S_, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S1x1024, .f32⟩
  | 124 => ⟨S_, .f32⟩
  | 125 => ⟨S1x1024, .f32⟩
  | 126 => ⟨S1x1024, .f32⟩
  | 127 => ⟨S1x1024, .f32⟩
  | _ => ⟨S3x2752, .f32⟩

abbrev hbmTy0_2 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S1x1024, .f32⟩
  | 29 => ⟨S_, .f32⟩
  | 30 => ⟨S1x1024, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | _ => ⟨S3x2752, .f32⟩

abbrev hbmTy (i : Nat) : BufTy := match i / 128 with
  | 0 => hbmTy0_0 i
  | 1 => hbmTy0_1 i
  | 2 => hbmTy0_2 i
  | _ => ⟨S3x2752, .f32⟩

abbrev bufTy : (tb : Table) → Fin (tcTables nBuf tb) → BufTy
  | .hbm, ⟨i, _⟩ => hbmTy i
  | _, _ => ⟨S3x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Proof.Vecs.lean ====
/- The kernel body's vector expressions, one for each step, that its four row chunks share; and the values the generated
   skeleton names, rewritten in them. -/
module

public import proofs.«01_k».proof.Proof.Gen.KernelIdeal.Frame

@[expose] public section

noncomputable section

namespace Cert.KernelIdeal.Vecs

open Cert.KernelIdeal Cert.KernelIdeal.Gen Idealize.ShloMosaic Idealize.SL.Sem

variable {F : FTy → Type} [FloatOps F] [Named F]

/-- A chunk of a plane of `u`, and the eight rows before it. -/
def rows (x : Vec F S1x512x256 .f32) : FVec F S512x256 .f32 := shapeCast S512x256 x shapeCasts_S1x512x256_S512x256
def rows8 (x : Vec F S1x8x256 .f32) : FVec F S8x256 .f32 := shapeCast S8x256 x shapeCasts_S1x8x256_S8x256
/-- Eight rows of zeros. -/
def zero8 : FVec F S8x256 .f32 := broadcast S8x256 (Scalar.ofBits .f32 0x00000000#32)
/-- The gradient at the product's left factor: a chunk of `df` against the block of `w_down`. -/
def dyV (a : Vec F S512x2048 .bf16) (w : Vec F S256x2048 .bf16) : FVec F S512x256 .f32 :=
  matmul dot_S512x2048_S256x2048_S512x256_1_1_0_0_n_n none a w (constant S512x256 .f32 0x00000000#32)
/-- Rows moved down by `j`, the first ones from the end of the eight rows `p`. -/
def down (j : BitVec 32) (u : FVec F S512x256 .f32) (p : FVec F S8x256 .f32) : FVec F S512x256 .f32 :=
  concatenate S512x256 0 [⟨S8x256, select (cmpi .sge (iota .tc S8x256 32 [0] iota_S8x256_d0_w32) (broadcast S8x256 j))
      (extractStridedSlice S8x256 ![0, 0] (dynamicRotate 0 j none u rotates_S512x256_d0) slices_S512x256_o0_0_S8x256)
      (dynamicRotate 0 j none p rotates_S8x256_d0)⟩,
    ⟨S504x256, extractStridedSlice S504x256 ![8, 0] (dynamicRotate 0 j none u rotates_S512x256_d0) slices_S512x256_o8_0_S504x256⟩]
    concatenates_S8x256_S504x256_S512x256_d0
/-- Rows moved up by `j` (`k = 512 - j`, `l = 8 - j`), the last ones from the start of the eight rows `n`. -/
def up (k l : BitVec 32) (d : FVec F S512x256 .f32) (n : FVec F S8x256 .f32) : FVec F S512x256 .f32 :=
  concatenate S512x256 0 [⟨S504x256, extractStridedSlice S504x256 ![0, 0] (dynamicRotate 0 k none d rotates_S512x256_d0) slices_S512x256_o0_0_S504x256⟩,
    ⟨S8x256, select (cmpi .slt (iota .tc S8x256 32 [0] iota_S8x256_d0_w32) (broadcast S8x256 l))
      (extractStridedSlice S8x256 ![504, 0] (dynamicRotate 0 k none d rotates_S512x256_d0) slices_S512x256_o504_0_S8x256)
      (dynamicRotate 0 l none n rotates_S8x256_d0)⟩]
    concatenates_S504x256_S8x256_S512x256_d0
/-- A row of the convolution's weights on every row. -/
def w2 (w : Vec F S3x256 .f32) : FVec F S512x256 .f32 :=
  broadcastTo S512x256 (extractStridedSlice S1x256 ![2, 0] w slices_S3x256_o2_0_S1x256) broadcasts_S1x256_S512x256
def w1 (w : Vec F S3x256 .f32) : FVec F S512x256 .f32 :=
  broadcastTo S512x256 (extractStridedSlice S1x256 ![1, 0] w slices_S3x256_o1_0_S1x256) broadcasts_S1x256_S512x256
def w0 (w : Vec F S3x256 .f32) : FVec F S512x256 .f32 :=
  broadcastTo S512x256 (extractStridedSlice S1x256 ![0, 0] w slices_S3x256_o0_0_S1x256) broadcasts_S1x256_S512x256
/-- The convolution of a chunk. -/
def convV (w : Vec F S3x256 .f32) (b : Vec F S1x256 .f32) (u : FVec F S512x256 .f32) (p : FVec F S8x256 .f32) : FVec F S512x256 .f32 :=
  addf (addf (addf (mulf u (w2 w)) (mulf (down 1#32 u p) (w1 w))) (mulf (down 2#32 u p) (w0 w)))
    (broadcastTo S512x256 b broadcasts_S1x256_S512x256)
/-- A constant on a chunk. -/
def cst (b : BitVec 32) : FVec F S512x256 .f32 := broadcast S512x256 (Scalar.ofBits .f32 b)
def thV (c : FVec F S512x256 .f32) : FVec F S512x256 .f32 :=
  tanh (mulf (cst 0x3F4C422A#32) (addf c (mulf (broadcast S512x256 (Named.named κ "cube" (φ := .f32) 0x3D372713#32)) (mulf (mulf c c) c))))
def gluV (c : FVec F S512x256 .f32) : FVec F S512x256 .f32 :=
  mulf (mulf (cst 0x3F000000#32) c) (addf (cst 0x3F800000#32) (thV c))
def dgluV (c : FVec F S512x256 .f32) : FVec F S512x256 .f32 :=
  addf (mulf (cst 0x3F000000#32) (addf (cst 0x3F800000#32) (thV c)))
    (mulf (mulf (mulf (cst 0x3F000000#32) c) (subf (cst 0x3F800000#32) (mulf (thV c) (thV c))))
      (mulf (cst 0x3F4C422A#32) (addf (cst 0x3F800000#32)
        (mulf (broadcast S512x256 (Named.named κ "cube3" (φ := .f32) 0x3E095D4F#32)) (mulf c c)))))
/-- The gradients of a chunk at the gate and at the value. -/
def dgV (dy c0 c1 : FVec F S512x256 .f32) : FVec F S512x256 .f32 := mulf (mulf dy c1) (dgluV c0)
def dvV (dy c0 : FVec F S512x256 .f32) : FVec F S512x256 .f32 := mulf dy (gluV c0)
/-- The transposed convolution of a chunk. -/
def duV (w : Vec F S3x256 .f32) (d : FVec F S512x256 .f32) (n : FVec F S8x256 .f32) : FVec F S512x256 .bf16 :=
  truncf .bf16 (addf (addf (mulf d (w2 w)) (mulf (up 511#32 7#32 d n) (w1 w))) (mulf (up 510#32 6#32 d n) (w0 w))) bitsLt_bf16_f32
/-- The first eight rows of a chunk. -/
def head8 (d : FVec F S512x256 .f32) : FVec F S8x256 .f32 := extractStridedSlice S8x256 ![0, 0] d slices_S512x256_o0_0_S8x256
def st (d : FVec F S512x256 .bf16) : FVec F S1x512x256 .bf16 := shapeCast S1x512x256 d shapeCasts_S512x256_S1x512x256
/-- The rows of a chunk added up. -/
def sumV (d : FVec F S512x256 .f32) : FVec F S1x256 .f32 :=
  shapeCast S1x256 (multiReduction .add [0] S256 d 0x00000000#32 reduces_S512x256_S256 (.inl rfl) rfl) shapeCasts_S256_S1x256
def zero1 : FVec F S1x256 .f32 := broadcast S1x256 (Scalar.ofBits .f32 0x00000000#32)
/-- The sums of the four chunks, the last first. -/
def sum4 (d3 d2 d1 d0 : FVec F S512x256 .f32) : FVec F S1x1x256 .f32 :=
  shapeCast S1x1x256 (addf (addf (addf (addf zero1 (sumV d3)) (sumV d2)) (sumV d1)) (sumV d0)) shapeCasts_S1x256_S1x1x256
/-- A chunk's product over its rows. -/
def outerV (y : FVec F S512x256 .bf16) (x : Vec F S512x2048 .bf16) : FVec F S256x2048 .f32 :=
  matmul dot_S512x256_S512x2048_S256x2048_0_0_1_1_n_n none y x (constant S256x2048 .f32 0x00000000#32)
def yV (c0 c1 : FVec F S512x256 .f32) : FVec F S512x256 .bf16 := truncf .bf16 (mulf (gluV c0) c1) bitsLt_bf16_f32
def outer4 (y3 y2 y1 y0 : FVec F S512x256 .bf16) (x3 x2 x1 x0 : Vec F S512x2048 .bf16) : FVec F S256x2048 .f32 :=
  addf (addf (addf (addf (broadcast S256x2048 (Scalar.ofBits .f32 0x00000000#32)) (outerV y3 x3)) (outerV y2 x2)) (outerV y1 x1)) (outerV y0 x0)

/-! ## The values the skeleton names, chunk by chunk -/

section
variable (x0 : Vec F S2048x2048 .bf16) (x1 : Vec F S2048x2048 .bf16) (x2 : Vec F S256x2048 .bf16) (x3 : Vec F S2x2048x256 .f32)
  (x4 : Vec F S3x256 .f32) (x5 : Vec F S3x256 .f32) (x6 : Vec F S1x256 .f32) (x7 : Vec F S1x256 .f32)

def dy3 : FVec F S512x256 .f32 := dyV (View.ld x0 r0_2) (View.ld x2 r0_3)
def dy2 : FVec F S512x256 .f32 := dyV (View.ld x0 r0_4) (View.ld x2 r0_3)
def dy1 : FVec F S512x256 .f32 := dyV (View.ld x0 r0_9) (View.ld x2 r0_3)
def dy0 : FVec F S512x256 .f32 := dyV (View.ld x0 r0_14) (View.ld x2 r0_3)
def cg3 : FVec F S512x256 .f32 := convV (View.ld x4 r0_0) (View.ld x6 r0_1) (rows (View.ld x3 r0_5)) (rows8 (View.ld x3 r0_6))
def cg2 : FVec F S512x256 .f32 := convV (View.ld x4 r0_0) (View.ld x6 r0_1) (rows (View.ld x3 r0_10)) (rows8 (View.ld x3 r0_11))
def cg1 : FVec F S512x256 .f32 := convV (View.ld x4 r0_0) (View.ld x6 r0_1) (rows (View.ld x3 r0_15)) (rows8 (View.ld x3 r0_16))
def cg0 : FVec F S512x256 .f32 := convV (View.ld x4 r0_0) (View.ld x6 r0_1) (rows (View.ld x3 r0_19)) zero8
def cv3 : FVec F S512x256 .f32 := convV (View.ld x5 r0_0) (View.ld x7 r0_1) (rows (View.ld x3 r0_7)) (rows8 (View.ld x3 r0_8))
def cv2 : FVec F S512x256 .f32 := convV (View.ld x5 r0_0) (View.ld x7 r0_1) (rows (View.ld x3 r0_12)) (rows8 (View.ld x3 r0_13))
def cv1 : FVec F S512x256 .f32 := convV (View.ld x5 r0_0) (View.ld x7 r0_1) (rows (View.ld x3 r0_17)) (rows8 (View.ld x3 r0_18))
def cv0 : FVec F S512x256 .f32 := convV (View.ld x5 r0_0) (View.ld x7 r0_1) (rows (View.ld x3 r0_20)) zero8
def dg3 : FVec F S512x256 .f32 := dgV (dy3 x0 x2) (cg3 x3 x4 x6) (cv3 x3 x5 x7)
def dg2 : FVec F S512x256 .f32 := dgV (dy2 x0 x2) (cg2 x3 x4 x6) (cv2 x3 x5 x7)
def dg1 : FVec F S512x256 .f32 := dgV (dy1 x0 x2) (cg1 x3 x4 x6) (cv1 x3 x5 x7)
def dg0 : FVec F S512x256 .f32 := dgV (dy0 x0 x2) (cg0 x3 x4 x6) (cv0 x3 x5 x7)
def dv3 : FVec F S512x256 .f32 := dvV (dy3 x0 x2) (cg3 x3 x4 x6)
def dv2 : FVec F S512x256 .f32 := dvV (dy2 x0 x2) (cg2 x3 x4 x6)
def dv1 : FVec F S512x256 .f32 := dvV (dy1 x0 x2) (cg1 x3 x4 x6)
def dv0 : FVec F S512x256 .f32 := dvV (dy0 x0 x2) (cg0 x3 x4 x6)

theorem e165 : k0_pay165 x0 x1 x2 x3 x4 x5 x6 x7 = dy3 x0 x2 := rfl
theorem e166 : k0_pay166 x0 x1 x2 x3 x4 x5 x6 x7 = dy2 x0 x2 := rfl
theorem e180 : k0_pay180 x0 x1 x2 x3 x4 x5 x6 x7 = dy1 x0 x2 := rfl
theorem e195 : k0_pay195 x0 x1 x2 x3 x4 x5 x6 x7 = dy0 x0 x2 := rfl
theorem e171 : k0_pay171 x0 x1 x2 x3 x4 x5 x6 x7 = cg3 x3 x4 x6 := rfl
theorem e182 : k0_pay182 x0 x1 x2 x3 x4 x5 x6 x7 = cg2 x3 x4 x6 := rfl
theorem e183 : k0_pay183 x0 x1 x2 x3 x4 x5 x6 x7 = cv2 x3 x5 x7 := rfl
theorem e184 : k0_pay184 x0 x1 x2 x3 x4 x5 x6 x7 = thV (cg2 x3 x4 x6) := rfl
theorem e196 : k0_pay196 x0 x1 x2 x3 x4 x5 x6 x7 = cg1 x3 x4 x6 := rfl
theorem e214 : k0_pay214 x0 x1 x2 x3 x4 x5 x6 x7 = cg0 x3 x4 x6 := rfl
theorem e175 : k0_pay175 x0 x1 x2 x3 x4 x5 x6 x7 = dg3 x0 x2 x3 x4 x5 x6 x7 := rfl
theorem e185 : k0_pay185 x0 x1 x2 x3 x4 x5 x6 x7 = dg2 x0 x2 x3 x4 x5 x6 x7 := rfl
theorem e202 : k0_pay202 x0 x1 x2 x3 x4 x5 x6 x7 = dg1 x0 x2 x3 x4 x5 x6 x7 := rfl
theorem e218 : k0_pay218 x0 x1 x2 x3 x4 x5 x6 x7 = dg0 x0 x2 x3 x4 x5 x6 x7 := rfl
theorem e176 : k0_pay176 x0 x1 x2 x3 x4 x5 x6 x7 = dv3 x0 x2 x3 x4 x6 := rfl
theorem e186 : k0_pay186 x0 x1 x2 x3 x4 x5 x6 x7 = dv2 x0 x2 x3 x4 x6 := rfl
theorem e203 : k0_pay203 x0 x1 x2 x3 x4 x5 x6 x7 = dv1 x0 x2 x3 x4 x6 := rfl
theorem e219 : k0_pay219 x0 x1 x2 x3 x4 x5 x6 x7 = dv0 x0 x2 x3 x4 x6 := rfl

/-! The five results, piece by piece. -/

def dug3 : FVec F S512x256 .bf16 := duV (View.ld x4 r0_0) (dg3 x0 x2 x3 x4 x5 x6 x7) zero8
def duv3 : FVec F S512x256 .bf16 := duV (View.ld x5 r0_0) (dv3 x0 x2 x3 x4 x6) zero8
def dug2 : FVec F S512x256 .bf16 := duV (View.ld x4 r0_0) (dg2 x0 x2 x3 x4 x5 x6 x7) (head8 (dg3 x0 x2 x3 x4 x5 x6 x7))
def duv2 : FVec F S512x256 .bf16 := duV (View.ld x5 r0_0) (dv2 x0 x2 x3 x4 x6) (head8 (dv3 x0 x2 x3 x4 x6))
def dug1 : FVec F S512x256 .bf16 := duV (View.ld x4 r0_0) (dg1 x0 x2 x3 x4 x5 x6 x7) (head8 (dg2 x0 x2 x3 x4 x5 x6 x7))
def duv1 : FVec F S512x256 .bf16 := duV (View.ld x5 r0_0) (dv1 x0 x2 x3 x4 x6) (head8 (dv2 x0 x2 x3 x4 x6))
def dug0 : FVec F S512x256 .bf16 := duV (View.ld x4 r0_0) (dg0 x0 x2 x3 x4 x5 x6 x7) (head8 (dg1 x0 x2 x3 x4 x5 x6 x7))
def duv0 : FVec F S512x256 .bf16 := duV (View.ld x5 r0_0) (dv0 x0 x2 x3 x4 x6) (head8 (dv1 x0 x2 x3 x4 x6))
theorem p8_v0 : k0_pay146 (View.ld x5 r0_0) (k0_pay210 x0 x1 x2 x3 x4 x5 x6 x7) (k0_pay219 x0 x1 x2 x3 x4 x5 x6 x7)
    = st (duv0 x0 x2 x3 x4 x5 x6) := rfl
theorem p8_g0 : k0_pay139 (View.ld x4 r0_0) (k0_pay209 x0 x1 x2 x3 x4 x5 x6 x7) (k0_pay218 x0 x1 x2 x3 x4 x5 x6 x7) (k0_pay220 x0 x1 x2 x3 x4 x5 x6 x7)
    = st (dug0 x0 x2 x3 x4 x5 x6 x7) := rfl
theorem p8_v1 : k0_pay112 (k0_pay206 x0 x1 x2 x3 x4 x5 x6 x7) (k0_pay207 x0 x1 x2 x3 x4 x5 x6 x7) (k0_pay208 x0 x1 x2 x3 x4 x5 x6 x7)
    = st (duv1 x0 x2 x3 x4 x5 x6) := rfl
theorem p8_g1 : k0_pay103 (k0_pay204 x0 x1 x2 x3 x4 x5 x6 x7) (k0_pay205 x0 x1 x2 x3 x4 x5 x6 x7)
    = st (dug1 x0 x2 x3 x4 x5 x6 x7) := rfl
theorem p8_v2 : k0_pay72 (View.ld x5 r0_0) (k0_pay179 x0 x1 x2 x3 x4 x5 x6 x7) (k0_pay191 x0 x1 x2 x3 x4 x5 x6 x7) (k0_pay192 x0 x1 x2 x3 x4 x5 x6 x7) (k0_pay190 x0 x1 x2 x3 x4 x5 x6 x7) 6#32
    = st (duv2 x0 x2 x3 x4 x5 x6) := rfl
theorem p8_g2 : k0_pay64 (View.ld x4 r0_0) (k0_pay178 x0 x1 x2 x3 x4 x5 x6 x7) (k0_pay187 x0 x1 x2 x3 x4 x5 x6 x7) (k0_pay188 x0 x1 x2 x3 x4 x5 x6 x7) (k0_pay189 x0 x1 x2 x3 x4 x5 x6 x7)
    = st (dug2 x0 x2 x3 x4 x5 x6 x7) := rfl
theorem p8_v3 : k0_pay36 (View.ld x5 r0_0) (k0_pay161 x0 x1 x2 x3 x4 x5 x6 x7) (k0_pay176 x0 x1 x2 x3 x4 x5 x6 x7)
    = st (duv3 x0 x2 x3 x4 x5 x6) := rfl
theorem p8_g3 : k0_pay29 (View.ld x4 r0_0) (k0_pay161 x0 x1 x2 x3 x4 x5 x6 x7) (k0_pay175 x0 x1 x2 x3 x4 x5 x6 x7) (k0_pay177 x0 x1 x2 x3 x4 x5 x6 x7)
    = st (dug3 x0 x2 x3 x4 x5 x6 x7) := rfl
theorem p9 : k0_pay152 (k0_pay119 (k0_pay93 (View.ld x5 r0_0) (View.ld x7 r0_1) (k0_pay197 x0 x1 x2 x3 x4 x5 x6 x7) (View.ld x3 r0_18)) (k0_pay199 x0 x1 x2 x3 x4 x5 x6 x7)) (k0_pay120 (k0_pay79 (k0_pay183 x0 x1 x2 x3 x4 x5 x6 x7) (k0_pay57 (k0_pay182 x0 x1 x2 x3 x4 x5 x6 x7) (k0_pay184 x0 x1 x2 x3 x4 x5 x6 x7) (Scalar.ofBits .f32 0x3F000000#32))) (k0_pay80 (k0_pay6 (F := F)) (k0_pay43 (k0_pay22 (View.ld x5 r0_0) (View.ld x7 r0_1) (k0_pay172 x0 x1 x2 x3 x4 x5 x6 x7) (k0_pay173 x0 x1 x2 x3 x4 x5 x6 x7) (k0_pay174 x0 x1 x2 x3 x4 x5 x6 x7)) (k0_pay24 (k0_pay171 x0 x1 x2 x3 x4 x5 x6 x7))) (View.ld x0 r0_2)) (View.ld x0 r0_4)) (k0_pay132 (View.ld x5 r0_0) (View.ld x7 r0_1) (k0_pay215 x0 x1 x2 x3 x4 x5 x6 x7) (k0_pay216 x0 x1 x2 x3 x4 x5 x6 x7) (k0_pay217 x0 x1 x2 x3 x4 x5 x6 x7)) (k0_pay134 (k0_pay214 x0 x1 x2 x3 x4 x5 x6 x7)) (View.ld x0 r0_9) (View.ld x0 r0_14)
    = truncf .bf16 (outer4 (yV (cg3 x3 x4 x6) (cv3 x3 x5 x7)) (yV (cg2 x3 x4 x6) (cv2 x3 x5 x7)) (yV (cg1 x3 x4 x6) (cv1 x3 x5 x7)) (yV (cg0 x3 x4 x6) (cv0 x3 x5 x7)) (View.ld x0 r0_2) (View.ld x0 r0_4) (View.ld x0 r0_9) (View.ld x0 r0_14)) bitsLt_bf16_f32 := rfl
theorem p10_v : k0_pay158 (k0_pay151 (k0_pay111 (k0_pay206 x0 x1 x2 x3 x4 x5 x6 x7) (k0_pay207 x0 x1 x2 x3 x4 x5 x6 x7) (k0_pay208 x0 x1 x2 x3 x4 x5 x6 x7)) (k0_pay122 (k0_pay71 (View.ld x5 r0_0) (k0_pay179 x0 x1 x2 x3 x4 x5 x6 x7) (k0_pay191 x0 x1 x2 x3 x4 x5 x6 x7) (k0_pay192 x0 x1 x2 x3 x4 x5 x6 x7) (k0_pay190 x0 x1 x2 x3 x4 x5 x6 x7) 6#32) (k0_pay82 (k0_pay164 x0 x1 x2 x3 x4 x5 x6 x7) (k0_pay35 (View.ld x5 r0_0) (k0_pay161 x0 x1 x2 x3 x4 x5 x6 x7) (k0_pay176 x0 x1 x2 x3 x4 x5 x6 x7)) (View.ld x1 r0_2)) (View.ld x1 r0_4)) (k0_pay145 (View.ld x5 r0_0) (k0_pay210 x0 x1 x2 x3 x4 x5 x6 x7) (k0_pay219 x0 x1 x2 x3 x4 x5 x6 x7)) (View.ld x1 r0_9) (View.ld x1 r0_14))
    = shapeCast S1x256x2048 (truncf .bf16 (outer4 (duv3 x0 x2 x3 x4 x5 x6) (duv2 x0 x2 x3 x4 x5 x6) (duv1 x0 x2 x3 x4 x5 x6) (duv0 x0 x2 x3 x4 x5 x6) (View.ld x1 r0_2) (View.ld x1 r0_4) (View.ld x1 r0_9) (View.ld x1 r0_14)) bitsLt_bf16_f32) shapeCasts_S256x2048_S1x256x2048 := rfl
theorem p10_g : k0_pay153 (k0_pay102 (k0_pay204 x0 x1 x2 x3 x4 x5 x6 x7) (k0_pay205 x0 x1 x2 x3 x4 x5 x6 x7)) (k0_pay121 (k0_pay63 (View.ld x4 r0_0) (k0_pay178 x0 x1 x2 x3 x4 x5 x6 x7) (k0_pay187 x0 x1 x2 x3 x4 x5 x6 x7) (k0_pay188 x0 x1 x2 x3 x4 x5 x6 x7) (k0_pay189 x0 x1 x2 x3 x4 x5 x6 x7)) (k0_pay81 (k0_pay164 x0 x1 x2 x3 x4 x5 x6 x7) (k0_pay28 (View.ld x4 r0_0) (k0_pay161 x0 x1 x2 x3 x4 x5 x6 x7) (k0_pay175 x0 x1 x2 x3 x4 x5 x6 x7) (k0_pay177 x0 x1 x2 x3 x4 x5 x6 x7)) (View.ld x1 r0_2)) (View.ld x1 r0_4)) (k0_pay138 (View.ld x4 r0_0) (k0_pay209 x0 x1 x2 x3 x4 x5 x6 x7) (k0_pay218 x0 x1 x2 x3 x4 x5 x6 x7) (k0_pay220 x0 x1 x2 x3 x4 x5 x6 x7)) (View.ld x1 r0_9) (View.ld x1 r0_14)
    = shapeCast S1x256x2048 (truncf .bf16 (outer4 (dug3 x0 x2 x3 x4 x5 x6 x7) (dug2 x0 x2 x3 x4 x5 x6 x7) (dug1 x0 x2 x3 x4 x5 x6 x7) (dug0 x0 x2 x3 x4 x5 x6 x7) (View.ld x1 r0_2) (View.ld x1 r0_4) (View.ld x1 r0_9) (View.ld x1 r0_14)) bitsLt_bf16_f32) shapeCasts_S256x2048_S1x256x2048 := rfl
theorem p11_v2 : k0_pay1 (k0_pay149 (k0_pay115 (k0_pay75 (k0_pay39 (k0_pay163 x0 x1 x2 x3 x4 x5 x6 x7) (k0_pay172 x0 x1 x2 x3 x4 x5 x6 x7) (k0_pay176 x0 x1 x2 x3 x4 x5 x6 x7)) (k0_pay51 (View.ld x3 r0_12)) (k0_pay186 x0 x1 x2 x3 x4 x5 x6 x7)) (k0_pay197 x0 x1 x2 x3 x4 x5 x6 x7) (k0_pay203 x0 x1 x2 x3 x4 x5 x6 x7)) (k0_pay215 x0 x1 x2 x3 x4 x5 x6 x7) (k0_pay219 x0 x1 x2 x3 x4 x5 x6 x7))
    = sum4 (mulf (dv3 x0 x2 x3 x4 x6) (rows (View.ld x3 r0_7))) (mulf (dv2 x0 x2 x3 x4 x6) (rows (View.ld x3 r0_12))) (mulf (dv1 x0 x2 x3 x4 x6) (rows (View.ld x3 r0_17))) (mulf (dv0 x0 x2 x3 x4 x6) (rows (View.ld x3 r0_20))) := rfl
theorem p11_v1 : k0_pay160 (k0_pay148 (k0_pay114 (k0_pay74 (k0_pay38 (k0_pay163 x0 x1 x2 x3 x4 x5 x6 x7) (k0_pay173 x0 x1 x2 x3 x4 x5 x6 x7) (k0_pay176 x0 x1 x2 x3 x4 x5 x6 x7)) (k0_pay53 (View.ld x3 r0_12) (View.ld x3 r0_13)) (k0_pay186 x0 x1 x2 x3 x4 x5 x6 x7)) (k0_pay91 (k0_pay197 x0 x1 x2 x3 x4 x5 x6 x7) (View.ld x3 r0_18)) (k0_pay203 x0 x1 x2 x3 x4 x5 x6 x7)) (k0_pay216 x0 x1 x2 x3 x4 x5 x6 x7) (k0_pay219 x0 x1 x2 x3 x4 x5 x6 x7))
    = sum4 (mulf (dv3 x0 x2 x3 x4 x6) (down 1#32 (rows (View.ld x3 r0_7)) (rows8 (View.ld x3 r0_8)))) (mulf (dv2 x0 x2 x3 x4 x6) (down 1#32 (rows (View.ld x3 r0_12)) (rows8 (View.ld x3 r0_13)))) (mulf (dv1 x0 x2 x3 x4 x6) (down 1#32 (rows (View.ld x3 r0_17)) (rows8 (View.ld x3 r0_18)))) (mulf (dv0 x0 x2 x3 x4 x6) (down 1#32 (rows (View.ld x3 r0_20)) zero8)) := rfl
theorem p11_v0 : k0_pay159 (k0_pay147 (k0_pay113 (k0_pay73 (k0_pay37 (k0_pay163 x0 x1 x2 x3 x4 x5 x6 x7) (k0_pay174 x0 x1 x2 x3 x4 x5 x6 x7) (k0_pay176 x0 x1 x2 x3 x4 x5 x6 x7)) (k0_pay54 (View.ld x3 r0_12) (View.ld x3 r0_13)) (k0_pay186 x0 x1 x2 x3 x4 x5 x6 x7)) (k0_pay92 (k0_pay197 x0 x1 x2 x3 x4 x5 x6 x7) (View.ld x3 r0_18)) (k0_pay203 x0 x1 x2 x3 x4 x5 x6 x7)) (k0_pay217 x0 x1 x2 x3 x4 x5 x6 x7) (k0_pay219 x0 x1 x2 x3 x4 x5 x6 x7))
    = sum4 (mulf (dv3 x0 x2 x3 x4 x6) (down 2#32 (rows (View.ld x3 r0_7)) (rows8 (View.ld x3 r0_8)))) (mulf (dv2 x0 x2 x3 x4 x6) (down 2#32 (rows (View.ld x3 r0_12)) (rows8 (View.ld x3 r0_13)))) (mulf (dv1 x0 x2 x3 x4 x6) (down 2#32 (rows (View.ld x3 r0_17)) (rows8 (View.ld x3 r0_18)))) (mulf (dv0 x0 x2 x3 x4 x6) (down 2#32 (rows (View.ld x3 r0_20)) zero8)) := rfl
theorem p11_g2 : k0_pay156 (k0_pay142 (k0_pay106 (k0_pay67 (k0_pay32 (k0_pay162 x0 x1 x2 x3 x4 x5 x6 x7) (k0_pay167 x0 x1 x2 x3 x4 x5 x6 x7) (k0_pay175 x0 x1 x2 x3 x4 x5 x6 x7)) (k0_pay45 (View.ld x3 r0_10)) (k0_pay185 x0 x1 x2 x3 x4 x5 x6 x7)) (k0_pay84 (View.ld x3 r0_15)) (k0_pay202 x0 x1 x2 x3 x4 x5 x6 x7)) (k0_pay211 x0 x1 x2 x3 x4 x5 x6 x7) (k0_pay218 x0 x1 x2 x3 x4 x5 x6 x7))
    = sum4 (mulf (dg3 x0 x2 x3 x4 x5 x6 x7) (rows (View.ld x3 r0_5))) (mulf (dg2 x0 x2 x3 x4 x5 x6 x7) (rows (View.ld x3 r0_10))) (mulf (dg1 x0 x2 x3 x4 x5 x6 x7) (rows (View.ld x3 r0_15))) (mulf (dg0 x0 x2 x3 x4 x5 x6 x7) (rows (View.ld x3 r0_19))) := rfl
theorem p11_g1 : k0_pay155 (k0_pay141 (k0_pay105 (k0_pay66 (k0_pay31 (k0_pay162 x0 x1 x2 x3 x4 x5 x6 x7) (k0_pay15 (k0_pay169 x0 x1 x2 x3 x4 x5 x6 x7) (k0_pay170 x0 x1 x2 x3 x4 x5 x6 x7)) (k0_pay175 x0 x1 x2 x3 x4 x5 x6 x7)) (k0_pay47 (View.ld x3 r0_10) (View.ld x3 r0_11)) (k0_pay185 x0 x1 x2 x3 x4 x5 x6 x7)) (k0_pay86 (View.ld x3 r0_15) (View.ld x3 r0_16)) (k0_pay202 x0 x1 x2 x3 x4 x5 x6 x7)) (k0_pay126 (k0_pay161 x0 x1 x2 x3 x4 x5 x6 x7) (k0_pay212 x0 x1 x2 x3 x4 x5 x6 x7) (k0_pay213 x0 x1 x2 x3 x4 x5 x6 x7)) (k0_pay218 x0 x1 x2 x3 x4 x5 x6 x7))
    = sum4 (mulf (dg3 x0 x2 x3 x4 x5 x6 x7) (down 1#32 (rows (View.ld x3 r0_5)) (rows8 (View.ld x3 r0_6)))) (mulf (dg2 x0 x2 x3 x4 x5 x6 x7) (down 1#32 (rows (View.ld x3 r0_10)) (rows8 (View.ld x3 r0_11)))) (mulf (dg1 x0 x2 x3 x4 x5 x6 x7) (down 1#32 (rows (View.ld x3 r0_15)) (rows8 (View.ld x3 r0_16)))) (mulf (dg0 x0 x2 x3 x4 x5 x6 x7) (down 1#32 (rows (View.ld x3 r0_19)) zero8)) := rfl
theorem p11_g0 : k0_pay154 (k0_pay140 (k0_pay104 (k0_pay65 (k0_pay30 (k0_pay162 x0 x1 x2 x3 x4 x5 x6 x7) (k0_pay16 (k0_pay167 x0 x1 x2 x3 x4 x5 x6 x7) (k0_pay168 x0 x1 x2 x3 x4 x5 x6 x7)) (k0_pay175 x0 x1 x2 x3 x4 x5 x6 x7)) (k0_pay48 (View.ld x3 r0_10) (View.ld x3 r0_11)) (k0_pay185 x0 x1 x2 x3 x4 x5 x6 x7)) (k0_pay87 (View.ld x3 r0_15) (View.ld x3 r0_16)) (k0_pay202 x0 x1 x2 x3 x4 x5 x6 x7)) (k0_pay127 (k0_pay161 x0 x1 x2 x3 x4 x5 x6 x7) (k0_pay211 x0 x1 x2 x3 x4 x5 x6 x7)) (k0_pay218 x0 x1 x2 x3 x4 x5 x6 x7))
    = sum4 (mulf (dg3 x0 x2 x3 x4 x5 x6 x7) (down 2#32 (rows (View.ld x3 r0_5)) (rows8 (View.ld x3 r0_6)))) (mulf (dg2 x0 x2 x3 x4 x5 x6 x7) (down 2#32 (rows (View.ld x3 r0_10)) (rows8 (View.ld x3 r0_11)))) (mulf (dg1 x0 x2 x3 x4 x5 x6 x7) (down 2#32 (rows (View.ld x3 r0_15)) (rows8 (View.ld x3 r0_16)))) (mulf (dg0 x0 x2 x3 x4 x5 x6 x7) (down 2#32 (rows (View.ld x3 r0_19)) zero8)) := rfl
theorem p12_v : k0_pay2 (k0_pay150 (k0_pay116 (k0_pay76 (k0_pay40 (k0_pay163 x0 x1 x2 x3 x4 x5 x6 x7) (k0_pay176 x0 x1 x2 x3 x4 x5 x6 x7)) (k0_pay186 x0 x1 x2 x3 x4 x5 x6 x7)) (k0_pay203 x0 x1 x2 x3 x4 x5 x6 x7)) (k0_pay219 x0 x1 x2 x3 x4 x5 x6 x7))
    = sum4 (dv3 x0 x2 x3 x4 x6) (dv2 x0 x2 x3 x4 x6) (dv1 x0 x2 x3 x4 x6) (dv0 x0 x2 x3 x4 x6) := rfl
theorem p12_g : k0_pay157 (k0_pay144 (k0_pay107 (k0_pay68 (k0_pay34 (k0_pay162 x0 x1 x2 x3 x4 x5 x6 x7) (k0_pay33 (k0_pay175 x0 x1 x2 x3 x4 x5 x6 x7))) (k0_pay185 x0 x1 x2 x3 x4 x5 x6 x7)) (k0_pay202 x0 x1 x2 x3 x4 x5 x6 x7)) (k0_pay143 (k0_pay218 x0 x1 x2 x3 x4 x5 x6 x7)))
    = sum4 (dg3 x0 x2 x3 x4 x5 x6 x7) (dg2 x0 x2 x3 x4 x5 x6 x7) (dg1 x0 x2 x3 x4 x5 x6 x7) (dg0 x0 x2 x3 x4 x5 x6 x7) := rfl

end

end Cert.KernelIdeal.Vecs

end
-- ==== Proof.Col.lean ====
/- One column of the block, as functions of the row: the causal convolution of width 3, the two GeGLU factors with their
   derivatives, and the transposed convolution, over the extended reals. Both programs are read in these words. -/
module

public import Idealize.ShloMosaic.PureOps.Ideal

@[expose] public section

noncomputable section

namespace Cert.Col

open Idealize.ShloMosaic
open scoped BigOperators

/-- The float word of √(2/π) at its value. -/
def gc : EReal := Ideal.ofBits .f32 0x3F4C422A#32
/-- One half. -/
def half : EReal := Ideal.ofBits .f32 0x3F000000#32
/-- The cubic coefficient 0.044715. -/
def cube : EReal := ((8943 / 200000 : ℝ) : EReal)
/-- Three times the cubic coefficient. -/
def cube3 : EReal := ((26829 / 200000 : ℝ) : EReal)

/-- A column `u` moved down by `j` rows, zeros moving in. -/
def tap (u : ℕ → EReal) (j s : ℕ) : EReal := if j ≤ s then u (s - j) else 0
/-- A column of 2048 rows, zero below its end. -/
def pad (d : ℕ → EReal) (s : ℕ) : EReal := if s < 2048 then d s else 0
/-- The causal convolution of width 3 with its bias. -/
def conv (w : ℕ → EReal) (b : EReal) (u : ℕ → EReal) (s : ℕ) : EReal :=
  tap u 0 s * w 2 + tap u 1 s * w 1 + tap u 2 s * w 0 + b
/-- The convolution transposed. -/
def back (w : ℕ → EReal) (d : ℕ → EReal) (s : ℕ) : EReal :=
  d s * w 2 + pad d (s + 1) * w 1 + pad d (s + 2) * w 0

/-- The hyperbolic tangent inside the activation. -/
def th (c : EReal) : EReal := Ideal.tanh (gc * (c + cube * (c * c * c)))
/-- The activation. -/
def glu (c : EReal) : EReal := half * c * (1 + th c)
/-- Its derivative as the kernel writes it. -/
def dglu (c : EReal) : EReal :=
  half * (1 + th c) + half * c * (1 - th c * th c) * (gc * (1 + cube3 * (c * c)))

/-- The gradient at the gate as differentiating the activation term by term writes it. -/
def dgate (dy c0 c1 : EReal) : EReal :=
  dy * c1 * (half * (1 + th c0)) + gc * (half * (c0 * (dy * c1)) * ((1 + th c0) * (1 - th c0)))
    + cube * (gc * (half * (c0 * (dy * c1)) * ((1 + th c0) * (1 - th c0)))) * (((3 : ℝ) : EReal) * (c0 * c0))

/-- An extended real that is a real. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem Fin'.zero : Fin' 0 := ⟨0, by simp⟩
theorem Fin'.sum {ι : Type} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))
theorem Fin'.tap {u : ℕ → EReal} (h : ∀ s, Fin' (u s)) (j s : ℕ) : Fin' (tap u j s) := by
  unfold Col.tap; split
  · exact h _
  · exact .zero
/-- The convolution of real numbers is real. -/
theorem Fin'.conv {w u : ℕ → EReal} {b : EReal} (hw : ∀ j, Fin' (w j)) (hb : Fin' b) (hu : ∀ s, Fin' (u s)) (s : ℕ) :
    Fin' (conv w b u s) :=
  ((((Fin'.tap hu 0 s).mul (hw 2)).add ((Fin'.tap hu 1 s).mul (hw 1))).add ((Fin'.tap hu 2 s).mul (hw 0))).add hb

theorem half_eq : half = ((1 / 2 : ℝ) : EReal) := by
  unfold half; simp [Ideal.ofBits, Ideal.ieee, -EReal.coe_mul]; norm_num
theorem three_eq : Ideal.ofBits .f32 0x40400000#32 = ((3 : ℝ) : EReal) := by
  simp [Ideal.ofBits, Ideal.ieee, -EReal.coe_mul]; norm_num
theorem gc_fin : Fin' gc := by
  unfold gc; simp [Ideal.ofBits, Ideal.ieee, -EReal.coe_mul]; exact ⟨_, rfl⟩
/-- The quotient 44715 / 10⁶ is the cubic coefficient. -/
theorem quot_eq : Ideal.div (Ideal.ofBits .f32 0x472EAB00#32) (Ideal.ofBits .f32 0x49742400#32) = cube := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  rw [h1, h2, Ideal.div_coe (by norm_num), ← EReal.coe_mul]
  unfold cube; norm_num

/-- On reals the two writings of the gate's gradient agree. -/
theorem dgate_eq {dy c0 c1 : EReal} (hd : Fin' dy) (h0 : Fin' c0) (h1 : Fin' c1) :
    dy * c1 * dglu c0 = dgate dy c0 c1 := by
  obtain ⟨d, rfl⟩ := hd; obtain ⟨a, rfl⟩ := h0; obtain ⟨b, rfl⟩ := h1
  obtain ⟨g, hg⟩ := gc_fin
  have ht : Fin' (th a) := by
    unfold th cube; rw [hg]; exact ⟨Real.tanh (g * (a + 8943 / 200000 * (a * a * a))), by
      rw [← Ideal.tanh_coe]; push_cast; rfl⟩
  obtain ⟨t, ht⟩ := ht
  unfold dglu dgate; rw [ht, hg, half_eq]; unfold cube cube3
  have e1 : (1 : EReal) = ((1 : ℝ) : EReal) := rfl
  rw [e1]; simp only [← EReal.coe_mul, ← EReal.coe_add, ← EReal.coe_sub]
  congr 1; ring

/-- The activation, its factor ½ taken inside the product or outside. -/
theorem glu_eq (c : EReal) : c * (half * (1 + th c)) = glu c := by unfold glu; rw [mul_left_comm, mul_assoc]

/-- The sum of 2048 rows as the four sums of 512 rows, the last first. -/
theorem sum_rows (f : ℕ → EReal) :
    0 + ∑ r : Fin 512, f (1536 + r) + ∑ r : Fin 512, f (1024 + r) + ∑ r : Fin 512, f (512 + r) + ∑ r : Fin 512, f (0 + r)
      = ∑ s : Fin 2048, f s := by
  rw [Fin.sum_univ_eq_sum_range (fun r => f (1536 + r)), Fin.sum_univ_eq_sum_range (fun r => f (1024 + r)),
    Fin.sum_univ_eq_sum_range (fun r => f (512 + r)), Fin.sum_univ_eq_sum_range (fun r => f (0 + r)),
    Fin.sum_univ_eq_sum_range f, show (2048 : ℕ) = ((512 + 512) + 512) + 512 from rfl, Finset.sum_range_add,
    Finset.sum_range_add, Finset.sum_range_add]
  simp only [zero_add, Nat.reduceAdd]
  rw [add_comm (∑ x ∈ Finset.range 512, f (1536 + x)), add_comm _ (∑ x ∈ Finset.range 512, f x),
    add_comm _ (∑ x ∈ Finset.range 512, f (512 + x)), ← add_assoc, ← add_assoc]

/-- A row number as an index of 2048 rows. -/
def row (s : ℕ) : Fin 2048 := ⟨s % 2048, Nat.mod_lt _ (by norm_num)⟩

theorem row_of {s : ℕ} (h : s < 2048) : row s = ⟨s, h⟩ := Fin.ext (Nat.mod_eq_of_lt h)
theorem row_val (s : Fin 2048) : row s = s := Fin.ext (Nat.mod_eq_of_lt s.isLt)

/-- A weight number as an index of three. -/
def wrow (j : ℕ) : Fin 3 := ⟨j % 3, Nat.mod_lt _ (by norm_num)⟩

theorem wrow_val (j : Fin 3) : wrow j = j := Fin.ext (Nat.mod_eq_of_lt j.isLt)

/-- Column `q` of half `i` of the doubled width. -/
def wide (i : Fin 2) (q : Fin 5632) : Fin 11264 := ⟨i.val * 5632 + q.val, by omega⟩

/-- What one column of each half (0 the gate, 1 the value) takes: the gradient `dy` at the gated product, the two
    projected columns, their weights and biases. -/
structure Data where
  dy : ℕ → EReal
  u : Fin 2 → ℕ → EReal
  w : Fin 2 → ℕ → EReal
  b : Fin 2 → EReal

namespace Data
variable (D : Data)

/-- The convolved column. -/
def c (i : Fin 2) (s : ℕ) : EReal := conv (D.w i) (D.b i) (D.u i) s
/-- The gradient at it, as the kernel writes it. -/
def d (i : Fin 2) (s : ℕ) : EReal := if i = 0 then D.dy s * D.c 1 s * dglu (D.c 0 s) else D.dy s * glu (D.c 0 s)
/-- The gradient at the projected column. -/
def du (i : Fin 2) (s : ℕ) : EReal := back (D.w i) (D.d i) s
/-- The gated product. -/
def y (s : ℕ) : EReal := glu (D.c 0 s) * D.c 1 s
/-- The gradient at the weight `j`. -/
def dcw (i : Fin 2) (j : ℕ) : EReal := ∑ s : Fin 2048, D.d i s * tap (D.u i) (2 - j) s
/-- The gradient at the bias. -/
def dcb (i : Fin 2) : EReal := ∑ s : Fin 2048, D.d i s

end Data

/-- The columns numbered `q` of whole arrays, given entry by entry: `df`, `h`, `w_up`, the convolution's weights and
    bias, `w_down`. -/
def arr (df h : Fin 2048 → Fin 2048 → EReal) (wu : Fin 2048 → Fin 11264 → EReal) (cw : Fin 3 → Fin 11264 → EReal)
    (cb : Fin 11264 → EReal) (wd : Fin 5632 → Fin 2048 → EReal) (q : Fin 5632) : Data where
  dy s := ∑ k : Fin 2048, df (row s) k * wd q k
  u i s := ∑ k : Fin 2048, h (row s) k * wu k (wide i q)
  w i j := cw (wrow j) (wide i q)
  b i := cb (wide i q)

end Cert.Col

end
-- ==== Proof.Read.lean ====
/- The kernel's chunk expressions read at an entry, over the extended reals: on the chunk of rows from `B` each is the
   column function of `Col` at the row `B + r`. -/
module

public import proofs.«01_k».proof.Proof.Vecs
public import proofs.«01_k».proof.Proof.Col
public import Idealize.ShloMosaic.Lib.Pipeline.ValueKit
public import Idealize.ShloMosaic.Lib.Pointwise

@[expose] public section

set_option maxRecDepth 16384

noncomputable section

namespace Cert.KernelIdeal.Vecs

open Idealize.ShloMosaic Idealize.ShloMosaic.TcCoe Idealize.SL.Sem
open Cert.KernelIdeal Cert.KernelIdeal.Gen
open scoped BigOperators

/-- Column `l` of the chunk `u` is the column `U` on the rows from `B`. -/
def Chunk {φ : FTy} (u : FVec Ideal S512x256 φ) (l : Fin 256) (U : ℕ → EReal) (B : ℕ) : Prop :=
  ∀ r : Fin 512, u (ix2 r l) = U (B + r)
/-- Column `l` of `p` is the eight rows before row `B`, zeros before row 0. -/
def Prev (p : FVec Ideal S8x256 .f32) (l : Fin 256) (U : ℕ → EReal) (B : ℕ) : Prop :=
  ∀ r : Fin 8, p (ix2 r l) = if 8 ≤ B + r then U (B + r - 8) else 0
/-- Column `l` of `n` is the eight rows from row `B + 512` on, zeros after row 2047. -/
def Next (n : FVec Ideal S8x256 .f32) (l : Fin 256) (U : ℕ → EReal) (B : ℕ) : Prop :=
  ∀ r : Fin 8, n (ix2 r l) = Col.pad U (B + 512 + r)

theorem sge_word (j : ℕ) (hj : j < 8) (r : ℕ) (hr : r < 8) :
    IntOp.cmpi CmpIPredicate.sge (BitVec.ofNat 32 r) (BitVec.ofNat 32 j) = if j ≤ r then 1#1 else 0#1 := by
  have h : ∀ (j r : Fin 8), IntOp.cmpi CmpIPredicate.sge (BitVec.ofNat 32 r.val) (BitVec.ofNat 32 j.val)
      = if j.val ≤ r.val then 1#1 else 0#1 := by decide
  exact h ⟨j, hj⟩ ⟨r, hr⟩
theorem slt_word (j : ℕ) (hj : j < 8) (r : ℕ) (hr : r < 8) :
    IntOp.cmpi CmpIPredicate.slt (BitVec.ofNat 32 r) (BitVec.ofNat 32 j) = if r < j then 1#1 else 0#1 := by
  have h : ∀ (j r : Fin 8), IntOp.cmpi CmpIPredicate.slt (BitVec.ofNat 32 r.val) (BitVec.ofNat 32 j.val)
      = if r.val < j.val then 1#1 else 0#1 := by decide
  exact h ⟨j, hj⟩ ⟨r, hr⟩
theorem select_ite {α : Type} (P : Prop) [Decidable P] (a b : α) :
    Scalar.select (if P then 1#1 else 0#1) a b = if P then a else b := by
  split <;> rfl

variable {u : FVec Ideal S512x256 .f32} {p n : FVec Ideal S8x256 .f32} {l : Fin 256} {U : ℕ → EReal} {B : ℕ}

theorem Chunk.at {φ : FTy} {u : FVec Ideal S512x256 φ} (hu : Chunk u l U B) {i : ℕ} (h : i < 512) {s : ℕ} (e : B + i = s) :
    u (ix2 ⟨i, h⟩ l) = U s := e ▸ hu ⟨i, h⟩

/-- Moving down by one or two rows. -/
theorem Chunk.down1 (hu : Chunk u l U B) (hp : Prev p l U B) (hB : B = 0 ∨ 8 ≤ B) : Chunk (down 1#32 u p) l (Col.tap U 1) B := by
  intro r
  have hr := r.isLt
  pointwise [down]
  unfold Col.tap
  split
  · rename_i h
    rw [sge_word 1 (by norm_num) _ h, select_ite]
    split
    · rw [if_pos (by omega), hu.at _ (s := B + r - 1) (by omega)]
    · rw [hp]
      by_cases h8 : B = 0
      · subst h8; rw [if_neg (by simp; omega), if_neg (by omega)]
      · rw [if_pos (by simp; omega), if_pos (by omega)]; congr 1; simp; omega
  · exact (hu.at _ (s := B + r - 1) (by omega)).trans (if_pos (by omega)).symm
theorem Chunk.down2 (hu : Chunk u l U B) (hp : Prev p l U B) (hB : B = 0 ∨ 8 ≤ B) : Chunk (down 2#32 u p) l (Col.tap U 2) B := by
  intro r
  have hr := r.isLt
  pointwise [down]
  unfold Col.tap
  split
  · rename_i h
    rw [sge_word 2 (by norm_num) _ h, select_ite]
    split
    · rw [if_pos (by omega), hu.at _ (s := B + r - 2) (by omega)]
    · rw [hp]
      by_cases h8 : B = 0
      · subst h8; rw [if_neg (by simp; omega), if_neg (by omega)]
      · rw [if_pos (by simp; omega), if_pos (by omega)]; congr 1; simp; omega
  · exact (hu.at _ (s := B + r - 2) (by omega)).trans (if_pos (by omega)).symm
theorem Chunk.down0 (hu : Chunk u l U B) : Chunk u l (Col.tap U 0) B := by
  intro r; rw [hu r]; unfold Col.tap; simp

/-- Moving up by one or two rows. -/
theorem Chunk.up1 (hu : Chunk u l U B) (hn : Next n l U B) (hB : B ≤ 1536) :
    Chunk (up 511#32 7#32 u n) l (fun s => Col.pad U (s + 1)) B := by
  intro r
  have hr := r.isLt
  pointwise [up]
  split
  · rw [hu.at _ (s := B + r + 1) (by omega), Col.pad, if_pos (by omega)]
  · rw [slt_word 7 (by norm_num) _ (by omega), select_ite]
    split
    · rw [hu.at _ (s := B + r + 1) (by omega), Col.pad, if_pos (by omega)]
    · rw [hn]; congr 1; simp; omega
theorem Chunk.up2 (hu : Chunk u l U B) (hn : Next n l U B) (hB : B ≤ 1536) :
    Chunk (up 510#32 6#32 u n) l (fun s => Col.pad U (s + 2)) B := by
  intro r
  have hr := r.isLt
  pointwise [up]
  split
  · rw [hu.at _ (s := B + r + 2) (by omega), Col.pad, if_pos (by omega)]
  · rw [slt_word 6 (by norm_num) _ (by omega), select_ite]
    split
    · rw [hu.at _ (s := B + r + 2) (by omega), Col.pad, if_pos (by omega)]
    · rw [hn]; congr 1; simp; omega

theorem w0_at (w : Vec Ideal S3x256 .f32) (r : Fin 512) (l : Fin 256) : w0 w (ix2 r l) = w (ix2 0 l) := by pointwise [w0]
theorem w1_at (w : Vec Ideal S3x256 .f32) (r : Fin 512) (l : Fin 256) : w1 w (ix2 r l) = w (ix2 1 l) := by pointwise [w1]
theorem w2_at (w : Vec Ideal S3x256 .f32) (r : Fin 512) (l : Fin 256) : w2 w (ix2 r l) = w (ix2 2 l) := by pointwise [w2]

variable {w : Vec Ideal S3x256 .f32} {W : ℕ → EReal} {b : Vec Ideal S1x256 .f32} {b' : EReal}

/-- The convolution of a chunk. -/
theorem Chunk.conv (hu : Chunk u l U B) (hp : Prev p l U B) (hB : B = 0 ∨ 8 ≤ B) (hw : ∀ j : Fin 3, w (ix2 j l) = W j)
    (hb : b (ix2 0 l) = b') : Chunk (convV w b u p) l (Col.conv W b' U) B := by
  intro r
  have h1 := hu.down1 hp hB r
  have h2 := hu.down2 hp hB r
  pointwise [convV]
  rw [w0_at, w1_at, w2_at, h1, h2, hu.down0 r, hw 0, hw 1, hw 2]
  unfold Col.conv
  rw [← hb]; rfl

theorem cube_named : Named.named (F := Ideal) κ "cube" (φ := .f32) 0x3D372713#32 = Col.cube :=
  IdealRules.named_const.ideal_named_scalar _ _ _ _ rfl
theorem cube3_named : Named.named (F := Ideal) κ "cube3" (φ := .f32) 0x3E095D4F#32 = Col.cube3 :=
  IdealRules.named_const.ideal_named_scalar _ _ _ _ rfl

variable {C0 C1 D E : ℕ → EReal} {c0 c1 d e : FVec Ideal S512x256 .f32}

theorem gluV_at (c : FVec Ideal S512x256 .f32) (r : Fin 512) (l : Fin 256) : gluV c (ix2 r l) = Col.glu (c (ix2 r l)) := by
  pointwise [gluV, thV, cst]
  rw [cube_named]; rfl
theorem dgluV_at (c : FVec Ideal S512x256 .f32) (r : Fin 512) (l : Fin 256) : dgluV c (ix2 r l) = Col.dglu (c (ix2 r l)) := by
  pointwise [dgluV, thV, cst]
  rw [cube_named, cube3_named]; rfl

theorem Chunk.mul (hd : Chunk d l D B) (he : Chunk e l E B) : Chunk (mulf d e) l (fun s => D s * E s) B := by
  intro r; pointwise; rw [hd r, he r]
/-- The gradients at the gate and at the value, and the gated product. -/
theorem Chunk.dg (hd : Chunk d l D B) (h0 : Chunk c0 l C0 B) (h1 : Chunk c1 l C1 B) :
    Chunk (dgV d c0 c1) l (fun s => D s * C1 s * Col.dglu (C0 s)) B := by
  intro r; pointwise [dgV]; rw [dgluV_at, hd r, h0 r, h1 r]
theorem Chunk.dv (hd : Chunk d l D B) (h0 : Chunk c0 l C0 B) : Chunk (dvV d c0) l (fun s => D s * Col.glu (C0 s)) B := by
  intro r; pointwise [dvV]; rw [gluV_at, hd r, h0 r]
theorem Chunk.y (h0 : Chunk c0 l C0 B) (h1 : Chunk c1 l C1 B) : Chunk (yV c0 c1) l (fun s => Col.glu (C0 s) * C1 s) B := by
  intro r; pointwise [yV]; rw [gluV_at, h0 r, h1 r]
/-- The transposed convolution. -/
theorem Chunk.du (hd : Chunk d l D B) (hn : Next n l D B) (hB : B ≤ 1536) (hw : ∀ j : Fin 3, w (ix2 j l) = W j) :
    Chunk (duV w d n) l (Col.back W D) B := by
  intro r
  have h1 := hd.up1 hn hB r
  have h2 := hd.up2 hn hB r
  pointwise [duV]
  rw [w0_at, w1_at, w2_at, h1, h2, hd r, hw 0, hw 1, hw 2]
  rfl

/-- The first rows of a chunk follow the chunk before it; nothing follows the last. -/
theorem Chunk.next (hd : Chunk d l D (B + 512)) (hB : B + 512 ≤ 1536) : Next (head8 d) l D B := by
  intro r
  have hr := r.isLt
  pointwise [head8]
  rw [hd.at _ rfl, Col.pad, if_pos (by omega)]
theorem next_zero : Next zero8 l D 1536 := by
  intro r; pointwise [zero8]; rw [Col.pad, if_neg (by omega)]
theorem prev_zero : Prev zero8 l U 0 := by
  intro r
  have hr := r.isLt
  pointwise [zero8]

/-- The four chunks' sums are the column's sum. -/
theorem sum4_at {d3 d2 d1 d0 : FVec Ideal S512x256 .f32} (h3 : Chunk d3 l D 1536) (h2 : Chunk d2 l D 1024)
    (h1 : Chunk d1 l D 512) (h0 : Chunk d0 l D 0) : sum4 d3 d2 d1 d0 (ix3 0 0 l) = ∑ s : Fin 2048, D s := by
  rw [← Col.sum_rows]
  pointwise [sum4, sumV, zero1]
  rw [Finset.sum_congr rfl fun r _ => h3 r, Finset.sum_congr rfl fun r _ => h2 r, Finset.sum_congr rfl fun r _ => h1 r,
    Finset.sum_congr rfl fun r _ => h0 r]
  simp only [zero_add]

theorem outerV_at (y : FVec Ideal S512x256 .bf16) (x : Vec Ideal S512x2048 .bf16) (l : Fin 256) (k : Fin 2048) :
    outerV y x (ix2 l k) = ∑ r : Fin 512, y (ix2 r l) * x (ix2 r k) := by pointwise [outerV]

/-- The four chunks' products over the rows are the whole product. -/
theorem outer4_at {y3 y2 y1 y0 : FVec Ideal S512x256 .bf16} {x3 x2 x1 x0 : Vec Ideal S512x2048 .bf16} {X : ℕ → EReal}
    {k : Fin 2048} (h3 : Chunk y3 l D 1536) (h2 : Chunk y2 l D 1024) (h1 : Chunk y1 l D 512) (h0 : Chunk y0 l D 0)
    (g3 : ∀ r : Fin 512, x3 (ix2 r k) = X (1536 + r)) (g2 : ∀ r : Fin 512, x2 (ix2 r k) = X (1024 + r))
    (g1 : ∀ r : Fin 512, x1 (ix2 r k) = X (512 + r)) (g0 : ∀ r : Fin 512, x0 (ix2 r k) = X (0 + r)) :
    outer4 y3 y2 y1 y0 x3 x2 x1 x0 (ix2 l k) = ∑ s : Fin 2048, D s * X s := by
  rw [← Col.sum_rows fun s => D s * X s]
  pointwise [outer4]
  rw [outerV_at, outerV_at, outerV_at, outerV_at]
  simp only [h3 _, h2 _, h1 _, h0 _, g3, g2, g1, g0, zero_add]

theorem dyV_at (a : Vec Ideal S512x2048 .bf16) (w : Vec Ideal S256x2048 .bf16) (r : Fin 512) (l : Fin 256) :
    dyV a w (ix2 r l) = ∑ k : Fin 2048, a (ix2 r k) * w (ix2 l k) := by pointwise [dyV]

end Cert.KernelIdeal.Vecs

end
-- ==== Proof.Block.lean ====
/- One grid point's body over the blocks it finds: entry by entry its five results are the column functions of `Col`. -/
module

public import proofs.«01_k».proof.Proof.Read

@[expose] public section

set_option maxRecDepth 16384

noncomputable section

namespace Cert.KernelIdeal.Vecs

open Idealize.ShloMosaic Idealize.ShloMosaic.TcCoe Idealize.SL.Sem
open Cert.KernelIdeal Cert.KernelIdeal.Gen
open scoped BigOperators

variable (x0 : Vec Ideal S2048x2048 .bf16) (x1 : Vec Ideal S2048x2048 .bf16) (x2 : Vec Ideal S256x2048 .bf16) (x3 : Vec Ideal S2x2048x256 .f32)
  (x4 : Vec Ideal S3x256 .f32) (x5 : Vec Ideal S3x256 .f32) (x6 : Vec Ideal S1x256 .f32) (x7 : Vec Ideal S1x256 .f32) (l : Fin 256)

/-- The columns numbered `l` of the point's blocks. -/
def blk : Col.Data where
  dy s := ∑ k : Fin 2048, x0 (ix2 (Col.row s) k) * x2 (ix2 l k)
  u i s := x3 (ix3 i (Col.row s) l)
  w i j := if i = 0 then x4 (ix2 (Col.wrow j) l) else x5 (ix2 (Col.wrow j) l)
  b i := if i = 0 then x6 (ix2 0 l) else x7 (ix2 0 l)

theorem hw4 (j : Fin 3) : (View.ld x4 r0_0 : Vec Ideal S3x256 .f32) (ix2 j l) = (blk x0 x2 x3 x4 x5 x6 x7 l).w 0 j := by
  pointwise; show _ = x4 (ix2 (Col.wrow j) l); rw [Col.wrow_val]
theorem hw5 (j : Fin 3) : (View.ld x5 r0_0 : Vec Ideal S3x256 .f32) (ix2 j l) = (blk x0 x2 x3 x4 x5 x6 x7 l).w 1 j := by
  pointwise; show _ = x5 (ix2 (Col.wrow j) l); rw [Col.wrow_val]
theorem hb6 : (View.ld x6 r0_1 : Vec Ideal S1x256 .f32) (ix2 0 l) = (blk x0 x2 x3 x4 x5 x6 x7 l).b 0 := by
  pointwise; rfl
theorem hb7 : (View.ld x7 r0_1 : Vec Ideal S1x256 .f32) (ix2 0 l) = (blk x0 x2 x3 x4 x5 x6 x7 l).b 1 := by
  pointwise; rfl

/-! The chunks of the gradient `dy`, of the projected columns and of the eight rows before them. -/

theorem hdy3 : Chunk (dy3 x0 x2) l (blk x0 x2 x3 x4 x5 x6 x7 l).dy 1536 := by
  intro r
  unfold dy3
  rw [dyV_at]
  show _ = ∑ k : Fin 2048, x0 (ix2 (Col.row _) k) * x2 (ix2 l k)
  rw [Col.row_of (by omega)]
  pointwise
theorem hug3 : Chunk (rows (View.ld x3 r0_5)) l ((blk x0 x2 x3 x4 x5 x6 x7 l).u 0) 1536 := by
  intro r
  show _ = x3 (ix3 0 (Col.row (1536 + r)) l)
  rw [Col.row_of (by omega)]
  pointwise [rows]
theorem hpg3 : Prev (rows8 (View.ld x3 r0_6)) l ((blk x0 x2 x3 x4 x5 x6 x7 l).u 0) 1536 := by
  intro r
  rw [if_pos (by omega)]
  show _ = x3 (ix3 0 (Col.row (1536 + r - 8)) l)
  rw [Col.row_of (by omega)]
  pointwise [rows8]
  congr 2
  exact Fin.ext (by show 1528 + r.val = 1536 + r.val - 8; omega)
theorem hcg3 : Chunk (cg3 x3 x4 x6) l ((blk x0 x2 x3 x4 x5 x6 x7 l).c 0) 1536 :=
  (hug3 x0 x2 x3 x4 x5 x6 x7 l).conv (hpg3 x0 x2 x3 x4 x5 x6 x7 l) (.inr (by norm_num)) (hw4 x0 x2 x3 x4 x5 x6 x7 l) (hb6 x0 x2 x3 x4 x5 x6 x7 l)
theorem huv3 : Chunk (rows (View.ld x3 r0_7)) l ((blk x0 x2 x3 x4 x5 x6 x7 l).u 1) 1536 := by
  intro r
  show _ = x3 (ix3 1 (Col.row (1536 + r)) l)
  rw [Col.row_of (by omega)]
  pointwise [rows]
theorem hpv3 : Prev (rows8 (View.ld x3 r0_8)) l ((blk x0 x2 x3 x4 x5 x6 x7 l).u 1) 1536 := by
  intro r
  rw [if_pos (by omega)]
  show _ = x3 (ix3 1 (Col.row (1536 + r - 8)) l)
  rw [Col.row_of (by omega)]
  pointwise [rows8]
  congr 2
  exact Fin.ext (by show 1528 + r.val = 1536 + r.val - 8; omega)
theorem hcv3 : Chunk (cv3 x3 x5 x7) l ((blk x0 x2 x3 x4 x5 x6 x7 l).c 1) 1536 :=
  (huv3 x0 x2 x3 x4 x5 x6 x7 l).conv (hpv3 x0 x2 x3 x4 x5 x6 x7 l) (.inr (by norm_num)) (hw5 x0 x2 x3 x4 x5 x6 x7 l) (hb7 x0 x2 x3 x4 x5 x6 x7 l)
theorem hdy2 : Chunk (dy2 x0 x2) l (blk x0 x2 x3 x4 x5 x6 x7 l).dy 1024 := by
  intro r
  unfold dy2
  rw [dyV_at]
  show _ = ∑ k : Fin 2048, x0 (ix2 (Col.row _) k) * x2 (ix2 l k)
  rw [Col.row_of (by omega)]
  pointwise
theorem hug2 : Chunk (rows (View.ld x3 r0_10)) l ((blk x0 x2 x3 x4 x5 x6 x7 l).u 0) 1024 := by
  intro r
  show _ = x3 (ix3 0 (Col.row (1024 + r)) l)
  rw [Col.row_of (by omega)]
  pointwise [rows]
theorem hpg2 : Prev (rows8 (View.ld x3 r0_11)) l ((blk x0 x2 x3 x4 x5 x6 x7 l).u 0) 1024 := by
  intro r
  rw [if_pos (by omega)]
  show _ = x3 (ix3 0 (Col.row (1024 + r - 8)) l)
  rw [Col.row_of (by omega)]
  pointwise [rows8]
  congr 2
  exact Fin.ext (by show 1016 + r.val = 1024 + r.val - 8; omega)
theorem hcg2 : Chunk (cg2 x3 x4 x6) l ((blk x0 x2 x3 x4 x5 x6 x7 l).c 0) 1024 :=
  (hug2 x0 x2 x3 x4 x5 x6 x7 l).conv (hpg2 x0 x2 x3 x4 x5 x6 x7 l) (.inr (by norm_num)) (hw4 x0 x2 x3 x4 x5 x6 x7 l) (hb6 x0 x2 x3 x4 x5 x6 x7 l)
theorem huv2 : Chunk (rows (View.ld x3 r0_12)) l ((blk x0 x2 x3 x4 x5 x6 x7 l).u 1) 1024 := by
  intro r
  show _ = x3 (ix3 1 (Col.row (1024 + r)) l)
  rw [Col.row_of (by omega)]
  pointwise [rows]
theorem hpv2 : Prev (rows8 (View.ld x3 r0_13)) l ((blk x0 x2 x3 x4 x5 x6 x7 l).u 1) 1024 := by
  intro r
  rw [if_pos (by omega)]
  show _ = x3 (ix3 1 (Col.row (1024 + r - 8)) l)
  rw [Col.row_of (by omega)]
  pointwise [rows8]
  congr 2
  exact Fin.ext (by show 1016 + r.val = 1024 + r.val - 8; omega)
theorem hcv2 : Chunk (cv2 x3 x5 x7) l ((blk x0 x2 x3 x4 x5 x6 x7 l).c 1) 1024 :=
  (huv2 x0 x2 x3 x4 x5 x6 x7 l).conv (hpv2 x0 x2 x3 x4 x5 x6 x7 l) (.inr (by norm_num)) (hw5 x0 x2 x3 x4 x5 x6 x7 l) (hb7 x0 x2 x3 x4 x5 x6 x7 l)
theorem hdy1 : Chunk (dy1 x0 x2) l (blk x0 x2 x3 x4 x5 x6 x7 l).dy 512 := by
  intro r
  unfold dy1
  rw [dyV_at]
  show _ = ∑ k : Fin 2048, x0 (ix2 (Col.row _) k) * x2 (ix2 l k)
  rw [Col.row_of (by omega)]
  pointwise
theorem hug1 : Chunk (rows (View.ld x3 r0_15)) l ((blk x0 x2 x3 x4 x5 x6 x7 l).u 0) 512 := by
  intro r
  show _ = x3 (ix3 0 (Col.row (512 + r)) l)
  rw [Col.row_of (by omega)]
  pointwise [rows]
theorem hpg1 : Prev (rows8 (View.ld x3 r0_16)) l ((blk x0 x2 x3 x4 x5 x6 x7 l).u 0) 512 := by
  intro r
  rw [if_pos (by omega)]
  show _ = x3 (ix3 0 (Col.row (512 + r - 8)) l)
  rw [Col.row_of (by omega)]
  pointwise [rows8]
  congr 2
  exact Fin.ext (by show 504 + r.val = 512 + r.val - 8; omega)
theorem hcg1 : Chunk (cg1 x3 x4 x6) l ((blk x0 x2 x3 x4 x5 x6 x7 l).c 0) 512 :=
  (hug1 x0 x2 x3 x4 x5 x6 x7 l).conv (hpg1 x0 x2 x3 x4 x5 x6 x7 l) (.inr (by norm_num)) (hw4 x0 x2 x3 x4 x5 x6 x7 l) (hb6 x0 x2 x3 x4 x5 x6 x7 l)
theorem huv1 : Chunk (rows (View.ld x3 r0_17)) l ((blk x0 x2 x3 x4 x5 x6 x7 l).u 1) 512 := by
  intro r
  show _ = x3 (ix3 1 (Col.row (512 + r)) l)
  rw [Col.row_of (by omega)]
  pointwise [rows]
theorem hpv1 : Prev (rows8 (View.ld x3 r0_18)) l ((blk x0 x2 x3 x4 x5 x6 x7 l).u 1) 512 := by
  intro r
  rw [if_pos (by omega)]
  show _ = x3 (ix3 1 (Col.row (512 + r - 8)) l)
  rw [Col.row_of (by omega)]
  pointwise [rows8]
  congr 2
  exact Fin.ext (by show 504 + r.val = 512 + r.val - 8; omega)
theorem hcv1 : Chunk (cv1 x3 x5 x7) l ((blk x0 x2 x3 x4 x5 x6 x7 l).c 1) 512 :=
  (huv1 x0 x2 x3 x4 x5 x6 x7 l).conv (hpv1 x0 x2 x3 x4 x5 x6 x7 l) (.inr (by norm_num)) (hw5 x0 x2 x3 x4 x5 x6 x7 l) (hb7 x0 x2 x3 x4 x5 x6 x7 l)
theorem hdy0 : Chunk (dy0 x0 x2) l (blk x0 x2 x3 x4 x5 x6 x7 l).dy 0 := by
  intro r
  unfold dy0
  rw [dyV_at]
  show _ = ∑ k : Fin 2048, x0 (ix2 (Col.row _) k) * x2 (ix2 l k)
  rw [Col.row_of (by omega)]
  pointwise
theorem hug0 : Chunk (rows (View.ld x3 r0_19)) l ((blk x0 x2 x3 x4 x5 x6 x7 l).u 0) 0 := by
  intro r
  show _ = x3 (ix3 0 (Col.row (0 + r)) l)
  rw [Col.row_of (by omega)]
  pointwise [rows]
theorem hcg0 : Chunk (cg0 x3 x4 x6) l ((blk x0 x2 x3 x4 x5 x6 x7 l).c 0) 0 :=
  (hug0 x0 x2 x3 x4 x5 x6 x7 l).conv prev_zero (.inl rfl) (hw4 x0 x2 x3 x4 x5 x6 x7 l) (hb6 x0 x2 x3 x4 x5 x6 x7 l)
theorem huv0 : Chunk (rows (View.ld x3 r0_20)) l ((blk x0 x2 x3 x4 x5 x6 x7 l).u 1) 0 := by
  intro r
  show _ = x3 (ix3 1 (Col.row (0 + r)) l)
  rw [Col.row_of (by omega)]
  pointwise [rows]
theorem hcv0 : Chunk (cv0 x3 x5 x7) l ((blk x0 x2 x3 x4 x5 x6 x7 l).c 1) 0 :=
  (huv0 x0 x2 x3 x4 x5 x6 x7 l).conv prev_zero (.inl rfl) (hw5 x0 x2 x3 x4 x5 x6 x7 l) (hb7 x0 x2 x3 x4 x5 x6 x7 l)

/-! The gradients at the convolved columns and at the projected ones. -/

theorem hdg3 : Chunk (dg3 x0 x2 x3 x4 x5 x6 x7) l ((blk x0 x2 x3 x4 x5 x6 x7 l).d 0) 1536 :=
  (hdy3 x0 x2 x3 x4 x5 x6 x7 l).dg (hcg3 x0 x2 x3 x4 x5 x6 x7 l) (hcv3 x0 x2 x3 x4 x5 x6 x7 l)
theorem hdv3 : Chunk (dv3 x0 x2 x3 x4 x6) l ((blk x0 x2 x3 x4 x5 x6 x7 l).d 1) 1536 :=
  (hdy3 x0 x2 x3 x4 x5 x6 x7 l).dv (hcg3 x0 x2 x3 x4 x5 x6 x7 l)
theorem hy3 : Chunk (yV (cg3 x3 x4 x6) (cv3 x3 x5 x7)) l (blk x0 x2 x3 x4 x5 x6 x7 l).y 1536 :=
  (hcg3 x0 x2 x3 x4 x5 x6 x7 l).y (hcv3 x0 x2 x3 x4 x5 x6 x7 l)
theorem hdg2 : Chunk (dg2 x0 x2 x3 x4 x5 x6 x7) l ((blk x0 x2 x3 x4 x5 x6 x7 l).d 0) 1024 :=
  (hdy2 x0 x2 x3 x4 x5 x6 x7 l).dg (hcg2 x0 x2 x3 x4 x5 x6 x7 l) (hcv2 x0 x2 x3 x4 x5 x6 x7 l)
theorem hdv2 : Chunk (dv2 x0 x2 x3 x4 x6) l ((blk x0 x2 x3 x4 x5 x6 x7 l).d 1) 1024 :=
  (hdy2 x0 x2 x3 x4 x5 x6 x7 l).dv (hcg2 x0 x2 x3 x4 x5 x6 x7 l)
theorem hy2 : Chunk (yV (cg2 x3 x4 x6) (cv2 x3 x5 x7)) l (blk x0 x2 x3 x4 x5 x6 x7 l).y 1024 :=
  (hcg2 x0 x2 x3 x4 x5 x6 x7 l).y (hcv2 x0 x2 x3 x4 x5 x6 x7 l)
theorem hdg1 : Chunk (dg1 x0 x2 x3 x4 x5 x6 x7) l ((blk x0 x2 x3 x4 x5 x6 x7 l).d 0) 512 :=
  (hdy1 x0 x2 x3 x4 x5 x6 x7 l).dg (hcg1 x0 x2 x3 x4 x5 x6 x7 l) (hcv1 x0 x2 x3 x4 x5 x6 x7 l)
theorem hdv1 : Chunk (dv1 x0 x2 x3 x4 x6) l ((blk x0 x2 x3 x4 x5 x6 x7 l).d 1) 512 :=
  (hdy1 x0 x2 x3 x4 x5 x6 x7 l).dv (hcg1 x0 x2 x3 x4 x5 x6 x7 l)
theorem hy1 : Chunk (yV (cg1 x3 x4 x6) (cv1 x3 x5 x7)) l (blk x0 x2 x3 x4 x5 x6 x7 l).y 512 :=
  (hcg1 x0 x2 x3 x4 x5 x6 x7 l).y (hcv1 x0 x2 x3 x4 x5 x6 x7 l)
theorem hdg0 : Chunk (dg0 x0 x2 x3 x4 x5 x6 x7) l ((blk x0 x2 x3 x4 x5 x6 x7 l).d 0) 0 :=
  (hdy0 x0 x2 x3 x4 x5 x6 x7 l).dg (hcg0 x0 x2 x3 x4 x5 x6 x7 l) (hcv0 x0 x2 x3 x4 x5 x6 x7 l)
theorem hdv0 : Chunk (dv0 x0 x2 x3 x4 x6) l ((blk x0 x2 x3 x4 x5 x6 x7 l).d 1) 0 :=
  (hdy0 x0 x2 x3 x4 x5 x6 x7 l).dv (hcg0 x0 x2 x3 x4 x5 x6 x7 l)
theorem hy0 : Chunk (yV (cg0 x3 x4 x6) (cv0 x3 x5 x7)) l (blk x0 x2 x3 x4 x5 x6 x7 l).y 0 :=
  (hcg0 x0 x2 x3 x4 x5 x6 x7 l).y (hcv0 x0 x2 x3 x4 x5 x6 x7 l)
theorem hdug3 : Chunk (dug3 x0 x2 x3 x4 x5 x6 x7) l ((blk x0 x2 x3 x4 x5 x6 x7 l).du 0) 1536 :=
  (hdg3 x0 x2 x3 x4 x5 x6 x7 l).du next_zero (by norm_num) (hw4 x0 x2 x3 x4 x5 x6 x7 l)
theorem hduv3 : Chunk (duv3 x0 x2 x3 x4 x5 x6) l ((blk x0 x2 x3 x4 x5 x6 x7 l).du 1) 1536 :=
  (hdv3 x0 x2 x3 x4 x5 x6 x7 l).du next_zero (by norm_num) (hw5 x0 x2 x3 x4 x5 x6 x7 l)
theorem hdug2 : Chunk (dug2 x0 x2 x3 x4 x5 x6 x7) l ((blk x0 x2 x3 x4 x5 x6 x7 l).du 0) 1024 :=
  (hdg2 x0 x2 x3 x4 x5 x6 x7 l).du ((hdg3 x0 x2 x3 x4 x5 x6 x7 l).next (by norm_num)) (by norm_num) (hw4 x0 x2 x3 x4 x5 x6 x7 l)
theorem hduv2 : Chunk (duv2 x0 x2 x3 x4 x5 x6) l ((blk x0 x2 x3 x4 x5 x6 x7 l).du 1) 1024 :=
  (hdv2 x0 x2 x3 x4 x5 x6 x7 l).du ((hdv3 x0 x2 x3 x4 x5 x6 x7 l).next (by norm_num)) (by norm_num) (hw5 x0 x2 x3 x4 x5 x6 x7 l)
theorem hdug1 : Chunk (dug1 x0 x2 x3 x4 x5 x6 x7) l ((blk x0 x2 x3 x4 x5 x6 x7 l).du 0) 512 :=
  (hdg1 x0 x2 x3 x4 x5 x6 x7 l).du ((hdg2 x0 x2 x3 x4 x5 x6 x7 l).next (by norm_num)) (by norm_num) (hw4 x0 x2 x3 x4 x5 x6 x7 l)
theorem hduv1 : Chunk (duv1 x0 x2 x3 x4 x5 x6) l ((blk x0 x2 x3 x4 x5 x6 x7 l).du 1) 512 :=
  (hdv1 x0 x2 x3 x4 x5 x6 x7 l).du ((hdv2 x0 x2 x3 x4 x5 x6 x7 l).next (by norm_num)) (by norm_num) (hw5 x0 x2 x3 x4 x5 x6 x7 l)
theorem hdug0 : Chunk (dug0 x0 x2 x3 x4 x5 x6 x7) l ((blk x0 x2 x3 x4 x5 x6 x7 l).du 0) 0 :=
  (hdg0 x0 x2 x3 x4 x5 x6 x7 l).du ((hdg1 x0 x2 x3 x4 x5 x6 x7 l).next (by norm_num)) (by norm_num) (hw4 x0 x2 x3 x4 x5 x6 x7 l)
theorem hduv0 : Chunk (duv0 x0 x2 x3 x4 x5 x6) l ((blk x0 x2 x3 x4 x5 x6 x7 l).du 1) 0 :=
  (hdv0 x0 x2 x3 x4 x5 x6 x7 l).du ((hdv1 x0 x2 x3 x4 x5 x6 x7 l).next (by norm_num)) (by norm_num) (hw5 x0 x2 x3 x4 x5 x6 x7 l)

end Cert.KernelIdeal.Vecs

end
-- ==== Proof.Out.lean ====
/- The five blocks a grid point writes, entry by entry. -/
module

public import proofs.«01_k».proof.Proof.Block

@[expose] public section

set_option maxRecDepth 16384

noncomputable section

namespace Cert.KernelIdeal.Vecs

open Idealize.ShloMosaic Idealize.ShloMosaic.TcCoe Idealize.SL.Sem
open Cert.KernelIdeal Cert.KernelIdeal.Gen
open scoped BigOperators

variable (x0 : Vec Ideal S2048x2048 .bf16) (x1 : Vec Ideal S2048x2048 .bf16) (x2 : Vec Ideal S256x2048 .bf16) (x3 : Vec Ideal S2x2048x256 .f32)
  (x4 : Vec Ideal S3x256 .f32) (x5 : Vec Ideal S3x256 .f32) (x6 : Vec Ideal S1x256 .f32) (x7 : Vec Ideal S1x256 .f32)

/-- A stored chunk at an entry. -/
theorem st_at (d : FVec Ideal S512x256 .bf16) (r : Fin 512) (l : Fin 256) : st d (ix3 0 r l) = d (ix2 r l) := by pointwise [st]

/-- A stored chunk whose columns are the columns `U` on the rows from `B`. -/
theorem st_of {d : FVec Ideal S512x256 .bf16} {U : Fin 256 → ℕ → EReal} {B : ℕ} (hd : ∀ l, Chunk d l (U l) B)
    (x : S1x512x256.Idx) (s : Fin 2048) (l : Fin 256) (hs : (s : ℕ) = B + (x 1 : ℕ)) (hl : (l : ℕ) = (x 2 : ℕ)) :
    st d x = U l s := by
  obtain ⟨e0, er, el, rfl⟩ : ∃ (a : Fin 1) (b : Fin 512) (c : Fin 256), x = ix3 a b c := ⟨x 0, x 1, x 2, eq_ix3 x⟩
  have hl' : l = el := Fin.ext hl
  have h0 : e0 = 0 := Subsingleton.elim _ _
  subst hl' h0
  rw [st_at, hd l er]
  exact congrArg (U l) hs.symm

/-- A stored row of sums. -/
theorem row_of {d : FVec Ideal S1x1x256 .f32} {g : Fin 256 → EReal} (hd : ∀ l, d (ix3 0 0 l) = g l)
    (x : S1x1x256.Idx) (l : Fin 256) (hl : (l : ℕ) = (x 2 : ℕ)) : d x = g l := by
  obtain ⟨e0, e1, el, rfl⟩ : ∃ (a : Fin 1) (b : Fin 1) (c : Fin 256), x = ix3 a b c := ⟨x 0, x 1, x 2, eq_ix3 x⟩
  have hl' : l = el := Fin.ext hl
  have h0 : e0 = 0 := Subsingleton.elim _ _
  have h1 : e1 = 0 := Subsingleton.elim _ _
  subst hl' h0 h1
  exact hd l

/-- The block of `du`. -/
theorem out8_at (i : Fin 2) (s : Fin 2048) (l : Fin 256) :
    out0_8 x0 x1 x2 x3 x4 x5 x6 x7 (ix3 i s l) = (blk x0 x2 x3 x4 x5 x6 x7 l).du i s := by
  unfold out0_8
  canon_tiles x h
  · obtain rfl : i = 1 := Fin.ext (by have := h0; simp only [ix3] at this; change i.val = _ at this; simp; omega)
    rw [p8_v0]
    exact st_of (fun l => hduv0 x0 x2 x3 x4 x5 x6 x7 l) x s l (h1.trans (zero_add _).symm) h2
  · obtain rfl : i = 0 := Fin.ext (by have := h0; simp only [ix3] at this; change i.val = _ at this; simp; omega)
    rw [p8_g0]
    exact st_of (fun l => hdug0 x0 x2 x3 x4 x5 x6 x7 l) x s l (h1.trans (zero_add _).symm) h2
  · obtain rfl : i = 1 := Fin.ext (by have := h0; simp only [ix3] at this; change i.val = _ at this; simp; omega)
    rw [p8_v1]
    exact st_of (fun l => hduv1 x0 x2 x3 x4 x5 x6 x7 l) x s l h1 h2
  · obtain rfl : i = 0 := Fin.ext (by have := h0; simp only [ix3] at this; change i.val = _ at this; simp; omega)
    rw [p8_g1]
    exact st_of (fun l => hdug1 x0 x2 x3 x4 x5 x6 x7 l) x s l h1 h2
  · obtain rfl : i = 1 := Fin.ext (by have := h0; simp only [ix3] at this; change i.val = _ at this; simp; omega)
    rw [p8_v2]
    exact st_of (fun l => hduv2 x0 x2 x3 x4 x5 x6 x7 l) x s l h1 h2
  · obtain rfl : i = 0 := Fin.ext (by have := h0; simp only [ix3] at this; change i.val = _ at this; simp; omega)
    rw [p8_g2]
    exact st_of (fun l => hdug2 x0 x2 x3 x4 x5 x6 x7 l) x s l h1 h2
  · obtain rfl : i = 1 := Fin.ext (by have := h0; simp only [ix3] at this; change i.val = _ at this; simp; omega)
    rw [p8_v3]
    exact st_of (fun l => hduv3 x0 x2 x3 x4 x5 x6 x7 l) x s l h1 h2
  · obtain rfl : i = 0 := Fin.ext (by have := h0; simp only [ix3] at this; change i.val = _ at this; simp; omega)
    rw [p8_g3]
    exact st_of (fun l => hdug3 x0 x2 x3 x4 x5 x6 x7 l) x s l h1 h2

/-- The block of the gradient at `w_down`. -/
theorem out9_at (l : Fin 256) (k : Fin 2048) :
    out0_9 x0 x1 x2 x3 x4 x5 x6 x7 (ix2 l k) = ∑ s : Fin 2048, (blk x0 x2 x3 x4 x5 x6 x7 l).y s * x0 (ix2 s k) := by
  unfold out0_9
  rw [p9]
  canon_tiles x h
  obtain ⟨el, ek, rfl⟩ : ∃ (b : Fin 256) (c : Fin 2048), x = ix2 b c := ⟨x 0, x 1, eq_ix2 x⟩
  obtain rfl : l = el := Fin.ext h0
  obtain rfl : k = ek := Fin.ext h1
  pointwise
  rw [outer4_at (X := fun s => x0 (ix2 (Col.row s) k)) (hy3 x0 x2 x3 x4 x5 x6 x7 l) (hy2 x0 x2 x3 x4 x5 x6 x7 l) (hy1 x0 x2 x3 x4 x5 x6 x7 l) (hy0 x0 x2 x3 x4 x5 x6 x7 l) ?_ ?_ ?_ ?_]
  · simp only [Col.row_val]
  all_goals
    intro r
    show _ = x0 (ix2 (Col.row _) k)
    rw [Col.row_of (by omega)]
    pointwise

/-- The two halves' products of the block of the gradient at `w_up`. -/
theorem outer_x1 {y3 y2 y1 y0 : FVec Ideal S512x256 .bf16} {D : ℕ → EReal} {l : Fin 256} (k : Fin 2048)
    (h3 : Chunk y3 l D 1536) (h2 : Chunk y2 l D 1024) (h1 : Chunk y1 l D 512) (h0 : Chunk y0 l D 0) :
    outer4 y3 y2 y1 y0 (View.ld x1 r0_2) (View.ld x1 r0_4) (View.ld x1 r0_9) (View.ld x1 r0_14) (ix2 l k)
      = ∑ s : Fin 2048, D s * x1 (ix2 s k) := by
  rw [outer4_at (X := fun s => x1 (ix2 (Col.row s) k)) h3 h2 h1 h0 ?_ ?_ ?_ ?_]
  · simp only [Col.row_val]
  all_goals
    intro r
    show _ = x1 (ix2 (Col.row _) k)
    rw [Col.row_of (by omega)]
    pointwise
/-- The block of the gradient at `w_up`. -/
theorem out10_at (i : Fin 2) (l : Fin 256) (k : Fin 2048) :
    out0_10 x0 x1 x2 x3 x4 x5 x6 x7 (ix3 i l k) = ∑ s : Fin 2048, (blk x0 x2 x3 x4 x5 x6 x7 l).du i s * x1 (ix2 s k) := by
  unfold out0_10
  canon_tiles x h
  · obtain rfl : i = 1 := Fin.ext (by have := h0; change i.val = _ at this; simp; omega)
    rw [p10_v]
    obtain ⟨e0, el, ek, rfl⟩ : ∃ (a : Fin 1) (b : Fin 256) (c : Fin 2048), x = ix3 a b c := ⟨x 0, x 1, x 2, eq_ix3 x⟩
    obtain rfl : l = el := Fin.ext h1
    obtain rfl : k = ek := Fin.ext h2
    pointwise
    exact outer_x1 x1 k (hduv3 x0 x2 x3 x4 x5 x6 x7 l) (hduv2 x0 x2 x3 x4 x5 x6 x7 l) (hduv1 x0 x2 x3 x4 x5 x6 x7 l) (hduv0 x0 x2 x3 x4 x5 x6 x7 l)
  · obtain rfl : i = 0 := Fin.ext (by have := h0; change i.val = _ at this; simp; omega)
    rw [p10_g]
    obtain ⟨e0, el, ek, rfl⟩ : ∃ (a : Fin 1) (b : Fin 256) (c : Fin 2048), x = ix3 a b c := ⟨x 0, x 1, x 2, eq_ix3 x⟩
    obtain rfl : l = el := Fin.ext h1
    obtain rfl : k = ek := Fin.ext h2
    pointwise
    exact outer_x1 x1 k (hdug3 x0 x2 x3 x4 x5 x6 x7 l) (hdug2 x0 x2 x3 x4 x5 x6 x7 l) (hdug1 x0 x2 x3 x4 x5 x6 x7 l) (hdug0 x0 x2 x3 x4 x5 x6 x7 l)

/-- The block of the gradient at the convolution's weights. -/
theorem out11_at (i : Fin 2) (j : Fin 3) (l : Fin 256) :
    out0_11 x0 x1 x2 x3 x4 x5 x6 x7 (ix3 i j l) = (blk x0 x2 x3 x4 x5 x6 x7 l).dcw i j := by
  unfold out0_11
  canon_tiles x h
  · obtain rfl : i = 1 := Fin.ext (by have := h0; change i.val = _ at this; simp; omega)
    obtain rfl : j = 2 := Fin.ext (by have := h1; change j.val = _ at this; simp; omega)
    rw [p11_v2]
    exact row_of (fun l => sum4_at ((hdv3 x0 x2 x3 x4 x5 x6 x7 l).mul ((huv3 x0 x2 x3 x4 x5 x6 x7 l).down0)) ((hdv2 x0 x2 x3 x4 x5 x6 x7 l).mul ((huv2 x0 x2 x3 x4 x5 x6 x7 l).down0)) ((hdv1 x0 x2 x3 x4 x5 x6 x7 l).mul ((huv1 x0 x2 x3 x4 x5 x6 x7 l).down0)) ((hdv0 x0 x2 x3 x4 x5 x6 x7 l).mul ((huv0 x0 x2 x3 x4 x5 x6 x7 l).down0))) x l h2
  · obtain rfl : i = 1 := Fin.ext (by have := h0; change i.val = _ at this; simp; omega)
    obtain rfl : j = 1 := Fin.ext (by have := h1; change j.val = _ at this; simp; omega)
    rw [p11_v1]
    exact row_of (fun l => sum4_at ((hdv3 x0 x2 x3 x4 x5 x6 x7 l).mul ((huv3 x0 x2 x3 x4 x5 x6 x7 l).down1 (hpv3 x0 x2 x3 x4 x5 x6 x7 l) (.inr (by norm_num)))) ((hdv2 x0 x2 x3 x4 x5 x6 x7 l).mul ((huv2 x0 x2 x3 x4 x5 x6 x7 l).down1 (hpv2 x0 x2 x3 x4 x5 x6 x7 l) (.inr (by norm_num)))) ((hdv1 x0 x2 x3 x4 x5 x6 x7 l).mul ((huv1 x0 x2 x3 x4 x5 x6 x7 l).down1 (hpv1 x0 x2 x3 x4 x5 x6 x7 l) (.inr (by norm_num)))) ((hdv0 x0 x2 x3 x4 x5 x6 x7 l).mul ((huv0 x0 x2 x3 x4 x5 x6 x7 l).down1 prev_zero (.inl rfl)))) x l h2
  · obtain rfl : i = 1 := Fin.ext (by have := h0; change i.val = _ at this; simp; omega)
    obtain rfl : j = 0 := Fin.ext (by have := h1; change j.val = _ at this; simp; omega)
    rw [p11_v0]
    exact row_of (fun l => sum4_at ((hdv3 x0 x2 x3 x4 x5 x6 x7 l).mul ((huv3 x0 x2 x3 x4 x5 x6 x7 l).down2 (hpv3 x0 x2 x3 x4 x5 x6 x7 l) (.inr (by norm_num)))) ((hdv2 x0 x2 x3 x4 x5 x6 x7 l).mul ((huv2 x0 x2 x3 x4 x5 x6 x7 l).down2 (hpv2 x0 x2 x3 x4 x5 x6 x7 l) (.inr (by norm_num)))) ((hdv1 x0 x2 x3 x4 x5 x6 x7 l).mul ((huv1 x0 x2 x3 x4 x5 x6 x7 l).down2 (hpv1 x0 x2 x3 x4 x5 x6 x7 l) (.inr (by norm_num)))) ((hdv0 x0 x2 x3 x4 x5 x6 x7 l).mul ((huv0 x0 x2 x3 x4 x5 x6 x7 l).down2 prev_zero (.inl rfl)))) x l h2
  · obtain rfl : i = 0 := Fin.ext (by have := h0; change i.val = _ at this; simp; omega)
    obtain rfl : j = 2 := Fin.ext (by have := h1; change j.val = _ at this; simp; omega)
    rw [p11_g2]
    exact row_of (fun l => sum4_at ((hdg3 x0 x2 x3 x4 x5 x6 x7 l).mul ((hug3 x0 x2 x3 x4 x5 x6 x7 l).down0)) ((hdg2 x0 x2 x3 x4 x5 x6 x7 l).mul ((hug2 x0 x2 x3 x4 x5 x6 x7 l).down0)) ((hdg1 x0 x2 x3 x4 x5 x6 x7 l).mul ((hug1 x0 x2 x3 x4 x5 x6 x7 l).down0)) ((hdg0 x0 x2 x3 x4 x5 x6 x7 l).mul ((hug0 x0 x2 x3 x4 x5 x6 x7 l).down0))) x l h2
  · obtain rfl : i = 0 := Fin.ext (by have := h0; change i.val = _ at this; simp; omega)
    obtain rfl : j = 1 := Fin.ext (by have := h1; change j.val = _ at this; simp; omega)
    rw [p11_g1]
    exact row_of (fun l => sum4_at ((hdg3 x0 x2 x3 x4 x5 x6 x7 l).mul ((hug3 x0 x2 x3 x4 x5 x6 x7 l).down1 (hpg3 x0 x2 x3 x4 x5 x6 x7 l) (.inr (by norm_num)))) ((hdg2 x0 x2 x3 x4 x5 x6 x7 l).mul ((hug2 x0 x2 x3 x4 x5 x6 x7 l).down1 (hpg2 x0 x2 x3 x4 x5 x6 x7 l) (.inr (by norm_num)))) ((hdg1 x0 x2 x3 x4 x5 x6 x7 l).mul ((hug1 x0 x2 x3 x4 x5 x6 x7 l).down1 (hpg1 x0 x2 x3 x4 x5 x6 x7 l) (.inr (by norm_num)))) ((hdg0 x0 x2 x3 x4 x5 x6 x7 l).mul ((hug0 x0 x2 x3 x4 x5 x6 x7 l).down1 prev_zero (.inl rfl)))) x l h2
  · obtain rfl : i = 0 := Fin.ext (by have := h0; change i.val = _ at this; simp; omega)
    obtain rfl : j = 0 := Fin.ext (by have := h1; change j.val = _ at this; simp; omega)
    rw [p11_g0]
    exact row_of (fun l => sum4_at ((hdg3 x0 x2 x3 x4 x5 x6 x7 l).mul ((hug3 x0 x2 x3 x4 x5 x6 x7 l).down2 (hpg3 x0 x2 x3 x4 x5 x6 x7 l) (.inr (by norm_num)))) ((hdg2 x0 x2 x3 x4 x5 x6 x7 l).mul ((hug2 x0 x2 x3 x4 x5 x6 x7 l).down2 (hpg2 x0 x2 x3 x4 x5 x6 x7 l) (.inr (by norm_num)))) ((hdg1 x0 x2 x3 x4 x5 x6 x7 l).mul ((hug1 x0 x2 x3 x4 x5 x6 x7 l).down2 (hpg1 x0 x2 x3 x4 x5 x6 x7 l) (.inr (by norm_num)))) ((hdg0 x0 x2 x3 x4 x5 x6 x7 l).mul ((hug0 x0 x2 x3 x4 x5 x6 x7 l).down2 prev_zero (.inl rfl)))) x l h2

/-- The block of the gradient at the convolution's bias. -/
theorem out12_at (i : Fin 2) (l : Fin 256) :
    out0_12 x0 x1 x2 x3 x4 x5 x6 x7 (ix3 i 0 l) = (blk x0 x2 x3 x4 x5 x6 x7 l).dcb i := by
  unfold out0_12
  canon_tiles x h
  · obtain rfl : i = 1 := Fin.ext (by have := h0; change i.val = _ at this; simp; omega)
    rw [p12_v]
    exact row_of (fun l => sum4_at (hdv3 x0 x2 x3 x4 x5 x6 x7 l) (hdv2 x0 x2 x3 x4 x5 x6 x7 l) (hdv1 x0 x2 x3 x4 x5 x6 x7 l) (hdv0 x0 x2 x3 x4 x5 x6 x7 l)) x l h2
  · obtain rfl : i = 0 := Fin.ext (by have := h0; change i.val = _ at this; simp; omega)
    rw [p12_g]
    exact row_of (fun l => sum4_at (hdg3 x0 x2 x3 x4 x5 x6 x7 l) (hdg2 x0 x2 x3 x4 x5 x6 x7 l) (hdg1 x0 x2 x3 x4 x5 x6 x7 l) (hdg0 x0 x2 x3 x4 x5 x6 x7 l)) x l h2

end Cert.KernelIdeal.Vecs

end
-- ==== Proof.Final.lean ====
/- The kernel's five result arrays, entry by entry, as column functions of its argument arrays. -/
module

public import proofs.«01_k».proof.Proof.Out
public import proofs.«01_k».proof.Proof.Gen.KernelIdeal.Value

@[expose] public section

set_option maxRecDepth 16384

noncomputable section

namespace Cert.KernelIdeal.Vecs

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ) (c : Dev nD)

/-- The argument arrays. -/
abbrev A0 : Vec Ideal S2048x2048 .bf16 := m ((c : Thread nD τ).loc main_arg0)
abbrev A1 : Vec Ideal S2048x2048 .bf16 := m ((c : Thread nD τ).loc main_arg1)
abbrev A2 : Vec Ideal S2048x11264 .bf16 := m ((c : Thread nD τ).loc main_arg2)
abbrev A3 : Vec Ideal S3x11264 .f32 := m ((c : Thread nD τ).loc main_arg3)
abbrev A4 : Vec Ideal S1x11264 .f32 := m ((c : Thread nD τ).loc main_arg4)
abbrev A5 : Vec Ideal S5632x2048 .bf16 := m ((c : Thread nD τ).loc main_arg5)

/-- The columns numbered `q` of the argument arrays. -/
def data (q : Fin 5632) : Col.Data :=
  Col.arr (fun s k => A0 m c (ix2 s k)) (fun s k => A1 m c (ix2 s k)) (fun k p => A2 m c (ix2 k p))
    (fun j p => A3 m c (ix2 j p)) (fun p => A4 m c (ix2 0 p)) (fun q k => A5 m c (ix2 q k)) q

/-- Where the windows stand at a grid point. -/
theorem idx : ∀ t : Fin cfg0.N, win0_0.index t = ![0, 0] ∧ win0_1.index t = ![0, 0] ∧ win0_2.index t = ![t.val, 0]
    ∧ win0_3.index t = ![0, 0, t.val] ∧ win0_4.index t = ![0, t.val] ∧ win0_5.index t = ![0, 22 + t.val]
    ∧ win0_6.index t = ![0, t.val] ∧ win0_7.index t = ![0, 22 + t.val] ∧ win0_8.index t = ![0, 0, t.val]
    ∧ win0_9.index t = ![t.val, 0] ∧ win0_10.index t = ![0, t.val, 0] ∧ win0_11.index t = ![0, 0, t.val]
    ∧ win0_12.index t = ![0, 0, t.val] :=
  (by decide +kernel : ∀ t : Fin grid0.N, _)

/-- Column `l` of the point's blocks is column `256 t + l` of the arrays. -/
def at' (t : Fin cfg0.N) (l : Fin 256) : Fin 5632 := ⟨t.val * 256 + l.val, by have := t.isLt; have : t.val < 22 := this; omega⟩

theorem rd3 (t : Fin cfg0.N) (i : Fin 2) (s : Fin 2048) (l : Fin 256) : iblk m c 3 t (ix3 i s l)
    = ∑ k : Fin 2048, A1 m c (ix2 s k) * A2 m c (ix2 k (Col.wide i (at' t l))) := by
  have e : (win0_3.blk t).view.emb (ix3 i s l) = ix3 i s (at' t l) := by blk_ext [idx t, at']
  refine (congrArg (V m c main_v4) e).trans ?_
  entry_read
  pointwise
  rfl
theorem rd4 (t : Fin cfg0.N) (j : Fin 3) (l : Fin 256) : iblk m c 4 t (ix2 j l) = A3 m c (ix2 j (Col.wide 0 (at' t l))) := by
  blk_simp [iblk, idx t]
  rw [V_main_arg3]
  blk_ext [idx t, at', Col.wide]
theorem rd5 (t : Fin cfg0.N) (j : Fin 3) (l : Fin 256) : iblk m c 5 t (ix2 j l) = A3 m c (ix2 j (Col.wide 1 (at' t l))) := by
  blk_simp [iblk, idx t]
  rw [V_main_arg3]
  blk_ext [idx t, at', Col.wide]
theorem rd6 (t : Fin cfg0.N) (l : Fin 256) : iblk m c 6 t (ix2 0 l) = A4 m c (ix2 0 (Col.wide 0 (at' t l))) := by
  blk_simp [iblk, idx t]
  rw [V_main_arg4]
  blk_ext [idx t, at', Col.wide]
theorem rd7 (t : Fin cfg0.N) (l : Fin 256) : iblk m c 7 t (ix2 0 l) = A4 m c (ix2 0 (Col.wide 1 (at' t l))) := by
  blk_simp [iblk, idx t]
  rw [V_main_arg4]
  blk_ext [idx t, at', Col.wide]
theorem rd0 (t : Fin cfg0.N) (s k : Fin 2048) : iblk m c 0 t (ix2 s k) = A0 m c (ix2 s k) := by
  blk_simp [iblk, idx t]
  rw [V_main_arg0]
  blk_ext [idx t]
theorem rd1 (t : Fin cfg0.N) (s k : Fin 2048) : iblk m c 1 t (ix2 s k) = A1 m c (ix2 s k) := by
  blk_simp [iblk, idx t]
  rw [V_main_arg1]
  blk_ext [idx t]
theorem rd2 (t : Fin cfg0.N) (l : Fin 256) (k : Fin 2048) : iblk m c 2 t (ix2 l k) = A5 m c (ix2 (at' t l) k) := by
  blk_simp [iblk, idx t]
  rw [V_main_arg5]
  blk_ext [idx t, at']

theorem blk_eq (t : Fin cfg0.N) (l : Fin 256) :
    blk (iblk m c 0 t) (iblk m c 2 t) (iblk m c 3 t) (iblk m c 4 t) (iblk m c 5 t) (iblk m c 6 t) (iblk m c 7 t) l
      = data m c (at' t l) := by
  unfold blk data Col.arr
  congr 1
  · funext s
    exact Finset.sum_congr rfl fun k _ => congrArg₂ (· * ·) (rd0 m c t (Col.row s) k) (rd2 m c t l k)
  · funext i s
    exact rd3 m c t i (Col.row s) l
  · funext i j
    fin_cases i
    · exact rd4 m c t (Col.wrow j) l
    · exact rd5 m c t (Col.wrow j) l
  · funext i
    fin_cases i
    · exact rd6 m c t l
    · exact rd7 m c t l

/-- The five result arrays. -/
def G8 (y : S2x2048x5632.Idx) : EReal := (data m c (y 2)).du (y 0) (y 1).val
def G9 (y : S5632x2048.Idx) : EReal := ∑ s : Fin 2048, (data m c (y 0)).y s * A0 m c (ix2 s (y 1))
def G10 (y : S2x5632x2048.Idx) : EReal := ∑ s : Fin 2048, (data m c (y 1)).du (y 0) s * A1 m c (ix2 s (y 2))
def G11 (y : S2x3x5632.Idx) : EReal := (data m c (y 2)).dcw (y 0) (y 1).val
def G12 (y : S2x1x5632.Idx) : EReal := (data m c (y 2)).dcb (y 0)

theorem final8 : (dats m 0 c).arrAt 8 cfg0.N = G8 m c := by
  refine (dats m 0 c).arrAt_eq_of_covers 8 _ (by decide +kernel) fun t _ y => ?_
  blk_simp
  rw [after0_8]
  obtain ⟨i, s, l, rfl⟩ : ∃ (a : Fin 2) (b : Fin 2048) (e : Fin 256), y = ix3 a b e := ⟨y 0, y 1, y 2, eq_ix3 y⟩
  rw [out8_at, blk_eq]
  have e : (win0_8.blk t).view.emb (ix3 i s l) = ix3 i s (at' t l) := by blk_ext [idx t, at']
  exact (congrArg (G8 m c) e).symm
theorem final9 : (dats m 0 c).arrAt 9 cfg0.N = G9 m c := by
  refine (dats m 0 c).arrAt_eq_of_covers 9 _ (by decide +kernel) fun t _ y => ?_
  blk_simp
  rw [after0_9]
  obtain ⟨l, k, rfl⟩ : ∃ (a : Fin 256) (b : Fin 2048), y = ix2 a b := ⟨y 0, y 1, eq_ix2 y⟩
  rw [out9_at, blk_eq]
  have e : (win0_9.blk t).view.emb (ix2 l k) = ix2 (at' t l) k := by blk_ext [idx t, at']
  refine Eq.trans (b := G9 m c (ix2 (at' t l) k)) ?_ (congrArg (G9 m c) e).symm
  exact Fin.sum_fin_congr fun s => congrArg ((data m c (at' t l)).y s.val * ·) (rd0 m c t s k)
theorem final10 : (dats m 0 c).arrAt 10 cfg0.N = G10 m c := by
  refine (dats m 0 c).arrAt_eq_of_covers 10 _ (by decide +kernel) fun t _ y => ?_
  blk_simp
  rw [after0_10]
  obtain ⟨i, l, k, rfl⟩ : ∃ (a : Fin 2) (b : Fin 256) (e : Fin 2048), y = ix3 a b e := ⟨y 0, y 1, y 2, eq_ix3 y⟩
  rw [out10_at, blk_eq]
  have e : (win0_10.blk t).view.emb (ix3 i l k) = ix3 i (at' t l) k := by blk_ext [idx t, at']
  refine Eq.trans (b := G10 m c (ix3 i (at' t l) k)) ?_ (congrArg (G10 m c) e).symm
  exact Fin.sum_fin_congr fun s => congrArg ((data m c (at' t l)).du i s.val * ·) (rd1 m c t s k)
theorem final11 : (dats m 0 c).arrAt 11 cfg0.N = G11 m c := by
  refine (dats m 0 c).arrAt_eq_of_covers 11 _ (by decide +kernel) fun t _ y => ?_
  blk_simp
  rw [after0_11]
  obtain ⟨i, j, l, rfl⟩ : ∃ (a : Fin 2) (b : Fin 3) (e : Fin 256), y = ix3 a b e := ⟨y 0, y 1, y 2, eq_ix3 y⟩
  rw [out11_at, blk_eq]
  have e : (win0_11.blk t).view.emb (ix3 i j l) = ix3 i j (at' t l) := by blk_ext [idx t, at']
  exact (congrArg (G11 m c) e).symm
theorem final12 : (dats m 0 c).arrAt 12 cfg0.N = G12 m c := by
  refine (dats m 0 c).arrAt_eq_of_covers 12 _ (by decide +kernel) fun t _ y => ?_
  blk_simp
  rw [after0_12]
  obtain ⟨i, j, l, rfl⟩ : ∃ (a : Fin 2) (b : Fin 1) (e : Fin 256), y = ix3 a b e := ⟨y 0, y 1, y 2, eq_ix3 y⟩
  obtain rfl : j = 0 := Subsingleton.elim _ _
  rw [out12_at, blk_eq]
  have e : (win0_12.blk t).view.emb (ix3 i (0 : Fin 1) l) = ix3 i (0 : Fin 1) (at' t l) := by blk_ext [idx t, at']
  exact (congrArg (G12 m c) e).symm

end Cert.KernelIdeal.Vecs

end
-- ==== Proof.Finite.lean ====
/- The precondition read entry by entry: where `finite` is all ones every argument entry is a real. -/
module

public import proofs.«01_k».proof.Defs
public import proofs.«01_k».proof.Proof.Final
public import proofs.«01_k».proof.Proof.Gen.Pre_finite

@[expose] public section

noncomputable section

namespace Cert.Finite

open Idealize.ShloMosaic Idealize.ShloMosaic.TcCoe
open scoped BigOperators

/-- An extended real of absolute value below +∞ is a real. -/
theorem real_of_lt {x : EReal} (h : max x (-x) < ⊤) : Col.Fin' x := by
  induction x using EReal.rec with
  | bot => simp at h
  | top => simp at h
  | coe r => exact ⟨r, rfl⟩

theorem inf_bf16 : Ideal.ofBits .bf16 0x7F80#16 = ⊤ := by
  simp [Ideal.ofBits, Ideal.ieee]
theorem inf_f32 : Ideal.ofBits .f32 0x7F800000#32 = ⊤ := by
  simp [Ideal.ofBits, Ideal.ieee]

/-- An array whose absolute values all compare below +∞ has real entries. -/
theorem real_at {s : Shape} {φ : FTy} (x b : FVec Ideal s φ) (hb : ∀ y, b y = (⊤ : EReal))
    (h : cmpf .olt (Host.absf x) b = fun _ => 1#1) (y : s.Idx) : Col.Fin' (x y) := by
  have h' : BitVec.ofBool (decide (max (x y) (-(x y) : EReal) < b y)) = 1#1 := congrFun h y
  rw [hb] at h'
  refine real_of_lt ?_
  by_contra hn
  rw [decide_eq_false hn] at h'
  exact absurd h' (by decide)

variable {m : (ℓ : Loc Cert.KernelIdeal.nD Cert.KernelIdeal.τ Cert.KernelIdeal.sig) → Buf (Elt Ideal) ℓ}

/-- Under the precondition the six argument arrays have real entries. -/
theorem args (h : Pre_KernelIdeal_finite m) (c : Dev Cert.KernelIdeal.nD) :
    (∀ x, Col.Fin' (KernelIdeal.Vecs.A0 m c x)) ∧ (∀ x, Col.Fin' (KernelIdeal.Vecs.A1 m c x))
    ∧ (∀ x, Col.Fin' (KernelIdeal.Vecs.A2 m c x)) ∧ (∀ x, Col.Fin' (KernelIdeal.Vecs.A3 m c x))
    ∧ (∀ x, Col.Fin' (KernelIdeal.Vecs.A4 m c x)) ∧ (∀ x, Col.Fin' (KernelIdeal.Vecs.A5 m c x)) :=
  ⟨real_at _ _ (fun _ => inf_bf16) (h c).1, real_at _ _ (fun _ => inf_bf16) (h c).2.1,
   real_at _ _ (fun _ => inf_bf16) (h c).2.2.1, real_at _ _ (fun _ => inf_f32) (h c).2.2.2.1,
   real_at _ _ (fun _ => inf_f32) (h c).2.2.2.2.1, real_at _ _ (fun _ => inf_bf16) (h c).2.2.2.2.2⟩

end Cert.Finite

end
-- ==== Proof.Ref.lean ====
/- The reference's results, entry by entry: each named value of the reference read at an index, in the words of one
   column. -/
module

public import Idealize.ShloMosaic.Lib.Pipeline.ValueKit
public import Idealize.ShloMosaic.Lib.Pointwise
public import proofs.«01_k».proof.Proof.Gen.ReferenceIdeal.Run
public import proofs.«01_k».proof.Proof.Col

@[expose] public section

noncomputable section

namespace Cert.ReferenceIdeal.Value

open Idealize.ShloMosaic Idealize.ShloMosaic.TcCoe Idealize.ShloMosaic.StableHlo Idealize.SL.Sem
open Cert.ReferenceIdeal Cert.ReferenceIdeal.Gen
open scoped BigOperators

variable (V : Valuation τ sig (Elt Ideal))

/-- The six arguments. -/
abbrev B0 : Vec Ideal S2048x2048 .bf16 := V (Proc.devRef .tc main_arg0)
abbrev B1 : Vec Ideal S2048x2048 .bf16 := V (Proc.devRef .tc main_arg1)
abbrev B2 : Vec Ideal S2048x11264 .bf16 := V (Proc.devRef .tc main_arg2)
abbrev B3 : Vec Ideal S3x11264 .f32 := V (Proc.devRef .tc main_arg3)
abbrev B4 : Vec Ideal S1x11264 .f32 := V (Proc.devRef .tc main_arg4)
abbrev B5 : Vec Ideal S5632x2048 .bf16 := V (Proc.devRef .tc main_arg5)

/-- Projected column `p`. -/
def U (p : Fin 11264) (s : ℕ) : EReal := ∑ k : Fin 2048, B1 V (ix2 (Col.row s) k) * B2 V (ix2 k p)
/-- The weights of column `p`. -/
def W (p : Fin 11264) (j : ℕ) : EReal := B3 V (ix2 (Col.wrow j) p)

/-- The columns numbered `q`. -/
def data (q : Fin 5632) : Col.Data :=
  Col.arr (fun s k => B0 V (ix2 s k)) (fun s k => B1 V (ix2 s k)) (fun k p => B2 V (ix2 k p)) (fun j p => B3 V (ix2 j p))
    (fun p => B4 V (ix2 0 p)) (fun q k => B5 V (ix2 q k)) q
/-- Every entry of the arguments is a real. -/
structure Real' : Prop where
  r0 : ∀ x, Col.Fin' (B0 V x)
  r1 : ∀ x, Col.Fin' (B1 V x)
  r2 : ∀ x, Col.Fin' (B2 V x)
  r3 : ∀ x, Col.Fin' (B3 V x)
  r4 : ∀ x, Col.Fin' (B4 V x)
  r5 : ∀ x, Col.Fin' (B5 V x)

variable {V} in
theorem Real'.dy (h : Real' V) (q s) : Col.Fin' ((data V q).dy s) := by
  unfold data Col.arr
  dsimp only
  exact Col.Fin'.sum _ _ fun k _ => (h.r0 (ix2 (Col.row s) k)).mul (h.r5 (ix2 q k))
variable {V} in
theorem Real'.c (h : Real' V) (q i s) : Col.Fin' ((data V q).c i s) := by
  unfold Col.Data.c
  refine Col.Fin'.conv ?_ ?_ ?_ s
  · intro j; exact h.r3 (ix2 (Col.wrow j) (Col.wide i q))
  · exact h.r4 (ix2 0 (Col.wide i q))
  · intro s; unfold data Col.arr
    dsimp only
    exact Col.Fin'.sum _ _ fun k _ => (h.r1 (ix2 (Col.row s) k)).mul (h.r2 (ix2 k (Col.wide i q)))

theorem v7_at (s : Fin 2050) (p : Fin 11264) : res_main_v7 V (ix2 s p) = if s.val < 2 then (0 : EReal) else U V p (s.val - 2) := by
  pointwise [res_main_v7, res_main_v1]
  split
  · rfl
  · have e : (⟨s.val - 2, by omega⟩ : Fin 2048) = Col.row (s.val - 2) := (Col.row_of (by omega)).symm
    unfold U; rw [← e]
theorem v9_at (s : Fin 2048) (p : Fin 11264) : res_main_v9 V (ix2 s p) = Col.tap (U V p) 2 s := by
  pointwise [res_main_v9]
  rw [v7_at]; unfold Col.tap
  by_cases h : s.val < 2
  · rw [if_pos h, if_neg (by omega)]
  · rw [if_neg h, if_pos (by omega)]
theorem v17_at (s : Fin 2048) (p : Fin 11264) : res_main_v17 V (ix2 s p) = Col.tap (U V p) 1 s := by
  pointwise [res_main_v17]
  rw [v7_at]; unfold Col.tap
  dsimp only
  by_cases h : s.val < 1
  · rw [if_pos (by omega), if_neg (by omega)]
  · rw [if_neg (by omega), if_pos (by omega)]; congr 1; omega
theorem v24_at (s : Fin 2048) (p : Fin 11264) : res_main_v24 V (ix2 s p) = Col.tap (U V p) 0 s := by
  pointwise [res_main_v24]
  rw [v7_at]; unfold Col.tap
  dsimp only
  rw [if_neg (by omega), if_pos (by omega)]; congr 1; omega
theorem v12_at (i : Fin 1) (p : Fin 11264) : res_main_v12 V (ix2 i p) = W V p 0 := by
  pointwise [res_main_v12, res_main_v1]
  rfl
theorem v20_at (i : Fin 1) (p : Fin 11264) : res_main_v20 V (ix2 i p) = W V p 1 := by
  pointwise [res_main_v20, res_main_v1]
  rfl
theorem v27_at (i : Fin 1) (p : Fin 11264) : res_main_v27 V (ix2 i p) = W V p 2 := by
  pointwise [res_main_v27, res_main_v1]
  rfl
theorem v33_at (s : Fin 2048) (p : Fin 11264) : res_main_v33 V (ix2 s p) = Col.conv (W V p) (B4 V (ix2 0 p)) (U V p) s := by
  pointwise [res_main_v33]
  rw [v9_at, v17_at, v24_at, v12_at, v20_at, v27_at]
  unfold Col.conv
  refine congrArg (· + _) ?_
  rw [add_comm, add_comm (Col.tap _ 2 _ * _), add_assoc]
theorem v34_at (s : Fin 2048) (q : Fin 5632) : res_main_v34 V (ix2 s q) = (data V q).c 0 s := by
  pointwise [res_main_v34]
  exact (congrArg (fun p => res_main_v33 V (ix2 s p)) (Fin.ext (by simp [Col.wide]) : _ = Col.wide 0 q)).trans (v33_at V s _)
theorem v35_at (s : Fin 2048) (q : Fin 5632) : res_main_v35 V (ix2 s q) = (data V q).c 1 s := by
  pointwise [res_main_v35]
  exact (congrArg (fun p => res_main_v33 V (ix2 s p)) (Fin.ext (by simp [Col.wide]) : _ = Col.wide 1 q)).trans (v33_at V s _)
theorem v62_at (s : Fin 2048) (q : Fin 5632) : res_main_v62 V (ix2 s q) = (data V q).dy s := by
  pointwise [res_main_v62, res_main_v0, res_main_v3]
  unfold data Col.arr
  dsimp only
  rw [Col.row_val]
theorem v36_at (x : S_.Idx) : res_main_v36 V x = Col.cube := by
  pointwise [res_main_v36]
  exact Col.quot_eq
theorem v47_at (s : Fin 2048) (q : Fin 5632) : res_main_v47 V (ix2 s q) = Col.th ((data V q).c 0 s) := by
  pointwise [res_main_v47]
  rw [v34_at, v36_at]; rfl
theorem v56_at (s : Fin 2048) (q : Fin 5632) : res_main_v56 V (ix2 s q) = Col.half * (1 + Col.th ((data V q).c 0 s)) := by
  pointwise [res_main_v56]
  rw [v47_at]; rfl
theorem v57_at (s : Fin 2048) (q : Fin 5632) : res_main_v57 V (ix2 s q) = Col.glu ((data V q).c 0 s) := by
  pointwise [res_main_v57]
  rw [v34_at, v56_at]; exact Col.glu_eq _
theorem v58_at (s : Fin 2048) (q : Fin 5632) : res_main_v58 V (ix2 s q) = (data V q).y s := by
  pointwise [res_main_v58]
  rw [v57_at, v35_at]; rfl
theorem v71_at (s : Fin 2048) (q : Fin 5632) : res_main_v71 V (ix2 s q)
    = Col.gc * (Col.half * ((data V q).c 0 s * ((data V q).dy s * (data V q).c 1 s))
      * ((1 + Col.th ((data V q).c 0 s)) * (1 - Col.th ((data V q).c 0 s)))) := by
  pointwise [res_main_v71, res_main_v64]
  rw [v34_at, v47_at, v62_at, v35_at]; rfl
theorem v77_gate (h : Real' V) (s : Fin 2048) (q : Fin 5632) :
    res_main_v77 V (ix2 s (Col.wide 0 q)) = (data V q).d 0 s := by
  pointwise [res_main_v77, res_main_v64]
  rw [dif_pos (by simp [Col.wide])]
  have e : ∀ h, (⟨(Col.wide 0 q).val, h⟩ : Fin 5632) = q := fun h => Fin.ext (by simp [Col.wide])
  simp only [e]
  rw [v62_at, v35_at, v34_at, v56_at, v71_at, v36_at]
  exact (congrArg (fun x : EReal => _ + _ * (x * _)) Col.three_eq).trans
    (Col.dgate_eq (h.dy q s) (h.c q 0 s) (h.c q 1 s)).symm
theorem v77_val (s : Fin 2048) (q : Fin 5632) : res_main_v77 V (ix2 s (Col.wide 1 q)) = (data V q).d 1 s := by
  pointwise [res_main_v77, res_main_v64]
  rw [dif_neg (by simp [Col.wide])]
  have e : ∀ h, (⟨(Col.wide 1 q).val - 5632, h⟩ : Fin 5632) = q := fun h => Fin.ext (by simp [Col.wide])
  simp only [e]
  rw [v62_at, v57_at]
  exact mul_comm (Col.glu ((data V q).c 0 s)) ((data V q).dy s)
/-- The gradient at the convolved columns. -/
theorem v77_at (h : Real' V) (s : Fin 2048) (i : Fin 2) (q : Fin 5632) :
    res_main_v77 V (ix2 s (Col.wide i q)) = (data V q).d i s := by
  fin_cases i
  · exact v77_gate V h s q
  · exact v77_val V s q

theorem padA (X : FVec Ideal S2048x11264 .f32) (s : Fin 2050) (p : Fin 11264) :
    pad S2050x11264 ![2, 0] ![0, 0] ![0, 0] X (constant S_ .f32 0x00000000#32) pads_S2048x11264_S2050x11264_200_000 h_S_ (ix2 s p)
      = if 2 ≤ s.val then X (ix2 (Col.row (s.val - 2)) p) else (0 : EReal) := by
  pointwise
  by_cases hs : 2 ≤ s.val
  · rw [if_pos hs, dif_pos, Col.row_of (by omega)]
    omega
  · rw [if_neg hs, dif_neg]
    omega
theorem padB (X : FVec Ideal S2048x11264 .f32) (s : Fin 2050) (p : Fin 11264) :
    pad S2050x11264 ![1, 0] ![1, 0] ![0, 0] X (constant S_ .f32 0x00000000#32) pads_S2048x11264_S2050x11264_110_000 h_S_ (ix2 s p)
      = if 1 ≤ s.val ∧ s.val < 2049 then X (ix2 (Col.row (s.val - 1)) p) else (0 : EReal) := by
  pointwise
  by_cases hs : 1 ≤ s.val ∧ s.val < 2049
  · rw [if_pos hs, dif_pos, Col.row_of (by omega)]
    omega
  · rw [if_neg hs, dif_neg]
    omega
theorem padC (X : FVec Ideal S2048x11264 .f32) (s : Fin 2050) (p : Fin 11264) :
    pad S2050x11264 ![0, 0] ![2, 0] ![0, 0] X (constant S_ .f32 0x00000000#32) pads_S2048x11264_S2050x11264_020_000 h_S_ (ix2 s p)
      = if s.val < 2048 then X (ix2 (Col.row s.val) p) else (0 : EReal) := by
  pointwise
  by_cases hs : s.val < 2048
  · rw [if_pos hs, dif_pos, Col.row_of (by omega)]
    omega
  · rw [if_neg hs, dif_neg]
    omega

/-- The gradient at the projected columns. -/
theorem v113_at (h : Real' V) (s : Fin 2048) (i : Fin 2) (q : Fin 5632) :
    res_main_v113 V (ix2 s (Col.wide i q)) = (data V q).du i s := by
  pointwise [res_main_v113]
  refine (congrArg₂ (fun a b : EReal => a + b) (congrArg₂ (fun a b : EReal => a + b) (padA _ _ _) (padB _ _ _)) (padC _ _ _)).trans ?_
  pointwise
  simp only [v77_at V h, v12_at, v20_at, v27_at]
  unfold Col.Data.du Col.back Col.pad
  refine congrArg₂ (fun a b : EReal => a + b) (congrArg₂ (fun a b : EReal => a + b) ?_ ?_) ?_
  · rw [Col.row_val]; rfl
  · rw [show 2 + s.val - 1 = s.val + 1 by omega]
    by_cases hs : s.val + 1 < 2048
    · rw [if_pos (by omega), if_pos hs, Col.row_of hs]; rfl
    · rw [if_neg (by omega), if_neg hs, zero_mul]
  · rw [show 2 + s.val = s.val + 2 by omega]
    by_cases hs : s.val + 2 < 2048
    · rw [if_pos (by omega), if_pos hs, Col.row_of hs]; rfl
    · rw [if_neg (by omega), if_neg hs, zero_mul]

end Cert.ReferenceIdeal.Value

end
-- ==== Proof.Ref2.lean ====
/- The reference's five results, entry by entry, in the words of one column. -/
module

public import proofs.«01_k».proof.Proof.Ref

@[expose] public section

noncomputable section

namespace Cert.ReferenceIdeal.Value

open Idealize.ShloMosaic Idealize.ShloMosaic.TcCoe Idealize.ShloMosaic.StableHlo Idealize.SL.Sem
open Cert.ReferenceIdeal Cert.ReferenceIdeal.Gen
open scoped BigOperators

variable (V : Valuation τ sig (Elt Ideal))

theorem v118_at (h : Real' V) (i : Fin 2) (s : Fin 2048) (q : Fin 5632) :
    (truncf .bf16 (transpose S2x2048x5632 [1, 0, 2] (shapeCast _ (res_main_v113 V) shapeCasts_S2048x11264_S2048x2x5632) transposes_S2048x2x5632_S2x2048x5632_1_0_2) bitsLt_bf16_f32 : FVec Ideal S2x2048x5632 .bf16) (ix3 i s q)
      = (data V q).du i s := by
  pointwise
  exact v113_at V h s i q
theorem v119_at (q : Fin 5632) (k : Fin 2048) :
    (truncf .bf16 (transpose S5632x2048 [1, 0] (Host.dotGeneral (φ₁ := .f32) (φ₂ := .f32) dot_S2048x2048_S2048x5632_S2048x5632_0_0_1_1_n_n none (res_main_v0 V) (res_main_v58 V)) transposes_S2048x5632_S5632x2048_1_0) bitsLt_bf16_f32 : FVec Ideal S5632x2048 .bf16) (ix2 q k)
      = ∑ s : Fin 2048, (data V q).y s * B0 V (ix2 s k) := by
  pointwise
  refine Fin.sum_fin_congr fun s => ?_
  rw [v58_at]; exact mul_comm _ _
theorem v122_at (h : Real' V) (i : Fin 2) (q : Fin 5632) (k : Fin 2048) :
    (truncf .bf16 (shapeCast _ (transpose S11264x2048 [1, 0] (transpose S2048x11264 [1, 0] (Host.dotGeneral (φ₁ := .f32) (φ₂ := .f32) dot_S2048x11264_S2048x2048_S11264x2048_0_0_1_1_n_n none (res_main_v113 V) (res_main_v1 V)) transposes_S11264x2048_S2048x11264_1_0) transposes_S2048x11264_S11264x2048_1_0) shapeCasts_S11264x2048_S2x5632x2048) bitsLt_bf16_f32 : FVec Ideal S2x5632x2048 .bf16) (ix3 i q k)
      = ∑ s : Fin 2048, (data V q).du i s * B1 V (ix2 s k) := by
  pointwise
  refine Fin.sum_fin_congr fun s => congrArg (fun x : EReal => x * _) (v113_at V h s i q)
/-- The sum down a column. -/
theorem colsum (X : FVec Ideal S2048x11264 .f32) (p : Fin 11264) :
    (Host.reduceAdd (shapeCast _ (Host.reduceAdd X (constant S_ .f32 0x00000000#32) reducesTo_S2048x11264_S11264_d0 h_S_) shapeCasts_S11264_S1x11264) (constant S_ .f32 0x00000000#32) reducesTo_S1x11264_S11264_d0 h_S_ : FVec Ideal S11264 .f32) (ix1 p)
      = ∑ s : Fin 2048, X (ix2 s p) := by
  pointwise
  exact Fin.sum_univ_one _
theorem v125_at (h : Real' V) (i : Fin 2) (j : Fin 1) (q : Fin 5632) :
    (shapeCast _ (Host.reduceAdd (shapeCast _ (Host.reduceAdd (res_main_v77 V) (constant S_ .f32 0x00000000#32) reducesTo_S2048x11264_S11264_d0 h_S_) shapeCasts_S11264_S1x11264) (constant S_ .f32 0x00000000#32) reducesTo_S1x11264_S11264_d0 h_S_) shapeCasts_S11264_S2x1x5632 : FVec Ideal S2x1x5632 .f32) (ix3 i j q)
      = (data V q).dcb i := by
  pointwise
  refine (Fin.sum_univ_one _).trans (Fin.sum_fin_congr fun s => v77_at V h s i q)

theorem wpadA (X : FVec Ideal S1x11264 .f32) (j : Fin 3) (p : Fin 11264) :
    pad S3x11264 ![2, 0] ![0, 0] ![0, 0] X (constant S_ .f32 0x00000000#32) pads_S1x11264_S3x11264_200_000 h_S_ (ix2 j p)
      = if j.val = 2 then X (ix2 0 p) else (0 : EReal) := by
  pointwise
  by_cases hs : j.val = 2
  · rw [if_pos hs, dif_pos (by omega)]; congr 2; exact Subsingleton.elim _ _
  · rw [if_neg hs, dif_neg (by omega)]
theorem wpadB (X : FVec Ideal S1x11264 .f32) (j : Fin 3) (p : Fin 11264) :
    pad S3x11264 ![1, 0] ![1, 0] ![0, 0] X (constant S_ .f32 0x00000000#32) pads_S1x11264_S3x11264_110_000 h_S_ (ix2 j p)
      = if j.val = 1 then X (ix2 0 p) else (0 : EReal) := by
  pointwise
  by_cases hs : j.val = 1
  · rw [if_pos hs, dif_pos (by omega)]; congr 2; exact Subsingleton.elim _ _
  · rw [if_neg hs, dif_neg (by omega)]
theorem wpadC (X : FVec Ideal S1x11264 .f32) (j : Fin 3) (p : Fin 11264) :
    pad S3x11264 ![0, 0] ![2, 0] ![0, 0] X (constant S_ .f32 0x00000000#32) pads_S1x11264_S3x11264_020_000 h_S_ (ix2 j p)
      = if j.val = 0 then X (ix2 0 p) else (0 : EReal) := by
  pointwise
  by_cases hs : j.val = 0
  · rw [if_pos hs, dif_pos (by omega)]; congr 2; exact Subsingleton.elim _ _
  · rw [if_neg hs, dif_neg (by omega)]
/-- The gradient at one weight row, as the sum down the rows of the moved column against `dc`. -/
theorem wrow_at (h : Real' V) (X : FVec Ideal S2048x11264 .f32) (i : Fin 2) (q : Fin 5632) (n : ℕ)
    (hX : ∀ s p, X (ix2 s p) = Col.tap (U V p) n s.val) :
    (broadcastInDim S1x11264 ![1] bcast_S11264_S1x11264_1 (Host.reduceAdd (shapeCast _ (Host.reduceAdd (mulf X (res_main_v77 V)) (constant S_ .f32 0x00000000#32) reducesTo_S2048x11264_S11264_d0 h_S_) shapeCasts_S11264_S1x11264) (constant S_ .f32 0x00000000#32) reducesTo_S1x11264_S11264_d0 h_S_) : FVec Ideal S1x11264 .f32) (ix2 0 (Col.wide i q))
      = ∑ s : Fin 2048, (data V q).d i s * Col.tap ((data V q).u i) n s := by
  pointwise
  refine (Fin.sum_univ_one _).trans (Fin.sum_fin_congr fun s => ?_)
  rw [hX, v77_at V h]
  exact mul_comm (Col.tap (U V (Col.wide i q)) n s) ((data V q).d i s)
/-- The rows of weights split into the two halves. -/
theorem wlayout (Y : FVec Ideal S3x11264 .f32) (i : Fin 2) (j : Fin 3) (q : Fin 5632) :
    transpose S2x3x5632 [1, 0, 2] (shapeCast _ Y shapeCasts_S3x11264_S3x2x5632) transposes_S3x2x5632_S2x3x5632_1_0_2 (ix3 i j q)
      = Y (ix2 j (Col.wide i q)) := by
  pointwise
  rfl
theorem v124_at (h : Real' V) (i : Fin 2) (j : Fin 3) (q : Fin 5632) :
    (transpose S2x3x5632 [1, 0, 2] (shapeCast _ (addf (addf (pad S3x11264 ![2, 0] ![0, 0] ![0, 0] (broadcastInDim S1x11264 ![1] bcast_S11264_S1x11264_1 (Host.reduceAdd (shapeCast _ (Host.reduceAdd (mulf (res_main_v24 V) (res_main_v77 V)) (constant S_ .f32 0x00000000#32) reducesTo_S2048x11264_S11264_d0 h_S_) shapeCasts_S11264_S1x11264) (constant S_ .f32 0x00000000#32) reducesTo_S1x11264_S11264_d0 h_S_)) (constant S_ .f32 0x00000000#32) pads_S1x11264_S3x11264_200_000 h_S_) (pad S3x11264 ![1, 0] ![1, 0] ![0, 0] (broadcastInDim S1x11264 ![1] bcast_S11264_S1x11264_1 (Host.reduceAdd (shapeCast _ (Host.reduceAdd (mulf (res_main_v17 V) (res_main_v77 V)) (constant S_ .f32 0x00000000#32) reducesTo_S2048x11264_S11264_d0 h_S_) shapeCasts_S11264_S1x11264) (constant S_ .f32 0x00000000#32) reducesTo_S1x11264_S11264_d0 h_S_)) (constant S_ .f32 0x00000000#32) pads_S1x11264_S3x11264_110_000 h_S_)) (pad S3x11264 ![0, 0] ![2, 0] ![0, 0] (broadcastInDim S1x11264 ![1] bcast_S11264_S1x11264_1 (Host.reduceAdd (shapeCast _ (Host.reduceAdd (mulf (res_main_v9 V) (res_main_v77 V)) (constant S_ .f32 0x00000000#32) reducesTo_S2048x11264_S11264_d0 h_S_) shapeCasts_S11264_S1x11264) (constant S_ .f32 0x00000000#32) reducesTo_S1x11264_S11264_d0 h_S_)) (constant S_ .f32 0x00000000#32) pads_S1x11264_S3x11264_020_000 h_S_)) shapeCasts_S3x11264_S3x2x5632) transposes_S3x2x5632_S2x3x5632_1_0_2 : FVec Ideal S2x3x5632 .f32) (ix3 i j q)
      = (data V q).dcw i j := by
  refine (wlayout _ i j q).trans ?_
  refine (congrArg₂ (fun a b : EReal => a + b) (congrArg₂ (fun a b : EReal => a + b) (wpadA _ _ _) (wpadB _ _ _)) (wpadC _ _ _)).trans ?_
  rw [wrow_at V h _ i q 0 (v24_at V), wrow_at V h _ i q 1 (v17_at V), wrow_at V h _ i q 2 (v9_at V)]
  unfold Col.Data.dcw
  fin_cases j <;> simp

end Cert.ReferenceIdeal.Value

end
-- ==== Proof.DH2.lean ====
/- The call `d_h2`: the gradient at the feed-forward block's input, its 11264 terms added in four steps. -/
module

public import proofs.«01_k».proof.Defs
public import proofs.«01_k».proof.Proof.Gen.DH2.Frame
public import proofs.«01_k».proof.Proof.Gen.DH2Ideal.Frame
public import proofs.«01_k».proof.Proof.Gen.DH2RefIdeal
public import proofs.«01_k».proof.Proof.Gen.DH2RefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DH2Ideal.Value

open Cert.DH2Ideal Cert.DH2Ideal.Gen

variable (m : (ℓ : Loc nD τ sig) → Buf (Elt Ideal) ℓ)

/-- Which block every grid point takes of each array. -/
theorem idx : ∀ t : Fin cfg0.N, win0_0.index t = ![t.val % 4 / 2, 0, t.val % 4 % 2] ∧ win0_1.index t = ![t.val % 4, t.val / 4] ∧ win0_2.index t = ![0, t.val / 4] :=
  (by decide +kernel : ∀ t : Fin grid0.N, _)

/-- The array the call returns: the product of the gradient, whose 11264 columns come in two groups, with the weight's transpose. -/
def G (X : FVec Ideal S2x2048x5632 .bf16) (Y : FVec Ideal S2048x11264 .bf16) : FVec Ideal S2048x2048 .f32 :=
  fun y => ∑ k : Fin 11264, X (ix3 ⟨(k : ℕ) / 5632, by omega⟩ (y 0) ⟨(k : ℕ) % 5632, Nat.mod_lt _ (by decide)⟩) * Y (ix2 (y 1) k)

/-- One step's product of the two blocks. -/
theorem pay_first (x0 : Vec Ideal S1x2048x2816 .bf16) (x1 : Vec Ideal S2816x512 .bf16) (i) :
    k0_pay2 x0 x1 i = 0 + ∑ k : Fin 2816, x0 (ix3 0 (i 0) k) * x1 (ix2 k (i 1)) := by
  pointwise [k0_pay2, k0_pay1]

/-- A later step adds its product to what the steps before it left. -/
theorem pay_next (x0 : Vec Ideal S1x2048x2816 .bf16) (x1 : Vec Ideal S2816x512 .bf16) (acc acc' : Vec Ideal S2048x512 .f32)
    (h : acc = acc') (i) : k0_pay3 x0 x1 acc i = acc' i + ∑ k : Fin 2816, x0 (ix3 0 (i 0) k) * x1 (ix2 k (i 1)) := by
  subst h
  pointwise [k0_pay3, k0_pay1]

/-- At the last step of a block the output is what the accumulator holds. -/
theorem out_eq (c : Dev nD) (t : Fin cfg0.N) (h : t.val % 4 = 3) :
    (outsAt0 m c t.val t.isLt).1 = (outsAt0 m c t.val t.isLt).2 := by
  rw [outsAt0_C m c t (by omega) (by omega) h]; frame_out

/-- The accumulator of a block at its first step, over zero. -/
theorem acc_first (c : Dev nD) (t : Fin cfg0.N) (h : t.val % 4 = 0) (i) :
    (outsAt0 m c t.val t.isLt).2 i = (fun _ => (0 : EReal)) i + ∑ k : Fin 2816, (show Vec Ideal S1x2048x2816 .bf16 from iblk m c 0 t) (ix3 0 (i 0) k) * (show Vec Ideal S2816x512 .bf16 from iblk m c 1 t) (ix2 k (i 1)) := by
  rw [outsAt0_A m c t h (by omega) (by omega)]; frame_out
  exact pay_first _ _ i

/-- The accumulator of a block at a later step. -/
theorem acc_next (c : Dev nD) (t : Fin cfg0.N) (h : ¬ t.val % 4 = 0) (i) :
    (outsAt0 m c t.val t.isLt).2 i
      = (outsAt0 m c (t.val - 1) (Nat.lt_of_le_of_lt (Nat.sub_le _ _) t.isLt)).2 i + ∑ k : Fin 2816, (show Vec Ideal S1x2048x2816 .bf16 from iblk m c 0 t) (ix3 0 (i 0) k) * (show Vec Ideal S2816x512 .bf16 from iblk m c 1 t) (ix2 k (i 1)) := by
  by_cases h2 : t.val % 4 = 3
  · rw [outsAt0_C m c t h (by omega) h2]; frame_out
    exact pay_next _ _ _ _ (Memref.IsWhole.read_unread _ _) i
  · rw [outsAt0_B m c t h (by omega) h2]; frame_out
    exact pay_next _ _ _ _ (Memref.IsWhole.read_unread _ _) i

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 4 (fun _ => 0)
      (fun t i => ∑ k : Fin 2816, (show Vec Ideal S1x2048x2816 .bf16 from iblk m c 0 t) (ix3 0 (i 0) k) * (show Vec Ideal S2816x512 .bf16 from iblk m c 1 t) (ix2 k (i 1))) (fun t h i => acc_first m c t h i) (fun t h i => acc_next m c t h i) t ((flush0_2 t).mp hf) _,
    zero_add]
  unfold G
  refine Fin.sum_mul_add_congr fun s k hl => ?_
  blk_point [iblk, V, idx t, idx ⟨_, Pipeline.run_point_lt_of_flush t ((flush0_2 t).mp hf) s⟩]

end Cert.DH2Ideal.Value

namespace Cert.DH2

/-- The call runs to an end, keeps its arguments and leaves every semaphore at zero. -/
theorem quiescent : Cert.quiescent_DH2 := fun m g _ => Cert.DH2.Gen.frame m g

/-- So does the idealized call. -/
theorem quiescent_ideal : Cert.quiescent_DH2Ideal := fun m g _ => Cert.DH2Ideal.Gen.frame m g

/-- So does its reference. -/
theorem quiescent_ref : Cert.quiescent_DH2RefIdeal := fun m g _ =>
  (θ_run Cert.DH2RefIdeal.defs _ _).mono (fun r h => ⟨fun c => (h c).2, sem_eq_zero_of_no_sems (by decide) r.2⟩)
    (Cert.DH2RefIdeal.Value.run (F := Ideal) m g)

/-- The call's result is the reference's. -/
theorem algebraic : Cert.algebraic_DH2Ideal_DH2RefIdeal := by
  pair_intro
  · run_from Cert.DH2Ideal.Gen.run_main m g
  · hlo_run
    rw [Cert.DH2Ideal.Value.final m]
    funext y
    pointwise [Cert.DH2Ideal.Value.G]

end Cert.DH2
-- ==== Proof.UpVecs.lean ====
/- The call `ffn_fwd`: its body's vector expressions, in the words of the backward call's. -/
module

public import proofs.«01_k».proof.Proof.Read
public import proofs.«01_k».proof.Proof.Gen.UpIdeal.Frame

@[expose] public section

set_option maxRecDepth 16384

noncomputable section

namespace Cert.UpIdeal.Vecs

open Cert.UpIdeal Cert.UpIdeal.Gen Idealize.ShloMosaic Idealize.SL.Sem
open Cert.KernelIdeal.Vecs (convV zero8 cst)

variable {F : FTy → Type} [FloatOps F] [Named F]

/-- A chunk of `h` against a block of the transposed `w_up`. -/
def uV (a : Vec F S512x2048 .bf16) (w : Vec F S256x2048 .bf16) : FVec F S512x256 .f32 :=
  matmul dot_S512x2048_S256x2048_S512x256_1_1_0_0_n_n none a (shapeCast S256x2048 w shapeCasts_S256x2048_S256x2048) (constant S512x256 .f32 0x00000000#32)
/-- The last eight rows of a chunk. -/
def tail8 (u : FVec F S512x256 .f32) : FVec F S8x256 .f32 := extractStridedSlice S8x256 ![504, 0] u slices_S512x256_o504_0_S8x256
/-- A chunk as it is stored. -/
def st (u : FVec F S512x256 .f32) : FVec F S1x512x256 .f32 := shapeCast S1x512x256 u shapeCasts_S512x256_S1x512x256
/-- The gated product of the two convolved chunks. -/
def thV (c : FVec F S512x256 .f32) : FVec F S512x256 .f32 :=
  tanh (mulf (cst 0x3F4C422A#32) (addf c (mulf (broadcast S512x256 (Named.named κ "cube" (φ := .f32) 0x3D372713#32)) (mulf (mulf c c) c))))
def gluV (c : FVec F S512x256 .f32) : FVec F S512x256 .f32 :=
  mulf (mulf (cst 0x3F000000#32) c) (addf (cst 0x3F800000#32) (thV c))
def yV (c0 c1 : FVec F S512x256 .f32) : FVec F S512x256 .bf16 := truncf .bf16 (mulf (gluV c0) c1) bitsLt_bf16_f32

variable (x0 : Vec F S2048x2048 .bf16) (x1 : Vec F S256x2048 .bf16) (x2 : Vec F S256x2048 .bf16) (x3 : Vec F S3x256 .f32)
  (x4 : Vec F S3x256 .f32) (x5 : Vec F S1x256 .f32) (x6 : Vec F S1x256 .f32)

/-! The projected chunks of the gate and of the value, and their gated products. -/

def ug0 : FVec F S512x256 .f32 := uV (View.ld x0 r0_0) (View.ld x1 r0_1)
def uv0 : FVec F S512x256 .f32 := uV (View.ld x0 r0_0) (View.ld x2 r0_1)
def ug1 : FVec F S512x256 .f32 := uV (View.ld x0 r0_2) (View.ld x1 r0_1)
def uv1 : FVec F S512x256 .f32 := uV (View.ld x0 r0_2) (View.ld x2 r0_1)
def ug2 : FVec F S512x256 .f32 := uV (View.ld x0 r0_8) (View.ld x1 r0_1)
def uv2 : FVec F S512x256 .f32 := uV (View.ld x0 r0_8) (View.ld x2 r0_1)
def ug3 : FVec F S512x256 .f32 := uV (View.ld x0 r0_12) (View.ld x1 r0_1)
def uv3 : FVec F S512x256 .f32 := uV (View.ld x0 r0_12) (View.ld x2 r0_1)
def y0 : FVec F S512x256 .bf16 := yV (convV (View.ld x3 r0_4) (View.ld x5 r0_5) (ug0 x0 x1) zero8)
  (convV (View.ld x4 r0_4) (View.ld x6 r0_5) (uv0 x0 x2) zero8)
def y1 : FVec F S512x256 .bf16 := yV (convV (View.ld x3 r0_4) (View.ld x5 r0_5) (ug1 x0 x1) (tail8 (ug0 x0 x1)))
  (convV (View.ld x4 r0_4) (View.ld x6 r0_5) (uv1 x0 x2) (tail8 (uv0 x0 x2)))
def y2 : FVec F S512x256 .bf16 := yV (convV (View.ld x3 r0_4) (View.ld x5 r0_5) (ug2 x0 x1) (tail8 (ug1 x0 x1)))
  (convV (View.ld x4 r0_4) (View.ld x6 r0_5) (uv2 x0 x2) (tail8 (uv1 x0 x2)))
def y3 : FVec F S512x256 .bf16 := yV (convV (View.ld x3 r0_4) (View.ld x5 r0_5) (ug3 x0 x1) (tail8 (ug2 x0 x1)))
  (convV (View.ld x4 r0_4) (View.ld x6 r0_5) (uv3 x0 x2) (tail8 (uv2 x0 x2)))

/-! The pieces the two results are stored from. -/

theorem p7_g0 : k0_pay7 (View.ld x0 r0_0) (View.ld x1 r0_1) = st (ug0 x0 x1) := rfl
theorem p7_v0 : k0_pay13 (k0_pay52 x0 x1 x2 x3 x4 x5 x6) = st (uv0 x0 x2) := rfl
theorem p7_g1 : k0_pay21 (k0_pay53 x0 x1 x2 x3 x4 x5 x6) = st (ug1 x0 x1) := rfl
theorem p7_v1 : k0_pay23 (k0_pay54 x0 x1 x2 x3 x4 x5 x6) = st (uv1 x0 x2) := rfl
theorem p7_g2 : k0_pay31 (k0_pay56 x0 x1 x2 x3 x4 x5 x6) = st (ug2 x0 x1) := rfl
theorem p7_v2 : k0_pay35 (k0_pay57 x0 x1 x2 x3 x4 x5 x6) = st (uv2 x0 x2) := rfl
theorem p7_g3 : k0_pay41 (k0_pay59 x0 x1 x2 x3 x4 x5 x6) = st (ug3 x0 x1) := rfl
theorem p7_v3 : k0_pay47 (k0_pay60 x0 x1 x2 x3 x4 x5 x6) = st (uv3 x0 x2) := rfl
theorem p8_0 : k0_pay16 (k0_pay52 x0 x1 x2 x3 x4 x5 x6) (k0_pay12 (k0_pay50 x0 x1 x2 x3 x4 x5 x6) (k0_pay51 x0 x1 x2 x3 x4 x5 x6) (k0_pay8 (View.ld x0 r0_0) (View.ld x1 r0_1)) (k0_pay9 (View.ld x0 r0_0) (View.ld x1 r0_1)) k0_pay10 (k0_pay11 (View.ld x0 r0_0) (View.ld x1 r0_1)) 2#32 (View.ld x3 r0_4) (View.ld x5 r0_5)) (k0_pay14 (k0_pay50 x0 x1 x2 x3 x4 x5 x6) (k0_pay52 x0 x1 x2 x3 x4 x5 x6)) (k0_pay15 (k0_pay50 x0 x1 x2 x3 x4 x5 x6) (k0_pay52 x0 x1 x2 x3 x4 x5 x6)) (View.ld x4 r0_4) (View.ld x6 r0_5)
    = y0 x0 x1 x2 x3 x4 x5 x6 := rfl
theorem p8_1 : k0_pay26 (k0_pay54 x0 x1 x2 x3 x4 x5 x6) (k0_pay55 x0 x1 x2 x3 x4 x5 x6) (k0_pay22 (k0_pay53 x0 x1 x2 x3 x4 x5 x6) (k0_pay17 (k0_pay51 x0 x1 x2 x3 x4 x5 x6)) (View.ld x3 r0_4) (View.ld x5 r0_5)) (k0_pay24 (k0_pay54 x0 x1 x2 x3 x4 x5 x6)) (k0_pay25 (k0_pay54 x0 x1 x2 x3 x4 x5 x6) (k0_pay55 x0 x1 x2 x3 x4 x5 x6)) (View.ld x4 r0_4) (View.ld x6 r0_5)
    = y1 x0 x1 x2 x3 x4 x5 x6 := rfl
theorem p8_2 : k0_pay38 (k0_pay34 (View.ld x5 r0_5) (k0_pay61 x0 x1 x2 x3 x4 x5 x6) (k0_pay62 x0 x1 x2 x3 x4 x5 x6)) (k0_pay36 (k0_pay57 x0 x1 x2 x3 x4 x5 x6) (k0_pay28 (k0_pay54 x0 x1 x2 x3 x4 x5 x6)) (View.ld x4 r0_4) (View.ld x6 r0_5)) (k0_pay37 (View.ld x5 r0_5) (k0_pay61 x0 x1 x2 x3 x4 x5 x6) (k0_pay62 x0 x1 x2 x3 x4 x5 x6)) (Scalar.ofBits .f32 0x3F4C422A#32)
    = y2 x0 x1 x2 x3 x4 x5 x6 := rfl
theorem p8_3 : k0_pay1 (k0_pay46 (k0_pay63 x0 x1 x2 x3 x4 x5 x6) (k0_pay64 x0 x1 x2 x3 x4 x5 x6) (View.ld x3 r0_4) (View.ld x5 r0_5) (k0_pay65 x0 x1 x2 x3 x4 x5 x6) (k0_pay66 x0 x1 x2 x3 x4 x5 x6)) (k0_pay48 (k0_pay60 x0 x1 x2 x3 x4 x5 x6) (k0_pay40 (k0_pay57 x0 x1 x2 x3 x4 x5 x6)) (View.ld x4 r0_4) (View.ld x6 r0_5)) (k0_pay49 (k0_pay63 x0 x1 x2 x3 x4 x5 x6) (k0_pay64 x0 x1 x2 x3 x4 x5 x6) (View.ld x3 r0_4) (View.ld x5 r0_5) (k0_pay65 x0 x1 x2 x3 x4 x5 x6) (k0_pay66 x0 x1 x2 x3 x4 x5 x6))
    = y3 x0 x1 x2 x3 x4 x5 x6 := rfl

end Cert.UpIdeal.Vecs

end
-- ==== Proof.UpBlock.lean ====
/- The call `ffn_fwd`: the two blocks a grid point writes, entry by entry. -/
module

public import proofs.«01_k».proof.Proof.UpVecs

@[expose] public section

set_option maxRecDepth 16384

noncomputable section

namespace Cert.UpIdeal.Vecs

open Idealize.ShloMosaic Idealize.ShloMosaic.TcCoe Idealize.SL.Sem
open Cert.UpIdeal Cert.UpIdeal.Gen
open Cert.KernelIdeal.Vecs (Chunk Prev convV prev_zero)
open scoped BigOperators

theorem cube_named : Named.named (F := Ideal) κ "cube" (φ := .f32) 0x3D372713#32 = Col.cube :=
  IdealRules.named_const.ideal_named_scalar _ _ _ _ rfl
/-- The projected chunk at an entry. -/
theorem uV_at (a : Vec Ideal S512x2048 .bf16) (w : Vec Ideal S256x2048 .bf16) (r : Fin 512) (l : Fin 256) :
    uV a w (ix2 r l) = ∑ k : Fin 2048, a (ix2 r k) * w (ix2 l k) := by pointwise [uV]
/-- The gated product at an entry. -/
theorem yV_at (c0 c1 : FVec Ideal S512x256 .f32) (r : Fin 512) (l : Fin 256) :
    yV c0 c1 (ix2 r l) = Col.glu (c0 (ix2 r l)) * c1 (ix2 r l) := by
  pointwise [yV, gluV, thV, Cert.KernelIdeal.Vecs.cst]
  rw [cube_named]; rfl
/-- The eight rows before a chunk. -/
theorem prev_tail {u : FVec Ideal S512x256 .f32} {l : Fin 256} {U : ℕ → EReal} {B : ℕ} (hu : Chunk u l U B) :
    Prev (tail8 u) l U (B + 512) := by
  intro r
  rw [if_pos (by omega)]
  have h := hu ⟨504 + r.val, by omega⟩
  pointwise [tail8]
  refine Eq.trans ?_ (h.trans (congrArg U (by show B + (504 + r.val) = _; omega)))
  congr 2
/-- A stored chunk at an entry. -/
theorem st_at (d : FVec Ideal S512x256 .f32) (r : Fin 512) (l : Fin 256) : st d (ix3 0 r l) = d (ix2 r l) := by pointwise [st]
/-- A stored chunk whose columns are the columns `U` on the rows from `B`. -/
theorem st_of {d : FVec Ideal S512x256 .f32} {U : Fin 256 → ℕ → EReal} {B : ℕ} (hd : ∀ l, Chunk d l (U l) B)
    (x : S1x512x256.Idx) (s : Fin 2048) (l : Fin 256) (hs : (s : ℕ) = B + (x 1 : ℕ)) (hl : (l : ℕ) = (x 2 : ℕ)) :
    st d x = U l s := by
  obtain ⟨e0, er, el, rfl⟩ : ∃ (a : Fin 1) (b : Fin 512) (c : Fin 256), x = ix3 a b c := ⟨x 0, x 1, x 2, eq_ix3 x⟩
  have hl' : l = el := Fin.ext hl
  have h0 : e0 = 0 := Subsingleton.elim _ _
  subst hl' h0
  rw [st_at, hd l er]
  exact congrArg (U l) hs.symm
/-- A gated chunk of columns `Y` on the rows from `B`. -/
theorem y_of {d : FVec Ideal S512x256 .bf16} {Y : Fin 256 → ℕ → EReal} {B : ℕ} (hd : ∀ l, Chunk d l (Y l) B)
    (x : S512x256.Idx) (s : Fin 2048) (l : Fin 256) (hs : (s : ℕ) = B + (x 0 : ℕ)) (hl : (l : ℕ) = (x 1 : ℕ)) :
    d x = Y l s := by
  obtain ⟨er, el, rfl⟩ : ∃ (b : Fin 512) (c : Fin 256), x = ix2 b c := ⟨x 0, x 1, eq_ix2 x⟩
  have hl' : l = el := Fin.ext hl
  subst hl'
  rw [hd l er]
  exact congrArg (Y l) hs.symm

variable (x0 : Vec Ideal S2048x2048 .bf16) (x1 : Vec Ideal S256x2048 .bf16) (x2 : Vec Ideal S256x2048 .bf16) (x3 : Vec Ideal S3x256 .f32)
  (x4 : Vec Ideal S3x256 .f32) (x5 : Vec Ideal S1x256 .f32) (x6 : Vec Ideal S1x256 .f32)

/-- The columns numbered `l` of the point's blocks. -/
def blk (l : Fin 256) : Col.Data where
  dy _ := 0
  u i s := ∑ k : Fin 2048, x0 (ix2 (Col.row s) k) * (if i = 0 then x1 (ix2 l k) else x2 (ix2 l k))
  w i j := if i = 0 then x3 (ix2 (Col.wrow j) l) else x4 (ix2 (Col.wrow j) l)
  b i := if i = 0 then x5 (ix2 0 l) else x6 (ix2 0 l)

variable (l : Fin 256)

theorem hw3 (j : Fin 3) : (View.ld x3 r0_4 : Vec Ideal S3x256 .f32) (ix2 j l) = (blk x0 x1 x2 x3 x4 x5 x6 l).w 0 j := by
  pointwise; show _ = x3 (ix2 (Col.wrow j) l); rw [Col.wrow_val]
theorem hw4 (j : Fin 3) : (View.ld x4 r0_4 : Vec Ideal S3x256 .f32) (ix2 j l) = (blk x0 x1 x2 x3 x4 x5 x6 l).w 1 j := by
  pointwise; show _ = x4 (ix2 (Col.wrow j) l); rw [Col.wrow_val]
theorem hb5 : (View.ld x5 r0_5 : Vec Ideal S1x256 .f32) (ix2 0 l) = (blk x0 x1 x2 x3 x4 x5 x6 l).b 0 := by
  pointwise; rfl
theorem hb6 : (View.ld x6 r0_5 : Vec Ideal S1x256 .f32) (ix2 0 l) = (blk x0 x1 x2 x3 x4 x5 x6 l).b 1 := by
  pointwise; rfl

/-! The projected chunks. -/

theorem hug0 : Chunk (ug0 x0 x1) l ((blk x0 x1 x2 x3 x4 x5 x6 l).u 0) 0 := by
  intro r
  unfold ug0
  rw [uV_at]
  show _ = ∑ k : Fin 2048, x0 (ix2 (Col.row _) k) * x1 (ix2 l k)
  rw [Col.row_of (by omega)]
  pointwise
theorem huv0 : Chunk (uv0 x0 x2) l ((blk x0 x1 x2 x3 x4 x5 x6 l).u 1) 0 := by
  intro r
  unfold uv0
  rw [uV_at]
  show _ = ∑ k : Fin 2048, x0 (ix2 (Col.row _) k) * x2 (ix2 l k)
  rw [Col.row_of (by omega)]
  pointwise
theorem hug1 : Chunk (ug1 x0 x1) l ((blk x0 x1 x2 x3 x4 x5 x6 l).u 0) 512 := by
  intro r
  unfold ug1
  rw [uV_at]
  show _ = ∑ k : Fin 2048, x0 (ix2 (Col.row _) k) * x1 (ix2 l k)
  rw [Col.row_of (by omega)]
  pointwise
theorem huv1 : Chunk (uv1 x0 x2) l ((blk x0 x1 x2 x3 x4 x5 x6 l).u 1) 512 := by
  intro r
  unfold uv1
  rw [uV_at]
  show _ = ∑ k : Fin 2048, x0 (ix2 (Col.row _) k) * x2 (ix2 l k)
  rw [Col.row_of (by omega)]
  pointwise
theorem hug2 : Chunk (ug2 x0 x1) l ((blk x0 x1 x2 x3 x4 x5 x6 l).u 0) 1024 := by
  intro r
  unfold ug2
  rw [uV_at]
  show _ = ∑ k : Fin 2048, x0 (ix2 (Col.row _) k) * x1 (ix2 l k)
  rw [Col.row_of (by omega)]
  pointwise
theorem huv2 : Chunk (uv2 x0 x2) l ((blk x0 x1 x2 x3 x4 x5 x6 l).u 1) 1024 := by
  intro r
  unfold uv2
  rw [uV_at]
  show _ = ∑ k : Fin 2048, x0 (ix2 (Col.row _) k) * x2 (ix2 l k)
  rw [Col.row_of (by omega)]
  pointwise
theorem hug3 : Chunk (ug3 x0 x1) l ((blk x0 x1 x2 x3 x4 x5 x6 l).u 0) 1536 := by
  intro r
  unfold ug3
  rw [uV_at]
  show _ = ∑ k : Fin 2048, x0 (ix2 (Col.row _) k) * x1 (ix2 l k)
  rw [Col.row_of (by omega)]
  pointwise
theorem huv3 : Chunk (uv3 x0 x2) l ((blk x0 x1 x2 x3 x4 x5 x6 l).u 1) 1536 := by
  intro r
  unfold uv3
  rw [uV_at]
  show _ = ∑ k : Fin 2048, x0 (ix2 (Col.row _) k) * x2 (ix2 l k)
  rw [Col.row_of (by omega)]
  pointwise

/-! The gated chunks. -/

theorem hy0 : Chunk (y0 x0 x1 x2 x3 x4 x5 x6) l (blk x0 x1 x2 x3 x4 x5 x6 l).y 0 := by
  intro r
  unfold y0
  rw [yV_at, Chunk.conv (hug0 x0 x1 x2 x3 x4 x5 x6 l) prev_zero (by omega) (hw3 x0 x1 x2 x3 x4 x5 x6 l) (hb5 x0 x1 x2 x3 x4 x5 x6 l) r,
    Chunk.conv (huv0 x0 x1 x2 x3 x4 x5 x6 l) prev_zero (by omega) (hw4 x0 x1 x2 x3 x4 x5 x6 l) (hb6 x0 x1 x2 x3 x4 x5 x6 l) r]
  rfl
theorem hy1 : Chunk (y1 x0 x1 x2 x3 x4 x5 x6) l (blk x0 x1 x2 x3 x4 x5 x6 l).y 512 := by
  intro r
  unfold y1
  rw [yV_at, Chunk.conv (hug1 x0 x1 x2 x3 x4 x5 x6 l) (prev_tail (hug0 x0 x1 x2 x3 x4 x5 x6 l)) (by omega) (hw3 x0 x1 x2 x3 x4 x5 x6 l) (hb5 x0 x1 x2 x3 x4 x5 x6 l) r,
    Chunk.conv (huv1 x0 x1 x2 x3 x4 x5 x6 l) (prev_tail (huv0 x0 x1 x2 x3 x4 x5 x6 l)) (by omega) (hw4 x0 x1 x2 x3 x4 x5 x6 l) (hb6 x0 x1 x2 x3 x4 x5 x6 l) r]
  rfl
theorem hy2 : Chunk (y2 x0 x1 x2 x3 x4 x5 x6) l (blk x0 x1 x2 x3 x4 x5 x6 l).y 1024 := by
  intro r
  unfold y2
  rw [yV_at, Chunk.conv (hug2 x0 x1 x2 x3 x4 x5 x6 l) (prev_tail (hug1 x0 x1 x2 x3 x4 x5 x6 l)) (by omega) (hw3 x0 x1 x2 x3 x4 x5 x6 l) (hb5 x0 x1 x2 x3 x4 x5 x6 l) r,
    Chunk.conv (huv2 x0 x1 x2 x3 x4 x5 x6 l) (prev_tail (huv1 x0 x1 x2 x3 x4 x5 x6 l)) (by omega) (hw4 x0 x1 x2 x3 x4 x5 x6 l) (hb6 x0 x1 x2 x3 x4 x5 x6 l) r]
  rfl
theorem hy3 : Chunk (y3 x0 x1 x2 x3 x4 x5 x6) l (blk x0 x1 x2 x3 x4 x5 x6 l).y 1536 := by
  intro r
  unfold y3
  rw [yV_at, Chunk.conv (hug3 x0 x1 x2 x3 x4 x5 x6 l) (prev_tail (hug2 x0 x1 x2 x3 x4 x5 x6 l)) (by omega) (hw3 x0 x1 x2 x3 x4 x5 x6 l) (hb5 x0 x1 x2 x3 x4 x5 x6 l) r,
    Chunk.conv (huv3 x0 x1 x2 x3 x4 x5 x6 l) (prev_tail (huv2 x0 x1 x2 x3 x4 x5 x6 l)) (by omega) (hw4 x0 x1 x2 x3 x4 x5 x6 l) (hb6 x0 x1 x2 x3 x4 x5 x6 l) r]
  rfl

/-- The block of projected columns. -/
theorem out7_at (i : Fin 2) (s : Fin 2048) : out0_7 x0 x1 x2 x3 x4 x5 x6 (ix3 i s l) = (blk x0 x1 x2 x3 x4 x5 x6 l).u i s := by
  unfold out0_7
  canon_tiles x h
  · obtain rfl : i = 1 := Fin.ext (by have := h0; simp only [ix3] at this; change i.val = _ at this; simp; omega)
    rw [p7_v3]
    exact st_of (fun l => huv3 x0 x1 x2 x3 x4 x5 x6 l) x s l h1 h2
  · obtain rfl : i = 0 := Fin.ext (by have := h0; simp only [ix3] at this; change i.val = _ at this; simp; omega)
    rw [p7_g3]
    exact st_of (fun l => hug3 x0 x1 x2 x3 x4 x5 x6 l) x s l h1 h2
  · obtain rfl : i = 1 := Fin.ext (by have := h0; simp only [ix3] at this; change i.val = _ at this; simp; omega)
    rw [p7_v2]
    exact st_of (fun l => huv2 x0 x1 x2 x3 x4 x5 x6 l) x s l h1 h2
  · obtain rfl : i = 0 := Fin.ext (by have := h0; simp only [ix3] at this; change i.val = _ at this; simp; omega)
    rw [p7_g2]
    exact st_of (fun l => hug2 x0 x1 x2 x3 x4 x5 x6 l) x s l h1 h2
  · obtain rfl : i = 1 := Fin.ext (by have := h0; simp only [ix3] at this; change i.val = _ at this; simp; omega)
    rw [p7_v1]
    exact st_of (fun l => huv1 x0 x1 x2 x3 x4 x5 x6 l) x s l h1 h2
  · obtain rfl : i = 0 := Fin.ext (by have := h0; simp only [ix3] at this; change i.val = _ at this; simp; omega)
    rw [p7_g1]
    exact st_of (fun l => hug1 x0 x1 x2 x3 x4 x5 x6 l) x s l h1 h2
  · obtain rfl : i = 1 := Fin.ext (by have := h0; simp only [ix3] at this; change i.val = _ at this; simp; omega)
    rw [p7_v0]
    exact st_of (fun l => huv0 x0 x1 x2 x3 x4 x5 x6 l) x s l (h1.trans (zero_add _).symm) h2
  · obtain rfl : i = 0 := Fin.ext (by have := h0; simp only [ix3] at this; change i.val = _ at this; simp; omega)
    rw [p7_g0]
    exact st_of (fun l => hug0 x0 x1 x2 x3 x4 x5 x6 l) x s l (h1.trans (zero_add _).symm) h2
/-- The block of gated products. -/
theorem out8_at (s : Fin 2048) : out0_8 x0 x1 x2 x3 x4 x5 x6 (ix2 s l) = (blk x0 x1 x2 x3 x4 x5 x6 l).y s := by
  unfold out0_8
  canon_tiles x h
  · rw [p8_3]
    exact y_of (fun l => hy3 x0 x1 x2 x3 x4 x5 x6 l) x s l h0 h1
  · rw [p8_2]
    exact y_of (fun l => hy2 x0 x1 x2 x3 x4 x5 x6 l) x s l h0 h1
  · rw [p8_1]
    exact y_of (fun l => hy1 x0 x1 x2 x3 x4 x5 x6 l) x s l h0 h1
  · rw [p8_0]
    exact y_of (fun l => hy0 x0 x1 x2 x3 x4 x5 x6 l) x s l (h0.trans (zero_add _).symm) h1

end Cert.UpIdeal.Vecs

end
-- ==== Proof.UpRef.lean ====
/- The reference of `ffn_fwd`, entry by entry, in the words of one column. -/
module

public import Idealize.ShloMosaic.Lib.Pipeline.ValueKit
public import Idealize.ShloMosaic.Lib.Pointwise
public import proofs.«01_k».proof.Proof.Gen.UpRefIdeal.Run
public import proofs.«01_k».proof.Proof.Col

@[expose] public section

set_option maxRecDepth 16384

noncomputable section

namespace Cert.UpRefIdeal.Value

open Idealize.ShloMosaic Idealize.ShloMosaic.TcCoe Idealize.ShloMosaic.StableHlo Idealize.SL.Sem
open Cert.UpRefIdeal Cert.UpRefIdeal.Gen
open scoped BigOperators

variable (m : (ℓ : Loc nD τ sig) → Buf (Elt Ideal) ℓ) (c : Dev nD)

/-- The four arguments. -/
abbrev B0 : Vec Ideal S2048x2048 .bf16 := m ((c.tc : Thread nD τ).loc main_arg0)
abbrev B1 : Vec Ideal S2048x11264 .bf16 := m ((c.tc : Thread nD τ).loc main_arg1)
abbrev B2 : Vec Ideal S3x11264 .f32 := m ((c.tc : Thread nD τ).loc main_arg2)
abbrev B3 : Vec Ideal S1x11264 .f32 := m ((c.tc : Thread nD τ).loc main_arg3)

/-- The projected columns; two rows of zeros above them; the convolution; its two halves. -/
def RU : FVec Ideal S2048x11264 .f32 := (Host.dotGeneral dot_S2048x2048_S2048x11264_S2048x11264_1_0_0_1_n_n none (extf .f32 (m ((c.tc : Thread nD τ).loc main_arg0)) bitsLt_bf16_f32) (extf .f32 (m ((c.tc : Thread nD τ).loc main_arg1)) bitsLt_bf16_f32))
def RP : FVec Ideal S2050x11264 .f32 := (concatenate S2050x11264 0 [⟨S2x11264, (broadcastInDim S2x11264 ![] bcast_S_S2x11264 (constant S_ .f32 0x00000000#32))⟩, ⟨S2048x11264, (RU m c)⟩] concatenates_S2x11264_S2048x11264_S2050x11264_d0)
def RS0 : FVec Ideal S2048x11264 .f32 := extractStridedSlice S2048x11264 ![0, 0] (RP m c) slices_S2050x11264_S2048x11264_0_0
def RS1 : FVec Ideal S2048x11264 .f32 := extractStridedSlice S2048x11264 ![1, 0] (RP m c) slices_S2050x11264_S2048x11264_1_0
def RS2 : FVec Ideal S2048x11264 .f32 := extractStridedSlice S2048x11264 ![2, 0] (RP m c) slices_S2050x11264_S2048x11264_2_0
def RW0 : FVec Ideal S2048x11264 .f32 := broadcastInDim S2048x11264 ![0, 1] bcast_S1x11264_S2048x11264_0_1 (broadcastInDim S1x11264 ![1] bcast_S11264_S1x11264_1 (shapeCast _ (extractStridedSlice S1x11264 ![0, 0] (m ((c.tc : Thread nD τ).loc main_arg2)) slices_S3x11264_S1x11264_0_0) shapeCasts_S1x11264_S11264))
def RW1 : FVec Ideal S2048x11264 .f32 := broadcastInDim S2048x11264 ![0, 1] bcast_S1x11264_S2048x11264_0_1 (broadcastInDim S1x11264 ![1] bcast_S11264_S1x11264_1 (shapeCast _ (extractStridedSlice S1x11264 ![1, 0] (m ((c.tc : Thread nD τ).loc main_arg2)) slices_S3x11264_S1x11264_1_0) shapeCasts_S1x11264_S11264))
def RW2 : FVec Ideal S2048x11264 .f32 := broadcastInDim S2048x11264 ![0, 1] bcast_S1x11264_S2048x11264_0_1 (broadcastInDim S1x11264 ![1] bcast_S11264_S1x11264_1 (shapeCast _ (extractStridedSlice S1x11264 ![2, 0] (m ((c.tc : Thread nD τ).loc main_arg2)) slices_S3x11264_S1x11264_2_0) shapeCasts_S1x11264_S11264))
def RB : FVec Ideal S2048x11264 .f32 := broadcastInDim S2048x11264 ![0, 1] bcast_S1x11264_S2048x11264_0_1 (broadcastInDim S1x11264 ![1] bcast_S11264_S1x11264_1 (shapeCast _ (m ((c.tc : Thread nD τ).loc main_arg3)) shapeCasts_S1x11264_S11264))
def RC : FVec Ideal S2048x11264 .f32 := (addf (addf (addf (addf (broadcastInDim S2048x11264 ![] bcast_S_S2048x11264 (constant S_ .f32 0x00000000#32)) (mulf (RS0 m c) (RW0 m c))) (mulf (RS1 m c) (RW1 m c))) (mulf (RS2 m c) (RW2 m c))) (RB m c))
def RG : FVec Ideal S2048x5632 .f32 := extractStridedSlice S2048x5632 ![0, 0] (RC m c) slices_S2048x11264_S2048x5632_0_0
def RV : FVec Ideal S2048x5632 .f32 := extractStridedSlice S2048x5632 ![0, 5632] (RC m c) slices_S2048x11264_S2048x5632_0_5632

/-- The second result in these words. -/
theorem res_eq : res_main_v50 m c = truncf .bf16 (mulf (mulf (RG m c) (mulf (broadcastInDim S2048x5632 ![] bcast_S_S2048x5632 (constant S_ .f32 0x3F000000#32)) (addf (broadcastInDim S2048x5632 ![] bcast_S_S2048x5632 (constant S_ .f32 0x3F800000#32)) (Host.tanh (mulf (broadcastInDim S2048x5632 ![] bcast_S_S2048x5632 (constant S_ .f32 0x3F4C422A#32)) (addf (RG m c) (mulf (broadcastInDim S2048x5632 ![] bcast_S_S2048x5632 (Host.divf (constant S_ .f32 0x472EAB00#32) (constant S_ .f32 0x49742400#32))) (mulf (mulf (RG m c) (RG m c)) (RG m c))))))))) (RV m c)) bitsLt_bf16_f32 := rfl

/-- The columns numbered `q`. -/
def data (q : Fin 5632) : Col.Data :=
  Col.arr (fun _ _ => 0) (fun s k => B0 m c (ix2 s k))
    (fun k p => B1 m c (ix2 k p)) (fun j p => B2 m c (ix2 j p))
    (fun p => B3 m c (ix2 0 p)) (fun _ _ => 0) q

/-- Projected column `p` and its weights. -/
def U (p : Fin 11264) (s : ℕ) : EReal :=
  ∑ k : Fin 2048, B0 m c (ix2 (Col.row s) k) * B1 m c (ix2 k p)
def W (p : Fin 11264) (j : ℕ) : EReal := B2 m c (ix2 (Col.wrow j) p)

theorem RU_at (s : Fin 2048) (p : Fin 11264) : RU m c (ix2 s p) = U m c p s := by
  pointwise [RU]; unfold U; rw [Col.row_val]
theorem RP_at (s : Fin 2050) (p : Fin 11264) : RP m c (ix2 s p) = if s.val < 2 then (0 : EReal) else U m c p (s.val - 2) := by
  pointwise [RP]
  split
  · rfl
  · have e : (⟨s.val - 2, by omega⟩ : Fin 2048) = Col.row (s.val - 2) := (Col.row_of (by omega)).symm
    exact (congrArg (fun z => RU m c (ix2 z p)) e).trans ((RU_at m c _ p).trans (by rw [Col.row_of (by omega)]))
/-- The projected column moved down by two rows, by one and by none; the weights; the bias. -/
theorem RS0_at (s : Fin 2048) (p : Fin 11264) : RS0 m c (ix2 s p) = Col.tap (U m c p) 2 s := by
  pointwise [RS0]
  rw [RP_at]; unfold Col.tap
  by_cases h : s.val < 2
  · rw [if_pos h, if_neg (by omega)]
  · rw [if_neg h, if_pos (by omega)]
theorem RS1_at (s : Fin 2048) (p : Fin 11264) : RS1 m c (ix2 s p) = Col.tap (U m c p) 1 s := by
  pointwise [RS1]
  rw [RP_at]; unfold Col.tap
  dsimp only
  by_cases h : s.val < 1
  · rw [if_pos (by omega), if_neg (by omega)]
  · rw [if_neg (by omega), if_pos (by omega)]; congr 1; omega
theorem RS2_at (s : Fin 2048) (p : Fin 11264) : RS2 m c (ix2 s p) = Col.tap (U m c p) 0 s := by
  pointwise [RS2]
  rw [RP_at]; unfold Col.tap
  dsimp only
  rw [if_neg (by omega), if_pos (by omega)]; congr 1; omega
theorem RW0_at (s : Fin 2048) (p : Fin 11264) : RW0 m c (ix2 s p) = W m c p 0 := by
  pointwise [RW0]
  rfl
theorem RW1_at (s : Fin 2048) (p : Fin 11264) : RW1 m c (ix2 s p) = W m c p 1 := by
  pointwise [RW1]
  rfl
theorem RW2_at (s : Fin 2048) (p : Fin 11264) : RW2 m c (ix2 s p) = W m c p 2 := by
  pointwise [RW2]
  rfl
/-- A row spread over all rows. -/
theorem bias_at (X : Vec Ideal S1x11264 .f32) (s : Fin 2048) (p : Fin 11264) :
    (broadcastInDim S2048x11264 ![0, 1] bcast_S1x11264_S2048x11264_0_1 (broadcastInDim S1x11264 ![1] bcast_S11264_S1x11264_1 (shapeCast S11264 X shapeCasts_S1x11264_S11264)) : FVec Ideal S2048x11264 .f32) (ix2 s p) = X (ix2 0 p) := by
  pointwise
theorem RB_at (s : Fin 2048) (p : Fin 11264) : RB m c (ix2 s p) = B3 m c (ix2 0 p) := by
  exact bias_at (B3 m c) s p
/-- The convolution. -/
theorem RC_at (s : Fin 2048) (p : Fin 11264) : RC m c (ix2 s p) = Col.conv (W m c p) (B3 m c (ix2 0 p)) (U m c p) s := by
  pointwise [RC]
  rw [RS0_at, RS1_at, RS2_at, RW0_at, RW1_at, RW2_at, RB_at]
  unfold Col.conv
  refine congrArg (· + _) ?_
  rw [add_comm, add_comm (Col.tap _ 2 _ * _), add_assoc]
theorem RG_at (s : Fin 2048) (q : Fin 5632) : RG m c (ix2 s q) = (data m c q).c 0 s := by
  pointwise [RG]
  exact (congrArg (fun p => RC m c (ix2 s p)) (Fin.ext (by simp [Col.wide]) : _ = Col.wide 0 q)).trans (RC_at m c s _)
theorem RV_at (s : Fin 2048) (q : Fin 5632) : RV m c (ix2 s q) = (data m c q).c 1 s := by
  pointwise [RV]
  exact (congrArg (fun p => RC m c (ix2 s p)) (Fin.ext (by simp [Col.wide]) : _ = Col.wide 1 q)).trans (RC_at m c s _)

/-- The second result. -/
theorem y_at (s : Fin 2048) (q : Fin 5632) : res_main_v50 m c (ix2 s q) = (data m c q).y s := by
  rw [res_eq]
  pointwise
  rw [RG_at, RV_at, Col.quot_eq]
  exact congrArg (fun a : EReal => a * _) (Col.glu_eq _)
/-- The first result. -/
theorem u_at (i : Fin 2) (s : Fin 2048) (q : Fin 5632) :
    (transpose S2x2048x5632 [1, 0, 2] (shapeCast _ (Host.dotGeneral dot_S2048x2048_S2048x11264_S2048x11264_1_0_0_1_n_n none (extf .f32 (m ((c.tc : Thread nD τ).loc main_arg0)) bitsLt_bf16_f32) (extf .f32 (m ((c.tc : Thread nD τ).loc main_arg1)) bitsLt_bf16_f32)) shapeCasts_S2048x11264_S2048x2x5632) transposes_S2048x2x5632_S2x2048x5632_1_0_2 : FVec Ideal S2x2048x5632 .f32) (ix3 i s q)
      = (data m c q).u i s := by
  pointwise
  unfold data Col.arr
  dsimp only
  rw [Col.row_val]
  rfl

end Cert.UpRefIdeal.Value

end
-- ==== Proof.Up.lean ====
/- The call `ffn_fwd`: the projection up, the causal convolution and the gate. -/
module

public import proofs.«01_k».proof.Defs
public import proofs.«01_k».proof.Proof.UpBlock
public import proofs.«01_k».proof.Proof.UpRef
public import proofs.«01_k».proof.Proof.Gen.UpIdeal.Value
public import proofs.«01_k».proof.Proof.Gen.Up.Frame
public import proofs.«01_k».proof.Proof.Gen.UpRefIdeal
public import Idealize.ShloMosaic.Lib.Claim

@[expose] public section

set_option maxRecDepth 16384

noncomputable section

open Idealize.ShloMosaic Idealize.ShloMosaic.TcCoe Idealize.SL.Sem

namespace Cert.UpIdeal.Vecs

open Cert.UpIdeal Cert.UpIdeal.Gen
open scoped BigOperators

variable (m : (ℓ : Loc nD τ sig) → Buf (Elt Ideal) ℓ) (c : Dev nD)

/-- The argument arrays. -/
abbrev A0 : Vec Ideal S2048x2048 .bf16 := m ((c : Thread nD τ).loc main_arg0)
abbrev A1 : Vec Ideal S2048x11264 .bf16 := m ((c : Thread nD τ).loc main_arg1)
abbrev A2 : Vec Ideal S3x11264 .f32 := m ((c : Thread nD τ).loc main_arg2)
abbrev A3 : Vec Ideal S1x11264 .f32 := m ((c : Thread nD τ).loc main_arg3)

/-- The columns numbered `q` of the argument arrays. -/
def data (q : Fin 5632) : Col.Data :=
  Col.arr (fun _ _ => 0) (fun s k => A0 m c (ix2 s k)) (fun k p => A1 m c (ix2 k p))
    (fun j p => A2 m c (ix2 j p)) (fun p => A3 m c (ix2 0 p)) (fun _ _ => 0) q

/-- Where the windows stand at a grid point. -/
theorem idx : ∀ t : Fin cfg0.N, win0_0.index t = ![0, 0] ∧ win0_1.index t = ![t.val, 0] ∧ win0_2.index t = ![22 + t.val, 0]
    ∧ win0_3.index t = ![0, t.val] ∧ win0_4.index t = ![0, 22 + t.val] ∧ win0_5.index t = ![0, t.val]
    ∧ win0_6.index t = ![0, 22 + t.val] ∧ win0_7.index t = ![0, 0, t.val] ∧ win0_8.index t = ![0, t.val] :=
  (by decide +kernel : ∀ t : Fin grid0.N, _)

/-- Column `l` of the point's blocks is column `256 t + l` of the arrays. -/
def at' (t : Fin cfg0.N) (l : Fin 256) : Fin 5632 := ⟨t.val * 256 + l.val, by have := t.isLt; have : t.val < 22 := this; omega⟩

theorem rd0 (t : Fin cfg0.N) (s k : Fin 2048) : iblk m c 0 t (ix2 s k) = A0 m c (ix2 s k) := by
  blk_simp [iblk, idx t]
  rw [V_main_arg0]
  blk_ext [idx t]
theorem rd1 (t : Fin cfg0.N) (l : Fin 256) (k : Fin 2048) : iblk m c 1 t (ix2 l k) = A1 m c (ix2 k (Col.wide 0 (at' t l))) := by
  have e : (win0_1.blk t).view.emb (ix2 l k) = ix2 (Col.wide 0 (at' t l)) k := by blk_ext [idx t, at', Col.wide]
  refine (congrArg (V m c main_v2) e).trans ?_
  entry_read
  pointwise
theorem rd2 (t : Fin cfg0.N) (l : Fin 256) (k : Fin 2048) : iblk m c 2 t (ix2 l k) = A1 m c (ix2 k (Col.wide 1 (at' t l))) := by
  have e : (win0_2.blk t).view.emb (ix2 l k) = ix2 (Col.wide 1 (at' t l)) k := by blk_ext [idx t, at', Col.wide]
  refine (congrArg (V m c main_v2) e).trans ?_
  entry_read
  pointwise
theorem rd3 (t : Fin cfg0.N) (j : Fin 3) (l : Fin 256) : iblk m c 3 t (ix2 j l) = A2 m c (ix2 j (Col.wide 0 (at' t l))) := by
  blk_simp [iblk, idx t]
  rw [V_main_arg2]
  blk_ext [idx t, at', Col.wide]
theorem rd4 (t : Fin cfg0.N) (j : Fin 3) (l : Fin 256) : iblk m c 4 t (ix2 j l) = A2 m c (ix2 j (Col.wide 1 (at' t l))) := by
  blk_simp [iblk, idx t]
  rw [V_main_arg2]
  blk_ext [idx t, at', Col.wide]
theorem rd5 (t : Fin cfg0.N) (l : Fin 256) : iblk m c 5 t (ix2 0 l) = A3 m c (ix2 0 (Col.wide 0 (at' t l))) := by
  blk_simp [iblk, idx t]
  rw [V_main_arg3]
  blk_ext [idx t, at', Col.wide]
theorem rd6 (t : Fin cfg0.N) (l : Fin 256) : iblk m c 6 t (ix2 0 l) = A3 m c (ix2 0 (Col.wide 1 (at' t l))) := by
  blk_simp [iblk, idx t]
  rw [V_main_arg3]
  blk_ext [idx t, at', Col.wide]

/-- The blocks' columns are the arrays'. -/
theorem blk_eq (t : Fin cfg0.N) (l : Fin 256) :
    blk (iblk m c 0 t) (iblk m c 1 t) (iblk m c 2 t) (iblk m c 3 t) (iblk m c 4 t) (iblk m c 5 t) (iblk m c 6 t) l
      = data m c (at' t l) := by
  unfold blk data Col.arr
  refine (Col.Data.mk.injEq _ _ _ _ _ _ _ _).mpr ⟨?_, ?_, ?_, ?_⟩
  · funext s
    simp only [zero_mul, Finset.sum_const_zero]
  · funext i s
    fin_cases i
    · exact Finset.sum_congr rfl fun k _ => congrArg₂ (· * ·) (rd0 m c t (Col.row s) k) (rd1 m c t l k)
    · exact Finset.sum_congr rfl fun k _ => congrArg₂ (· * ·) (rd0 m c t (Col.row s) k) (rd2 m c t l k)
  · funext i j
    fin_cases i
    · exact rd3 m c t (Col.wrow j) l
    · exact rd4 m c t (Col.wrow j) l
  · funext i
    fin_cases i
    · exact rd5 m c t l
    · exact rd6 m c t l

/-- The two result arrays. -/
def G7 (y : S2x2048x5632.Idx) : EReal := (data m c (y 2)).u (y 0) (y 1).val
def G8 (y : S2048x5632.Idx) : EReal := (data m c (y 1)).y (y 0).val

theorem final7 : (dats m 0 c).arrAt 7 cfg0.N = G7 m c := by
  refine (dats m 0 c).arrAt_eq_of_covers 7 _ (by decide +kernel) fun t _ y => ?_
  blk_simp
  rw [after0_7]
  obtain ⟨i, s, l, rfl⟩ : ∃ (a : Fin 2) (b : Fin 2048) (e : Fin 256), y = ix3 a b e := ⟨y 0, y 1, y 2, eq_ix3 y⟩
  rw [out7_at, blk_eq]
  have e : (win0_7.blk t).view.emb (ix3 i s l) = ix3 i s (at' t l) := by blk_ext [idx t, at']
  exact (congrArg (G7 m c) e).symm
theorem final8 : (dats m 0 c).arrAt 8 cfg0.N = G8 m c := by
  refine (dats m 0 c).arrAt_eq_of_covers 8 _ (by decide +kernel) fun t _ y => ?_
  blk_simp
  rw [after0_8]
  obtain ⟨s, l, rfl⟩ : ∃ (a : Fin 2048) (b : Fin 256), y = ix2 a b := ⟨y 0, y 1, eq_ix2 y⟩
  rw [out8_at, blk_eq]
  have e : (win0_8.blk t).view.emb (ix2 s l) = ix2 s (at' t l) := by blk_ext [idx t, at']
  exact (congrArg (G8 m c) e).symm

end Cert.UpIdeal.Vecs

namespace Cert.Up

/-- The call runs to an end, keeps its arguments and leaves every semaphore at zero. -/
theorem quiescent : Cert.quiescent_Up := fun m g _ => Cert.Up.Gen.frame m g

/-- So does the idealized call. -/
theorem quiescent_ideal : Cert.quiescent_UpIdeal := fun m g _ => Cert.UpIdeal.Gen.frame m g

/-- So does its reference. -/
theorem quiescent_ref : Cert.quiescent_UpRefIdeal := fun m g _ =>
  (θ_run Cert.UpRefIdeal.defs _ _).mono (fun r h => ⟨fun c => (h c).2.2, sem_eq_zero_of_no_sems (by decide) r.2⟩)
    (Cert.UpRefIdeal.Value.run (F := Ideal) m g)

/-- The table gives `cube` the value 44715/10⁶. -/
theorem preserves : Cert.preserves_Up_UpIdeal :=
  IdealRules.named_const.statement Cert.UpIdeal.κ "cube" .f32 0x3D372713#32 ((8943 / 200000 : ℝ) : EReal) rfl

section Value

variable (m : (ℓ : Loc Cert.UpIdeal.nD Cert.UpIdeal.τ Cert.UpIdeal.sig) → Buf (Elt Ideal) ℓ)
  (m' : (ℓ : Loc Cert.UpRefIdeal.nD Cert.UpRefIdeal.τ Cert.UpRefIdeal.sig) → Buf (Elt Ideal) ℓ)

open Cert.UpIdeal.Vecs Cert.UpRefIdeal.Value in
/-- From equal arrays the two programs' columns are the same. -/
theorem same (c : Dev Cert.UpIdeal.nD) (e0 : B0 m' c = A0 m c) (e1 : B1 m' c = A1 m c) (e2 : B2 m' c = A2 m c)
    (e3 : B3 m' c = A3 m c) (q : Fin 5632) : Cert.UpRefIdeal.Value.data m' c q = Cert.UpIdeal.Vecs.data m c q := by
  unfold Cert.UpRefIdeal.Value.data Cert.UpIdeal.Vecs.data
  rw [e0, e1, e2, e3]

end Value

/-- The call's two results are the reference's. -/
theorem algebraic : Cert.algebraic_UpIdeal_UpRefIdeal := by
  intro m g m' g' _ hagree
  have hs := fun c => same m m' c (hagree c).1 (hagree c).2.1 (hagree c).2.2.1 (hagree c).2.2.2
  refine ⟨_, _, Cert.UpIdeal.Value.run_blocks m g, ?_⟩
  refine (θ_run Cert.UpRefIdeal.defs _ _).mono (fun _ h c => ⟨(h c).1.trans ?_, (h c).2.1.trans ?_, (h c).2.2⟩)
    (Cert.UpRefIdeal.Value.run (F := Ideal) m' g')
  · refine Eq.trans ?_ (Cert.UpIdeal.Vecs.final7 m c).symm
    funext y
    obtain ⟨i, s, q, rfl⟩ : ∃ (a : Fin 2) (b : Fin 2048) (e : Fin 5632), y = ix3 a b e := ⟨y 0, y 1, y 2, eq_ix3 y⟩
    refine (Cert.UpRefIdeal.Value.u_at m' c i s q).trans ?_
    rw [hs c]; rfl
  · refine Eq.trans ?_ (Cert.UpIdeal.Vecs.final8 m c).symm
    funext y
    obtain ⟨s, q, rfl⟩ : ∃ (a : Fin 2048) (b : Fin 5632), y = ix2 a b := ⟨y 0, y 1, eq_ix2 y⟩
    refine (Cert.UpRefIdeal.Value.y_at m' c s q).trans ?_
    rw [hs c]; rfl

end Cert.Up

end
-- ==== Proof.Down.lean ====
/- The call `ffn_down`: the feed-forward block's second product, its 5632 terms added in two steps. -/
module

public import proofs.«01_k».proof.Defs
public import proofs.«01_k».proof.Proof.Gen.Down.Frame
public import proofs.«01_k».proof.Proof.Gen.DownIdeal.Frame
public import proofs.«01_k».proof.Proof.Gen.DownRefIdeal
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DownIdeal.Value

open Cert.DownIdeal Cert.DownIdeal.Gen

variable (m : (ℓ : Loc nD τ sig) → Buf (Elt Ideal) ℓ)

/-- Which block every grid point takes of each array. -/
theorem idx : ∀ t : Fin cfg0.N, win0_0.index t = ![0, t.val % 2] ∧ win0_1.index t = ![t.val % 2, t.val / 2] ∧ win0_2.index t = ![0, t.val / 2] :=
  (by decide +kernel : ∀ t : Fin grid0.N, _)

/-- The array the call returns: the product of the two matrices. -/
def G (X : FVec Ideal S2048x5632 .bf16) (Y : FVec Ideal S5632x2048 .bf16) : FVec Ideal S2048x2048 .f32 :=
  fun y => ∑ k : Fin 5632, X (ix2 (y 0) k) * Y (ix2 k (y 1))

/-- One step's product of the two blocks. -/
theorem pay_first (x0 : Vec Ideal S2048x2816 .bf16) (x1 : Vec Ideal S2816x512 .bf16) (i) :
    k0_pay2 x0 x1 i = 0 + ∑ k : Fin 2816, x0 (ix2 (i 0) k) * x1 (ix2 k (i 1)) := by
  pointwise [k0_pay2, k0_pay1]

/-- A later step adds its product to what the steps before it left. -/
theorem pay_next (x0 : Vec Ideal S2048x2816 .bf16) (x1 : Vec Ideal S2816x512 .bf16) (acc acc' : Vec Ideal S2048x512 .f32)
    (h : acc = acc') (i) : k0_pay3 x0 x1 acc i = acc' i + ∑ k : Fin 2816, x0 (ix2 (i 0) k) * x1 (ix2 k (i 1)) := by
  subst h
  pointwise [k0_pay3, k0_pay1]

/-- At the last step of a block the output is what the accumulator holds. -/
theorem out_eq (c : Dev nD) (t : Fin cfg0.N) (h : t.val % 2 = 1) :
    (outsAt0 m c t.val t.isLt).1 = (outsAt0 m c t.val t.isLt).2 := by
  rw [outsAt0_B m c t (by omega) (by omega) h]; frame_out

/-- The accumulator of a block at its first step, over zero. -/
theorem acc_first (c : Dev nD) (t : Fin cfg0.N) (h : t.val % 2 = 0) (i) :
    (outsAt0 m c t.val t.isLt).2 i = (fun _ => (0 : EReal)) i + ∑ k : Fin 2816, (show Vec Ideal S2048x2816 .bf16 from iblk m c 0 t) (ix2 (i 0) k) * (show Vec Ideal S2816x512 .bf16 from iblk m c 1 t) (ix2 k (i 1)) := by
  rw [outsAt0_A m c t h (by omega) (by omega)]; frame_out
  exact pay_first _ _ i

/-- The accumulator of a block at a later step. -/
theorem acc_next (c : Dev nD) (t : Fin cfg0.N) (h : ¬ t.val % 2 = 0) (i) :
    (outsAt0 m c t.val t.isLt).2 i
      = (outsAt0 m c (t.val - 1) (Nat.lt_of_le_of_lt (Nat.sub_le _ _) t.isLt)).2 i + ∑ k : Fin 2816, (show Vec Ideal S2048x2816 .bf16 from iblk m c 0 t) (ix2 (i 0) k) * (show Vec Ideal S2816x512 .bf16 from iblk m c 1 t) (ix2 k (i 1)) := by
  rw [outsAt0_B m c t h (by omega) (by omega)]; frame_out
  exact pay_next _ _ _ _ (Memref.IsWhole.read_unread _ _) i

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 2 (fun _ => 0)
      (fun t i => ∑ k : Fin 2816, (show Vec Ideal S2048x2816 .bf16 from iblk m c 0 t) (ix2 (i 0) k) * (show Vec Ideal S2816x512 .bf16 from iblk m c 1 t) (ix2 k (i 1))) (fun t h i => acc_first m c t h i) (fun t h i => acc_next m c t h i) t ((flush0_2 t).mp hf) _,
    zero_add]
  unfold G
  refine Fin.sum_mul_add_congr fun s k hl => ?_
  blk_point [iblk, V, idx t, idx ⟨_, Pipeline.run_point_lt_of_flush t ((flush0_2 t).mp hf) s⟩]

end Cert.DownIdeal.Value

namespace Cert.Down

/-- The call runs to an end, keeps its arguments and leaves every semaphore at zero. -/
theorem quiescent : Cert.quiescent_Down := fun m g _ => Cert.Down.Gen.frame m g

/-- So does the idealized call. -/
theorem quiescent_ideal : Cert.quiescent_DownIdeal := fun m g _ => Cert.DownIdeal.Gen.frame m g

/-- So does its reference. -/
theorem quiescent_ref : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

/-- The call's result is the reference's. -/
theorem algebraic : Cert.algebraic_DownIdeal_DownRefIdeal := by
  pair_intro
  · run_from Cert.DownIdeal.Gen.run_main m g
  · hlo_run
    rw [Cert.DownIdeal.Value.final m]
    funext y
    pointwise [Cert.DownIdeal.Value.G]

end Cert.Down
-- ==== Proof.QkvRef.lean ====
/- The reference of `qkv_proj`, entry by entry. -/
module

public import Idealize.ShloMosaic.Lib.Pipeline.ValueKit
public import Idealize.ShloMosaic.Lib.Pointwise
public import proofs.«01_k».proof.Proof.Gen.QkvRefIdeal.Run

@[expose] public section

set_option maxRecDepth 16384

noncomputable section

namespace Cert.QkvRefIdeal.Value

open Idealize.ShloMosaic Idealize.ShloMosaic.TcCoe Idealize.ShloMosaic.StableHlo Idealize.SL.Sem
open Cert.QkvRefIdeal Cert.QkvRefIdeal.Gen
open scoped BigOperators

variable (m : (ℓ : Loc nD τ sig) → Buf (Elt Ideal) ℓ) (c : Dev nD)

/-- The two arguments. -/
abbrev B0 : Vec Ideal S2048x2048 .bf16 := m ((c.tc : Thread nD τ).loc main_arg0)
abbrev B1 : Vec Ideal S2048x6144 .bf16 := m ((c.tc : Thread nD τ).loc main_arg1)

/-- The projection; its six parts by head; the two tables; the rotary embedding. -/
def RU : FVec Ideal S2048x6144 .f32 := (Host.dotGeneral dot_S2048x2048_S2048x6144_S2048x6144_1_0_0_1_n_n none (extf .f32 (m ((c.tc : Thread nD τ).loc main_arg0)) bitsLt_bf16_f32) (extf .f32 (m ((c.tc : Thread nD τ).loc main_arg1)) bitsLt_bf16_f32))
def RH0 : FVec Ideal S8x2048x128 .f32 := transpose S8x2048x128 [1, 0, 2] (shapeCast _ (extractStridedSlice S2048x1024 ![0, 0] (RU m c) slices_S2048x6144_S2048x1024_0_0) shapeCasts_S2048x1024_S2048x8x128) transposes_S2048x8x128_S8x2048x128_1_0_2
def RH1 : FVec Ideal S8x2048x128 .f32 := transpose S8x2048x128 [1, 0, 2] (shapeCast _ (extractStridedSlice S2048x1024 ![0, 1024] (RU m c) slices_S2048x6144_S2048x1024_0_1024) shapeCasts_S2048x1024_S2048x8x128) transposes_S2048x8x128_S8x2048x128_1_0_2
def RH2 : FVec Ideal S8x2048x128 .f32 := transpose S8x2048x128 [1, 0, 2] (shapeCast _ (extractStridedSlice S2048x1024 ![0, 2048] (RU m c) slices_S2048x6144_S2048x1024_0_2048) shapeCasts_S2048x1024_S2048x8x128) transposes_S2048x8x128_S8x2048x128_1_0_2
def RH3 : FVec Ideal S8x2048x128 .f32 := transpose S8x2048x128 [1, 0, 2] (shapeCast _ (extractStridedSlice S2048x1024 ![0, 3072] (RU m c) slices_S2048x6144_S2048x1024_0_3072) shapeCasts_S2048x1024_S2048x8x128) transposes_S2048x8x128_S8x2048x128_1_0_2
def RH4 : FVec Ideal S8x2048x128 .f32 := transpose S8x2048x128 [1, 0, 2] (shapeCast _ (extractStridedSlice S2048x1024 ![0, 4096] (RU m c) slices_S2048x6144_S2048x1024_0_4096) shapeCasts_S2048x1024_S2048x8x128) transposes_S2048x8x128_S8x2048x128_1_0_2
def RH5 : FVec Ideal S8x2048x128 .f32 := transpose S8x2048x128 [1, 0, 2] (shapeCast _ (extractStridedSlice S2048x1024 ![0, 5120] (RU m c) slices_S2048x6144_S2048x1024_0_5120) shapeCasts_S2048x1024_S2048x8x128) transposes_S2048x8x128_S8x2048x128_1_0_2
def RC : FVec Ideal S2048x64 .f32 := Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))))))
def RS : FVec Ideal S2048x64 .f32 := Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32)))))))
def RR (X : FVec Ideal S8x2048x128 .f32) : FVec Ideal S8x2048x128 .f32 := (concatenate S8x2048x128 2 [⟨S8x2048x64, (subf (mulf (extractStridedSlice S8x2048x64 ![0, 0, 0] X slices_S8x2048x128_S8x2048x64_0_0_0) (broadcastInDim S8x2048x64 ![0, 1, 2] bcast_S1x2048x64_S8x2048x64_0_1_2 (broadcastInDim S1x2048x64 ![1, 2] bcast_S2048x64_S1x2048x64_1_2 RC))) (mulf (extractStridedSlice S8x2048x64 ![0, 0, 64] X slices_S8x2048x128_S8x2048x64_0_0_64) (broadcastInDim S8x2048x64 ![0, 1, 2] bcast_S1x2048x64_S8x2048x64_0_1_2 (broadcastInDim S1x2048x64 ![1, 2] bcast_S2048x64_S1x2048x64_1_2 RS))))⟩, ⟨S8x2048x64, (addf (mulf (extractStridedSlice S8x2048x64 ![0, 0, 64] X slices_S8x2048x128_S8x2048x64_0_0_64) (broadcastInDim S8x2048x64 ![0, 1, 2] bcast_S1x2048x64_S8x2048x64_0_1_2 (broadcastInDim S1x2048x64 ![1, 2] bcast_S2048x64_S1x2048x64_1_2 RC))) (mulf (extractStridedSlice S8x2048x64 ![0, 0, 0] X slices_S8x2048x128_S8x2048x64_0_0_0) (broadcastInDim S8x2048x64 ![0, 1, 2] bcast_S1x2048x64_S8x2048x64_0_1_2 (broadcastInDim S1x2048x64 ![1, 2] bcast_S2048x64_S1x2048x64_1_2 RS))))⟩] concatenates_S8x2048x64_S8x2048x64_S8x2048x128_d2)

/-- The result in these words. -/
def RES : FVec Ideal S6x2048x1024 .bf16 := truncf .bf16 (shapeCast S6x2048x1024 (transpose S6x2048x8x128 [0, 2, 1, 3] ((concatenate S6x8x2048x128 0 [⟨S1x8x2048x128, ((broadcastInDim S1x8x2048x128 ![1, 2, 3] bcast_S8x2048x128_S1x8x2048x128_1_2_3 (RH0 m c)) : (⟨S1x8x2048x128, .f32⟩ : BufTy).Contents (Elt Ideal))⟩, ⟨S1x8x2048x128, ((broadcastInDim S1x8x2048x128 ![1, 2, 3] bcast_S8x2048x128_S1x8x2048x128_1_2_3 (RH1 m c)) : (⟨S1x8x2048x128, .f32⟩ : BufTy).Contents (Elt Ideal))⟩, ⟨S1x8x2048x128, ((broadcastInDim S1x8x2048x128 ![1, 2, 3] bcast_S8x2048x128_S1x8x2048x128_1_2_3 (RH2 m c)) : (⟨S1x8x2048x128, .f32⟩ : BufTy).Contents (Elt Ideal))⟩, ⟨S1x8x2048x128, ((broadcastInDim S1x8x2048x128 ![1, 2, 3] bcast_S8x2048x128_S1x8x2048x128_1_2_3 (RR (RH3 m c))) : (⟨S1x8x2048x128, .f32⟩ : BufTy).Contents (Elt Ideal))⟩, ⟨S1x8x2048x128, ((broadcastInDim S1x8x2048x128 ![1, 2, 3] bcast_S8x2048x128_S1x8x2048x128_1_2_3 (RR (RH4 m c))) : (⟨S1x8x2048x128, .f32⟩ : BufTy).Contents (Elt Ideal))⟩, ⟨S1x8x2048x128, ((broadcastInDim S1x8x2048x128 ![1, 2, 3] bcast_S8x2048x128_S1x8x2048x128_1_2_3 (RH5 m c)) : (⟨S1x8x2048x128, .f32⟩ : BufTy).Contents (Elt Ideal))⟩] concatenates_S1x8x2048x128_S1x8x2048x128_S1x8x2048x128_S1x8x2048x128_S1x8x2048x128_S1x8x2048x128_S6x8x2048x128_d0 : (⟨S6x8x2048x128, .f32⟩ : BufTy).Contents (Elt Ideal))) transposes_S6x8x2048x128_S6x2048x8x128_0_2_1_3) shapeCasts_S6x2048x8x128_S6x2048x1024) bitsLt_bf16_f32
theorem res_eq : res_main_v100 m c = RES m c := rfl

theorem RU_at (s : Fin 2048) (p : Fin 6144) : RU m c (ix2 s p) = ∑ k : Fin 2048, B0 m c (ix2 s k) * B1 m c (ix2 k p) := by
  pointwise [RU]
theorem RH0_at (a : Fin 8) (s : Fin 2048) (d : Fin 128) :
    RH0 m c (ix3 a s d) = RU m c (ix2 s (⟨0 + a.val * 128 + d.val, by omega⟩ : Fin 6144)) := by
  pointwise [RH0]
  try exact congrArg (fun q => RU m c (ix2 s q)) (Fin.ext (Nat.add_assoc _ _ _).symm)
theorem RH1_at (a : Fin 8) (s : Fin 2048) (d : Fin 128) :
    RH1 m c (ix3 a s d) = RU m c (ix2 s (⟨1024 + a.val * 128 + d.val, by omega⟩ : Fin 6144)) := by
  pointwise [RH1]
  try exact congrArg (fun q => RU m c (ix2 s q)) (Fin.ext (Nat.add_assoc _ _ _).symm)
theorem RH2_at (a : Fin 8) (s : Fin 2048) (d : Fin 128) :
    RH2 m c (ix3 a s d) = RU m c (ix2 s (⟨2048 + a.val * 128 + d.val, by omega⟩ : Fin 6144)) := by
  pointwise [RH2]
  try exact congrArg (fun q => RU m c (ix2 s q)) (Fin.ext (Nat.add_assoc _ _ _).symm)
theorem RH3_at (a : Fin 8) (s : Fin 2048) (d : Fin 128) :
    RH3 m c (ix3 a s d) = RU m c (ix2 s (⟨3072 + a.val * 128 + d.val, by omega⟩ : Fin 6144)) := by
  pointwise [RH3]
  try exact congrArg (fun q => RU m c (ix2 s q)) (Fin.ext (Nat.add_assoc _ _ _).symm)
theorem RH4_at (a : Fin 8) (s : Fin 2048) (d : Fin 128) :
    RH4 m c (ix3 a s d) = RU m c (ix2 s (⟨4096 + a.val * 128 + d.val, by omega⟩ : Fin 6144)) := by
  pointwise [RH4]
  try exact congrArg (fun q => RU m c (ix2 s q)) (Fin.ext (Nat.add_assoc _ _ _).symm)
theorem RH5_at (a : Fin 8) (s : Fin 2048) (d : Fin 128) :
    RH5 m c (ix3 a s d) = RU m c (ix2 s (⟨5120 + a.val * 128 + d.val, by omega⟩ : Fin 6144)) := by
  pointwise [RH5]
  try exact congrArg (fun q => RU m c (ix2 s q)) (Fin.ext (Nat.add_assoc _ _ _).symm)

/-- The angle at row `s` and frequency `f`. -/
def angle (s : Fin 2048) (f : Fin 64) : EReal :=
  FloatOps.sitofp (F := Ideal) FTy.f32 (BitVec.ofNat 32 s.val) *
    Ideal.pow (Ideal.ofBits FTy.f32 1176256512#32)
      (Ideal.div (-(Ideal.ofBits FTy.f32 1073741824#32 * FloatOps.sitofp (F := Ideal) FTy.f32 (BitVec.ofNat 32 f.val)))
        (Ideal.ofBits FTy.f32 1124073472#32))
/-- Column `n`, the column number taken modulo the width so that it is always one. -/
def colm (U : Fin 2048 → Fin 6144 → EReal) (s : Fin 2048) (n : ℕ) : EReal := U s ⟨n % 6144, Nat.mod_lt _ (by norm_num)⟩
/-- Frequency of a column. -/
def freq (n : ℕ) : Fin 64 := ⟨n % 64, Nat.mod_lt _ (by norm_num)⟩
/-- The projection with the rotary embedding on its fourth and fifth parts, at row `s` and column `n`. -/
def rotary (U : Fin 2048 → Fin 6144 → EReal) (s : Fin 2048) (n : ℕ) : EReal :=
  if 3072 ≤ n ∧ n < 5120 then
    if n % 128 < 64 then
      colm U s n * Ideal.cos (angle s (freq n)) - colm U s (n + 64) * Ideal.sin (angle s (freq n))
    else colm U s n * Ideal.cos (angle s (freq n)) + colm U s (n - 64) * Ideal.sin (angle s (freq n))
  else colm U s n
theorem RC_at (s : Fin 2048) (f : Fin 64) : RC (ix2 s f) = Ideal.cos (angle s f) := by
  pointwise [RC, angle]
theorem RS_at (s : Fin 2048) (f : Fin 64) : RS (ix2 s f) = Ideal.sin (angle s f) := by
  pointwise [RS, angle]
/-- The rotary embedding at an entry. -/
theorem RR_at (X : FVec Ideal S8x2048x128 .f32) (a : Fin 8) (s : Fin 2048) (d : Fin 128) : RR X (ix3 a s d)
    = if h : d.val < 64 then X (ix3 a s d) * RC (ix2 s ⟨d.val, h⟩) - X (ix3 a s (⟨64 + d.val, by omega⟩ : Fin 128)) * RS (ix2 s ⟨d.val, h⟩)
      else X (ix3 a s (⟨64 + (d.val - 64), by omega⟩ : Fin 128)) * RC (ix2 s (⟨d.val - 64, by omega⟩ : Fin 64)) + X (ix3 a s (⟨d.val - 64, by omega⟩ : Fin 128)) * RS (ix2 s (⟨d.val - 64, by omega⟩ : Fin 64)) := by
  pointwise [RR]
/-- A column by its number. -/
theorem col_eq (U : Fin 2048 → Fin 6144 → EReal) (s : Fin 2048) (q : Fin 6144) (n : ℕ) (h : q.val = n) : U s q = colm U s n :=
  congrArg (U s) (Fin.ext (by subst h; exact (Nat.mod_eq_of_lt q.isLt).symm))
/-- The rotary embedding of the part starting at column `b` is `rotary`. -/
theorem RR_col (X : FVec Ideal S8x2048x128 .f32) (b : ℕ) (hb : b = 3072 ∨ b = 4096)
    (hX : ∀ (a : Fin 8) (s : Fin 2048) (d : Fin 128), X (ix3 a s d) = colm (fun s q => RU m c (ix2 s q)) s (b + a.val * 128 + d.val))
    (a : Fin 8) (s : Fin 2048) (d : Fin 128) :
    RR X (ix3 a s d) = rotary (fun s q => RU m c (ix2 s q)) s (b + a.val * 128 + d.val) := by
  rw [RR_at, rotary, if_pos (by omega)]
  have e : (b + a.val * 128 + d.val) % 128 = d.val := by omega
  rw [e]
  split
  · next h =>
    rw [hX, hX, RC_at, RS_at]
    have e1 : (⟨d.val, h⟩ : Fin 64) = freq (b + a.val * 128 + d.val) := Fin.ext (by simp only [freq]; omega)
    have e2 : b + a.val * 128 + (64 + d.val) = b + a.val * 128 + d.val + 64 := by omega
    rw [e1, e2]
  · next h =>
    rw [hX, hX, RC_at, RS_at]
    have e1 : (⟨d.val - 64, by omega⟩ : Fin 64) = freq (b + a.val * 128 + d.val) := Fin.ext (by simp only [freq]; omega)
    have e2 : b + a.val * 128 + (64 + (d.val - 64)) = b + a.val * 128 + d.val := by omega
    have e3 : b + a.val * 128 + (d.val - 64) = b + a.val * 128 + d.val - 64 := by omega
    rw [e1, e2, e3]
/-- The other parts are the projection itself. -/
theorem rot_plain (U : Fin 2048 → Fin 6144 → EReal) (s : Fin 2048) (n : ℕ) (h : ¬(3072 ≤ n ∧ n < 5120)) : rotary U s n = colm U s n := if_neg h
theorem res_at (j : Fin 6) (s : Fin 2048) (p : Fin 1024) : RES m c (ix3 j s p) = rotary (fun s q => RU m c (ix2 s q)) s (j.val * 1024 + p.val) := by
  pointwise [RES]
  by_cases h0 : j.val < 1
  · refine (dif_pos h0).trans ?_
    exact ((RH0_at m c _ _ _).trans (col_eq (fun s q => RU m c (ix2 s q)) s _ _ (by show 0 + p.val / 128 * 128 + p.val % 128 = _; omega))).trans (rot_plain _ _ _ (by omega)).symm
  refine (dif_neg h0).trans ?_
  by_cases h1 : j.val - 1 < 1
  · refine (dif_pos h1).trans ?_
    exact ((RH1_at m c _ _ _).trans (col_eq (fun s q => RU m c (ix2 s q)) s _ _ (by show 1024 + p.val / 128 * 128 + p.val % 128 = _; omega))).trans (rot_plain _ _ _ (by omega)).symm
  refine (dif_neg h1).trans ?_
  by_cases h2 : j.val - 1 - 1 < 1
  · refine (dif_pos h2).trans ?_
    exact ((RH2_at m c _ _ _).trans (col_eq (fun s q => RU m c (ix2 s q)) s _ _ (by show 2048 + p.val / 128 * 128 + p.val % 128 = _; omega))).trans (rot_plain _ _ _ (by omega)).symm
  refine (dif_neg h2).trans ?_
  by_cases h3 : j.val - 1 - 1 - 1 < 1
  · refine (dif_pos h3).trans ?_
    exact (RR_col (m := m) (c := c) (RH3 m c) 3072 (by omega)
      (fun a s d => (RH3_at m c a s d).trans (col_eq (fun s q => RU m c (ix2 s q)) s _ _ rfl)) _ _ _).trans
      (congrArg (rotary (fun s q => RU m c (ix2 s q)) s) (by show 3072 + p.val / 128 * 128 + p.val % 128 = _; omega))
  refine (dif_neg h3).trans ?_
  by_cases h4 : j.val - 1 - 1 - 1 - 1 < 1
  · refine (dif_pos h4).trans ?_
    exact (RR_col (m := m) (c := c) (RH4 m c) 4096 (by omega)
      (fun a s d => (RH4_at m c a s d).trans (col_eq (fun s q => RU m c (ix2 s q)) s _ _ rfl)) _ _ _).trans
      (congrArg (rotary (fun s q => RU m c (ix2 s q)) s) (by show 4096 + p.val / 128 * 128 + p.val % 128 = _; omega))
  refine (dif_neg h4).trans ?_
  exact ((RH5_at m c _ _ _).trans (col_eq (fun s q => RU m c (ix2 s q)) s _ _ (by show 5120 + p.val / 128 * 128 + p.val % 128 = _; omega))).trans (rot_plain _ _ _ (by omega)).symm

end Cert.QkvRefIdeal.Value

end
-- ==== Proof.Qkv.lean ====
/- The call `qkv_proj`: the six projections of a row and the rotary embedding of two of them. -/
module

public import proofs.«01_k».proof.Defs
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.QkvRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.QkvIdeal.Value

open Cert.QkvIdeal Cert.QkvIdeal.Gen
open Cert.QkvRefIdeal.Value (angle freq colm rotary)

variable (m : (ℓ : Loc nD τ sig) → Buf (Elt Ideal) ℓ)

/-- Which block every grid point takes of each array. -/
theorem idx : ∀ t : Fin cfg0.N, win0_0.index t = ![0, 0] ∧ win0_1.index t = ![0, t.val] ∧ win0_2.index t = ![0, 0]
    ∧ win0_3.index t = ![0, 0] ∧ win0_4.index t = ![t.val / 4, 0, t.val % 4] :=
  (by decide +kernel : ∀ t : Fin grid0.N, _)

/-- The product of the rows and the matrix. -/
def U (X : FVec Ideal S2048x2048 .bf16) (Y : FVec Ideal S2048x6144 .bf16) (s : Fin 2048) (q : Fin 6144) : EReal :=
  ∑ k : Fin 2048, X (ix2 s k) * Y (ix2 k q)

/-- The array the call returns. -/
def G (X : FVec Ideal S2048x2048 .bf16) (Y : FVec Ideal S2048x6144 .bf16) : FVec Ideal S6x2048x1024 .bf16 :=
  fun y => rotary (U X Y) (y 1) ((y 0).val * 1024 + (y 2).val)

/-- The table of cosines, repeated. -/
theorem tabC (c : Dev nD) (t : Fin cfg0.N) (s : Fin 2048) (d : Fin 128) :
    iblk m c 2 t (ix2 s d) = Ideal.cos (angle s (freq d.val)) := by
  have e : (win0_2.blk t).view.emb (ix2 s d) = ix2 s d := by blk_ext [idx t]
  refine (congrArg (V m c main_v18) e).trans ?_
  entry_read
  pointwise [angle, freq]
  split
  · next h => rw [Nat.mod_eq_of_lt h]
  · next h => rw [show d.val % 64 = d.val - 64 by omega]

/-- The table of sines, first with the opposite sign. -/
theorem tabS (c : Dev nD) (t : Fin cfg0.N) (s : Fin 2048) (d : Fin 128) :
    iblk m c 3 t (ix2 s d) = if d.val < 64 then -Ideal.sin (angle s (freq d.val)) else Ideal.sin (angle s (freq d.val)) := by
  have e : (win0_3.blk t).view.emb (ix2 s d) = ix2 s d := by blk_ext [idx t]
  refine (congrArg (V m c main_v20) e).trans ?_
  entry_read
  pointwise [angle, freq]
  split
  · next h => rw [Nat.mod_eq_of_lt h]
  · next h => rw [show d.val % 64 = d.val - 64 by omega]

/-- A column of the product in a block. -/
theorem prod_at (c : Dev nD) (t : Fin cfg0.N) (s : Fin 2048) (l : Fin 256) :
    k0_pay1 (F := Ideal) (iblk m c 0 t) (iblk m c 1 t) (ix2 s l)
      = colm (U (m ((c : Thread nD τ).loc main_arg0)) (m ((c : Thread nD τ).loc main_arg1))) s (t.val * 256 + l.val) := by
  have ht : t.val < 24 := lt_of_lt_of_eq t.isLt N_0
  refine Eq.trans ?_ (Cert.QkvRefIdeal.Value.col_eq _ s (⟨t.val * 256 + l.val, by omega⟩ : Fin 6144) _ rfl)
  pointwise [k0_pay1, U]
  blk_point [iblk, V, idx t]

/-- The first half of a block, a head of 128 columns turned by the tables. -/
theorem pay2_at (A : FVec Ideal S2048x2048 .bf16) (B : FVec Ideal S2048x256 .bf16) (C S : FVec Ideal S2048x128 .f32)
    (s : Fin 2048) (d : Fin 128) : (k0_pay2 (F := Ideal) A B C S (ix3 0 s d) : EReal)
      = k0_pay1 (F := Ideal) A B (ix2 s (⟨d.val, by omega⟩ : Fin 256)) * C (ix2 s d)
        + k0_pay1 (F := Ideal) A B (ix2 s (⟨(d.val + 128 - 64) % 128, by omega⟩ : Fin 256)) * S (ix2 s d) := by
  pointwise [k0_pay2]
/-- The second half. -/
theorem pay3_at (A : FVec Ideal S2048x2048 .bf16) (B : FVec Ideal S2048x256 .bf16) (C S : FVec Ideal S2048x128 .f32)
    (s : Fin 2048) (d : Fin 128) : (k0_pay3 (F := Ideal) A B C S (ix3 0 s d) : EReal)
      = k0_pay1 (F := Ideal) A B (ix2 s (⟨128 + d.val, by omega⟩ : Fin 256)) * C (ix2 s d)
        + k0_pay1 (F := Ideal) A B (ix2 s (⟨128 + (d.val + 128 - 64) % 128, by omega⟩ : Fin 256)) * S (ix2 s d) := by
  pointwise [k0_pay3]

/-- A head turned by the tables is the rotary embedding of its columns. -/
theorem turned (V : Fin 2048 → Fin 6144 → EReal) (s : Fin 2048) (b : ℕ) (d : Fin 128) (hb : b % 128 = 0) (h1 : 3072 ≤ b) (h2 : b < 5120) :
    colm V s (b + d.val) * Ideal.cos (angle s (freq d.val))
      + colm V s (b + (d.val + 64) % 128) * (if d.val < 64 then -Ideal.sin (angle s (freq d.val)) else Ideal.sin (angle s (freq d.val)))
      = rotary V s (b + d.val) := by
  have ef : freq (b + d.val) = freq d.val := Fin.ext (by simp only [freq]; omega)
  rw [rotary, if_pos (show 3072 ≤ b + d.val ∧ b + d.val < 5120 by omega), ef]
  by_cases h : d.val < 64
  · rw [if_pos h, if_pos (show (b + d.val) % 128 < 64 by omega), show b + (d.val + 64) % 128 = b + d.val + 64 by omega, sub_eq_add_neg, mul_neg]
  · rw [if_neg h, if_neg (show ¬(b + d.val) % 128 < 64 by omega), show b + (d.val + 64) % 128 = b + d.val - 64 by omega]

/-- The result array after the run. -/
theorem final (c : Dev nD) : (dats m 0 c).arrAt 4 cfg0.N
    = G (m ((c : Thread nD τ).loc main_arg0)) (m ((c : Thread nD τ).loc main_arg1)) := by
  refine (dats m 0 c).arrAt_eq_of_covers 4 _ (by decide +kernel) fun t _ y => ?_
  have ht : t.val < 24 := lt_of_lt_of_eq t.isLt N_0
  obtain ⟨z, s, l, rfl⟩ : ∃ (a : Fin 1) (b : Fin 2048) (d : Fin 256), y = ix3 a b d := ⟨y 0, y 1, y 2, eq_ix3 y⟩
  obtain rfl : z = 0 := Subsingleton.elim _ _
  have eG : G (m ((c : Thread nD τ).loc main_arg0)) (m ((c : Thread nD τ).loc main_arg1)) ((win0_4.blk t).view.emb (ix3 0 s l))
      = rotary (U (m ((c : Thread nD τ).loc main_arg0)) (m ((c : Thread nD τ).loc main_arg1))) s (t.val * 256 + l.val) := by
    have e : (win0_4.blk t).view.emb (ix3 0 s l) = ix3 (⟨t.val / 4, by omega⟩ : Fin 6) s (⟨t.val % 4 * 256 + l.val, by omega⟩ : Fin 1024) := by
      blk_ext [idx t]
    rw [e]
    refine congrArg (rotary _ s) ?_
    show t.val / 4 * 1024 + (t.val % 4 * 256 + l.val) = _
    omega
  refine Eq.trans ?_ eG.symm
  blk_simp
  rw [after0_4]
  by_cases h : 12 ≤ t.val % 24 ∧ t.val % 24 ≤ 19
  · rw [outsAt0_B m c t h (not_not.mpr h)]
    frame_out
    canon_tiles x hx
    · obtain ⟨xz, xs, xd, rfl⟩ : ∃ (a : Fin 1) (b : Fin 2048) (d : Fin 128), x = ix3 a b d := ⟨x 0, x 1, x 2, eq_ix3 x⟩
      obtain rfl : xz = 0 := Subsingleton.elim _ _
      obtain rfl : s = xs := Fin.ext hx1
      have el : l.val = 128 + xd.val := hx2
      refine (pay3_at _ _ _ _ _ _).trans ?_
      rw [prod_at, prod_at, tabC, tabS, show t.val * 256 + l.val = t.val * 256 + 128 + xd.val by omega]
      refine Eq.trans ?_ (turned _ s (t.val * 256 + 128) xd (by omega) (by omega) (by omega))
      refine congrArg₂ (fun a b => colm _ s a * _ + colm _ s b * _) ?_ ?_ <;> (dsimp only; try omega)
    · obtain ⟨xz, xs, xd, rfl⟩ : ∃ (a : Fin 1) (b : Fin 2048) (d : Fin 128), x = ix3 a b d := ⟨x 0, x 1, x 2, eq_ix3 x⟩
      obtain rfl : xz = 0 := Subsingleton.elim _ _
      obtain rfl : s = xs := Fin.ext hx1
      have el : l.val = xd.val := hx2
      refine (pay2_at _ _ _ _ _ _).trans ?_
      rw [prod_at, prod_at, tabC, tabS, show t.val * 256 + l.val = t.val * 256 + xd.val by omega]
      refine Eq.trans ?_ (turned _ s (t.val * 256) xd (by omega) (by omega) (by omega))
      refine congrArg₂ (fun a b => colm _ s a * _ + colm _ s b * _) ?_ ?_ <;> (dsimp only; try omega)
  · rw [outsAt0_A m c t h h]
    frame_out
    refine Eq.trans (b := k0_pay1 (F := Ideal) (iblk m c 0 t) (iblk m c 1 t) (ix2 s l)) ?_ ((prod_at m c t s l).trans (Cert.QkvRefIdeal.Value.rot_plain _ _ _ (by omega)).symm)
    pointwise [k0_pay4]

end Cert.QkvIdeal.Value

namespace Cert.Qkv

open Cert.QkvRefIdeal.Value in
/-- The reference's projection is the product. -/
theorem proj_eq (m : (ℓ : Loc Cert.QkvRefIdeal.nD Cert.QkvRefIdeal.τ Cert.QkvRefIdeal.sig) → Buf (Elt Ideal) ℓ) (c : Dev Cert.QkvRefIdeal.nD) :
    (fun s q => RU m c (ix2 s q)) = Cert.QkvIdeal.Value.U (B0 m c) (B1 m c) := by
  funext s q
  exact RU_at m c s q

open Cert.QkvRefIdeal.Value in
/-- The reference's result is the array the call returns. -/
theorem value_eq (m : (ℓ : Loc Cert.QkvRefIdeal.nD Cert.QkvRefIdeal.τ Cert.QkvRefIdeal.sig) → Buf (Elt Ideal) ℓ) (c : Dev Cert.QkvRefIdeal.nD) :
    Cert.QkvIdeal.Value.G (B0 m c) (B1 m c) = RES m c := by
  funext y
  obtain ⟨j, s, p, rfl⟩ : ∃ (a : Fin 6) (b : Fin 2048) (d : Fin 1024), y = ix3 a b d := ⟨y 0, y 1, y 2, eq_ix3 y⟩
  refine Eq.trans ?_ (res_at m c j s p).symm
  rw [proj_eq]
  exact rfl

/-- The call runs to an end, keeps its arguments and leaves every semaphore at zero. -/
theorem quiescent : Cert.quiescent_Qkv := fun m g _ => Cert.Qkv.Gen.frame m g

/-- So does the idealized call. -/
theorem quiescent_ideal : Cert.quiescent_QkvIdeal := fun m g _ => Cert.QkvIdeal.Gen.frame m g

/-- So does its reference. -/
theorem quiescent_ref : Cert.quiescent_QkvRefIdeal := fun m g _ =>
  (θ_run Cert.QkvRefIdeal.defs _ _).mono (fun r h => ⟨fun c => (h c).2, sem_eq_zero_of_no_sems (by decide) r.2⟩)
    (Cert.QkvRefIdeal.Value.run (F := Ideal) m g)

/-- The call's result is the reference's. -/
theorem algebraic : Cert.algebraic_QkvIdeal_QkvRefIdeal := by
  intro m g m' g' _ hagree
  refine ⟨_, Cert.QkvIdeal.Value.run_blocks m g, ?_⟩
  refine (θ_run Cert.QkvRefIdeal.defs _ _).mono (fun _ h c => ⟨(h c).1.trans ?_, (h c).2⟩)
    (Cert.QkvRefIdeal.Value.run (F := Ideal) m' g')
  refine ((Cert.QkvRefIdeal.Value.res_eq m' c).trans (value_eq m' c).symm).trans (Eq.trans ?_ (Cert.QkvIdeal.Value.final m c).symm)
  exact congrArg₂ Cert.QkvIdeal.Value.G (hagree c).1 (hagree c).2

end Cert.Qkv

end
-- ==== Proof.DWin.lean ====
/- The call `d_w_in`: the gradient of the input projection's weight. -/
module

public import proofs.«01_k».proof.Defs
public import proofs.«01_k».proof.Proof.Gen.DWin.Frame
public import proofs.«01_k».proof.Proof.Gen.DWinIdeal.Frame
public import proofs.«01_k».proof.Proof.Gen.DWinRefIdeal
public import proofs.«01_k».proof.Proof.Gen.DWinRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DWinIdeal.Value

open Cert.DWinIdeal Cert.DWinIdeal.Gen

variable (m : (ℓ : Loc nD τ sig) → Buf (Elt Ideal) ℓ)

/-- Which block every grid point takes of each array. -/
theorem idx : ∀ t : Fin cfg0.N, win0_0.index t = ![0, 0] ∧ win0_1.index t = ![t.val / 2, 0, t.val % 2] ∧ win0_2.index t = ![0, t.val] :=
  (by decide +kernel : ∀ t : Fin grid0.N, _)

/-- The group a column of the gradient lies in. -/
def grp (j : Fin 6144) : Fin 6 := ⟨(j : ℕ) / 1024, by omega⟩

/-- Its place in the group. -/
def off (j : Fin 6144) : Fin 1024 := ⟨(j : ℕ) % 1024, Nat.mod_lt _ (by decide)⟩

/-- The array the call returns: at (i, j) the sum over the tokens of the products of column i of the activations and column j of the gradient, whose
    6144 columns come in six groups. -/
def G (X : FVec Ideal S2048x2048 .bf16) (Y : FVec Ideal S6x2048x1024 .bf16) : FVec Ideal S2048x6144 .bf16 :=
  fun y => ∑ s : Fin 2048, X (ix2 s (y 0)) * Y (ix3 (grp (y 1)) s (off (y 1)))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, G]
  blk_point [iblk, V, idx t, grp, off]

end Cert.DWinIdeal.Value

namespace Cert.DWin

/-- The call runs to an end, keeps its arguments and leaves every semaphore at zero. -/
theorem quiescent : Cert.quiescent_DWin := fun m g _ => Cert.DWin.Gen.frame m g

/-- So does the idealized call. -/
theorem quiescent_ideal : Cert.quiescent_DWinIdeal := fun m g _ => Cert.DWinIdeal.Gen.frame m g

/-- So does its reference. -/
theorem quiescent_ref : Cert.quiescent_DWinRefIdeal := fun m g _ =>
  (θ_run Cert.DWinRefIdeal.defs _ _).mono (fun r h => ⟨fun c => (h c).2, sem_eq_zero_of_no_sems (by decide) r.2⟩)
    (Cert.DWinRefIdeal.Value.run (F := Ideal) m g)

/-- The call's result is the reference's. -/
theorem algebraic : Cert.algebraic_DWinIdeal_DWinRefIdeal := by
  pair_intro
  · run_from Cert.DWinIdeal.Gen.run_main m g
  · hlo_run
    rw [Cert.DWinIdeal.Value.final m]
    funext y
    pointwise [Cert.DWinIdeal.Value.G]
    exact Fin.sum_fin_congr fun _ => mul_comm (G := EReal) _ _

end Cert.DWin
-- ==== Proof.DH1.lean ====
/- The call `d_h1`: the gradient at the input projection's input, its 6144 terms added in six steps. -/
module

public import proofs.«01_k».proof.Defs
public import proofs.«01_k».proof.Proof.Gen.DH1.Frame
public import proofs.«01_k».proof.Proof.Gen.DH1Ideal.Frame
public import proofs.«01_k».proof.Proof.Gen.DH1RefIdeal
public import proofs.«01_k».proof.Proof.Gen.DH1RefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DH1Ideal.Value

open Cert.DH1Ideal Cert.DH1Ideal.Gen

variable (m : (ℓ : Loc nD τ sig) → Buf (Elt Ideal) ℓ)

/-- Which block every grid point takes of each array. -/
theorem idx : ∀ t : Fin cfg0.N, win0_0.index t = ![t.val % 6, 0, 0] ∧ win0_1.index t = ![t.val / 6, t.val % 6] ∧ win0_2.index t = ![0, t.val / 6] :=
  (by decide +kernel : ∀ t : Fin grid0.N, _)

/-- The array the call returns: the product of the gradient, whose 6144 columns come in six groups, with the weight's transpose. -/
def G (X : FVec Ideal S6x2048x1024 .bf16) (Y : FVec Ideal S2048x6144 .bf16) : FVec Ideal S2048x2048 .f32 :=
  fun y => ∑ k : Fin 6144, X (ix3 ⟨(k : ℕ) / 1024, by omega⟩ (y 0) ⟨(k : ℕ) % 1024, Nat.mod_lt _ (by decide)⟩) * Y (ix2 (y 1) k)

/-- One step's product of the two blocks. -/
theorem pay_first (x0 : Vec Ideal S1x2048x1024 .bf16) (x1 : Vec Ideal S512x1024 .bf16) (i) :
    k0_pay2 x0 x1 i = 0 + ∑ k : Fin 1024, x0 (ix3 0 (i 0) k) * x1 (ix2 (i 1) k) := by
  pointwise [k0_pay2, k0_pay1]

/-- A later step adds its product to what the steps before it left. -/
theorem pay_next (x0 : Vec Ideal S1x2048x1024 .bf16) (x1 : Vec Ideal S512x1024 .bf16) (acc acc' : Vec Ideal S2048x512 .f32)
    (h : acc = acc') (i) : k0_pay3 x0 x1 acc i = acc' i + ∑ k : Fin 1024, x0 (ix3 0 (i 0) k) * x1 (ix2 (i 1) k) := by
  subst h
  pointwise [k0_pay3, k0_pay1]

/-- At the last step of a block the output is what the accumulator holds. -/
theorem out_eq (c : Dev nD) (t : Fin cfg0.N) (h : t.val % 6 = 5) :
    (outsAt0 m c t.val t.isLt).1 = (outsAt0 m c t.val t.isLt).2 := by
  rw [outsAt0_C m c t (by omega) (by omega) h]; frame_out

/-- The accumulator of a block at its first step, over zero. -/
theorem acc_first (c : Dev nD) (t : Fin cfg0.N) (h : t.val % 6 = 0) (i) :
    (outsAt0 m c t.val t.isLt).2 i = (fun _ => (0 : EReal)) i + ∑ k : Fin 1024, (show Vec Ideal S1x2048x1024 .bf16 from iblk m c 0 t) (ix3 0 (i 0) k) * (show Vec Ideal S512x1024 .bf16 from iblk m c 1 t) (ix2 (i 1) k) := by
  rw [outsAt0_A m c t h (by omega) (by omega)]; frame_out
  exact pay_first _ _ i

/-- The accumulator of a block at a later step. -/
theorem acc_next (c : Dev nD) (t : Fin cfg0.N) (h : ¬ t.val % 6 = 0) (i) :
    (outsAt0 m c t.val t.isLt).2 i
      = (outsAt0 m c (t.val - 1) (Nat.lt_of_le_of_lt (Nat.sub_le _ _) t.isLt)).2 i + ∑ k : Fin 1024, (show Vec Ideal S1x2048x1024 .bf16 from iblk m c 0 t) (ix3 0 (i 0) k) * (show Vec Ideal S512x1024 .bf16 from iblk m c 1 t) (ix2 (i 1) k) := by
  by_cases h2 : t.val % 6 = 5
  · rw [outsAt0_C m c t h (by omega) h2]; frame_out
    exact pay_next _ _ _ _ (Memref.IsWhole.read_unread _ _) i
  · rw [outsAt0_B m c t h (by omega) h2]; frame_out
    exact pay_next _ _ _ _ (Memref.IsWhole.read_unread _ _) i

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 6 (fun _ => 0)
      (fun t i => ∑ k : Fin 1024, (show Vec Ideal S1x2048x1024 .bf16 from iblk m c 0 t) (ix3 0 (i 0) k) * (show Vec Ideal S512x1024 .bf16 from iblk m c 1 t) (ix2 (i 1) k)) (fun t h i => acc_first m c t h i) (fun t h i => acc_next m c t h i) t ((flush0_2 t).mp hf) _,
    zero_add]
  unfold G
  refine Fin.sum_mul_add_congr fun s k hl => ?_
  blk_point [iblk, V, idx t, idx ⟨_, Pipeline.run_point_lt_of_flush t ((flush0_2 t).mp hf) s⟩]

end Cert.DH1Ideal.Value

namespace Cert.DH1

/-- The call runs to an end, keeps its arguments and leaves every semaphore at zero. -/
theorem quiescent : Cert.quiescent_DH1 := fun m g _ => Cert.DH1.Gen.frame m g

/-- So does the idealized call. -/
theorem quiescent_ideal : Cert.quiescent_DH1Ideal := fun m g _ => Cert.DH1Ideal.Gen.frame m g

/-- So does its reference. -/
theorem quiescent_ref : Cert.quiescent_DH1RefIdeal := fun m g _ =>
  (θ_run Cert.DH1RefIdeal.defs _ _).mono (fun r h => ⟨fun c => (h c).2, sem_eq_zero_of_no_sems (by decide) r.2⟩)
    (Cert.DH1RefIdeal.Value.run (F := Ideal) m g)

/-- The call's result is the reference's. -/
theorem algebraic : Cert.algebraic_DH1Ideal_DH1RefIdeal := by
  pair_intro
  · run_from Cert.DH1Ideal.Gen.run_main m g
  · hlo_run
    rw [Cert.DH1Ideal.Value.final m]
    funext y
    pointwise [Cert.DH1Ideal.Value.G]

end Cert.DH1
-- ==== Proof.Mix.lean ====
/- The call `mix_out`: the output projection. -/
module

public import proofs.«01_k».proof.Defs
public import proofs.«01_k».proof.Proof.Gen.Mix.Frame
public import proofs.«01_k».proof.Proof.Gen.MixIdeal.Frame
public import proofs.«01_k».proof.Proof.Gen.MixRefIdeal
public import proofs.«01_k».proof.Proof.Gen.MixRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixIdeal.Value

open Cert.MixIdeal Cert.MixIdeal.Gen

variable (m : (ℓ : Loc nD τ sig) → Buf (Elt Ideal) ℓ)

/-- Which block every grid point takes of each array. -/
theorem idx : ∀ t : Fin cfg0.N, win0_0.index t = ![0, 0] ∧ win0_1.index t = ![0, t.val] ∧ win0_2.index t = ![0, t.val] :=
  (by decide +kernel : ∀ t : Fin grid0.N, _)

/-- The array the call returns: the product of the two matrices. -/
def G (X : FVec Ideal S2048x2048 .bf16) (Y : FVec Ideal S2048x2048 .bf16) : FVec Ideal S2048x2048 .f32 :=
  fun y => ∑ k : Fin 2048, X (ix2 (y 0) k) * Y (ix2 k (y 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, G]
  blk_point [iblk, V, idx t]

end Cert.MixIdeal.Value

namespace Cert.Mix

/-- The call runs to an end, keeps its arguments and leaves every semaphore at zero. -/
theorem quiescent : Cert.quiescent_Mix := fun m g _ => Cert.Mix.Gen.frame m g

/-- So does the idealized call. -/
theorem quiescent_ideal : Cert.quiescent_MixIdeal := fun m g _ => Cert.MixIdeal.Gen.frame m g

/-- So does its reference. -/
theorem quiescent_ref : Cert.quiescent_MixRefIdeal := fun m g _ =>
  (θ_run Cert.MixRefIdeal.defs _ _).mono (fun r h => ⟨fun c => (h c).2, sem_eq_zero_of_no_sems (by decide) r.2⟩)
    (Cert.MixRefIdeal.Value.run (F := Ideal) m g)

/-- The call's result is the reference's. -/
theorem algebraic : Cert.algebraic_MixIdeal_MixRefIdeal := by
  pair_intro
  · run_from Cert.MixIdeal.Gen.run_main m g
  · hlo_run
    rw [Cert.MixIdeal.Value.final m]
    funext y
    pointwise [Cert.MixIdeal.Value.G]

end Cert.Mix
-- ==== Proof.DMixed.lean ====
/- The call `d_mixed`: the gradient at the output projection's input. -/
module

public import proofs.«01_k».proof.Defs
public import proofs.«01_k».proof.Proof.Gen.DMixed.Frame
public import proofs.«01_k».proof.Proof.Gen.DMixedIdeal.Frame
public import proofs.«01_k».proof.Proof.Gen.DMixedRefIdeal
public import proofs.«01_k».proof.Proof.Gen.DMixedRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DMixedIdeal.Value

open Cert.DMixedIdeal Cert.DMixedIdeal.Gen

variable (m : (ℓ : Loc nD τ sig) → Buf (Elt Ideal) ℓ)

/-- Which block every grid point takes of each array. -/
theorem idx : ∀ t : Fin cfg0.N, win0_0.index t = ![0, 0] ∧ win0_1.index t = ![t.val, 0] ∧ win0_2.index t = ![0, t.val] :=
  (by decide +kernel : ∀ t : Fin grid0.N, _)

/-- The array the call returns: the product of the first matrix with the transpose of the second. -/
def G (X : FVec Ideal S2048x2048 .bf16) (Y : FVec Ideal S2048x2048 .bf16) : FVec Ideal S2048x2048 .f32 :=
  fun y => ∑ k : Fin 2048, X (ix2 (y 0) k) * Y (ix2 (y 1) k)

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, G]
  blk_point [iblk, V, idx t]

end Cert.DMixedIdeal.Value

namespace Cert.DMixed

/-- The call runs to an end, keeps its arguments and leaves every semaphore at zero. -/
theorem quiescent : Cert.quiescent_DMixed := fun m g _ => Cert.DMixed.Gen.frame m g

/-- So does the idealized call. -/
theorem quiescent_ideal : Cert.quiescent_DMixedIdeal := fun m g _ => Cert.DMixedIdeal.Gen.frame m g

/-- So does its reference. -/
theorem quiescent_ref : Cert.quiescent_DMixedRefIdeal := fun m g _ =>
  (θ_run Cert.DMixedRefIdeal.defs _ _).mono (fun r h => ⟨fun c => (h c).2, sem_eq_zero_of_no_sems (by decide) r.2⟩)
    (Cert.DMixedRefIdeal.Value.run (F := Ideal) m g)

/-- The call's result is the reference's. -/
theorem algebraic : Cert.algebraic_DMixedIdeal_DMixedRefIdeal := by
  pair_intro
  · run_from Cert.DMixedIdeal.Gen.run_main m g
  · hlo_run
    rw [Cert.DMixedIdeal.Value.final m]
    funext y
    pointwise [Cert.DMixedIdeal.Value.G]

end Cert.DMixed
-- ==== Proof.DWout.lean ====
/- The call `d_w_out`: the gradient of the output projection's weight. -/
module

public import proofs.«01_k».proof.Defs
public import proofs.«01_k».proof.Proof.Gen.DWout.Frame
public import proofs.«01_k».proof.Proof.Gen.DWoutIdeal.Frame
public import proofs.«01_k».proof.Proof.Gen.DWoutRefIdeal
public import proofs.«01_k».proof.Proof.Gen.DWoutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DWoutIdeal.Value

open Cert.DWoutIdeal Cert.DWoutIdeal.Gen

variable (m : (ℓ : Loc nD τ sig) → Buf (Elt Ideal) ℓ)

/-- Which block every grid point takes of each array. -/
theorem idx : ∀ t : Fin cfg0.N, win0_0.index t = ![0, 0] ∧ win0_1.index t = ![0, t.val] ∧ win0_2.index t = ![0, t.val] :=
  (by decide +kernel : ∀ t : Fin grid0.N, _)

/-- The array the call returns: at (i, j) the sum over the tokens of the products of column i and column j. -/
def G (X : FVec Ideal S2048x2048 .bf16) (Y : FVec Ideal S2048x2048 .bf16) : FVec Ideal S2048x2048 .bf16 :=
  fun y => ∑ s : Fin 2048, X (ix2 s (y 0)) * Y (ix2 s (y 1))

/-- The result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, G]
  blk_point [iblk, V, idx t]

end Cert.DWoutIdeal.Value

namespace Cert.DWout

/-- The call runs to an end, keeps its arguments and leaves every semaphore at zero. -/
theorem quiescent : Cert.quiescent_DWout := fun m g _ => Cert.DWout.Gen.frame m g

/-- So does the idealized call. -/
theorem quiescent_ideal : Cert.quiescent_DWoutIdeal := fun m g _ => Cert.DWoutIdeal.Gen.frame m g

/-- So does its reference. -/
theorem quiescent_ref : Cert.quiescent_DWoutRefIdeal := fun m g _ =>
  (θ_run Cert.DWoutRefIdeal.defs _ _).mono (fun r h => ⟨fun c => (h c).2, sem_eq_zero_of_no_sems (by decide) r.2⟩)
    (Cert.DWoutRefIdeal.Value.run (F := Ideal) m g)

/-- The call's result is the reference's. -/
theorem algebraic : Cert.algebraic_DWoutIdeal_DWoutRefIdeal := by
  pair_intro
  · run_from Cert.DWoutIdeal.Gen.run_main m g
  · hlo_run
    rw [Cert.DWoutIdeal.Value.final m]
    funext y
    pointwise [Cert.DWoutIdeal.Value.G]
    exact Fin.sum_fin_congr fun _ => mul_comm (G := EReal) _ _

end Cert.DWout
-- ==== Proof.RMS.lean ====
/- The norm of a row, shared by the calls that apply it. -/
module

public import Idealize.ShloMosaic.Lib.Pipeline.ValueKit
public import Idealize.ShloMosaic.Lib.Pointwise

@[expose] public section

noncomputable section

open Idealize.ShloMosaic

namespace Cert.RMS

/-- The norm of one entry `v` of a row `r` of 2048 entries, scaled by the gain `g`. -/
def rowNorm (r : Fin 2048 → EReal) (v g : EReal) : EReal :=
  v * Ideal.rsqrt (Ideal.div (∑ k, r k * r k) (Ideal.ofBits .f32 0x45000000#32) + Ideal.ofBits .f32 0x358637BD#32) * g

/-- The same of a row of 128 entries, one head's. -/
def headNorm (r : Fin 128 → EReal) (v g : EReal) : EReal :=
  v * Ideal.rsqrt (Ideal.div (∑ k, r k * r k) (Ideal.ofBits .f32 0x43000000#32) + Ideal.ofBits .f32 0x358637BD#32) * g

end Cert.RMS
-- ==== Proof.Middle.lean ====
/- The two norms between the blocks of the forward pass. -/
module

public import proofs.«01_k».proof.Defs
public import proofs.«01_k».proof.Proof.RMS
public import proofs.«01_k».proof.Proof.Gen.Middle.Frame
public import proofs.«01_k».proof.Proof.Gen.MiddleIdeal.Frame
public import proofs.«01_k».proof.Proof.Gen.MiddleRefIdeal
public import proofs.«01_k».proof.Proof.Gen.MiddleRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MiddleIdeal.Value

open Cert.MiddleIdeal Cert.MiddleIdeal.Gen Cert.RMS

variable (m : (ℓ : Loc nD τ sig) → Buf (Elt Ideal) ℓ)

/-- Which block every grid point takes of each array. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- The first array the call returns: the input plus the norm of the block's output. -/
def X1 (X O : FVec Ideal S2048x2048 .f32) (g : FVec Ideal S1x2048 .f32) : FVec Ideal S2048x2048 .f32 :=
  fun y => X y + rowNorm (fun k => O (ix2 (y 0) k)) (O y) (g (ix2 0 (y 1)))

/-- The second: the norm of the first. -/
def H2 (X O : FVec Ideal S2048x2048 .f32) (g k : FVec Ideal S1x2048 .f32) : FVec Ideal S2048x2048 .bf16 :=
  fun y => rowNorm (fun j => X1 X O g (ix2 (y 0) j)) (X1 X O g y) (k (ix2 0 (y 1)))

/-- The first result after the run. -/
theorem first (c : Dev nD) : (dats m 0 c).arrAt 4 cfg0.N = X1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, X1, rowNorm]
  blk_point [iblk, V, idx t]

/-- The second result after the run. -/
theorem second (c : Dev nD) : (dats m 0 c).arrAt 5 cfg0.N = H2 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, H2, X1, rowNorm]
  blk_point [iblk, V, idx t]

end Cert.MiddleIdeal.Value

namespace Cert.Middle

/-- The call runs to an end, keeps its arguments and leaves every semaphore at zero. -/
theorem quiescent : Cert.quiescent_Middle := fun m g _ => Cert.Middle.Gen.frame m g

/-- So does the idealized call. -/
theorem quiescent_ideal : Cert.quiescent_MiddleIdeal := fun m g _ => Cert.MiddleIdeal.Gen.frame m g

/-- So does its reference. -/
theorem quiescent_ref : Cert.quiescent_MiddleRefIdeal := fun m g _ =>
  (θ_run Cert.MiddleRefIdeal.defs _ _).mono (fun r h => ⟨fun c => (h c).2.2, sem_eq_zero_of_no_sems (by decide) r.2⟩)
    (Cert.MiddleRefIdeal.Value.run (F := Ideal) m g)

/-- The call's results are the reference's. -/
theorem algebraic : Cert.algebraic_MiddleIdeal_MiddleRefIdeal := by
  pair_intro
  · run_from Cert.MiddleIdeal.Gen.run_main m g
  · hlo_run
    · rw [Cert.MiddleIdeal.Value.first m]
      funext y
      pointwise [Cert.MiddleIdeal.Value.X1, Cert.RMS.rowNorm]
    · rw [Cert.MiddleIdeal.Value.second m]
      funext y
      pointwise [Cert.MiddleIdeal.Value.H2, Cert.MiddleIdeal.Value.X1, Cert.RMS.rowNorm]

end Cert.Middle
-- ==== Proof.Norm.lean ====
/- The first norm of the forward pass. -/
module

public import proofs.«01_k».proof.Defs
public import proofs.«01_k».proof.Proof.RMS
public import proofs.«01_k».proof.Proof.Gen.Norm.Frame
public import proofs.«01_k».proof.Proof.Gen.NormIdeal.Frame
public import proofs.«01_k».proof.Proof.Gen.NormRefIdeal
public import proofs.«01_k».proof.Proof.Gen.NormRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NormIdeal.Value

open Cert.NormIdeal Cert.NormIdeal.Gen Cert.RMS

variable (m : (ℓ : Loc nD τ sig) → Buf (Elt Ideal) ℓ)

/-- Which block every grid point takes of each array. -/
theorem idx : ∀ t : Fin cfg0.N, win0_0.index t = ![t.val, 0] ∧ win0_1.index t = ![0, 0] ∧ win0_2.index t = ![t.val, 0] :=
  (by decide +kernel : ∀ t : Fin grid0.N, _)

/-- The array the call returns: every row's norm, scaled by the gain. -/
def G (X : FVec Ideal S2048x2048 .f32) (g : FVec Ideal S1x2048 .f32) : FVec Ideal S2048x2048 .bf16 :=
  fun y => rowNorm (fun k => X (ix2 (y 0) k)) (X y) (g (ix2 0 (y 1)))

/-- The result array after the run. -/
theorem final (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, G, rowNorm]
  blk_point [iblk, V, idx t]

end Cert.NormIdeal.Value

namespace Cert.Norm

/-- The call runs to an end, keeps its arguments and leaves every semaphore at zero. -/
theorem quiescent : Cert.quiescent_Norm := fun m g _ => Cert.Norm.Gen.frame m g

/-- So does the idealized call. -/
theorem quiescent_ideal : Cert.quiescent_NormIdeal := fun m g _ => Cert.NormIdeal.Gen.frame m g

/-- So does its reference. -/
theorem quiescent_ref : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

/-- The call's results are the reference's. -/
theorem algebraic : Cert.algebraic_NormIdeal_NormRefIdeal := by
  pair_intro
  · run_from Cert.NormIdeal.Gen.run_main m g
  · hlo_run
    rw [Cert.NormIdeal.Value.final m]
    funext y
    pointwise [Cert.NormIdeal.Value.G, Cert.RMS.rowNorm]

end Cert.Norm
-- ==== Proof.Adam.lean ====
/- The update of one weight entry, shared by the optimiser's calls. -/
module

public import Idealize.ShloMosaic.Lib.Pipeline.ValueKit
public import Idealize.ShloMosaic.Lib.Pointwise

@[expose] public section

noncomputable section

open Idealize.ShloMosaic

namespace Cert.Adam

/-- A rounded number of the program's text, exactly. -/
abbrev lit (w : BitVec 32) : EReal := Scalar.ofBits (F := Ideal) .f32 w

/-- The first moment: 0.9 of the old one and 0.1 of the gradient. -/
def moment1 (m g : EReal) : EReal := lit 0x3F666666#32 * m + lit 0x3DCCCCCD#32 * g

/-- The second moment: 0.999 of the old one and 0.001 of the gradient's square. -/
def moment2 (v g : EReal) : EReal := lit 0x3F7FBE77#32 * v + lit 0x3A83126F#32 * (g * g)

/-- The step of the weight, from the corrected moments and the decay. -/
def step (w m v g : EReal) : EReal :=
  lit 0xBA83126F#32 * (Ideal.div (Ideal.div (moment1 m g) (lit 0x3F26BD02#32)) (Ideal.sqrt (Ideal.div (moment2 v g) (lit 0x3C231ACC#32)) + lit 0x322BCC77#32)
    + lit 0x3C23D70A#32 * w)

end Cert.Adam
-- ==== Proof.AdamIn.lean ====
/- The optimiser's call on one device's part of the input projection's weight. -/
module

public import proofs.«01_k».proof.Defs
public import proofs.«01_k».proof.Proof.Adam
public import proofs.«01_k».proof.Proof.Gen.AdamIn.Frame
public import proofs.«01_k».proof.Proof.Gen.AdamInIdeal.Frame
public import proofs.«01_k».proof.Proof.Gen.AdamInRefIdeal
public import proofs.«01_k».proof.Proof.Gen.AdamInRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamInIdeal.Value

open Cert.AdamInIdeal Cert.AdamInIdeal.Gen Cert.Adam

variable (m : (ℓ : Loc nD τ sig) → Buf (Elt Ideal) ℓ)

/-- Which block every grid point takes of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient the update takes. -/
def grad (c : Dev nD) : FVec Ideal S2048x1536 .f32 := (m ((c : Thread nD τ).loc main_arg3))

/-- Result 0 after the run: the gradient, as it came. -/
theorem kept (c : Dev nD) : (dats m 0 c).arrAt 4 cfg0.N = fun y => grad m c y := by
  refine (dats m 0 c).arrAt_eq_of_covers 4 _ (by decide +kernel) fun t _ y => ?_
  blk_simp
  rw [after0_4]; frame_out
  pointwise [grad]
  blk_point [iblk, V, idx t]

/-- Result 1 after the run: the step of the weight. -/
theorem delta (c : Dev nD) : (dats m 0 c).arrAt 5 cfg0.N = fun y => step ((m ((c : Thread nD τ).loc main_arg0)) y) ((m ((c : Thread nD τ).loc main_arg1)) y) ((m ((c : Thread nD τ).loc main_arg2)) y) (grad m c y) := by
  refine (dats m 0 c).arrAt_eq_of_covers 5 _ (by decide +kernel) fun t _ y => ?_
  blk_simp
  rw [after0_5]; frame_out
  pointwise [step, moment1, moment2, k0_pay1, k0_pay2, k0_pay3, grad]
  blk_point [iblk, V, idx t]

/-- Result 2 after the run: the first moment. -/
theorem mean (c : Dev nD) : (dats m 0 c).arrAt 6 cfg0.N = fun y => moment1 ((m ((c : Thread nD τ).loc main_arg1)) y) (grad m c y) := by
  refine (dats m 0 c).arrAt_eq_of_covers 6 _ (by decide +kernel) fun t _ y => ?_
  blk_simp
  rw [after0_6]; frame_out
  pointwise [moment1, k0_pay1, grad]
  blk_point [iblk, V, idx t]

/-- Result 3 after the run: the second moment. -/
theorem square (c : Dev nD) : (dats m 0 c).arrAt 7 cfg0.N = fun y => moment2 ((m ((c : Thread nD τ).loc main_arg2)) y) (grad m c y) := by
  refine (dats m 0 c).arrAt_eq_of_covers 7 _ (by decide +kernel) fun t _ y => ?_
  blk_simp
  rw [after0_7]; frame_out
  pointwise [moment2, k0_pay2, grad]
  blk_point [iblk, V, idx t]

end Cert.AdamInIdeal.Value

namespace Cert.AdamIn

/-- The call runs to an end, keeps its arguments and leaves every semaphore at zero. -/
theorem quiescent : Cert.quiescent_AdamIn := fun m g _ => Cert.AdamIn.Gen.frame m g

/-- So does the idealized call. -/
theorem quiescent_ideal : Cert.quiescent_AdamInIdeal := fun m g _ => Cert.AdamInIdeal.Gen.frame m g

/-- So does its reference. -/
theorem quiescent_ref : Cert.quiescent_AdamInRefIdeal := fun m g _ =>
  (θ_run Cert.AdamInRefIdeal.defs _ _).mono (fun r h => ⟨fun c => (h c).2.2.2.2, sem_eq_zero_of_no_sems (by decide) r.2⟩)
    (Cert.AdamInRefIdeal.Value.run (F := Ideal) m g)

/-- The call's four results are the reference's. -/
theorem algebraic : Cert.algebraic_AdamInIdeal_AdamInRefIdeal := by
  pair_intro
  · run_from Cert.AdamInIdeal.Gen.run_main m g
  · hlo_run
    · rw [Cert.AdamInIdeal.Value.kept m]; funext y; pointwise [Cert.AdamInIdeal.Value.grad]
    · rw [Cert.AdamInIdeal.Value.delta m]; funext y
      pointwise [Cert.AdamInIdeal.Value.grad, Cert.Adam.step, Cert.Adam.moment1, Cert.Adam.moment2]
    · rw [Cert.AdamInIdeal.Value.mean m]; funext y; pointwise [Cert.AdamInIdeal.Value.grad, Cert.Adam.moment1]
    · rw [Cert.AdamInIdeal.Value.square m]; funext y; pointwise [Cert.AdamInIdeal.Value.grad, Cert.Adam.moment2]

end Cert.AdamIn
-- ==== Proof.AdamOut.lean ====
/- The optimiser's call on one device's part of the output projection's weight. -/
module

public import proofs.«01_k».proof.Defs
public import proofs.«01_k».proof.Proof.Adam
public import proofs.«01_k».proof.Proof.Gen.AdamOut.Frame
public import proofs.«01_k».proof.Proof.Gen.AdamOutIdeal.Frame
public import proofs.«01_k».proof.Proof.Gen.AdamOutRefIdeal
public import proofs.«01_k».proof.Proof.Gen.AdamOutRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamOutIdeal.Value

open Cert.AdamOutIdeal Cert.AdamOutIdeal.Gen Cert.Adam

variable (m : (ℓ : Loc nD τ sig) → Buf (Elt Ideal) ℓ)

/-- Which block every grid point takes of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The gradient the update takes. -/
def grad (c : Dev nD) : FVec Ideal S512x2048 .f32 := (m ((c : Thread nD τ).loc main_arg3))

/-- Result 0 after the run: the gradient, as it came. -/
theorem kept (c : Dev nD) : (dats m 0 c).arrAt 4 cfg0.N = fun y => grad m c y := by
  refine (dats m 0 c).arrAt_eq_of_covers 4 _ (by decide +kernel) fun t _ y => ?_
  blk_simp
  rw [after0_4]; frame_out
  pointwise [grad]
  blk_point [iblk, V, idx t]

/-- Result 1 after the run: the step of the weight. -/
theorem delta (c : Dev nD) : (dats m 0 c).arrAt 5 cfg0.N = fun y => step ((m ((c : Thread nD τ).loc main_arg0)) y) ((m ((c : Thread nD τ).loc main_arg1)) y) ((m ((c : Thread nD τ).loc main_arg2)) y) (grad m c y) := by
  refine (dats m 0 c).arrAt_eq_of_covers 5 _ (by decide +kernel) fun t _ y => ?_
  blk_simp
  rw [after0_5]; frame_out
  pointwise [step, moment1, moment2, k0_pay1, k0_pay2, k0_pay3, grad]
  blk_point [iblk, V, idx t]

/-- Result 2 after the run: the first moment. -/
theorem mean (c : Dev nD) : (dats m 0 c).arrAt 6 cfg0.N = fun y => moment1 ((m ((c : Thread nD τ).loc main_arg1)) y) (grad m c y) := by
  refine (dats m 0 c).arrAt_eq_of_covers 6 _ (by decide +kernel) fun t _ y => ?_
  blk_simp
  rw [after0_6]; frame_out
  pointwise [moment1, k0_pay1, grad]
  blk_point [iblk, V, idx t]

/-- Result 3 after the run: the second moment. -/
theorem square (c : Dev nD) : (dats m 0 c).arrAt 7 cfg0.N = fun y => moment2 ((m ((c : Thread nD τ).loc main_arg2)) y) (grad m c y) := by
  refine (dats m 0 c).arrAt_eq_of_covers 7 _ (by decide +kernel) fun t _ y => ?_
  blk_simp
  rw [after0_7]; frame_out
  pointwise [moment2, k0_pay2, grad]
  blk_point [iblk, V, idx t]

end Cert.AdamOutIdeal.Value

namespace Cert.AdamOut

/-- The call runs to an end, keeps its arguments and leaves every semaphore at zero. -/
theorem quiescent : Cert.quiescent_AdamOut := fun m g _ => Cert.AdamOut.Gen.frame m g

/-- So does the idealized call. -/
theorem quiescent_ideal : Cert.quiescent_AdamOutIdeal := fun m g _ => Cert.AdamOutIdeal.Gen.frame m g

/-- So does its reference. -/
theorem quiescent_ref : Cert.quiescent_AdamOutRefIdeal := fun m g _ =>
  (θ_run Cert.AdamOutRefIdeal.defs _ _).mono (fun r h => ⟨fun c => (h c).2.2.2.2, sem_eq_zero_of_no_sems (by decide) r.2⟩)
    (Cert.AdamOutRefIdeal.Value.run (F := Ideal) m g)

/-- The call's four results are the reference's. -/
theorem algebraic : Cert.algebraic_AdamOutIdeal_AdamOutRefIdeal := by
  pair_intro
  · run_from Cert.AdamOutIdeal.Gen.run_main m g
  · hlo_run
    · rw [Cert.AdamOutIdeal.Value.kept m]; funext y; pointwise [Cert.AdamOutIdeal.Value.grad]
    · rw [Cert.AdamOutIdeal.Value.delta m]; funext y
      pointwise [Cert.AdamOutIdeal.Value.grad, Cert.Adam.step, Cert.Adam.moment1, Cert.Adam.moment2]
    · rw [Cert.AdamOutIdeal.Value.mean m]; funext y; pointwise [Cert.AdamOutIdeal.Value.grad, Cert.Adam.moment1]
    · rw [Cert.AdamOutIdeal.Value.square m]; funext y; pointwise [Cert.AdamOutIdeal.Value.grad, Cert.Adam.moment2]

end Cert.AdamOut
-- ==== Proof.AdamUp.lean ====
/- The optimiser's call on one device's part of the feed-forward block's first weight. -/
module

public import proofs.«01_k».proof.Defs
public import proofs.«01_k».proof.Proof.Adam
public import proofs.«01_k».proof.Proof.Gen.AdamUp.Frame
public import proofs.«01_k».proof.Proof.Gen.AdamUpIdeal.Frame
public import proofs.«01_k».proof.Proof.Gen.AdamUpRefIdeal
public import proofs.«01_k».proof.Proof.Gen.AdamUpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamUpIdeal.Value

open Cert.AdamUpIdeal Cert.AdamUpIdeal.Gen Cert.Adam

variable (m : (ℓ : Loc nD τ sig) → Buf (Elt Ideal) ℓ)

/-- Which block every grid point takes of each array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- A row of the weight is a row of the gradient. -/
theorem row_lt (y : S2752x2048.Idx) : (y 0 : ℕ) < 2816 := lt_of_lt_of_le (y 0).isLt (by decide : 2752 ≤ 2816)

/-- The gradient the update takes. -/
def grad (c : Dev nD) : FVec Ideal S2752x2048 .f32 := fun y => (m ((c : Thread nD τ).loc main_arg3)) (ix2 ⟨(y 0 : ℕ), row_lt y⟩ (y 1))

/-- The whole block of the gradient a grid point takes: the array's last rows stay unread. -/
theorem block (c : Dev nD) (t : Fin cfg0.N) (y : S344x2048.Idx) :
    X0_3 m c t y = m ((c : Thread nD τ).loc main_arg3) (ix2 ⟨t.val * 344 + (y 0 : ℕ), by have := t.isLt; have := (y 0).isLt; have : cfg0.N = 8 := N_0; have : S344x2048.size 0 = 344 := rfl; omega⟩ (y 1)) := by
  have hc : ∀ t : Fin cfg0.N, ∀ a, (win0 3).clip (grid0.coords t) a = none := (by decide +kernel : ∀ t : Fin grid0.N, _)
  have hm : (win0 3).moved (grid0.coords t) y = true :=
    ((win0 3).moved_iff _ y).mpr fun a => by have := (y a).isLt; unfold Pipeline.Window.xsize; rw [hc t a]; exact this
  unfold X0_3 Pipeline.Window.fill
  rw [dif_pos hm]
  blk_point [iblk, V, idx t]

/-- Result 0 after the run: the gradient, as it came. -/
theorem kept (c : Dev nD) : (dats m 0 c).arrAt 4 cfg0.N = fun y => grad m c y := by
  refine (dats m 0 c).arrAt_eq_of_covers 4 _ (by decide +kernel) fun t _ y => ?_
  blk_simp
  rw [after0_4]; unfold outsAt0; frame_out
  rw [show X0_3 m c t = _ from funext (block m c t)]
  pointwise [grad]
  blk_point [iblk, V, idx t]

/-- Result 1 after the run: the step of the weight. -/
theorem delta (c : Dev nD) : (dats m 0 c).arrAt 5 cfg0.N = fun y => step ((m ((c : Thread nD τ).loc main_arg0)) y) ((m ((c : Thread nD τ).loc main_arg1)) y) ((m ((c : Thread nD τ).loc main_arg2)) y) (grad m c y) := by
  refine (dats m 0 c).arrAt_eq_of_covers 5 _ (by decide +kernel) fun t _ y => ?_
  blk_simp
  rw [after0_5]; unfold outsAt0; frame_out
  rw [show X0_3 m c t = _ from funext (block m c t)]
  pointwise [step, moment1, moment2, k0_pay1, k0_pay2, k0_pay3, grad]
  blk_point [iblk, V, idx t]

/-- Result 2 after the run: the first moment. -/
theorem mean (c : Dev nD) : (dats m 0 c).arrAt 6 cfg0.N = fun y => moment1 ((m ((c : Thread nD τ).loc main_arg1)) y) (grad m c y) := by
  refine (dats m 0 c).arrAt_eq_of_covers 6 _ (by decide +kernel) fun t _ y => ?_
  blk_simp
  rw [after0_6]; unfold outsAt0; frame_out
  rw [show X0_3 m c t = _ from funext (block m c t)]
  pointwise [moment1, k0_pay1, grad]
  blk_point [iblk, V, idx t]

/-- Result 3 after the run: the second moment. -/
theorem square (c : Dev nD) : (dats m 0 c).arrAt 7 cfg0.N = fun y => moment2 ((m ((c : Thread nD τ).loc main_arg2)) y) (grad m c y) := by
  refine (dats m 0 c).arrAt_eq_of_covers 7 _ (by decide +kernel) fun t _ y => ?_
  blk_simp
  rw [after0_7]; unfold outsAt0; frame_out
  rw [show X0_3 m c t = _ from funext (block m c t)]
  pointwise [moment2, k0_pay2, grad]
  blk_point [iblk, V, idx t]

end Cert.AdamUpIdeal.Value

namespace Cert.AdamUp

/-- The call runs to an end, keeps its arguments and leaves every semaphore at zero. -/
theorem quiescent : Cert.quiescent_AdamUp := fun m g _ => Cert.AdamUp.Gen.frame m g

/-- So does the idealized call. -/
theorem quiescent_ideal : Cert.quiescent_AdamUpIdeal := fun m g _ => Cert.AdamUpIdeal.Gen.frame m g

/-- So does its reference. -/
theorem quiescent_ref : Cert.quiescent_AdamUpRefIdeal := fun m g _ =>
  (θ_run Cert.AdamUpRefIdeal.defs _ _).mono (fun r h => ⟨fun c => (h c).2.2.2.2, sem_eq_zero_of_no_sems (by decide) r.2⟩)
    (Cert.AdamUpRefIdeal.Value.run (F := Ideal) m g)

/-- The call's four results are the reference's. -/
theorem algebraic : Cert.algebraic_AdamUpIdeal_AdamUpRefIdeal := by
  pair_intro
  · run_from Cert.AdamUpIdeal.Gen.run_main m g
  · hlo_run
    · rw [Cert.AdamUpIdeal.Value.kept m]; funext y; pointwise [Cert.AdamUpIdeal.Value.grad]
    · rw [Cert.AdamUpIdeal.Value.delta m]; funext y
      pointwise [Cert.AdamUpIdeal.Value.grad, Cert.Adam.step, Cert.Adam.moment1, Cert.Adam.moment2]
    · rw [Cert.AdamUpIdeal.Value.mean m]; funext y; pointwise [Cert.AdamUpIdeal.Value.grad, Cert.Adam.moment1]
    · rw [Cert.AdamUpIdeal.Value.square m]; funext y; pointwise [Cert.AdamUpIdeal.Value.grad, Cert.Adam.moment2]

end Cert.AdamUp
-- ==== Proof.AdamDown.lean ====
/- The optimiser's call on one device's part of the feed-forward block's second weight. -/
module

public import proofs.«01_k».proof.Defs
public import proofs.«01_k».proof.Proof.Adam
public import proofs.«01_k».proof.Proof.Gen.AdamDown.Frame
public import proofs.«01_k».proof.Proof.Gen.AdamDownIdeal.Frame
public import proofs.«01_k».proof.Proof.Gen.AdamDownRefIdeal
public import proofs.«01_k».proof.Proof.Gen.AdamDownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamDownIdeal.Value

open Cert.AdamDownIdeal Cert.AdamDownIdeal.Gen Cert.Adam

variable (m : (ℓ : Loc nD τ sig) → Buf (Elt Ideal) ℓ)

/-- Which block every grid point takes of each array. -/
theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] ∧ win0_7.index t = ![0, t.val] :=
  (by decide +kernel : ∀ t : Fin grid0.N, _)

/-- The gradient the update takes. -/
def grad (c : Dev nD) : FVec Ideal S1376x2048 .f32 := (m ((c : Thread nD τ).loc main_arg3))

/-- Result 0 after the run: the gradient, as it came. -/
theorem kept (c : Dev nD) : (dats m 0 c).arrAt 4 cfg0.N = fun y => grad m c y := by
  refine (dats m 0 c).arrAt_eq_of_covers 4 _ (by decide +kernel) fun t _ y => ?_
  blk_simp
  rw [after0_4]; frame_out
  pointwise [grad]
  blk_point [iblk, V, idx t]

/-- Result 1 after the run: the step of the weight. -/
theorem delta (c : Dev nD) : (dats m 0 c).arrAt 5 cfg0.N = fun y => step ((m ((c : Thread nD τ).loc main_arg0)) y) ((m ((c : Thread nD τ).loc main_arg1)) y) ((m ((c : Thread nD τ).loc main_arg2)) y) (grad m c y) := by
  refine (dats m 0 c).arrAt_eq_of_covers 5 _ (by decide +kernel) fun t _ y => ?_
  blk_simp
  rw [after0_5]; frame_out
  pointwise [step, moment1, moment2, k0_pay1, k0_pay2, k0_pay3, grad]
  blk_point [iblk, V, idx t]

/-- Result 2 after the run: the first moment. -/
theorem mean (c : Dev nD) : (dats m 0 c).arrAt 6 cfg0.N = fun y => moment1 ((m ((c : Thread nD τ).loc main_arg1)) y) (grad m c y) := by
  refine (dats m 0 c).arrAt_eq_of_covers 6 _ (by decide +kernel) fun t _ y => ?_
  blk_simp
  rw [after0_6]; frame_out
  pointwise [moment1, k0_pay1, grad]
  blk_point [iblk, V, idx t]

/-- Result 3 after the run: the second moment. -/
theorem square (c : Dev nD) : (dats m 0 c).arrAt 7 cfg0.N = fun y => moment2 ((m ((c : Thread nD τ).loc main_arg2)) y) (grad m c y) := by
  refine (dats m 0 c).arrAt_eq_of_covers 7 _ (by decide +kernel) fun t _ y => ?_
  blk_simp
  rw [after0_7]; frame_out
  pointwise [moment2, k0_pay2, grad]
  blk_point [iblk, V, idx t]

end Cert.AdamDownIdeal.Value

namespace Cert.AdamDown

/-- The call runs to an end, keeps its arguments and leaves every semaphore at zero. -/
theorem quiescent : Cert.quiescent_AdamDown := fun m g _ => Cert.AdamDown.Gen.frame m g

/-- So does the idealized call. -/
theorem quiescent_ideal : Cert.quiescent_AdamDownIdeal := fun m g _ => Cert.AdamDownIdeal.Gen.frame m g

/-- So does its reference. -/
theorem quiescent_ref : Cert.quiescent_AdamDownRefIdeal := fun m g _ =>
  (θ_run Cert.AdamDownRefIdeal.defs _ _).mono (fun r h => ⟨fun c => (h c).2.2.2.2, sem_eq_zero_of_no_sems (by decide) r.2⟩)
    (Cert.AdamDownRefIdeal.Value.run (F := Ideal) m g)

/-- The call's four results are the reference's. -/
theorem algebraic : Cert.algebraic_AdamDownIdeal_AdamDownRefIdeal := by
  pair_intro
  · run_from Cert.AdamDownIdeal.Gen.run_main m g
  · hlo_run
    · rw [Cert.AdamDownIdeal.Value.kept m]; funext y; pointwise [Cert.AdamDownIdeal.Value.grad]
    · rw [Cert.AdamDownIdeal.Value.delta m]; funext y
      pointwise [Cert.AdamDownIdeal.Value.grad, Cert.Adam.step, Cert.Adam.moment1, Cert.Adam.moment2]
    · rw [Cert.AdamDownIdeal.Value.mean m]; funext y; pointwise [Cert.AdamDownIdeal.Value.grad, Cert.Adam.moment1]
    · rw [Cert.AdamDownIdeal.Value.square m]; funext y; pointwise [Cert.AdamDownIdeal.Value.grad, Cert.Adam.moment2]

end Cert.AdamDown
-- ==== Proof.NormBwd.lean ====
/- The backward pass of the norm of a row: the kernel's formula and the one differentiation gives are the same, for all
   values. -/
module

public import Idealize.ShloMosaic.Lib.Pipeline.ValueKit
public import Idealize.ShloMosaic.Lib.Pointwise

@[expose] public section

noncomputable section

open Idealize.ShloMosaic

namespace Cert.NormBwd

variable {ι : Type} [Fintype ι]

/-- The mean of the squares of a row of `n` entries and a small constant. -/
def var (n e : EReal) (x : ι → EReal) : EReal := Ideal.div (∑ k, x k * x k) n + e

/-- A square is not negative. -/
theorem sq_nonneg' (x : EReal) : 0 ≤ x * x := by
  induction x using EReal.rec with
  | bot => simp
  | top => simp
  | coe r => rw [← EReal.coe_mul]; exact EReal.coe_nonneg.mpr (mul_self_nonneg r)

/-- Either the mean of the squares is infinite, and one over its root is zero, or that is a positive real. -/
theorem var_cases (N e : ℝ) (hN : 0 < N) (he : 0 < e) (x : ι → EReal) :
    (Ideal.rsqrt (var N e x) = 0 ∧ var (N : EReal) e x = ⊤)
      ∨ ∃ ρ : ℝ, 0 < ρ ∧ Ideal.rsqrt (var N e x) = ρ ∧ Ideal.div (Ideal.rsqrt (var N e x)) (var N e x) = ((ρ * ρ * ρ : ℝ) : EReal) := by
  have h0 : 0 ≤ Ideal.div (∑ k, x k * x k) (N : EReal) := by
    rw [Ideal.div_coe hN.ne']
    exact mul_nonneg (Finset.sum_nonneg fun k _ => sq_nonneg' (x k)) (EReal.coe_nonneg.mpr (by positivity))
  unfold var
  generalize Ideal.div (∑ k, x k * x k) (N : EReal) = Q at h0 ⊢
  induction Q using EReal.rec with
  | bot => exact absurd h0 (by simp)
  | top => left; simp
  | coe q =>
    right
    have hq : 0 ≤ q := EReal.coe_nonneg.mp h0
    have hv : 0 < q + e := by positivity
    refine ⟨(Real.sqrt (q + e))⁻¹, by positivity, ?_, ?_⟩
    · rw [← EReal.coe_add, Ideal.rsqrt_coe, if_neg (not_lt.mpr hv.le), if_neg hv.ne']
    · rw [← EReal.coe_add, Ideal.rsqrt_coe, if_neg (not_lt.mpr hv.le), if_neg hv.ne', Ideal.div_coe hv.ne', ← EReal.coe_mul]
      congr 1
      have hs : Real.sqrt (q + e) * Real.sqrt (q + e) = q + e := Real.mul_self_sqrt hv.le
      rw [one_div, mul_assoc, ← mul_inv (Real.sqrt (q + e)) (Real.sqrt (q + e)), hs]

/-- A positive real factor distributes over a sum. -/
theorem sum_mul' (ρ : ℝ) (hρ : 0 ≤ ρ) (f : ι → EReal) : ∑ k, f k * (ρ : EReal) = (∑ k, f k) * ρ := by
  classical
  induction (Finset.univ : Finset ι) using Finset.induction_on with
  | empty => simp
  | insert a s ha ih =>
    rw [Finset.sum_insert ha, Finset.sum_insert ha, ih, mul_comm _ (ρ : EReal), mul_comm _ (ρ : EReal), mul_comm _ (ρ : EReal),
      EReal.left_distrib_of_nonneg_of_ne_top (EReal.coe_nonneg.mpr hρ) (EReal.coe_ne_top ρ)]

/-- The gradient at an entry. On the left as the kernel computes it, on the right as differentiation gives it. -/
theorem dx_eq (N e : ℝ) (hN : 0 < N) (he : 0 < e) (x c : ι → EReal) (j : ι) :
    Ideal.rsqrt (var N e x) * (c j - x j * Ideal.rsqrt (var N e x) * Ideal.div (∑ k, c k * (x k * Ideal.rsqrt (var N e x))) N)
      = c j * Ideal.rsqrt (var N e x)
        + x j * Ideal.div ((∑ k, x k * c k) * ((-(1 / 2) : ℝ) * Ideal.div (Ideal.rsqrt (var N e x)) (var N e x))) N
        + Ideal.div ((∑ k, x k * c k) * ((-(1 / 2) : ℝ) * Ideal.div (Ideal.rsqrt (var N e x)) (var N e x))) N * x j := by
  obtain ⟨h, ht⟩ | ⟨ρ, hρ, h, h3⟩ := var_cases N e hN he x
  · rw [ht, ← ht, h, ht, Ideal.div_coe hN.ne', Ideal.div_coe hN.ne']
    simp [Ideal.div]
  · rw [h3, h, Ideal.div_coe hN.ne', Ideal.div_coe hN.ne']
    have hS : ∑ k, c k * (x k * (ρ : EReal)) = (∑ k, x k * c k) * ρ := by
      rw [← sum_mul' ρ hρ.le]
      exact Finset.sum_congr rfl fun k _ => by rw [← mul_assoc, mul_comm (c k)]
    rw [hS]
    generalize (∑ k, x k * c k) = S
    rw [sub_eq_add_neg, EReal.left_distrib_of_nonneg_of_ne_top (EReal.coe_nonneg.mpr hρ.le) (EReal.coe_ne_top ρ), mul_comm (ρ : EReal) (c j),
      add_assoc]
    refine congrArg (c j * (ρ : EReal) + ·) ?_
    rw [mul_comm _ (x j), ← EReal.coe_mul]
    have hd : ∀ y : EReal, y + y = ((2 : ℝ) : EReal) * y := fun y => by
      rw [show (2 : ℝ) = 1 + 1 by norm_num, EReal.coe_add, EReal.right_distrib_of_nonneg (by simp) (by simp)]; simp
    rw [hd]
    have e1 : x j * (ρ : EReal) * (S * (ρ : EReal) * ((1 / N : ℝ) : EReal)) = ((ρ * ρ * (1 / N) : ℝ) : EReal) * (x j * S) := by
      rw [EReal.coe_mul, EReal.coe_mul]; ac_rfl
    have e2 : ((2 : ℝ) : EReal) * (x j * (S * ((-(1 / 2) * (ρ * ρ * ρ) : ℝ) : EReal) * ((1 / N : ℝ) : EReal)))
        = ((2 * (-(1 / 2) * (ρ * ρ * ρ)) * (1 / N) : ℝ) : EReal) * (x j * S) := by
      rw [show 2 * (-(1 / 2) * (ρ * ρ * ρ)) * (1 / N) = 2 * (-(1 / 2) * (ρ * ρ * ρ) * (1 / N)) by ring, EReal.coe_mul 2, EReal.coe_mul _ (1 / N)]
      ac_rfl
    rw [e1, e2, ← EReal.neg_mul, ← mul_assoc, ← EReal.coe_neg, ← EReal.coe_mul]
    congr 2
    ring

/-- The constants: 2048, 128, the norm's small constant (some positive real), and minus one half. -/
theorem lit2048 : Ideal.ofBits .f32 0x45000000#32 = ((2048 : ℝ) : EReal) := by
  simp [Ideal.ofBits, Ideal.ieee, -EReal.coe_mul]; norm_num
theorem lit128 : Ideal.ofBits .f32 0x43000000#32 = ((128 : ℝ) : EReal) := by
  simp [Ideal.ofBits, Ideal.ieee, -EReal.coe_mul]; norm_num
theorem litHalf : Ideal.ofBits .f32 0xBF000000#32 = ((-(1 / 2) : ℝ) : EReal) := by
  simp [Ideal.ofBits, Ideal.ieee, -EReal.coe_mul]; norm_num
theorem litEps : ∃ e : ℝ, 0 < e ∧ Ideal.ofBits .f32 0x358637BD#32 = (e : EReal) := by
  simp [Ideal.ofBits, Ideal.ieee, -EReal.coe_mul]

/-- One over the root of a row of 2048 entries. -/
def rs (x : Fin 2048 → EReal) : EReal := Ideal.rsqrt (Ideal.div (∑ k, x k * x k) (Ideal.ofBits .f32 0x45000000#32) + Ideal.ofBits .f32 0x358637BD#32)

/-- The gradient at entry `j` of a row `x`, given the gradient `c` at the row before the gain, as a kernel computes it. -/
def dxK (x c : Fin 2048 → EReal) (j : Fin 2048) : EReal :=
  rs x * (c j - x j * rs x * Ideal.div (∑ k, c k * (x k * rs x)) (Ideal.ofBits .f32 0x45000000#32))

/-- The gradient at the mean, as differentiation gives it. -/
def wR (x c : Fin 2048 → EReal) : EReal :=
  Ideal.div ((∑ k, x k * c k) * (Ideal.ofBits .f32 0xBF000000#32 * Ideal.div (rs x) (Ideal.div (∑ k, x k * x k) (Ideal.ofBits .f32 0x45000000#32) + Ideal.ofBits .f32 0x358637BD#32)))
    (Ideal.ofBits .f32 0x45000000#32)

/-- The two are the same. -/
theorem dx (x c : Fin 2048 → EReal) (j : Fin 2048) : dxK x c j = c j * rs x + x j * wR x c + wR x c * x j := by
  obtain ⟨e, he, h⟩ := litEps
  unfold dxK wR rs
  rw [h, lit2048, litHalf]
  exact dx_eq 2048 e (by norm_num) he x c j

end Cert.NormBwd

end
-- ==== Proof.NormRef.lean ====
/- The backward pass of a norm as the reference's operations give it, read entry by entry. -/
module

public import Idealize.ShloMosaic.Lib.Pipeline.ValueKit
public import Idealize.ShloMosaic.Lib.Pointwise
public import proofs.«01_k».proof.Proof.NormBwd
public import proofs.«01_k».proof.Proof.Gen.FirstRefIdeal

@[expose] public section

set_option maxRecDepth 16384

noncomputable section

open Idealize.ShloMosaic Idealize.ShloMosaic.TcCoe Idealize.SL.Sem

namespace Cert.NormRef

open Cert.FirstRefIdeal Cert.FirstRefIdeal.Gen
open Cert.NormBwd (rs dxK wR)

/-- The gain on every row. -/
def RG (g : FVec Ideal S1x2048 .f32) : FVec Ideal S2048x2048 .f32 := broadcastInDim S2048x2048 ![0, 1] bcast_S1x2048_S2048x2048_0_1 (broadcastInDim S1x2048 ![1] bcast_S2048_S1x2048_1 (shapeCast _ g shapeCasts_S1x2048_S2048))
/-- The mean of the squares and the norm's constant. -/
def RV (X : FVec Ideal S2048x2048 .f32) : FVec Ideal S2048x1 .f32 := addf (Host.divf (broadcastInDim S2048x1 ![0] bcast_S2048_S2048x1_0 (Host.reduceAdd (mulf X X) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32))
/-- One over its root, on every row. -/
def RQ (X : FVec Ideal S2048x2048 .f32) : FVec Ideal S2048x2048 .f32 := broadcastInDim S2048x2048 ![0, 1] bcast_S2048x1_S2048x2048_0_1 (Host.rsqrt (RV X))
/-- The gradient at the mean. -/
def RW (X C : FVec Ideal S2048x2048 .f32) : FVec Ideal S2048x2048 .f32 := broadcastInDim S2048x2048 ![0] bcast_S2048_S2048x2048_0 (Host.reduceAdd (Host.divf (mulf (shapeCast _ (Host.reduceAdd (mulf X C) (constant S_ .f32 0x00000000#32) reducesTo_S2048x2048_S2048_d1 h_S_) shapeCasts_S2048_S2048x1) (mulf (broadcastInDim S2048x1 ![] bcast_S_S2048x1 (constant S_ .f32 0xBF000000#32)) (Host.divf (Host.rsqrt (RV X)) (RV X)))) (broadcastInDim S2048x1 ![] bcast_S_S2048x1 (constant S_ .f32 0x45000000#32))) (constant S_ .f32 0x00000000#32) reducesTo_S2048x1_S2048_d1 h_S_)
/-- The gradient at the input, from the gradient before the gain. -/
def NB (X C : FVec Ideal S2048x2048 .f32) : FVec Ideal S2048x2048 .f32 := addf (addf (mulf C (RQ X)) (mulf X (RW X C))) (mulf (RW X C) X)
/-- The gradient at the gain. -/
def NG (X C : FVec Ideal S2048x2048 .f32) : FVec Ideal S2048 .f32 := Host.reduceAdd (shapeCast _ (Host.reduceAdd (mulf (mulf X (RQ X)) C) (constant S_ .f32 0x00000000#32) reducesTo_S2048x2048_S2048_d0 h_S_) shapeCasts_S2048_S1x2048) (constant S_ .f32 0x00000000#32) reducesTo_S1x2048_S2048_d0 h_S_

theorem RG_at (g : FVec Ideal S1x2048 .f32) (s j : Fin 2048) : RG g (ix2 s j) = g (ix2 0 j) := by
  pointwise [RG]
theorem RV_at (X : FVec Ideal S2048x2048 .f32) (s : Fin 2048) (z : Fin 1) : RV X (ix2 s z)
    = Ideal.div (∑ k : Fin 2048, X (ix2 s k) * X (ix2 s k)) (Ideal.ofBits .f32 0x45000000#32) + Ideal.ofBits .f32 0x358637BD#32 := by
  pointwise [RV]
theorem RQ_at (X : FVec Ideal S2048x2048 .f32) (s j : Fin 2048) : RQ X (ix2 s j) = rs (fun k => X (ix2 s k)) := by
  pointwise [RQ]
  rw [RV_at]; rfl
theorem RW_at (X C : FVec Ideal S2048x2048 .f32) (s j : Fin 2048) : RW X C (ix2 s j) = wR (fun k => X (ix2 s k)) (fun k => C (ix2 s k)) := by
  pointwise [RW]
  rw [Fin.sum_univ_one, RV_at]; rfl

/-- The gradient at the input, entry by entry. -/
theorem NB_at (X C : FVec Ideal S2048x2048 .f32) (s j : Fin 2048) :
    NB X C (ix2 s j) = dxK (fun k => X (ix2 s k)) (fun k => C (ix2 s k)) j := by
  rw [Cert.NormBwd.dx]
  pointwise [NB]
  rw [RQ_at, RW_at]

/-- The gradient at the gain, entry by entry. -/
theorem NG_at (X C : FVec Ideal S2048x2048 .f32) (j : Fin 2048) :
    NG X C (ix1 j) = ∑ s : Fin 2048, C (ix2 s j) * (X (ix2 s j) * rs (fun k => X (ix2 s k))) := by
  pointwise [NG]
  rw [Fin.sum_univ_one]
  exact Finset.sum_congr rfl fun s _ => by rw [RQ_at]; exact mul_comm (G := EReal) _ _

/-- The backward pass of a norm with its gain: the gradient at its input. -/
def dNorm (C X : FVec Ideal S2048x2048 .f32) (g : FVec Ideal S1x2048 .f32) : FVec Ideal S2048x2048 .f32 :=
  fun y => dxK (fun k => X (ix2 (y 0) k)) (fun k => C (ix2 (y 0) k) * g (ix2 0 k)) (y 1)

/-- The same and the residual's gradient. -/
def dIn (C X : FVec Ideal S2048x2048 .f32) (g : FVec Ideal S1x2048 .f32) (R : FVec Ideal S2048x2048 .f32) : FVec Ideal S2048x2048 .f32 :=
  fun y => R y + dNorm C X g y

/-- The gradient at the gain. -/
def dGain (C X : FVec Ideal S2048x2048 .f32) : FVec Ideal S1x2048 .f32 :=
  fun y => ∑ s : Fin 2048, C (ix2 s (y 1)) * (X (ix2 s (y 1)) * rs (fun k => X (ix2 s k)))

/-- The reference's operations give them. -/
theorem dNorm_eq (C X : FVec Ideal S2048x2048 .f32) (g : FVec Ideal S1x2048 .f32) : NB X (mulf C (RG g)) = dNorm C X g := by
  funext y
  obtain ⟨s, j, rfl⟩ : ∃ (a b : Fin 2048), y = ix2 a b := ⟨y 0, y 1, eq_ix2 y⟩
  rw [NB_at]
  pointwise [dNorm]
  simp only [RG_at]

theorem dIn_eq (C X : FVec Ideal S2048x2048 .f32) (g : FVec Ideal S1x2048 .f32) (R : FVec Ideal S2048x2048 .f32) :
    addf R (NB X (mulf C (RG g))) = dIn C X g R := by
  rw [dNorm_eq]
  funext y
  pointwise [dIn]

theorem dGain_eq (C X : FVec Ideal S2048x2048 .f32) : broadcastInDim S1x2048 ![1] bcast_S2048_S1x2048_1 (NG X C) = dGain C X := by
  funext y
  obtain ⟨s, j, rfl⟩ : ∃ (a : Fin 1) (b : Fin 2048), y = ix2 a b := ⟨y 0, y 1, eq_ix2 y⟩
  pointwise
  exact NG_at _ _ _

end Cert.NormRef

end
-- ==== Proof.First.lean ====
/- The call `first_bwd`: the backward pass of the first norm and the residual sum. -/
module

public import proofs.«01_k».proof.Defs
public import proofs.«01_k».proof.Proof.Gen.First.Frame
public import proofs.«01_k».proof.Proof.Gen.FirstIdeal.Frame
public import proofs.«01_k».proof.Proof.Gen.FirstRefIdeal
public import proofs.«01_k».proof.Proof.Gen.FirstRefIdeal.Run
public import proofs.«01_k».proof.Proof.Gen.FirstIdeal.Value
public import proofs.«01_k».proof.Proof.NormRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FirstIdeal.Value

open Cert.FirstIdeal Cert.FirstIdeal.Gen
open Cert.NormRef (dIn dNorm dGain)
open Cert.NormBwd (rs dxK wR)

variable (m : (ℓ : Loc nD τ sig) → Buf (Elt Ideal) ℓ)

/-- Which block every grid point takes of each array. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The first result array after the run. -/
theorem final4 (c : Dev nD) : (dats m 0 c).arrAt 4 cfg0.N
    = dIn (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  by_cases h : t.val % 8 = 0
  · rw [outsAt0_A m c t h]; frame_out
    pointwise [k0_pay4, k0_pay3, k0_pay2, dIn, dNorm, dxK, rs]
    blk_point [iblk, V, idx t]
  · rw [outsAt0_B m c t h]; frame_out
    pointwise [k0_pay4, k0_pay3, k0_pay2, dIn, dNorm, dxK, rs]
    blk_point [iblk, V, idx t]

/-- One step's sum over the rows of its block, added to what was there. -/
theorem pay5_at (x0 x1 : Vec Ideal S256x2048 .f32) (a : Vec Ideal S1x2048 .f32) (a' : EReal) (i) (h : a i = a') :
    k0_pay5 (F := Ideal) x0 x1 a i = a' + ∑ r : Fin 256, x0 (ix2 r (i 1)) * (x1 (ix2 r (i 1)) * rs (fun k => x1 (ix2 r k))) := by
  subst h
  pointwise [k0_pay5, k0_pay3, k0_pay2, rs]

/-- The sum at the first step, over zero. -/
theorem acc_first (c : Dev nD) (t : Fin cfg0.N) (h : t.val % 8 = 0) (i) :
    (outsAt0 m c t.val t.isLt).2 i = (fun _ => (0 : EReal)) i + ∑ r : Fin 256, (show Vec Ideal S256x2048 .f32 from iblk m c 0 t) (ix2 r (i 1))
      * ((show Vec Ideal S256x2048 .f32 from iblk m c 1 t) (ix2 r (i 1)) * rs (fun k => (show Vec Ideal S256x2048 .f32 from iblk m c 1 t) (ix2 r k))) := by
  rw [outsAt0_A m c t h]; frame_out
  exact pay5_at _ _ _ _ i (by pointwise [k0_pay1])

/-- The sum at a later step. -/
theorem acc_next (c : Dev nD) (t : Fin cfg0.N) (h : ¬ t.val % 8 = 0) (i) :
    (outsAt0 m c t.val t.isLt).2 i = (outsAt0 m c (t.val - 1) (Nat.lt_of_le_of_lt (Nat.sub_le _ _) t.isLt)).2 i
      + ∑ r : Fin 256, (show Vec Ideal S256x2048 .f32 from iblk m c 0 t) (ix2 r (i 1))
      * ((show Vec Ideal S256x2048 .f32 from iblk m c 1 t) (ix2 r (i 1)) * rs (fun k => (show Vec Ideal S256x2048 .f32 from iblk m c 1 t) (ix2 r k))) := by
  rw [outsAt0_B m c t h]; frame_out
  exact pay5_at _ _ _ _ i (by (try rw [Memref.IsWhole.read_unread]); rfl)

/-- The second result array after the run. -/
theorem final5 (c : Dev nD) : (dats m 0 c).arrAt 5 cfg0.N
    = dGain (m ((c : Thread nD τ).loc main_arg0)) (m ((c : Thread nD τ).loc main_arg1)) := by
  refine (dats m 0 c).arrAt_eq_of_covers 5 _ (by decide +kernel) fun t hf y => ?_
  blk_simp
  rw [after0_5,
    Pipeline.eq_sum_fin_of_reset_step_apply_of_flush (fun n h => (outsAt0 m c n h).2) 8 (fun _ => 0)
      (fun t i => ∑ r : Fin 256, (show Vec Ideal S256x2048 .f32 from iblk m c 0 t) (ix2 r (i 1))
        * ((show Vec Ideal S256x2048 .f32 from iblk m c 1 t) (ix2 r (i 1)) * rs (fun k => (show Vec Ideal S256x2048 .f32 from iblk m c 1 t) (ix2 r k))))
      (fun t h i => acc_first m c t h i) (fun t h i => acc_next m c t h i) t ((flush0_5 t).mp hf) y,
    zero_add]
  unfold dGain
  refine Fin.sum_mul_add_congr fun s k hl => ?_
  refine congrArg₂ (· * ·) ?_ (congrArg₂ (· * ·) ?_ (congrArg rs (funext fun k => ?_))) <;>
    blk_point [iblk, V, idx t, idx ⟨_, Pipeline.run_point_lt_of_flush t ((flush0_5 t).mp hf) s⟩]

end Cert.FirstIdeal.Value

namespace Cert.FirstRefIdeal.Value

open Cert.FirstRefIdeal Cert.FirstRefIdeal.Gen
open Cert.NormBwd (rs dxK wR)

variable (m : (ℓ : Loc nD τ sig) → Buf (Elt Ideal) ℓ) (c : Dev nD)

/-- The arguments. -/
abbrev B0 : Vec Ideal S2048x2048 .f32 := m ((c.tc : Thread nD τ).loc main_arg0)
abbrev B1 : Vec Ideal S2048x2048 .f32 := m ((c.tc : Thread nD τ).loc main_arg1)
abbrev B2 : Vec Ideal S1x2048 .f32 := m ((c.tc : Thread nD τ).loc main_arg2)
abbrev B3 : Vec Ideal S2048x2048 .f32 := m ((c.tc : Thread nD τ).loc main_arg3)

/-- The first result, by the norm's backward pass. -/
theorem dx_eq : res_main_v37 m c = addf (B3 m c) (Cert.NormRef.NB (B1 m c) (mulf (B0 m c) (Cert.NormRef.RG (B2 m c)))) := rfl

end Cert.FirstRefIdeal.Value

namespace Cert.First

/-- The call runs to an end, keeps its arguments and leaves every semaphore at zero. -/
theorem quiescent : Cert.quiescent_First := fun m g _ => Cert.First.Gen.frame m g

/-- So does the idealized call. -/
theorem quiescent_ideal : Cert.quiescent_FirstIdeal := fun m g _ => Cert.FirstIdeal.Gen.frame m g

/-- So does its reference. -/
theorem quiescent_ref : Cert.quiescent_FirstRefIdeal := fun m g _ =>
  (θ_run Cert.FirstRefIdeal.defs _ _).mono (fun r h => ⟨fun c => (h c).2.2, sem_eq_zero_of_no_sems (by decide) r.2⟩)
    (Cert.FirstRefIdeal.Value.run (F := Ideal) m g)

/-- The call's results are the reference's. -/
theorem algebraic : Cert.algebraic_FirstIdeal_FirstRefIdeal := by
  intro m g m' g' _ hagree
  refine ⟨_, _, Cert.FirstIdeal.Value.run_blocks m g, ?_⟩
  refine (θ_run Cert.FirstRefIdeal.defs _ _).mono (fun _ h c => ⟨(h c).1.trans ?_, (h c).2.1.trans ?_, (h c).2.2⟩)
    (Cert.FirstRefIdeal.Value.run (F := Ideal) m' g')
  · refine (((Cert.FirstRefIdeal.Value.dx_eq m' c).trans (Cert.NormRef.dIn_eq _ _ _ _)).trans ?_).trans (Cert.FirstIdeal.Value.final4 m c).symm
    rw [← (hagree c).1, ← (hagree c).2.1, ← (hagree c).2.2.1, ← (hagree c).2.2.2]
  · refine ((Cert.NormRef.dGain_eq _ _).trans ?_).trans (Cert.FirstIdeal.Value.final5 m c).symm
    rw [← (hagree c).1, ← (hagree c).2.1]

end Cert.First

end
-- ==== Proof.Mid.lean ====
/- The call `mid_bwd`: the backward passes of the two norms between the mixing and the block. -/
module

public import proofs.«01_k».proof.Defs
public import proofs.«01_k».proof.Proof.Gen.Mid.Frame
public import proofs.«01_k».proof.Proof.Gen.MidIdeal.Frame
public import proofs.«01_k».proof.Proof.Gen.MidRefIdeal
public import proofs.«01_k».proof.Proof.Gen.MidRefIdeal.Run
public import proofs.«01_k».proof.Proof.Gen.MidIdeal.Value
public import proofs.«01_k».proof.Proof.NormRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MidIdeal.Value

open Cert.MidIdeal Cert.MidIdeal.Gen
open Cert.NormBwd (rs dxK wR)
open Cert.NormRef (dIn dNorm dGain)

variable (m : (ℓ : Loc nD τ sig) → Buf (Elt Ideal) ℓ)

/-- Which block every grid point takes of each array. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- The arguments. -/
abbrev A0 (c : Dev nD) : Vec Ideal S2048x2048 .f32 := m ((c : Thread nD τ).loc main_arg0)
abbrev A1 (c : Dev nD) : Vec Ideal S2048x2048 .f32 := m ((c : Thread nD τ).loc main_arg1)
abbrev A2 (c : Dev nD) : Vec Ideal S1x2048 .f32 := m ((c : Thread nD τ).loc main_arg2)
abbrev A3 (c : Dev nD) : Vec Ideal S2048x2048 .f32 := m ((c : Thread nD τ).loc main_arg3)
abbrev A4 (c : Dev nD) : Vec Ideal S2048x2048 .f32 := m ((c : Thread nD τ).loc main_arg4)
abbrev A5 (c : Dev nD) : Vec Ideal S1x2048 .f32 := m ((c : Thread nD τ).loc main_arg5)

/-- The gradient between the two norms. -/
abbrev D (c : Dev nD) : FVec Ideal S2048x2048 .f32 := dIn (A0 m c) (A1 m c) (A2 m c) (A3 m c)

/-- The blocks of a grid point. -/
abbrev b0 (c : Dev nD) (t : Fin cfg0.N) : Vec Ideal S256x2048 .f32 := iblk m c 0 t
abbrev b1 (c : Dev nD) (t : Fin cfg0.N) : Vec Ideal S256x2048 .f32 := iblk m c 1 t
abbrev b2 (c : Dev nD) (t : Fin cfg0.N) : Vec Ideal S1x2048 .f32 := iblk m c 2 t
abbrev b3 (c : Dev nD) (t : Fin cfg0.N) : Vec Ideal S256x2048 .f32 := iblk m c 3 t
abbrev b4 (c : Dev nD) (t : Fin cfg0.N) : Vec Ideal S256x2048 .f32 := iblk m c 4 t
abbrev b5 (c : Dev nD) (t : Fin cfg0.N) : Vec Ideal S1x2048 .f32 := iblk m c 5 t

/-- The row of the array at a row of a block. -/
def row (t : Fin cfg0.N) (r : Fin 256) : Fin 2048 := ⟨t.val * 256 + r.val, by have := t.isLt; have : cfg0.N = 8 := rfl; omega⟩

theorem b0_at (c : Dev nD) (t : Fin cfg0.N) (r : Fin 256) (j : Fin 2048) : b0 m c t (ix2 r j) = A0 m c (ix2 (row t r) j) := by
  blk_point [iblk, V, idx t, row]
theorem b1_at (c : Dev nD) (t : Fin cfg0.N) (r : Fin 256) (j : Fin 2048) : b1 m c t (ix2 r j) = A1 m c (ix2 (row t r) j) := by
  blk_point [iblk, V, idx t, row]
theorem b2_at (c : Dev nD) (t : Fin cfg0.N) (j : Fin 2048) : b2 m c t (ix2 0 j) = A2 m c (ix2 0 j) := by
  blk_point [iblk, V, idx t]
theorem b3_at (c : Dev nD) (t : Fin cfg0.N) (r : Fin 256) (j : Fin 2048) : b3 m c t (ix2 r j) = A3 m c (ix2 (row t r) j) := by
  blk_point [iblk, V, idx t, row]
theorem b4_at (c : Dev nD) (t : Fin cfg0.N) (r : Fin 256) (j : Fin 2048) : b4 m c t (ix2 r j) = A4 m c (ix2 (row t r) j) := by
  blk_point [iblk, V, idx t, row]
theorem b5_at (c : Dev nD) (t : Fin cfg0.N) (j : Fin 2048) : b5 m c t (ix2 0 j) = A5 m c (ix2 0 j) := by
  blk_point [iblk, V, idx t]

/-- The first norm's backward pass of a block and the residual's gradient. -/
theorem pay9_at (x0 x1 : Vec Ideal S256x2048 .f32) (x2 : Vec Ideal S1x2048 .f32) (x3 : Vec Ideal S256x2048 .f32) (r : Fin 256) (j : Fin 2048) :
    (k0_pay9 (F := Ideal) x0 x1 x2 x3 (ix2 r j) : EReal) = x3 (ix2 r j) + dxK (fun k => x1 (ix2 r k)) (fun k => x0 (ix2 r k) * x2 (ix2 0 k)) j := by
  pointwise [k0_pay9, k0_pay8, k0_pay7, dxK, rs]

/-- The second's. -/
theorem pay3_at (d x4 : Vec Ideal S256x2048 .f32) (x5 : Vec Ideal S1x2048 .f32) (r : Fin 256) (j : Fin 2048) :
    (k0_pay3 (F := Ideal) d x4 x5 (ix2 r j) : EReal) = dxK (fun k => x4 (ix2 r k)) (fun k => d (ix2 r k) * x5 (ix2 0 k)) j := by
  pointwise [k0_pay3, k0_pay2, k0_pay1, dxK, rs]

/-- The block of the gradient between the norms. -/
theorem d_at (c : Dev nD) (t : Fin cfg0.N) (r : Fin 256) (j : Fin 2048) :
    (k0_pay9 (F := Ideal) (b0 m c t) (b1 m c t) (b2 m c t) (b3 m c t) (ix2 r j) : EReal) = D m c (ix2 (row t r) j) := by
  rw [pay9_at]
  simp only [b0_at, b1_at, b2_at, b3_at]
  rfl

/-- The block of the gradient at the second norm's input. -/
theorem e_at (c : Dev nD) (t : Fin cfg0.N) (r : Fin 256) (j : Fin 2048) :
    (k0_pay3 (F := Ideal) (k0_pay9 (F := Ideal) (b0 m c t) (b1 m c t) (b2 m c t) (b3 m c t)) (b4 m c t) (b5 m c t) (ix2 r j) : EReal)
      = dNorm (D m c) (A4 m c) (A5 m c) (ix2 (row t r) j) := by
  rw [pay3_at]
  simp only [d_at, b4_at, b5_at]
  rfl

/-- The first result array after the run. -/
theorem final6 (c : Dev nD) : (dats m 0 c).arrAt 6 cfg0.N = D m c := by
  refine (dats m 0 c).arrAt_eq_of_covers 6 _ (by decide +kernel) fun t _ y => ?_
  blk_simp
  obtain ⟨r, j, rfl⟩ : ∃ (a : Fin 256) (b : Fin 2048), y = ix2 a b := ⟨y 0, y 1, eq_ix2 y⟩
  rw [after0_6]
  refine Eq.trans (b := (k0_pay9 (F := Ideal) (b0 m c t) (b1 m c t) (b2 m c t) (b3 m c t) (ix2 r j) : EReal)) ?_ ((d_at m c t r j).trans (congrArg (D m c) ?_))
  · by_cases h : t.val % 8 = 0
    · rw [outsAt0_A m c t h]; frame_out
    · rw [outsAt0_B m c t h]; frame_out
  · blk_ext [idx t, row]

/-- The second result array after the run. -/
theorem final7 (c : Dev nD) : (dats m 0 c).arrAt 7 cfg0.N = (show FVec Ideal S2048x2048 .bf16 from dNorm (D m c) (A4 m c) (A5 m c)) := by
  refine (dats m 0 c).arrAt_eq_of_covers 7 _ (by decide +kernel) fun t _ y => ?_
  blk_simp
  obtain ⟨r, j, rfl⟩ : ∃ (a : Fin 256) (b : Fin 2048), y = ix2 a b := ⟨y 0, y 1, eq_ix2 y⟩
  rw [after0_7]
  refine Eq.trans (b := (k0_pay3 (F := Ideal) (k0_pay9 (F := Ideal) (b0 m c t) (b1 m c t) (b2 m c t) (b3 m c t)) (b4 m c t) (b5 m c t) (ix2 r j) : EReal)) ?_ ((e_at m c t r j).trans (congrArg (dNorm (D m c) (A4 m c) (A5 m c)) ?_))
  · by_cases h : t.val % 8 = 0
    · rw [outsAt0_A m c t h]; frame_out
    · rw [outsAt0_B m c t h]; frame_out
  · blk_ext [idx t, row]

/-- One row's term of a gain's gradient. -/
def T (C X : FVec Ideal S2048x2048 .f32) (s j : Fin 2048) : EReal := C (ix2 s j) * (X (ix2 s j) * rs (fun k => X (ix2 s k)))

/-- One step's sum for the first gain, added to what was there. -/
theorem pay10_at (x0 x1 : Vec Ideal S256x2048 .f32) (a : Vec Ideal S1x2048 .f32) (a' : EReal) (i) (h : a i = a') :
    k0_pay10 (F := Ideal) x0 x1 a i = a' + ∑ r : Fin 256, x0 (ix2 r (i 1)) * (x1 (ix2 r (i 1)) * rs (fun k => x1 (ix2 r k))) := by
  subst h
  pointwise [k0_pay10, k0_pay8, k0_pay7, rs]

/-- One step's sum for the second gain, added to what was there. -/
theorem pay4_at (d x4 : Vec Ideal S256x2048 .f32) (a : Vec Ideal S1x2048 .f32) (a' : EReal) (i) (h : a i = a') :
    k0_pay4 (F := Ideal) d x4 a i = a' + ∑ r : Fin 256, d (ix2 r (i 1)) * (x4 (ix2 r (i 1)) * rs (fun k => x4 (ix2 r k))) := by
  subst h
  pointwise [k0_pay4, k0_pay2, k0_pay1, rs]

theorem sum8 (c : Dev nD) (t : Fin cfg0.N) (a : EReal) (i : Fin 2048) :
    a + ∑ r : Fin 256, b0 m c t (ix2 r i) * (b1 m c t (ix2 r i) * rs (fun k => b1 m c t (ix2 r k)))
      = a + ∑ r : Fin 256, T (A0 m c) (A1 m c) (row t r) i := by
  simp only [b0_at, b1_at]; rfl

theorem sum9 (c : Dev nD) (t : Fin cfg0.N) (a : EReal) (i : Fin 2048) :
    a + ∑ r : Fin 256, k0_pay9 (F := Ideal) (b0 m c t) (b1 m c t) (b2 m c t) (b3 m c t) (ix2 r i) * (b4 m c t (ix2 r i) * rs (fun k => b4 m c t (ix2 r k)))
      = a + ∑ r : Fin 256, T (D m c) (A4 m c) (row t r) i := by
  simp only [d_at, b4_at]; rfl

/-- The sum at the first step, over zero. -/
theorem first8 (c : Dev nD) (t : Fin cfg0.N) (h : t.val % 8 = 0) (i) :
    (outsAt0 m c t.val t.isLt).2.2.1 i = (fun _ => (0 : EReal)) i + ∑ r : Fin 256, T (A0 m c) (A1 m c) (row t r) (i 1) := by
  rw [outsAt0_A m c t h]; frame_out
  exact (pay10_at _ _ _ _ i (by pointwise [k0_pay5])).trans (sum8 m c t _ (i 1))

/-- The sum at a later step. -/
theorem next8 (c : Dev nD) (t : Fin cfg0.N) (h : ¬ t.val % 8 = 0) (i) :
    (outsAt0 m c t.val t.isLt).2.2.1 i = (outsAt0 m c (t.val - 1) (Nat.lt_of_le_of_lt (Nat.sub_le _ _) t.isLt)).2.2.1 i
      + ∑ r : Fin 256, T (A0 m c) (A1 m c) (row t r) (i 1) := by
  rw [outsAt0_B m c t h]; frame_out
  exact (pay10_at _ _ _ _ i (by (try rw [Memref.IsWhole.read_unread]); rfl)).trans (sum8 m c t _ (i 1))

/-- The gain's gradient after the run. -/
theorem final8 (c : Dev nD) : (dats m 0 c).arrAt 8 cfg0.N = dGain (A0 m c) (A1 m c) := by
  refine (dats m 0 c).arrAt_eq_of_covers 8 _ (by decide +kernel) fun t hf y => ?_
  blk_simp
  rw [after0_8,
    Pipeline.eq_sum_fin_of_reset_step_apply_of_flush (fun n h => (outsAt0 m c n h).2.2.1) 8 (fun _ => 0)
      (fun t i => ∑ r : Fin 256, T (A0 m c) (A1 m c) (row t r) (i 1))
      (fun t h i => first8 m c t h i) (fun t h i => next8 m c t h i) t ((flush0_8 t).mp hf) y,
    zero_add]
  refine Eq.trans ?_ (congrArg (dGain (A0 m c) (A1 m c)) (show y = _ by blk_ext [idx t]))
  unfold dGain
  refine Fin.sum_mul_add_congr fun s k hl => ?_
  refine congrArg (fun q => T (A0 m c) (A1 m c) q (y 1)) (Fin.ext ?_)
  have ht : t.val / 8 = 0 := by have h8 : t.val < 8 := t.isLt; omega
  simp only [row, ht]; omega

/-- The sum at the first step, over zero. -/
theorem first9 (c : Dev nD) (t : Fin cfg0.N) (h : t.val % 8 = 0) (i) :
    (outsAt0 m c t.val t.isLt).2.2.2 i = (fun _ => (0 : EReal)) i + ∑ r : Fin 256, T (D m c) (A4 m c) (row t r) (i 1) := by
  rw [outsAt0_A m c t h]; frame_out
  exact (pay4_at _ _ _ _ i (by pointwise [k0_pay6])).trans (sum9 m c t _ (i 1))

/-- The sum at a later step. -/
theorem next9 (c : Dev nD) (t : Fin cfg0.N) (h : ¬ t.val % 8 = 0) (i) :
    (outsAt0 m c t.val t.isLt).2.2.2 i = (outsAt0 m c (t.val - 1) (Nat.lt_of_le_of_lt (Nat.sub_le _ _) t.isLt)).2.2.2 i
      + ∑ r : Fin 256, T (D m c) (A4 m c) (row t r) (i 1) := by
  rw [outsAt0_B m c t h]; frame_out
  exact (pay4_at _ _ _ _ i (by (try rw [Memref.IsWhole.read_unread]); rfl)).trans (sum9 m c t _ (i 1))

/-- The gain's gradient after the run. -/
theorem final9 (c : Dev nD) : (dats m 0 c).arrAt 9 cfg0.N = dGain (D m c) (A4 m c) := by
  refine (dats m 0 c).arrAt_eq_of_covers 9 _ (by decide +kernel) fun t hf y => ?_
  blk_simp
  rw [after0_9,
    Pipeline.eq_sum_fin_of_reset_step_apply_of_flush (fun n h => (outsAt0 m c n h).2.2.2) 8 (fun _ => 0)
      (fun t i => ∑ r : Fin 256, T (D m c) (A4 m c) (row t r) (i 1))
      (fun t h i => first9 m c t h i) (fun t h i => next9 m c t h i) t ((flush0_9 t).mp hf) y,
    zero_add]
  refine Eq.trans ?_ (congrArg (dGain (D m c) (A4 m c)) (show y = _ by blk_ext [idx t]))
  unfold dGain
  refine Fin.sum_mul_add_congr fun s k hl => ?_
  refine congrArg (fun q => T (D m c) (A4 m c) q (y 1)) (Fin.ext ?_)
  have ht : t.val / 8 = 0 := by have h8 : t.val < 8 := t.isLt; omega
  simp only [row, ht]; omega

end Cert.MidIdeal.Value

namespace Cert.MidRefIdeal.Value

open Cert.MidRefIdeal Cert.MidRefIdeal.Gen
open Cert.NormRef

variable (m : (ℓ : Loc nD τ sig) → Buf (Elt Ideal) ℓ) (c : Dev nD)

/-- The arguments. -/
abbrev B0 : Vec Ideal S2048x2048 .f32 := m ((c.tc : Thread nD τ).loc main_arg0)
abbrev B1 : Vec Ideal S2048x2048 .f32 := m ((c.tc : Thread nD τ).loc main_arg1)
abbrev B2 : Vec Ideal S1x2048 .f32 := m ((c.tc : Thread nD τ).loc main_arg2)
abbrev B3 : Vec Ideal S2048x2048 .f32 := m ((c.tc : Thread nD τ).loc main_arg3)
abbrev B4 : Vec Ideal S2048x2048 .f32 := m ((c.tc : Thread nD τ).loc main_arg4)
abbrev B5 : Vec Ideal S1x2048 .f32 := m ((c.tc : Thread nD τ).loc main_arg5)

/-- The gradient between the norms, by the operations. -/
def RD : FVec Ideal S2048x2048 .f32 := addf (B3 m c) (NB (B1 m c) (mulf (B0 m c) (RG (B2 m c))))

/-- The results, by the norms' backward passes. -/
theorem out0 : res_main_v37 m c = RD m c := rfl
theorem out1 : res_main_v75 m c = truncf .bf16 (NB (B4 m c) (mulf (RD m c) (RG (B5 m c)))) bitsLt_bf16_f32 := rfl
theorem out3 : res_main_v77 m c = broadcastInDim S1x2048 ![1] bcast_S2048_S1x2048_1 (NG (B4 m c) (RD m c)) := rfl

theorem RD_eq : RD m c = dIn (B0 m c) (B1 m c) (B2 m c) (B3 m c) := dIn_eq _ _ _ _
theorem out1_eq : res_main_v75 m c = (show FVec Ideal S2048x2048 .bf16 from dNorm (dIn (B0 m c) (B1 m c) (B2 m c) (B3 m c)) (B4 m c) (B5 m c)) := by
  rw [out1, RD_eq, dNorm_eq]
  funext y
  pointwise
theorem out3_eq : res_main_v77 m c = dGain (dIn (B0 m c) (B1 m c) (B2 m c) (B3 m c)) (B4 m c) := by
  rw [out3, RD_eq]; exact dGain_eq _ _

end Cert.MidRefIdeal.Value

namespace Cert.Mid

/-- The call runs to an end, keeps its arguments and leaves every semaphore at zero. -/
theorem quiescent : Cert.quiescent_Mid := fun m g _ => Cert.Mid.Gen.frame m g

/-- So does the idealized call. -/
theorem quiescent_ideal : Cert.quiescent_MidIdeal := fun m g _ => Cert.MidIdeal.Gen.frame m g

/-- So does its reference. -/
theorem quiescent_ref : Cert.quiescent_MidRefIdeal := fun m g _ =>
  (θ_run Cert.MidRefIdeal.defs _ _).mono (fun r h => ⟨fun c => (h c).2.2.2.2, sem_eq_zero_of_no_sems (by decide) r.2⟩)
    (Cert.MidRefIdeal.Value.run (F := Ideal) m g)

/-- The gradients between the norms agree when the arguments do. -/
theorem D_eq (m : (ℓ : Loc Cert.MidIdeal.nD Cert.MidIdeal.τ Cert.MidIdeal.sig) → Buf (Elt Ideal) ℓ)
    (m' : (ℓ : Loc Cert.MidRefIdeal.nD Cert.MidRefIdeal.τ Cert.MidRefIdeal.sig) → Buf (Elt Ideal) ℓ) (c : Dev Cert.MidIdeal.nD)
    (h : Cert.MidRefIdeal.Value.B0 m' c = Cert.MidIdeal.Value.A0 m c ∧ Cert.MidRefIdeal.Value.B1 m' c = Cert.MidIdeal.Value.A1 m c
      ∧ Cert.MidRefIdeal.Value.B2 m' c = Cert.MidIdeal.Value.A2 m c ∧ Cert.MidRefIdeal.Value.B3 m' c = Cert.MidIdeal.Value.A3 m c
      ∧ Cert.MidRefIdeal.Value.B4 m' c = Cert.MidIdeal.Value.A4 m c ∧ Cert.MidRefIdeal.Value.B5 m' c = Cert.MidIdeal.Value.A5 m c) :
    Cert.MidIdeal.Value.D m c = Cert.NormRef.dIn (Cert.MidRefIdeal.Value.B0 m' c) (Cert.MidRefIdeal.Value.B1 m' c) (Cert.MidRefIdeal.Value.B2 m' c) (Cert.MidRefIdeal.Value.B3 m' c) := by
  obtain ⟨h0, h1, h2, h3, _⟩ := h
  rw [h0, h1, h2, h3]

/-- The call's results are the reference's. -/
theorem algebraic : Cert.algebraic_MidIdeal_MidRefIdeal := by
  intro m g m' g' _ hagree
  refine ⟨_, _, _, _, Cert.MidIdeal.Value.run_blocks m g, ?_⟩
  refine (θ_run Cert.MidRefIdeal.defs _ _).mono (fun _ h c => ⟨(h c).1.trans ?_, (h c).2.1.trans ?_, (h c).2.2.1.trans ?_, (h c).2.2.2.1.trans ?_, (h c).2.2.2.2⟩)
    (Cert.MidRefIdeal.Value.run (F := Ideal) m' g')
  · exact ((Cert.MidRefIdeal.Value.RD_eq m' c).trans (D_eq m m' c (hagree c)).symm).trans (Cert.MidIdeal.Value.final6 m c).symm
  · refine ((Cert.MidRefIdeal.Value.out1_eq m' c).trans ?_).trans (Cert.MidIdeal.Value.final7 m c).symm
    rw [D_eq m m' c (hagree c), show Cert.MidIdeal.Value.A4 m c = Cert.MidRefIdeal.Value.B4 m' c from (hagree c).2.2.2.2.1.symm,
      show Cert.MidIdeal.Value.A5 m c = Cert.MidRefIdeal.Value.B5 m' c from (hagree c).2.2.2.2.2.symm]
  · refine ((Cert.NormRef.dGain_eq _ _).trans ?_).trans (Cert.MidIdeal.Value.final8 m c).symm
    exact congrArg₂ Cert.NormRef.dGain (hagree c).1 (hagree c).2.1
  · refine ((Cert.MidRefIdeal.Value.out3_eq m' c).trans ?_).trans (Cert.MidIdeal.Value.final9 m c).symm
    rw [D_eq m m' c (hagree c), show Cert.MidIdeal.Value.A4 m c = Cert.MidRefIdeal.Value.B4 m' c from (hagree c).2.2.2.2.1.symm]

end Cert.Mid

end
-- ==== Proof.Head.lean ====
/- The call `final_fwd_bwd`: the loss, its gradient and the last norm's backward pass. -/
module

public import proofs.«01_k».proof.Defs
public import proofs.«01_k».proof.Proof.Gen.Head.Frame
public import proofs.«01_k».proof.Proof.Gen.HeadIdeal.Frame
public import proofs.«01_k».proof.Proof.Gen.HeadRefIdeal
public import proofs.«01_k».proof.Proof.Gen.HeadRefIdeal.Run
public import proofs.«01_k».proof.Proof.Gen.HeadIdeal.Value
public import proofs.«01_k».proof.Proof.NormRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.HeadIdeal.Value

open Cert.HeadIdeal Cert.HeadIdeal.Gen
open Cert.NormBwd (rs dxK wR)
open Cert.NormRef (dIn dNorm dGain)

variable (m : (ℓ : Loc nD τ sig) → Buf (Elt Ideal) ℓ)

/-- Which block every grid point takes of each array. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] ∧ win0_7.index t = ![0, 0] :=
  (by decide +kernel : ∀ t : Fin grid0.N, _)

/-- The arguments. -/
abbrev A0 (c : Dev nD) : Vec Ideal S2048x2048 .f32 := m ((c : Thread nD τ).loc main_arg0)
abbrev A1 (c : Dev nD) : Vec Ideal S2048x2048 .f32 := m ((c : Thread nD τ).loc main_arg1)
abbrev A2 (c : Dev nD) : Vec Ideal S1x2048 .f32 := m ((c : Thread nD τ).loc main_arg2)
abbrev A3 (c : Dev nD) : Vec Ideal S2048x2048 .f32 := m ((c : Thread nD τ).loc main_arg3)

/-- The output's difference from the target. -/
def err (X F : FVec Ideal S2048x2048 .f32) (g : FVec Ideal S1x2048 .f32) (Y : FVec Ideal S2048x2048 .f32) : FVec Ideal S2048x2048 .f32 :=
  fun y => X y + F y * rs (fun k => F (ix2 (y 0) k)) * g (ix2 0 (y 1)) - Y y

/-- The loss's gradient at the output. -/
def dOut (E : FVec Ideal S2048x2048 .f32) : FVec Ideal S2048x2048 .f32 := fun y => E y * Ideal.ofBits .f32 0x3A000000#32

/-- The loss, on every lane. -/
def loss (E : FVec Ideal S2048x2048 .f32) : FVec Ideal S1x128 .f32 :=
  fun _ => Ideal.ofBits .f32 0x3F000000#32 * ∑ s : Fin 2048, Ideal.div (∑ k : Fin 2048, E (ix2 s k) * E (ix2 s k)) (Ideal.ofBits .f32 0x45000000#32)

/-- The difference of the call's arguments, and its gradient. -/
abbrev E (c : Dev nD) : FVec Ideal S2048x2048 .f32 := err (A0 m c) (A1 m c) (A2 m c) (A3 m c)
abbrev D (c : Dev nD) : FVec Ideal S2048x2048 .f32 := dOut (E m c)

/-- The blocks of a grid point. -/
abbrev b0 (c : Dev nD) (t : Fin cfg0.N) : Vec Ideal S256x2048 .f32 := iblk m c 0 t
abbrev b1 (c : Dev nD) (t : Fin cfg0.N) : Vec Ideal S256x2048 .f32 := iblk m c 1 t
abbrev b2 (c : Dev nD) (t : Fin cfg0.N) : Vec Ideal S1x2048 .f32 := iblk m c 2 t
abbrev b3 (c : Dev nD) (t : Fin cfg0.N) : Vec Ideal S256x2048 .f32 := iblk m c 3 t

/-- The row of the array at a row of a block. -/
def row (t : Fin cfg0.N) (r : Fin 256) : Fin 2048 := ⟨t.val * 256 + r.val, by have := t.isLt; have : cfg0.N = 8 := rfl; omega⟩

theorem b0_at (c : Dev nD) (t : Fin cfg0.N) (r : Fin 256) (j : Fin 2048) : b0 m c t (ix2 r j) = A0 m c (ix2 (row t r) j) := by
  blk_point [iblk, V, idx t, row]
theorem b1_at (c : Dev nD) (t : Fin cfg0.N) (r : Fin 256) (j : Fin 2048) : b1 m c t (ix2 r j) = A1 m c (ix2 (row t r) j) := by
  blk_point [iblk, V, idx t, row]
theorem b2_at (c : Dev nD) (t : Fin cfg0.N) (j : Fin 2048) : b2 m c t (ix2 0 j) = A2 m c (ix2 0 j) := by
  blk_point [iblk, V, idx t]
theorem b3_at (c : Dev nD) (t : Fin cfg0.N) (r : Fin 256) (j : Fin 2048) : b3 m c t (ix2 r j) = A3 m c (ix2 (row t r) j) := by
  blk_point [iblk, V, idx t, row]

/-- The difference on a block. -/
theorem pay8_at (x1 : Vec Ideal S256x2048 .f32) (x2 : Vec Ideal S1x2048 .f32) (x0 x3 : Vec Ideal S256x2048 .f32) (r : Fin 256) (j : Fin 2048) :
    (k0_pay8 (F := Ideal) x1 x2 x0 x3 (ix2 r j) : EReal) = x0 (ix2 r j) + x1 (ix2 r j) * rs (fun k => x1 (ix2 r k)) * x2 (ix2 0 j) - x3 (ix2 r j) := by
  pointwise [k0_pay8, rs]

/-- Its gradient. -/
theorem pay1_at (d : Vec Ideal S256x2048 .f32) (r : Fin 256) (j : Fin 2048) :
    (k0_pay1 (F := Ideal) d (Scalar.ofBits .f32 0x3A000000#32) (ix2 r j) : EReal) = d (ix2 r j) * Ideal.ofBits .f32 0x3A000000#32 := by
  pointwise [k0_pay1]

/-- The norm's backward pass on a block. -/
theorem pay4_at (x1 : Vec Ideal S256x2048 .f32) (x2 : Vec Ideal S1x2048 .f32) (d : Vec Ideal S256x2048 .f32) (r : Fin 256) (j : Fin 2048) :
    (k0_pay4 (F := Ideal) x1 x2 d (Scalar.ofBits .f32 0x3A000000#32) (ix2 r j) : EReal)
      = dxK (fun k => x1 (ix2 r k)) (fun k => d (ix2 r k) * Ideal.ofBits .f32 0x3A000000#32 * x2 (ix2 0 k)) j := by
  pointwise [k0_pay4, k0_pay3, k0_pay2, k0_pay1, dxK, rs]

/-- The difference's block. -/
abbrev e (c : Dev nD) (t : Fin cfg0.N) : Vec Ideal S256x2048 .f32 := k0_pay8 (F := Ideal) (b1 m c t) (b2 m c t) (b0 m c t) (b3 m c t)

theorem e_at (c : Dev nD) (t : Fin cfg0.N) (r : Fin 256) (j : Fin 2048) : e m c t (ix2 r j) = E m c (ix2 (row t r) j) := by
  refine (pay8_at _ _ _ _ r j).trans ?_
  simp only [b0_at, b1_at, b2_at, b3_at]
  rfl

/-- The first result array after the run. -/
theorem final4 (c : Dev nD) : (dats m 0 c).arrAt 4 cfg0.N = D m c := by
  refine (dats m 0 c).arrAt_eq_of_covers 4 _ (by decide +kernel) fun t _ y => ?_
  blk_simp
  obtain ⟨r, j, rfl⟩ : ∃ (a : Fin 256) (b : Fin 2048), y = ix2 a b := ⟨y 0, y 1, eq_ix2 y⟩
  rw [after0_4]
  refine Eq.trans (b := (k0_pay1 (F := Ideal) (e m c t) (Scalar.ofBits .f32 0x3A000000#32) (ix2 r j) : EReal)) ?_
    (((pay1_at _ r j).trans (congrArg (· * Ideal.ofBits .f32 0x3A000000#32) (e_at m c t r j))).trans (congrArg (D m c) (?_ : ix2 (row t r) j = _)))
  · by_cases h : t.val % 8 = 0
    · rw [outsAt0_A m c t h]; frame_out
    · rw [outsAt0_B m c t h]; frame_out
  · blk_ext [idx t, row]

/-- The second result array after the run. -/
theorem final5 (c : Dev nD) : (dats m 0 c).arrAt 5 cfg0.N = (show FVec Ideal S2048x2048 .bf16 from dNorm (D m c) (A1 m c) (A2 m c)) := by
  refine (dats m 0 c).arrAt_eq_of_covers 5 _ (by decide +kernel) fun t _ y => ?_
  blk_simp
  obtain ⟨r, j, rfl⟩ : ∃ (a : Fin 256) (b : Fin 2048), y = ix2 a b := ⟨y 0, y 1, eq_ix2 y⟩
  rw [after0_5]
  refine Eq.trans (b := (k0_pay4 (F := Ideal) (b1 m c t) (b2 m c t) (e m c t) (Scalar.ofBits .f32 0x3A000000#32) (ix2 r j) : EReal)) ?_
    (((pay4_at _ _ _ r j).trans ?_).trans (congrArg (dNorm (D m c) (A1 m c) (A2 m c)) (?_ : ix2 (row t r) j = _)))
  · by_cases h : t.val % 8 = 0
    · rw [outsAt0_A m c t h]; frame_out
    · rw [outsAt0_B m c t h]; frame_out
  · simp only [e_at, b1_at, b2_at]
    rfl
  · blk_ext [idx t, row]

/-- One row's term of the gain's gradient. -/
def T (C X : FVec Ideal S2048x2048 .f32) (s j : Fin 2048) : EReal := C (ix2 s j) * (X (ix2 s j) * rs (fun k => X (ix2 s k)))

/-- One row's term of the loss. -/
def L (d : FVec Ideal S2048x2048 .f32) (s : Fin 2048) : EReal := Ideal.ofBits .f32 0x3F000000#32 * Ideal.div (∑ k : Fin 2048, d (ix2 s k) * d (ix2 s k)) (Ideal.ofBits .f32 0x45000000#32)

theorem litHalf : Ideal.ofBits .f32 0x3F000000#32 = ((1 / 2 : ℝ) : EReal) := by
  simp [Ideal.ofBits, Ideal.ieee, -EReal.coe_mul]; norm_num

/-- A half of a sum is the sum of the halves. -/
theorem half_sum {n : ℕ} (f : Fin n → EReal) : Ideal.ofBits .f32 0x3F000000#32 * ∑ k, f k = ∑ k, Ideal.ofBits .f32 0x3F000000#32 * f k := by
  rw [litHalf, mul_comm, ← Cert.NormBwd.sum_mul' _ (by norm_num)]
  exact Finset.sum_congr rfl fun k _ => mul_comm _ _

/-- One step's sum for the gain, added to what was there. -/
theorem pay5_at (x1 d : Vec Ideal S256x2048 .f32) (a : Vec Ideal S1x2048 .f32) (a' : EReal) (i) (h : a i = a') :
    k0_pay5 (F := Ideal) x1 d (Scalar.ofBits .f32 0x3A000000#32) a i
      = a' + ∑ r : Fin 256, d (ix2 r (i 1)) * Ideal.ofBits .f32 0x3A000000#32 * (x1 (ix2 r (i 1)) * rs (fun k => x1 (ix2 r k))) := by
  subst h
  pointwise [k0_pay5, k0_pay3, k0_pay2, k0_pay1, rs]

theorem sum6 (c : Dev nD) (t : Fin cfg0.N) (a : EReal) (i : Fin 2048) :
    a + ∑ r : Fin 256, e m c t (ix2 r i) * Ideal.ofBits .f32 0x3A000000#32 * (b1 m c t (ix2 r i) * rs (fun k => b1 m c t (ix2 r k)))
      = a + ∑ r : Fin 256, T (D m c) (A1 m c) (row t r) i := by
  simp only [e_at, b1_at]; rfl

/-- One step's sum for the loss, added to what was there. -/
theorem pay9_at (x1 : Vec Ideal S256x2048 .f32) (x2 : Vec Ideal S1x2048 .f32) (x0 x3 : Vec Ideal S256x2048 .f32) (a : Vec Ideal S1x128 .f32) (a' : EReal) (i) (h : a i = a') :
    k0_pay9 (F := Ideal) x1 x2 x0 x3 a i
      = a' + Ideal.ofBits .f32 0x3F000000#32 * ∑ r : Fin 256, Ideal.div (∑ k : Fin 2048, k0_pay8 (F := Ideal) x1 x2 x0 x3 (ix2 r k) * k0_pay8 (F := Ideal) x1 x2 x0 x3 (ix2 r k)) (Ideal.ofBits .f32 0x45000000#32) := by
  subst h
  pointwise [k0_pay9]

theorem sum7 (c : Dev nD) (t : Fin cfg0.N) (a : EReal) :
    a + Ideal.ofBits .f32 0x3F000000#32 * ∑ r : Fin 256, Ideal.div (∑ k : Fin 2048, e m c t (ix2 r k) * e m c t (ix2 r k)) (Ideal.ofBits .f32 0x45000000#32)
      = a + ∑ r : Fin 256, L (E m c) (row t r) := by
  rw [half_sum]
  simp only [e_at]; rfl

/-- The sum at the first step, over zero. -/
theorem first6 (c : Dev nD) (t : Fin cfg0.N) (h : t.val % 8 = 0) (i) :
    (outsAt0 m c t.val t.isLt).2.2.1 i = (fun _ => (0 : EReal)) i + ∑ r : Fin 256, T (D m c) (A1 m c) (row t r) (i 1) := by
  rw [outsAt0_A m c t h]; frame_out
  exact (pay5_at _ _ _ _ i (by pointwise [k0_pay6])).trans (sum6 m c t _ (i 1))

/-- The sum at a later step. -/
theorem next6 (c : Dev nD) (t : Fin cfg0.N) (h : ¬ t.val % 8 = 0) (i) :
    (outsAt0 m c t.val t.isLt).2.2.1 i = (outsAt0 m c (t.val - 1) (Nat.lt_of_le_of_lt (Nat.sub_le _ _) t.isLt)).2.2.1 i
      + ∑ r : Fin 256, T (D m c) (A1 m c) (row t r) (i 1) := by
  rw [outsAt0_B m c t h]; frame_out
  exact (pay5_at _ _ _ _ i (by (try rw [Memref.IsWhole.read_unread]); rfl)).trans (sum6 m c t _ (i 1))

/-- The result after the run. -/
theorem final6 (c : Dev nD) : (dats m 0 c).arrAt 6 cfg0.N = dGain (D m c) (A1 m c) := by
  refine (dats m 0 c).arrAt_eq_of_covers 6 _ (by decide +kernel) fun t hf y => ?_
  blk_simp
  rw [after0_6,
    Pipeline.eq_sum_fin_of_reset_step_apply_of_flush (fun n h => (outsAt0 m c n h).2.2.1) 8 (fun _ => 0)
      (fun t i => ∑ r : Fin 256, T (D m c) (A1 m c) (row t r) (i 1))
      (fun t h i => first6 m c t h i) (fun t h i => next6 m c t h i) t ((flush0_6 t).mp hf) y,
    zero_add]
  refine Eq.trans ?_ (congrArg (dGain (D m c) (A1 m c)) (show y = _ by blk_ext [idx t]))
  unfold dGain
  refine Fin.sum_mul_add_congr fun s k hl => ?_
  refine congrArg (fun q => T (D m c) (A1 m c) q (y 1)) (Fin.ext ?_)
  have ht : t.val / 8 = 0 := by have h8 : t.val < 8 := t.isLt; omega
  simp only [row, ht]; omega

/-- The sum at the first step, over zero. -/
theorem first7 (c : Dev nD) (t : Fin cfg0.N) (h : t.val % 8 = 0) (i) :
    (outsAt0 m c t.val t.isLt).2.2.2 i = (fun _ => (0 : EReal)) i + ∑ r : Fin 256, L (E m c) (row t r) := by
  rw [outsAt0_A m c t h]; frame_out
  exact (pay9_at _ _ _ _ _ _ i (by pointwise [k0_pay7])).trans (sum7 m c t _)

/-- The sum at a later step. -/
theorem next7 (c : Dev nD) (t : Fin cfg0.N) (h : ¬ t.val % 8 = 0) (i) :
    (outsAt0 m c t.val t.isLt).2.2.2 i = (outsAt0 m c (t.val - 1) (Nat.lt_of_le_of_lt (Nat.sub_le _ _) t.isLt)).2.2.2 i
      + ∑ r : Fin 256, L (E m c) (row t r) := by
  rw [outsAt0_B m c t h]; frame_out
  exact (pay9_at _ _ _ _ _ _ i (by (try rw [Memref.IsWhole.read_unread]); rfl)).trans (sum7 m c t _)

/-- The result after the run. -/
theorem final7 (c : Dev nD) : (dats m 0 c).arrAt 7 cfg0.N = loss (E m c) := by
  refine (dats m 0 c).arrAt_eq_of_covers 7 _ (by decide +kernel) fun t hf y => ?_
  blk_simp
  rw [after0_7,
    Pipeline.eq_sum_fin_of_reset_step_apply_of_flush (fun n h => (outsAt0 m c n h).2.2.2) 8 (fun _ => 0)
      (fun t i => ∑ r : Fin 256, L (E m c) (row t r))
      (fun t h i => first7 m c t h i) (fun t h i => next7 m c t h i) t ((flush0_7 t).mp hf) y,
    zero_add]
  refine Eq.trans ?_ (congrArg (loss (E m c)) (show y = _ by blk_ext [idx t]))
  unfold loss; rw [half_sum]
  refine Fin.sum_mul_add_congr fun s k hl => ?_
  refine congrArg (fun q => L (E m c) q) (Fin.ext ?_)
  have ht : t.val / 8 = 0 := by have h8 : t.val < 8 := t.isLt; omega
  simp only [row, ht]; omega

end Cert.HeadIdeal.Value

namespace Cert.HeadRefIdeal.Value

open Cert.HeadRefIdeal Cert.HeadRefIdeal.Gen
open Cert.NormRef
open Cert.HeadIdeal.Value (err dOut loss)

/-- The difference, by the operations. -/
def RE (X F : FVec Ideal S2048x2048 .f32) (g : FVec Ideal S1x2048 .f32) (Y : FVec Ideal S2048x2048 .f32) : FVec Ideal S2048x2048 .f32 :=
  subf (addf X (mulf (mulf F (RQ F)) (RG g))) Y

/-- Its gradient, by the operations. -/
def RO (E : FVec Ideal S2048x2048 .f32) : FVec Ideal S2048x2048 .f32 :=
  mulf (broadcastInDim S2048x2048 ![0] bcast_S2048_S2048x2048_0 (Host.divf (broadcastInDim S2048 ![] bcast_S_S2048 (mulf (constant S_ .f32 0x3F000000#32) (constant S_ .f32 0x3F800000#32))) (broadcastInDim S2048 ![] bcast_S_S2048 (constant S_ .f32 0x45000000#32))))
    (mulf (broadcastInDim S2048x2048 ![] bcast_S_S2048x2048 (constant S_ .f32 0x40000000#32)) E)

/-- The loss, by the operations. -/
def RL (E : FVec Ideal S2048x2048 .f32) : FVec Ideal S1x128 .f32 :=
  broadcastInDim S1x128 ![] bcast_S_S1x128 (mulf (constant S_ .f32 0x3F000000#32) (Host.reduceAdd (Host.divf (Host.reduceAdd (mulf E E) (constant S_ .f32 0x00000000#32) reducesTo_S2048x2048_S2048_d1 h_S_) (broadcastInDim S2048 ![] bcast_S_S2048 (constant S_ .f32 0x45000000#32))) (constant S_ .f32 0x00000000#32) reducesTo_S2048_S_d0 h_S_))

theorem RE_eq (X F : FVec Ideal S2048x2048 .f32) (g : FVec Ideal S1x2048 .f32) (Y : FVec Ideal S2048x2048 .f32) : RE X F g Y = err X F g Y := by
  funext y
  obtain ⟨s, j, rfl⟩ : ∃ (a b : Fin 2048), y = ix2 a b := ⟨y 0, y 1, eq_ix2 y⟩
  pointwise [RE, err]
  rw [RQ_at, RG_at]

theorem lit2 : Ideal.ofBits .f32 0x40000000#32 = ((2 : ℝ) : EReal) := by
  simp [Ideal.ofBits, Ideal.ieee, -EReal.coe_mul]; norm_num
theorem litR : Ideal.ofBits .f32 0x3A000000#32 = ((1 / 2048 : ℝ) : EReal) := by
  simp [Ideal.ofBits, Ideal.ieee, -EReal.coe_mul]; norm_num

/-- A half over the width, twice. -/
theorem scale (a : EReal) : Ideal.div (Ideal.ofBits .f32 0x3F000000#32) (Ideal.ofBits .f32 0x45000000#32)
    * (Ideal.ofBits .f32 0x40000000#32 * a) = a * Ideal.ofBits .f32 0x3A000000#32 := by
  rw [← mul_assoc, mul_comm, Cert.HeadIdeal.Value.litHalf, lit2, litR, Cert.NormBwd.lit2048, Ideal.div_coe (by norm_num), ← EReal.coe_mul, ← EReal.coe_mul]
  norm_num

theorem RO_eq (E : FVec Ideal S2048x2048 .f32) : RO E = dOut E := by
  funext y
  obtain ⟨s, j, rfl⟩ : ∃ (a b : Fin 2048), y = ix2 a b := ⟨y 0, y 1, eq_ix2 y⟩
  pointwise [RO, dOut]
  exact scale _

theorem RL_eq (E : FVec Ideal S2048x2048 .f32) : RL E = loss E := by
  funext y
  pointwise [RL, loss]

variable (m : (ℓ : Loc nD τ sig) → Buf (Elt Ideal) ℓ) (c : Dev nD)

/-- The arguments. -/
abbrev B0 : Vec Ideal S2048x2048 .f32 := m ((c.tc : Thread nD τ).loc main_arg0)
abbrev B1 : Vec Ideal S2048x2048 .f32 := m ((c.tc : Thread nD τ).loc main_arg1)
abbrev B2 : Vec Ideal S1x2048 .f32 := m ((c.tc : Thread nD τ).loc main_arg2)
abbrev B3 : Vec Ideal S2048x2048 .f32 := m ((c.tc : Thread nD τ).loc main_arg3)

/-- The second result, by the norm's backward pass. -/
theorem out1 : res_main_v54 m c = truncf .bf16 (NB (B1 m c) (mulf (RO (RE (B0 m c) (B1 m c) (B2 m c) (B3 m c))) (RG (B2 m c)))) bitsLt_bf16_f32 := rfl

theorem out1_eq : res_main_v54 m c = (show FVec Ideal S2048x2048 .bf16 from dNorm (dOut (err (B0 m c) (B1 m c) (B2 m c) (B3 m c))) (B1 m c) (B2 m c)) := by
  rw [out1, RE_eq, RO_eq, dNorm_eq]
  funext y
  pointwise

end Cert.HeadRefIdeal.Value

namespace Cert.Head

/-- The call runs to an end, keeps its arguments and leaves every semaphore at zero. -/
theorem quiescent : Cert.quiescent_Head := fun m g _ => Cert.Head.Gen.frame m g

/-- So does the idealized call. -/
theorem quiescent_ideal : Cert.quiescent_HeadIdeal := fun m g _ => Cert.HeadIdeal.Gen.frame m g

/-- So does its reference. -/
theorem quiescent_ref : Cert.quiescent_HeadRefIdeal := fun m g _ =>
  (θ_run Cert.HeadRefIdeal.defs _ _).mono (fun r h => ⟨fun c => (h c).2.2.2.2, sem_eq_zero_of_no_sems (by decide) r.2⟩)
    (Cert.HeadRefIdeal.Value.run (F := Ideal) m g)

/-- The differences agree when the arguments do. -/
theorem E_eq (m : (ℓ : Loc Cert.HeadIdeal.nD Cert.HeadIdeal.τ Cert.HeadIdeal.sig) → Buf (Elt Ideal) ℓ)
    (m' : (ℓ : Loc Cert.HeadRefIdeal.nD Cert.HeadRefIdeal.τ Cert.HeadRefIdeal.sig) → Buf (Elt Ideal) ℓ) (c : Dev Cert.HeadIdeal.nD)
    (h : Cert.HeadRefIdeal.Value.B0 m' c = Cert.HeadIdeal.Value.A0 m c ∧ Cert.HeadRefIdeal.Value.B1 m' c = Cert.HeadIdeal.Value.A1 m c
      ∧ Cert.HeadRefIdeal.Value.B2 m' c = Cert.HeadIdeal.Value.A2 m c ∧ Cert.HeadRefIdeal.Value.B3 m' c = Cert.HeadIdeal.Value.A3 m c) :
    Cert.HeadRefIdeal.Value.RE (Cert.HeadRefIdeal.Value.B0 m' c) (Cert.HeadRefIdeal.Value.B1 m' c) (Cert.HeadRefIdeal.Value.B2 m' c) (Cert.HeadRefIdeal.Value.B3 m' c)
      = Cert.HeadIdeal.Value.E m c := by
  obtain ⟨h0, h1, h2, h3⟩ := h
  rw [h0, h1, h2, h3]; exact Cert.HeadRefIdeal.Value.RE_eq _ _ _ _

/-- The call's results are the reference's. -/
theorem algebraic : Cert.algebraic_HeadIdeal_HeadRefIdeal := by
  intro m g m' g' _ hagree
  refine ⟨_, _, _, _, Cert.HeadIdeal.Value.run_blocks m g, ?_⟩
  refine (θ_run Cert.HeadRefIdeal.defs _ _).mono (fun _ h c => ⟨(h c).1.trans ?_, (h c).2.1.trans ?_, (h c).2.2.1.trans ?_, (h c).2.2.2.1.trans ?_, (h c).2.2.2.2⟩)
    (Cert.HeadRefIdeal.Value.run (F := Ideal) m' g')
  · exact (((congrArg Cert.HeadRefIdeal.Value.RO (E_eq m m' c (hagree c))).trans (Cert.HeadRefIdeal.Value.RO_eq _))).trans (Cert.HeadIdeal.Value.final4 m c).symm
  · refine ((Cert.HeadRefIdeal.Value.out1_eq m' c).trans ?_).trans (Cert.HeadIdeal.Value.final5 m c).symm
    rw [← Cert.HeadRefIdeal.Value.RE_eq, E_eq m m' c (hagree c), show Cert.HeadRefIdeal.Value.B1 m' c = Cert.HeadIdeal.Value.A1 m c from (hagree c).2.1,
      show Cert.HeadRefIdeal.Value.B2 m' c = Cert.HeadIdeal.Value.A2 m c from (hagree c).2.2.1]
  · refine ((Cert.NormRef.dGain_eq (Cert.HeadRefIdeal.Value.RO (Cert.HeadRefIdeal.Value.RE (Cert.HeadRefIdeal.Value.B0 m' c) (Cert.HeadRefIdeal.Value.B1 m' c) (Cert.HeadRefIdeal.Value.B2 m' c) (Cert.HeadRefIdeal.Value.B3 m' c))) (Cert.HeadRefIdeal.Value.B1 m' c)).trans ?_).trans (Cert.HeadIdeal.Value.final6 m c).symm
    rw [E_eq m m' c (hagree c), Cert.HeadRefIdeal.Value.RO_eq, show Cert.HeadRefIdeal.Value.B1 m' c = Cert.HeadIdeal.Value.A1 m c from (hagree c).2.1]
  · exact (((congrArg Cert.HeadRefIdeal.Value.RL (E_eq m m' c (hagree c))).trans (Cert.HeadRefIdeal.Value.RL_eq _))).trans (Cert.HeadIdeal.Value.final7 m c).symm

end Cert.Head

end
-- ==== Proof.SmallBody.lean ====
/- The body of the call `adamw_small`, idealized: from eight weights, moments and gradients in the buffers it leaves
   eight gradients, steps and moments. -/
module

public import proofs.«01_k».proof.Proof.Gen.AdamSmallIdeal.Skeleton
public import proofs.«01_k».proof.Proof.Gen.AdamSmallIdeal.Points
public import proofs.«01_k».proof.Defs
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmallIdeal.Small

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole of a buffer of the shape. -/
abbrev whole0 : Rect S3x2752 := Rect.unit (s := S3x2752) ![0, 0] S3x2752.size inb_S3x2752_S3x2752_0_0
/-- The whole of a buffer of the shape. -/
abbrev whole1 : Rect S1x11008 := Rect.unit (s := S1x11008) ![0, 0] S1x11008.size inb_S1x11008_S1x11008_0_0
/-- The whole of a buffer of the shape. -/
abbrev whole2 : Rect S1x2048 := Rect.unit (s := S1x2048) ![0, 0] S1x2048.size inb_S1x2048_S1x2048_0_0
/-- The whole of a buffer of the shape. -/
abbrev whole3 : Rect S1x1024 := Rect.unit (s := S1x1024) ![0, 0] S1x1024.size inb_S1x1024_S1x1024_0_0

/-- One store of the whole covers the buffer. -/
theorem covers_whole0 (p : Vec F S3x2752 .f32) (y : S3x2752.Idx) : ∃ q ∈ ([⟨whole0, p⟩] : List (View.Piece (Elt F) S3x2752 .f32)), y ∈ q.1.set :=
  View.cover_of_tiled [⟨whole0, p⟩] S3x2752.size (by rfl) y

/-- One store of the whole covers the buffer. -/
theorem covers_whole1 (p : Vec F S1x11008 .f32) (y : S1x11008.Idx) : ∃ q ∈ ([⟨whole1, p⟩] : List (View.Piece (Elt F) S1x11008 .f32)), y ∈ q.1.set :=
  View.cover_of_tiled [⟨whole1, p⟩] S1x11008.size (by rfl) y

/-- One store of the whole covers the buffer. -/
theorem covers_whole2 (p : Vec F S1x2048 .f32) (y : S1x2048.Idx) : ∃ q ∈ ([⟨whole2, p⟩] : List (View.Piece (Elt F) S1x2048 .f32)), y ∈ q.1.set :=
  View.cover_of_tiled [⟨whole2, p⟩] S1x2048.size (by rfl) y

/-- One store of the whole covers the buffer. -/
theorem covers_whole3 (p : Vec F S1x1024 .f32) (y : S1x1024.Idx) : ∃ q ∈ ([⟨whole3, p⟩] : List (View.Piece (Elt F) S1x1024 .f32)), y ∈ q.1.set :=
  View.cover_of_tiled [⟨whole3, p⟩] S1x1024.size (by rfl) y

/-- Output 32: the gradient, as it came. -/
def out32 (x0 x1 x2 x3 : Vec F S3x2752 .f32) : Vec F S3x2752 .f32 := View.canon [⟨whole0, View.ld x3 whole0⟩]
/-- Output 33: the step of the weight. -/
def out33 (x0 x1 x2 x3 : Vec F S3x2752 .f32) : Vec F S3x2752 .f32 := View.canon [⟨whole0, k0_pay3 (View.ld x3 whole0) (View.ld x1 whole0) (View.ld x2 whole0) (View.ld x0 whole0)⟩]
/-- Output 34: the first moment. -/
def out34 (x0 x1 x2 x3 : Vec F S3x2752 .f32) : Vec F S3x2752 .f32 := View.canon [⟨whole0, k0_pay1 (View.ld x3 whole0) (View.ld x1 whole0)⟩]
/-- Output 35: the second moment. -/
def out35 (x0 x1 x2 x3 : Vec F S3x2752 .f32) : Vec F S3x2752 .f32 := View.canon [⟨whole0, k0_pay2 (View.ld x3 whole0) (View.ld x2 whole0)⟩]
/-- Output 36: the gradient, as it came. -/
def out36 (x4 x5 x6 x7 : Vec F S1x11008 .f32) : Vec F S1x11008 .f32 := View.canon [⟨whole1, View.ld x7 whole1⟩]
/-- Output 37: the step of the weight. -/
def out37 (x4 x5 x6 x7 : Vec F S1x11008 .f32) : Vec F S1x11008 .f32 := View.canon [⟨whole1, k0_pay6 (View.ld x7 whole1) (View.ld x5 whole1) (View.ld x6 whole1) (View.ld x4 whole1)⟩]
/-- Output 38: the first moment. -/
def out38 (x4 x5 x6 x7 : Vec F S1x11008 .f32) : Vec F S1x11008 .f32 := View.canon [⟨whole1, k0_pay4 (View.ld x7 whole1) (View.ld x5 whole1)⟩]
/-- Output 39: the second moment. -/
def out39 (x4 x5 x6 x7 : Vec F S1x11008 .f32) : Vec F S1x11008 .f32 := View.canon [⟨whole1, k0_pay5 (View.ld x7 whole1) (View.ld x6 whole1)⟩]
/-- Output 40: the gradient, as it came. -/
def out40 (x8 x9 x10 x11 : Vec F S1x2048 .f32) : Vec F S1x2048 .f32 := View.canon [⟨whole2, View.ld x11 whole2⟩]
/-- Output 41: the step of the weight. -/
def out41 (x8 x9 x10 x11 : Vec F S1x2048 .f32) : Vec F S1x2048 .f32 := View.canon [⟨whole2, k0_pay9 (View.ld x11 whole2) (View.ld x9 whole2) (View.ld x10 whole2) (View.ld x8 whole2)⟩]
/-- Output 42: the first moment. -/
def out42 (x8 x9 x10 x11 : Vec F S1x2048 .f32) : Vec F S1x2048 .f32 := View.canon [⟨whole2, k0_pay7 (View.ld x11 whole2) (View.ld x9 whole2)⟩]
/-- Output 43: the second moment. -/
def out43 (x8 x9 x10 x11 : Vec F S1x2048 .f32) : Vec F S1x2048 .f32 := View.canon [⟨whole2, k0_pay8 (View.ld x11 whole2) (View.ld x10 whole2)⟩]
/-- Output 44: the gradient, as it came. -/
def out44 (x12 x13 x14 x15 : Vec F S1x2048 .f32) : Vec F S1x2048 .f32 := View.canon [⟨whole2, View.ld x15 whole2⟩]
/-- Output 45: the step of the weight. -/
def out45 (x12 x13 x14 x15 : Vec F S1x2048 .f32) : Vec F S1x2048 .f32 := View.canon [⟨whole2, k0_pay12 (View.ld x15 whole2) (View.ld x13 whole2) (View.ld x14 whole2) (View.ld x12 whole2)⟩]
/-- Output 46: the first moment. -/
def out46 (x12 x13 x14 x15 : Vec F S1x2048 .f32) : Vec F S1x2048 .f32 := View.canon [⟨whole2, k0_pay10 (View.ld x15 whole2) (View.ld x13 whole2)⟩]
/-- Output 47: the second moment. -/
def out47 (x12 x13 x14 x15 : Vec F S1x2048 .f32) : Vec F S1x2048 .f32 := View.canon [⟨whole2, k0_pay11 (View.ld x15 whole2) (View.ld x14 whole2)⟩]
/-- Output 48: the gradient, as it came. -/
def out48 (x16 x17 x18 x19 : Vec F S1x2048 .f32) : Vec F S1x2048 .f32 := View.canon [⟨whole2, View.ld x19 whole2⟩]
/-- Output 49: the step of the weight. -/
def out49 (x16 x17 x18 x19 : Vec F S1x2048 .f32) : Vec F S1x2048 .f32 := View.canon [⟨whole2, k0_pay15 (View.ld x19 whole2) (View.ld x17 whole2) (View.ld x18 whole2) (View.ld x16 whole2)⟩]
/-- Output 50: the first moment. -/
def out50 (x16 x17 x18 x19 : Vec F S1x2048 .f32) : Vec F S1x2048 .f32 := View.canon [⟨whole2, k0_pay13 (View.ld x19 whole2) (View.ld x17 whole2)⟩]
/-- Output 51: the second moment. -/
def out51 (x16 x17 x18 x19 : Vec F S1x2048 .f32) : Vec F S1x2048 .f32 := View.canon [⟨whole2, k0_pay14 (View.ld x19 whole2) (View.ld x18 whole2)⟩]
/-- Output 52: the gradient, as it came. -/
def out52 (x20 x21 x22 x23 : Vec F S1x2048 .f32) : Vec F S1x2048 .f32 := View.canon [⟨whole2, View.ld x23 whole2⟩]
/-- Output 53: the step of the weight. -/
def out53 (x20 x21 x22 x23 : Vec F S1x2048 .f32) : Vec F S1x2048 .f32 := View.canon [⟨whole2, k0_pay18 (View.ld x23 whole2) (View.ld x21 whole2) (View.ld x22 whole2) (View.ld x20 whole2)⟩]
/-- Output 54: the first moment. -/
def out54 (x20 x21 x22 x23 : Vec F S1x2048 .f32) : Vec F S1x2048 .f32 := View.canon [⟨whole2, k0_pay16 (View.ld x23 whole2) (View.ld x21 whole2)⟩]
/-- Output 55: the second moment. -/
def out55 (x20 x21 x22 x23 : Vec F S1x2048 .f32) : Vec F S1x2048 .f32 := View.canon [⟨whole2, k0_pay17 (View.ld x23 whole2) (View.ld x22 whole2)⟩]
/-- Output 56: the gradient, as it came. -/
def out56 (x24 x25 x26 x27 : Vec F S1x1024 .f32) : Vec F S1x1024 .f32 := View.canon [⟨whole3, View.ld x27 whole3⟩]
/-- Output 57: the step of the weight. -/
def out57 (x24 x25 x26 x27 : Vec F S1x1024 .f32) : Vec F S1x1024 .f32 := View.canon [⟨whole3, k0_pay21 (View.ld x27 whole3) (View.ld x25 whole3) (View.ld x26 whole3) (View.ld x24 whole3)⟩]
/-- Output 58: the first moment. -/
def out58 (x24 x25 x26 x27 : Vec F S1x1024 .f32) : Vec F S1x1024 .f32 := View.canon [⟨whole3, k0_pay19 (View.ld x27 whole3) (View.ld x25 whole3)⟩]
/-- Output 59: the second moment. -/
def out59 (x24 x25 x26 x27 : Vec F S1x1024 .f32) : Vec F S1x1024 .f32 := View.canon [⟨whole3, k0_pay20 (View.ld x27 whole3) (View.ld x26 whole3)⟩]
/-- Output 60: the gradient, as it came. -/
def out60 (x28 x29 x30 x31 : Vec F S1x1024 .f32) : Vec F S1x1024 .f32 := View.canon [⟨whole3, View.ld x31 whole3⟩]
/-- Output 61: the step of the weight. -/
def out61 (x28 x29 x30 x31 : Vec F S1x1024 .f32) : Vec F S1x1024 .f32 := View.canon [⟨whole3, k0_pay24 (View.ld x31 whole3) (View.ld x29 whole3) (View.ld x30 whole3) (View.ld x28 whole3)⟩]
/-- Output 62: the first moment. -/
def out62 (x28 x29 x30 x31 : Vec F S1x1024 .f32) : Vec F S1x1024 .f32 := View.canon [⟨whole3, k0_pay22 (View.ld x31 whole3) (View.ld x29 whole3)⟩]
/-- Output 63: the second moment. -/
def out63 (x28 x29 x30 x31 : Vec F S1x1024 .f32) : Vec F S1x1024 .f32 := View.canon [⟨whole3, k0_pay23 (View.ld x31 whole3) (View.ld x30 whole3)⟩]

set_option maxHeartbeats 4000000 in
/-- The body takes the inputs' buffers as they are and leaves every output's buffer at its value. -/
theorem body (c : Dev nD) (E : Set ℕ) (a0 : Memref sig .tc .vmem S3x2752 .f32) (h0 : a0.IsWhole) (a1 : Memref sig .tc .vmem S3x2752 .f32) (h1 : a1.IsWhole)
    (a2 : Memref sig .tc .vmem S3x2752 .f32) (h2 : a2.IsWhole) (a3 : Memref sig .tc .vmem S3x2752 .f32) (h3 : a3.IsWhole)
    (a4 : Memref sig .tc .vmem S1x11008 .f32) (h4 : a4.IsWhole) (a5 : Memref sig .tc .vmem S1x11008 .f32) (h5 : a5.IsWhole)
    (a6 : Memref sig .tc .vmem S1x11008 .f32) (h6 : a6.IsWhole) (a7 : Memref sig .tc .vmem S1x11008 .f32) (h7 : a7.IsWhole)
    (a8 : Memref sig .tc .vmem S1x2048 .f32) (h8 : a8.IsWhole) (a9 : Memref sig .tc .vmem S1x2048 .f32) (h9 : a9.IsWhole)
    (a10 : Memref sig .tc .vmem S1x2048 .f32) (h10 : a10.IsWhole) (a11 : Memref sig .tc .vmem S1x2048 .f32) (h11 : a11.IsWhole)
    (a12 : Memref sig .tc .vmem S1x2048 .f32) (h12 : a12.IsWhole) (a13 : Memref sig .tc .vmem S1x2048 .f32) (h13 : a13.IsWhole)
    (a14 : Memref sig .tc .vmem S1x2048 .f32) (h14 : a14.IsWhole) (a15 : Memref sig .tc .vmem S1x2048 .f32) (h15 : a15.IsWhole)
    (a16 : Memref sig .tc .vmem S1x2048 .f32) (h16 : a16.IsWhole) (a17 : Memref sig .tc .vmem S1x2048 .f32) (h17 : a17.IsWhole)
    (a18 : Memref sig .tc .vmem S1x2048 .f32) (h18 : a18.IsWhole) (a19 : Memref sig .tc .vmem S1x2048 .f32) (h19 : a19.IsWhole)
    (a20 : Memref sig .tc .vmem S1x2048 .f32) (h20 : a20.IsWhole) (a21 : Memref sig .tc .vmem S1x2048 .f32) (h21 : a21.IsWhole)
    (a22 : Memref sig .tc .vmem S1x2048 .f32) (h22 : a22.IsWhole) (a23 : Memref sig .tc .vmem S1x2048 .f32) (h23 : a23.IsWhole)
    (a24 : Memref sig .tc .vmem S1x1024 .f32) (h24 : a24.IsWhole) (a25 : Memref sig .tc .vmem S1x1024 .f32) (h25 : a25.IsWhole)
    (a26 : Memref sig .tc .vmem S1x1024 .f32) (h26 : a26.IsWhole) (a27 : Memref sig .tc .vmem S1x1024 .f32) (h27 : a27.IsWhole)
    (a28 : Memref sig .tc .vmem S1x1024 .f32) (h28 : a28.IsWhole) (a29 : Memref sig .tc .vmem S1x1024 .f32) (h29 : a29.IsWhole)
    (a30 : Memref sig .tc .vmem S1x1024 .f32) (h30 : a30.IsWhole) (a31 : Memref sig .tc .vmem S1x1024 .f32) (h31 : a31.IsWhole)
    (a32 : Memref sig .tc .vmem S3x2752 .f32) (h32 : a32.IsWhole) (a33 : Memref sig .tc .vmem S3x2752 .f32) (h33 : a33.IsWhole)
    (a34 : Memref sig .tc .vmem S3x2752 .f32) (h34 : a34.IsWhole) (a35 : Memref sig .tc .vmem S3x2752 .f32) (h35 : a35.IsWhole)
    (a36 : Memref sig .tc .vmem S1x11008 .f32) (h36 : a36.IsWhole) (a37 : Memref sig .tc .vmem S1x11008 .f32) (h37 : a37.IsWhole)
    (a38 : Memref sig .tc .vmem S1x11008 .f32) (h38 : a38.IsWhole) (a39 : Memref sig .tc .vmem S1x11008 .f32) (h39 : a39.IsWhole)
    (a40 : Memref sig .tc .vmem S1x2048 .f32) (h40 : a40.IsWhole) (a41 : Memref sig .tc .vmem S1x2048 .f32) (h41 : a41.IsWhole)
    (a42 : Memref sig .tc .vmem S1x2048 .f32) (h42 : a42.IsWhole) (a43 : Memref sig .tc .vmem S1x2048 .f32) (h43 : a43.IsWhole)
    (a44 : Memref sig .tc .vmem S1x2048 .f32) (h44 : a44.IsWhole) (a45 : Memref sig .tc .vmem S1x2048 .f32) (h45 : a45.IsWhole)
    (a46 : Memref sig .tc .vmem S1x2048 .f32) (h46 : a46.IsWhole) (a47 : Memref sig .tc .vmem S1x2048 .f32) (h47 : a47.IsWhole)
    (a48 : Memref sig .tc .vmem S1x2048 .f32) (h48 : a48.IsWhole) (a49 : Memref sig .tc .vmem S1x2048 .f32) (h49 : a49.IsWhole)
    (a50 : Memref sig .tc .vmem S1x2048 .f32) (h50 : a50.IsWhole) (a51 : Memref sig .tc .vmem S1x2048 .f32) (h51 : a51.IsWhole)
    (a52 : Memref sig .tc .vmem S1x2048 .f32) (h52 : a52.IsWhole) (a53 : Memref sig .tc .vmem S1x2048 .f32) (h53 : a53.IsWhole)
    (a54 : Memref sig .tc .vmem S1x2048 .f32) (h54 : a54.IsWhole) (a55 : Memref sig .tc .vmem S1x2048 .f32) (h55 : a55.IsWhole)
    (a56 : Memref sig .tc .vmem S1x1024 .f32) (h56 : a56.IsWhole) (a57 : Memref sig .tc .vmem S1x1024 .f32) (h57 : a57.IsWhole)
    (a58 : Memref sig .tc .vmem S1x1024 .f32) (h58 : a58.IsWhole) (a59 : Memref sig .tc .vmem S1x1024 .f32) (h59 : a59.IsWhole)
    (a60 : Memref sig .tc .vmem S1x1024 .f32) (h60 : a60.IsWhole) (a61 : Memref sig .tc .vmem S1x1024 .f32) (h61 : a61.IsWhole)
    (a62 : Memref sig .tc .vmem S1x1024 .f32) (h62 : a62.IsWhole) (a63 : Memref sig .tc .vmem S1x1024 .f32) (h63 : a63.IsWhole)
    (x0 x1 x2 x3 : Vec F S3x2752 .f32) (x4 x5 x6 x7 : Vec F S1x11008 .f32) (x8 x9 x10 x11 : Vec F S1x2048 .f32) (x12 x13 x14 x15 : Vec F S1x2048 .f32)
    (x16 x17 x18 x19 : Vec F S1x2048 .f32) (x20 x21 x22 x23 : Vec F S1x2048 .f32) (x24 x25 x26 x27 : Vec F S1x1024 .f32) (x28 x29 x30 x31 : Vec F S1x1024 .f32) (K : PUnit → sProp (MT nD τ sig Unit (Elt F) ℕ (UR sig nD τ) ℕ)) :
    iprop(owns (c : Thread nD τ) a0 fullShare x0 ∗ owns (c : Thread nD τ) a1 fullShare x1 ∗ owns (c : Thread nD τ) a2 fullShare x2 ∗
        owns (c : Thread nD τ) a3 fullShare x3 ∗ owns (c : Thread nD τ) a4 fullShare x4 ∗ owns (c : Thread nD τ) a5 fullShare x5 ∗
        owns (c : Thread nD τ) a6 fullShare x6 ∗ owns (c : Thread nD τ) a7 fullShare x7 ∗ owns (c : Thread nD τ) a8 fullShare x8 ∗
        owns (c : Thread nD τ) a9 fullShare x9 ∗ owns (c : Thread nD τ) a10 fullShare x10 ∗ owns (c : Thread nD τ) a11 fullShare x11 ∗
        owns (c : Thread nD τ) a12 fullShare x12 ∗ owns (c : Thread nD τ) a13 fullShare x13 ∗ owns (c : Thread nD τ) a14 fullShare x14 ∗
        owns (c : Thread nD τ) a15 fullShare x15 ∗ owns (c : Thread nD τ) a16 fullShare x16 ∗ owns (c : Thread nD τ) a17 fullShare x17 ∗
        owns (c : Thread nD τ) a18 fullShare x18 ∗ owns (c : Thread nD τ) a19 fullShare x19 ∗ owns (c : Thread nD τ) a20 fullShare x20 ∗
        owns (c : Thread nD τ) a21 fullShare x21 ∗ owns (c : Thread nD τ) a22 fullShare x22 ∗ owns (c : Thread nD τ) a23 fullShare x23 ∗
        owns (c : Thread nD τ) a24 fullShare x24 ∗ owns (c : Thread nD τ) a25 fullShare x25 ∗ owns (c : Thread nD τ) a26 fullShare x26 ∗
        owns (c : Thread nD τ) a27 fullShare x27 ∗ owns (c : Thread nD τ) a28 fullShare x28 ∗ owns (c : Thread nD τ) a29 fullShare x29 ∗
        owns (c : Thread nD τ) a30 fullShare x30 ∗ owns (c : Thread nD τ) a31 fullShare x31 ∗ (∃ d, owns (c : Thread nD τ) a32 fullShare d) ∗
        (∃ d, owns (c : Thread nD τ) a33 fullShare d) ∗ (∃ d, owns (c : Thread nD τ) a34 fullShare d) ∗ (∃ d, owns (c : Thread nD τ) a35 fullShare d) ∗
        (∃ d, owns (c : Thread nD τ) a36 fullShare d) ∗ (∃ d, owns (c : Thread nD τ) a37 fullShare d) ∗ (∃ d, owns (c : Thread nD τ) a38 fullShare d) ∗
        (∃ d, owns (c : Thread nD τ) a39 fullShare d) ∗ (∃ d, owns (c : Thread nD τ) a40 fullShare d) ∗ (∃ d, owns (c : Thread nD τ) a41 fullShare d) ∗
        (∃ d, owns (c : Thread nD τ) a42 fullShare d) ∗ (∃ d, owns (c : Thread nD τ) a43 fullShare d) ∗ (∃ d, owns (c : Thread nD τ) a44 fullShare d) ∗
        (∃ d, owns (c : Thread nD τ) a45 fullShare d) ∗ (∃ d, owns (c : Thread nD τ) a46 fullShare d) ∗ (∃ d, owns (c : Thread nD τ) a47 fullShare d) ∗
        (∃ d, owns (c : Thread nD τ) a48 fullShare d) ∗ (∃ d, owns (c : Thread nD τ) a49 fullShare d) ∗ (∃ d, owns (c : Thread nD τ) a50 fullShare d) ∗
        (∃ d, owns (c : Thread nD τ) a51 fullShare d) ∗ (∃ d, owns (c : Thread nD τ) a52 fullShare d) ∗ (∃ d, owns (c : Thread nD τ) a53 fullShare d) ∗
        (∃ d, owns (c : Thread nD τ) a54 fullShare d) ∗ (∃ d, owns (c : Thread nD τ) a55 fullShare d) ∗ (∃ d, owns (c : Thread nD τ) a56 fullShare d) ∗
        (∃ d, owns (c : Thread nD τ) a57 fullShare d) ∗ (∃ d, owns (c : Thread nD τ) a58 fullShare d) ∗ (∃ d, owns (c : Thread nD τ) a59 fullShare d) ∗
        (∃ d, owns (c : Thread nD τ) a60 fullShare d) ∗ (∃ d, owns (c : Thread nD τ) a61 fullShare d) ∗ (∃ d, owns (c : Thread nD τ) a62 fullShare d) ∗
        (∃ d, owns (c : Thread nD τ) a63 fullShare d)
        ∗ (iprop(owns (c : Thread nD τ) a0 fullShare x0 ∗ owns (c : Thread nD τ) a1 fullShare x1 ∗ owns (c : Thread nD τ) a2 fullShare x2 ∗
          owns (c : Thread nD τ) a3 fullShare x3 ∗ owns (c : Thread nD τ) a4 fullShare x4 ∗ owns (c : Thread nD τ) a5 fullShare x5 ∗
          owns (c : Thread nD τ) a6 fullShare x6 ∗ owns (c : Thread nD τ) a7 fullShare x7 ∗ owns (c : Thread nD τ) a8 fullShare x8 ∗
          owns (c : Thread nD τ) a9 fullShare x9 ∗ owns (c : Thread nD τ) a10 fullShare x10 ∗ owns (c : Thread nD τ) a11 fullShare x11 ∗
          owns (c : Thread nD τ) a12 fullShare x12 ∗ owns (c : Thread nD τ) a13 fullShare x13 ∗ owns (c : Thread nD τ) a14 fullShare x14 ∗
          owns (c : Thread nD τ) a15 fullShare x15 ∗ owns (c : Thread nD τ) a16 fullShare x16 ∗ owns (c : Thread nD τ) a17 fullShare x17 ∗
          owns (c : Thread nD τ) a18 fullShare x18 ∗ owns (c : Thread nD τ) a19 fullShare x19 ∗ owns (c : Thread nD τ) a20 fullShare x20 ∗
          owns (c : Thread nD τ) a21 fullShare x21 ∗ owns (c : Thread nD τ) a22 fullShare x22 ∗ owns (c : Thread nD τ) a23 fullShare x23 ∗
          owns (c : Thread nD τ) a24 fullShare x24 ∗ owns (c : Thread nD τ) a25 fullShare x25 ∗ owns (c : Thread nD τ) a26 fullShare x26 ∗
          owns (c : Thread nD τ) a27 fullShare x27 ∗ owns (c : Thread nD τ) a28 fullShare x28 ∗ owns (c : Thread nD τ) a29 fullShare x29 ∗
          owns (c : Thread nD τ) a30 fullShare x30 ∗ owns (c : Thread nD τ) a31 fullShare x31 ∗ owns (c : Thread nD τ) a32 fullShare (out32 x0 x1 x2 x3) ∗
          owns (c : Thread nD τ) a33 fullShare (out33 x0 x1 x2 x3) ∗ owns (c : Thread nD τ) a34 fullShare (out34 x0 x1 x2 x3) ∗ owns (c : Thread nD τ) a35 fullShare (out35 x0 x1 x2 x3) ∗
          owns (c : Thread nD τ) a36 fullShare (out36 x4 x5 x6 x7) ∗ owns (c : Thread nD τ) a37 fullShare (out37 x4 x5 x6 x7) ∗ owns (c : Thread nD τ) a38 fullShare (out38 x4 x5 x6 x7) ∗
          owns (c : Thread nD τ) a39 fullShare (out39 x4 x5 x6 x7) ∗ owns (c : Thread nD τ) a40 fullShare (out40 x8 x9 x10 x11) ∗ owns (c : Thread nD τ) a41 fullShare (out41 x8 x9 x10 x11) ∗
          owns (c : Thread nD τ) a42 fullShare (out42 x8 x9 x10 x11) ∗ owns (c : Thread nD τ) a43 fullShare (out43 x8 x9 x10 x11) ∗ owns (c : Thread nD τ) a44 fullShare (out44 x12 x13 x14 x15) ∗
          owns (c : Thread nD τ) a45 fullShare (out45 x12 x13 x14 x15) ∗ owns (c : Thread nD τ) a46 fullShare (out46 x12 x13 x14 x15) ∗ owns (c : Thread nD τ) a47 fullShare (out47 x12 x13 x14 x15) ∗
          owns (c : Thread nD τ) a48 fullShare (out48 x16 x17 x18 x19) ∗ owns (c : Thread nD τ) a49 fullShare (out49 x16 x17 x18 x19) ∗ owns (c : Thread nD τ) a50 fullShare (out50 x16 x17 x18 x19) ∗
          owns (c : Thread nD τ) a51 fullShare (out51 x16 x17 x18 x19) ∗ owns (c : Thread nD τ) a52 fullShare (out52 x20 x21 x22 x23) ∗ owns (c : Thread nD τ) a53 fullShare (out53 x20 x21 x22 x23) ∗
          owns (c : Thread nD τ) a54 fullShare (out54 x20 x21 x22 x23) ∗ owns (c : Thread nD τ) a55 fullShare (out55 x20 x21 x22 x23) ∗ owns (c : Thread nD τ) a56 fullShare (out56 x24 x25 x26 x27) ∗
          owns (c : Thread nD τ) a57 fullShare (out57 x24 x25 x26 x27) ∗ owns (c : Thread nD τ) a58 fullShare (out58 x24 x25 x26 x27) ∗ owns (c : Thread nD τ) a59 fullShare (out59 x24 x25 x26 x27) ∗
          owns (c : Thread nD τ) a60 fullShare (out60 x28 x29 x30 x31) ∗ owns (c : Thread nD τ) a61 fullShare (out61 x28 x29 x30 x31) ∗ owns (c : Thread nD τ) a62 fullShare (out62 x28 x29 x30 x31) ∗
          owns (c : Thread nD τ) a63 fullShare (out63 x28 x29 x30 x31)) -∗ K PUnit.unit))
      ⊢ wp frame (wpE (defs₀ (F := F)) Variants.none c none) E (cc0_adamw_small a0 h0 a1 h1 a2 h2 a3 h3 a4 h4 a5 h5 a6 h6 a7 h7 a8 h8 a9 h9 a10 h10 a11 h11
        a12 h12 a13 h13 a14 h14 a15 h15 a16 h16 a17 h17 a18 h18 a19 h19 a20 h20 a21 h21 a22 h22 a23 h23
        a24 h24 a25 h25 a26 h26 a27 h27 a28 h28 a29 h29 a30 h30 a31 h31 a32 h32 a33 h33 a34 h34 a35 h35
        a36 h36 a37 h37 a38 h38 a39 h39 a40 h40 a41 h41 a42 h42 a43 h43 a44 h44 a45 h45 a46 h46 a47 h47
        a48 h48 a49 h49 a50 h50 a51 h51 a52 h52 a53 h53 a54 h54 a55 h55 a56 h56 a57 h57 a58 h58 a59 h59
        a60 h60 a61 h61 a62 h62 a63 h63) K := by
  simp only [cc0_adamw_small_eq_skeleton]; unfold cc0_adamw_small_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩,
    ⟨%f16, %e16, H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩,
    ⟨%f24, %e24, H24⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩,
    ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩,
    ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩,
    ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩,
    ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩,
    Hk⟩
  subst e0 e1 e2 e3 e4 e5 e6 e7 e8 e9 e10 e11 e12 e13 e14 e15 e16 e17 e18 e19 e20 e21 e22 e23 e24 e25 e26 e27 e28 e29 e30 e31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists _; isplitr
    swap; · iexact H32
    ipureintro; exact View.read_writes_eq_canon _ _ _ (covers_whole0 _)
  isplitl [H33]
  · iexists _; isplitr
    swap; · iexact H33
    ipureintro; exact View.read_writes_eq_canon _ _ _ (covers_whole0 _)
  isplitl [H34]
  · iexists _; isplitr
    swap; · iexact H34
    ipureintro; exact View.read_writes_eq_canon _ _ _ (covers_whole0 _)
  isplitl [H35]
  · iexists _; isplitr
    swap; · iexact H35
    ipureintro; exact View.read_writes_eq_canon _ _ _ (covers_whole0 _)
  isplitl [H36]
  · iexists _; isplitr
    swap; · iexact H36
    ipureintro; exact View.read_writes_eq_canon _ _ _ (covers_whole1 _)
  isplitl [H37]
  · iexists _; isplitr
    swap; · iexact H37
    ipureintro; exact View.read_writes_eq_canon _ _ _ (covers_whole1 _)
  isplitl [H38]
  · iexists _; isplitr
    swap; · iexact H38
    ipureintro; exact View.read_writes_eq_canon _ _ _ (covers_whole1 _)
  isplitl [H39]
  · iexists _; isplitr
    swap; · iexact H39
    ipureintro; exact View.read_writes_eq_canon _ _ _ (covers_whole1 _)
  isplitl [H40]
  · iexists _; isplitr
    swap; · iexact H40
    ipureintro; exact View.read_writes_eq_canon _ _ _ (covers_whole2 _)
  isplitl [H41]
  · iexists _; isplitr
    swap; · iexact H41
    ipureintro; exact View.read_writes_eq_canon _ _ _ (covers_whole2 _)
  isplitl [H42]
  · iexists _; isplitr
    swap; · iexact H42
    ipureintro; exact View.read_writes_eq_canon _ _ _ (covers_whole2 _)
  isplitl [H43]
  · iexists _; isplitr
    swap; · iexact H43
    ipureintro; exact View.read_writes_eq_canon _ _ _ (covers_whole2 _)
  isplitl [H44]
  · iexists _; isplitr
    swap; · iexact H44
    ipureintro; exact View.read_writes_eq_canon _ _ _ (covers_whole2 _)
  isplitl [H45]
  · iexists _; isplitr
    swap; · iexact H45
    ipureintro; exact View.read_writes_eq_canon _ _ _ (covers_whole2 _)
  isplitl [H46]
  · iexists _; isplitr
    swap; · iexact H46
    ipureintro; exact View.read_writes_eq_canon _ _ _ (covers_whole2 _)
  isplitl [H47]
  · iexists _; isplitr
    swap; · iexact H47
    ipureintro; exact View.read_writes_eq_canon _ _ _ (covers_whole2 _)
  isplitl [H48]
  · iexists _; isplitr
    swap; · iexact H48
    ipureintro; exact View.read_writes_eq_canon _ _ _ (covers_whole2 _)
  isplitl [H49]
  · iexists _; isplitr
    swap; · iexact H49
    ipureintro; exact View.read_writes_eq_canon _ _ _ (covers_whole2 _)
  isplitl [H50]
  · iexists _; isplitr
    swap; · iexact H50
    ipureintro; exact View.read_writes_eq_canon _ _ _ (covers_whole2 _)
  isplitl [H51]
  · iexists _; isplitr
    swap; · iexact H51
    ipureintro; exact View.read_writes_eq_canon _ _ _ (covers_whole2 _)
  isplitl [H52]
  · iexists _; isplitr
    swap; · iexact H52
    ipureintro; exact View.read_writes_eq_canon _ _ _ (covers_whole2 _)
  isplitl [H53]
  · iexists _; isplitr
    swap; · iexact H53
    ipureintro; exact View.read_writes_eq_canon _ _ _ (covers_whole2 _)
  isplitl [H54]
  · iexists _; isplitr
    swap; · iexact H54
    ipureintro; exact View.read_writes_eq_canon _ _ _ (covers_whole2 _)
  isplitl [H55]
  · iexists _; isplitr
    swap; · iexact H55
    ipureintro; exact View.read_writes_eq_canon _ _ _ (covers_whole2 _)
  isplitl [H56]
  · iexists _; isplitr
    swap; · iexact H56
    ipureintro; exact View.read_writes_eq_canon _ _ _ (covers_whole3 _)
  isplitl [H57]
  · iexists _; isplitr
    swap; · iexact H57
    ipureintro; exact View.read_writes_eq_canon _ _ _ (covers_whole3 _)
  isplitl [H58]
  · iexists _; isplitr
    swap; · iexact H58
    ipureintro; exact View.read_writes_eq_canon _ _ _ (covers_whole3 _)
  isplitl [H59]
  · iexists _; isplitr
    swap; · iexact H59
    ipureintro; exact View.read_writes_eq_canon _ _ _ (covers_whole3 _)
  isplitl [H60]
  · iexists _; isplitr
    swap; · iexact H60
    ipureintro; exact View.read_writes_eq_canon _ _ _ (covers_whole3 _)
  isplitl [H61]
  · iexists _; isplitr
    swap; · iexact H61
    ipureintro; exact View.read_writes_eq_canon _ _ _ (covers_whole3 _)
  isplitl [H62]
  · iexists _; isplitr
    swap; · iexact H62
    ipureintro; exact View.read_writes_eq_canon _ _ _ (covers_whole3 _)
  iexists _; isplitr
  swap; · iexact H63
  ipureintro; exact View.read_writes_eq_canon _ _ _ (covers_whole3 _)

end Cert.AdamSmallIdeal.Small

end
-- ==== Proof.SmallRun.lean ====
/- The run of the call `adamw_small`, idealized. -/
module

public import proofs.«01_k».proof.Proof.Gen.AdamSmallIdeal.Launch
public import proofs.«01_k».proof.Proof.Gen.AdamSmallIdeal.Points
public import proofs.«01_k».proof.Proof.SmallBody
public import proofs.«01_k».proof.Defs
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmallIdeal.Small

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers the call finds: those of the launch. -/
abbrev V (c : Dev nD) (b : Ref sig .tc) : Buf (Elt F) ((c : Thread nD τ).loc b) := m ((c : Thread nD τ).loc b)

set_option maxHeartbeats 800000 in
/-- The host does nothing before the call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The part of an array the call stages. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What every buffer holds after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out32 (iblk m c 0 t) (iblk m c 1 t) (iblk m c 2 t) (iblk m c 3 t)
    | ⟨33, _⟩ => out33 (iblk m c 0 t) (iblk m c 1 t) (iblk m c 2 t) (iblk m c 3 t)
    | ⟨34, _⟩ => out34 (iblk m c 0 t) (iblk m c 1 t) (iblk m c 2 t) (iblk m c 3 t)
    | ⟨35, _⟩ => out35 (iblk m c 0 t) (iblk m c 1 t) (iblk m c 2 t) (iblk m c 3 t)
    | ⟨36, _⟩ => out36 (iblk m c 4 t) (iblk m c 5 t) (iblk m c 6 t) (iblk m c 7 t)
    | ⟨37, _⟩ => out37 (iblk m c 4 t) (iblk m c 5 t) (iblk m c 6 t) (iblk m c 7 t)
    | ⟨38, _⟩ => out38 (iblk m c 4 t) (iblk m c 5 t) (iblk m c 6 t) (iblk m c 7 t)
    | ⟨39, _⟩ => out39 (iblk m c 4 t) (iblk m c 5 t) (iblk m c 6 t) (iblk m c 7 t)
    | ⟨40, _⟩ => out40 (iblk m c 8 t) (iblk m c 9 t) (iblk m c 10 t) (iblk m c 11 t)
    | ⟨41, _⟩ => out41 (iblk m c 8 t) (iblk m c 9 t) (iblk m c 10 t) (iblk m c 11 t)
    | ⟨42, _⟩ => out42 (iblk m c 8 t) (iblk m c 9 t) (iblk m c 10 t) (iblk m c 11 t)
    | ⟨43, _⟩ => out43 (iblk m c 8 t) (iblk m c 9 t) (iblk m c 10 t) (iblk m c 11 t)
    | ⟨44, _⟩ => out44 (iblk m c 12 t) (iblk m c 13 t) (iblk m c 14 t) (iblk m c 15 t)
    | ⟨45, _⟩ => out45 (iblk m c 12 t) (iblk m c 13 t) (iblk m c 14 t) (iblk m c 15 t)
    | ⟨46, _⟩ => out46 (iblk m c 12 t) (iblk m c 13 t) (iblk m c 14 t) (iblk m c 15 t)
    | ⟨47, _⟩ => out47 (iblk m c 12 t) (iblk m c 13 t) (iblk m c 14 t) (iblk m c 15 t)
    | ⟨48, _⟩ => out48 (iblk m c 16 t) (iblk m c 17 t) (iblk m c 18 t) (iblk m c 19 t)
    | ⟨49, _⟩ => out49 (iblk m c 16 t) (iblk m c 17 t) (iblk m c 18 t) (iblk m c 19 t)
    | ⟨50, _⟩ => out50 (iblk m c 16 t) (iblk m c 17 t) (iblk m c 18 t) (iblk m c 19 t)
    | ⟨51, _⟩ => out51 (iblk m c 16 t) (iblk m c 17 t) (iblk m c 18 t) (iblk m c 19 t)
    | ⟨52, _⟩ => out52 (iblk m c 20 t) (iblk m c 21 t) (iblk m c 22 t) (iblk m c 23 t)
    | ⟨53, _⟩ => out53 (iblk m c 20 t) (iblk m c 21 t) (iblk m c 22 t) (iblk m c 23 t)
    | ⟨54, _⟩ => out54 (iblk m c 20 t) (iblk m c 21 t) (iblk m c 22 t) (iblk m c 23 t)
    | ⟨55, _⟩ => out55 (iblk m c 20 t) (iblk m c 21 t) (iblk m c 22 t) (iblk m c 23 t)
    | ⟨56, _⟩ => out56 (iblk m c 24 t) (iblk m c 25 t) (iblk m c 26 t) (iblk m c 27 t)
    | ⟨57, _⟩ => out57 (iblk m c 24 t) (iblk m c 25 t) (iblk m c 26 t) (iblk m c 27 t)
    | ⟨58, _⟩ => out58 (iblk m c 24 t) (iblk m c 25 t) (iblk m c 26 t) (iblk m c 27 t)
    | ⟨59, _⟩ => out59 (iblk m c 24 t) (iblk m c 25 t) (iblk m c 26 t) (iblk m c 27 t)
    | ⟨60, _⟩ => out60 (iblk m c 28 t) (iblk m c 29 t) (iblk m c 30 t) (iblk m c 31 t)
    | ⟨61, _⟩ => out61 (iblk m c 28 t) (iblk m c 29 t) (iblk m c 30 t) (iblk m c 31 t)
    | ⟨62, _⟩ => out62 (iblk m c 28 t) (iblk m c 29 t) (iblk m c 30 t) (iblk m c 31 t)
    | ⟨63, _⟩ => out63 (iblk m c 28 t) (iblk m c 29 t) (iblk m c 30 t) (iblk m c 31 t)
    | ⟨_ + 64, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = out32 (iblk m c 0 t) (iblk m c 1 t) (iblk m c 2 t) (iblk m c 3 t) := by dsimp only [dats]
theorem after33 (c : Dev nD) (t : Fin cfg0.N) : (dats m 0 c).after 33 t = out33 (iblk m c 0 t) (iblk m c 1 t) (iblk m c 2 t) (iblk m c 3 t) := by dsimp only [dats]
theorem after34 (c : Dev nD) (t : Fin cfg0.N) : (dats m 0 c).after 34 t = out34 (iblk m c 0 t) (iblk m c 1 t) (iblk m c 2 t) (iblk m c 3 t) := by dsimp only [dats]
theorem after35 (c : Dev nD) (t : Fin cfg0.N) : (dats m 0 c).after 35 t = out35 (iblk m c 0 t) (iblk m c 1 t) (iblk m c 2 t) (iblk m c 3 t) := by dsimp only [dats]
theorem after36 (c : Dev nD) (t : Fin cfg0.N) : (dats m 0 c).after 36 t = out36 (iblk m c 4 t) (iblk m c 5 t) (iblk m c 6 t) (iblk m c 7 t) := by dsimp only [dats]
theorem after37 (c : Dev nD) (t : Fin cfg0.N) : (dats m 0 c).after 37 t = out37 (iblk m c 4 t) (iblk m c 5 t) (iblk m c 6 t) (iblk m c 7 t) := by dsimp only [dats]
theorem after38 (c : Dev nD) (t : Fin cfg0.N) : (dats m 0 c).after 38 t = out38 (iblk m c 4 t) (iblk m c 5 t) (iblk m c 6 t) (iblk m c 7 t) := by dsimp only [dats]
theorem after39 (c : Dev nD) (t : Fin cfg0.N) : (dats m 0 c).after 39 t = out39 (iblk m c 4 t) (iblk m c 5 t) (iblk m c 6 t) (iblk m c 7 t) := by dsimp only [dats]
theorem after40 (c : Dev nD) (t : Fin cfg0.N) : (dats m 0 c).after 40 t = out40 (iblk m c 8 t) (iblk m c 9 t) (iblk m c 10 t) (iblk m c 11 t) := by dsimp only [dats]
theorem after41 (c : Dev nD) (t : Fin cfg0.N) : (dats m 0 c).after 41 t = out41 (iblk m c 8 t) (iblk m c 9 t) (iblk m c 10 t) (iblk m c 11 t) := by dsimp only [dats]
theorem after42 (c : Dev nD) (t : Fin cfg0.N) : (dats m 0 c).after 42 t = out42 (iblk m c 8 t) (iblk m c 9 t) (iblk m c 10 t) (iblk m c 11 t) := by dsimp only [dats]
theorem after43 (c : Dev nD) (t : Fin cfg0.N) : (dats m 0 c).after 43 t = out43 (iblk m c 8 t) (iblk m c 9 t) (iblk m c 10 t) (iblk m c 11 t) := by dsimp only [dats]
theorem after44 (c : Dev nD) (t : Fin cfg0.N) : (dats m 0 c).after 44 t = out44 (iblk m c 12 t) (iblk m c 13 t) (iblk m c 14 t) (iblk m c 15 t) := by dsimp only [dats]
theorem after45 (c : Dev nD) (t : Fin cfg0.N) : (dats m 0 c).after 45 t = out45 (iblk m c 12 t) (iblk m c 13 t) (iblk m c 14 t) (iblk m c 15 t) := by dsimp only [dats]
theorem after46 (c : Dev nD) (t : Fin cfg0.N) : (dats m 0 c).after 46 t = out46 (iblk m c 12 t) (iblk m c 13 t) (iblk m c 14 t) (iblk m c 15 t) := by dsimp only [dats]
theorem after47 (c : Dev nD) (t : Fin cfg0.N) : (dats m 0 c).after 47 t = out47 (iblk m c 12 t) (iblk m c 13 t) (iblk m c 14 t) (iblk m c 15 t) := by dsimp only [dats]
theorem after48 (c : Dev nD) (t : Fin cfg0.N) : (dats m 0 c).after 48 t = out48 (iblk m c 16 t) (iblk m c 17 t) (iblk m c 18 t) (iblk m c 19 t) := by dsimp only [dats]
theorem after49 (c : Dev nD) (t : Fin cfg0.N) : (dats m 0 c).after 49 t = out49 (iblk m c 16 t) (iblk m c 17 t) (iblk m c 18 t) (iblk m c 19 t) := by dsimp only [dats]
theorem after50 (c : Dev nD) (t : Fin cfg0.N) : (dats m 0 c).after 50 t = out50 (iblk m c 16 t) (iblk m c 17 t) (iblk m c 18 t) (iblk m c 19 t) := by dsimp only [dats]
theorem after51 (c : Dev nD) (t : Fin cfg0.N) : (dats m 0 c).after 51 t = out51 (iblk m c 16 t) (iblk m c 17 t) (iblk m c 18 t) (iblk m c 19 t) := by dsimp only [dats]
theorem after52 (c : Dev nD) (t : Fin cfg0.N) : (dats m 0 c).after 52 t = out52 (iblk m c 20 t) (iblk m c 21 t) (iblk m c 22 t) (iblk m c 23 t) := by dsimp only [dats]
theorem after53 (c : Dev nD) (t : Fin cfg0.N) : (dats m 0 c).after 53 t = out53 (iblk m c 20 t) (iblk m c 21 t) (iblk m c 22 t) (iblk m c 23 t) := by dsimp only [dats]
theorem after54 (c : Dev nD) (t : Fin cfg0.N) : (dats m 0 c).after 54 t = out54 (iblk m c 20 t) (iblk m c 21 t) (iblk m c 22 t) (iblk m c 23 t) := by dsimp only [dats]
theorem after55 (c : Dev nD) (t : Fin cfg0.N) : (dats m 0 c).after 55 t = out55 (iblk m c 20 t) (iblk m c 21 t) (iblk m c 22 t) (iblk m c 23 t) := by dsimp only [dats]
theorem after56 (c : Dev nD) (t : Fin cfg0.N) : (dats m 0 c).after 56 t = out56 (iblk m c 24 t) (iblk m c 25 t) (iblk m c 26 t) (iblk m c 27 t) := by dsimp only [dats]
theorem after57 (c : Dev nD) (t : Fin cfg0.N) : (dats m 0 c).after 57 t = out57 (iblk m c 24 t) (iblk m c 25 t) (iblk m c 26 t) (iblk m c 27 t) := by dsimp only [dats]
theorem after58 (c : Dev nD) (t : Fin cfg0.N) : (dats m 0 c).after 58 t = out58 (iblk m c 24 t) (iblk m c 25 t) (iblk m c 26 t) (iblk m c 27 t) := by dsimp only [dats]
theorem after59 (c : Dev nD) (t : Fin cfg0.N) : (dats m 0 c).after 59 t = out59 (iblk m c 24 t) (iblk m c 25 t) (iblk m c 26 t) (iblk m c 27 t) := by dsimp only [dats]
theorem after60 (c : Dev nD) (t : Fin cfg0.N) : (dats m 0 c).after 60 t = out60 (iblk m c 28 t) (iblk m c 29 t) (iblk m c 30 t) (iblk m c 31 t) := by dsimp only [dats]
theorem after61 (c : Dev nD) (t : Fin cfg0.N) : (dats m 0 c).after 61 t = out61 (iblk m c 28 t) (iblk m c 29 t) (iblk m c 30 t) (iblk m c 31 t) := by dsimp only [dats]
theorem after62 (c : Dev nD) (t : Fin cfg0.N) : (dats m 0 c).after 62 t = out62 (iblk m c 28 t) (iblk m c 29 t) (iblk m c 30 t) (iblk m c 31 t) := by dsimp only [dats]
theorem after63 (c : Dev nD) (t : Fin cfg0.N) : (dats m 0 c).after 63 t = out63 (iblk m c 28 t) (iblk m c 29 t) (iblk m c 30 t) (iblk m c 31 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)
theorem before19 (c : Dev nD) (t : Fin cfg0.N) (d) : (dats m 0 c).before 19 t d = iblk m c 19 t :=
  ((dats m 0 c).before_in_eq_fetched 19 rfl (fun _ => rfl) (fun _ _ _ => rfl) (fun t => by rw [after19]; unfold Dat.blockOf iblk; rw [A_eq]; try rfl) t d).trans
    (by unfold Dat.fetched Dat.blockOf iblk; rw [A_eq]; try rfl)
theorem before20 (c : Dev nD) (t : Fin cfg0.N) (d) : (dats m 0 c).before 20 t d = iblk m c 20 t :=
  ((dats m 0 c).before_in_eq_fetched 20 rfl (fun _ => rfl) (fun _ _ _ => rfl) (fun t => by rw [after20]; unfold Dat.blockOf iblk; rw [A_eq]; try rfl) t d).trans
    (by unfold Dat.fetched Dat.blockOf iblk; rw [A_eq]; try rfl)
theorem before21 (c : Dev nD) (t : Fin cfg0.N) (d) : (dats m 0 c).before 21 t d = iblk m c 21 t :=
  ((dats m 0 c).before_in_eq_fetched 21 rfl (fun _ => rfl) (fun _ _ _ => rfl) (fun t => by rw [after21]; unfold Dat.blockOf iblk; rw [A_eq]; try rfl) t d).trans
    (by unfold Dat.fetched Dat.blockOf iblk; rw [A_eq]; try rfl)
theorem before22 (c : Dev nD) (t : Fin cfg0.N) (d) : (dats m 0 c).before 22 t d = iblk m c 22 t :=
  ((dats m 0 c).before_in_eq_fetched 22 rfl (fun _ => rfl) (fun _ _ _ => rfl) (fun t => by rw [after22]; unfold Dat.blockOf iblk; rw [A_eq]; try rfl) t d).trans
    (by unfold Dat.fetched Dat.blockOf iblk; rw [A_eq]; try rfl)
theorem before23 (c : Dev nD) (t : Fin cfg0.N) (d) : (dats m 0 c).before 23 t d = iblk m c 23 t :=
  ((dats m 0 c).before_in_eq_fetched 23 rfl (fun _ => rfl) (fun _ _ _ => rfl) (fun t => by rw [after23]; unfold Dat.blockOf iblk; rw [A_eq]; try rfl) t d).trans
    (by unfold Dat.fetched Dat.blockOf iblk; rw [A_eq]; try rfl)
theorem before24 (c : Dev nD) (t : Fin cfg0.N) (d) : (dats m 0 c).before 24 t d = iblk m c 24 t :=
  ((dats m 0 c).before_in_eq_fetched 24 rfl (fun _ => rfl) (fun _ _ _ => rfl) (fun t => by rw [after24]; unfold Dat.blockOf iblk; rw [A_eq]; try rfl) t d).trans
    (by unfold Dat.fetched Dat.blockOf iblk; rw [A_eq]; try rfl)
theorem before25 (c : Dev nD) (t : Fin cfg0.N) (d) : (dats m 0 c).before 25 t d = iblk m c 25 t :=
  ((dats m 0 c).before_in_eq_fetched 25 rfl (fun _ => rfl) (fun _ _ _ => rfl) (fun t => by rw [after25]; unfold Dat.blockOf iblk; rw [A_eq]; try rfl) t d).trans
    (by unfold Dat.fetched Dat.blockOf iblk; rw [A_eq]; try rfl)
theorem before26 (c : Dev nD) (t : Fin cfg0.N) (d) : (dats m 0 c).before 26 t d = iblk m c 26 t :=
  ((dats m 0 c).before_in_eq_fetched 26 rfl (fun _ => rfl) (fun _ _ _ => rfl) (fun t => by rw [after26]; unfold Dat.blockOf iblk; rw [A_eq]; try rfl) t d).trans
    (by unfold Dat.fetched Dat.blockOf iblk; rw [A_eq]; try rfl)
theorem before27 (c : Dev nD) (t : Fin cfg0.N) (d) : (dats m 0 c).before 27 t d = iblk m c 27 t :=
  ((dats m 0 c).before_in_eq_fetched 27 rfl (fun _ => rfl) (fun _ _ _ => rfl) (fun t => by rw [after27]; unfold Dat.blockOf iblk; rw [A_eq]; try rfl) t d).trans
    (by unfold Dat.fetched Dat.blockOf iblk; rw [A_eq]; try rfl)
theorem before28 (c : Dev nD) (t : Fin cfg0.N) (d) : (dats m 0 c).before 28 t d = iblk m c 28 t :=
  ((dats m 0 c).before_in_eq_fetched 28 rfl (fun _ => rfl) (fun _ _ _ => rfl) (fun t => by rw [after28]; unfold Dat.blockOf iblk; rw [A_eq]; try rfl) t d).trans
    (by unfold Dat.fetched Dat.blockOf iblk; rw [A_eq]; try rfl)
theorem before29 (c : Dev nD) (t : Fin cfg0.N) (d) : (dats m 0 c).before 29 t d = iblk m c 29 t :=
  ((dats m 0 c).before_in_eq_fetched 29 rfl (fun _ => rfl) (fun _ _ _ => rfl) (fun t => by rw [after29]; unfold Dat.blockOf iblk; rw [A_eq]; try rfl) t d).trans
    (by unfold Dat.fetched Dat.blockOf iblk; rw [A_eq]; try rfl)
theorem before30 (c : Dev nD) (t : Fin cfg0.N) (d) : (dats m 0 c).before 30 t d = iblk m c 30 t :=
  ((dats m 0 c).before_in_eq_fetched 30 rfl (fun _ => rfl) (fun _ _ _ => rfl) (fun t => by rw [after30]; unfold Dat.blockOf iblk; rw [A_eq]; try rfl) t d).trans
    (by unfold Dat.fetched Dat.blockOf iblk; rw [A_eq]; try rfl)
theorem before31 (c : Dev nD) (t : Fin cfg0.N) (d) : (dats m 0 c).before 31 t d = iblk m c 31 t :=
  ((dats m 0 c).before_in_eq_fetched 31 rfl (fun _ => rfl) (fun _ _ _ => rfl) (fun t => by rw [after31]; unfold Dat.blockOf iblk; rw [A_eq]; try rfl) t d).trans
    (by unfold Dat.fetched Dat.blockOf iblk; rw [A_eq]; try rfl)

/-- What the body starts from, -/
def pre (c : Dev nD) (t : Fin cfg0.N) : sProp (MT nD τ sig Unit (Elt F) ℕ (UR sig nD τ) ℕ) :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗
    (∃ d, owns (c : Thread nD τ) (st0_2 t) fullShare ((dats m 0 c).before 2 t d)) ∗ (∃ d, owns (c : Thread nD τ) (st0_3 t) fullShare ((dats m 0 c).before 3 t d)) ∗
    (∃ d, owns (c : Thread nD τ) (st0_4 t) fullShare ((dats m 0 c).before 4 t d)) ∗ (∃ d, owns (c : Thread nD τ) (st0_5 t) fullShare ((dats m 0 c).before 5 t d)) ∗
    (∃ d, owns (c : Thread nD τ) (st0_6 t) fullShare ((dats m 0 c).before 6 t d)) ∗ (∃ d, owns (c : Thread nD τ) (st0_7 t) fullShare ((dats m 0 c).before 7 t d)) ∗
    (∃ d, owns (c : Thread nD τ) (st0_8 t) fullShare ((dats m 0 c).before 8 t d)) ∗ (∃ d, owns (c : Thread nD τ) (st0_9 t) fullShare ((dats m 0 c).before 9 t d)) ∗
    (∃ d, owns (c : Thread nD τ) (st0_10 t) fullShare ((dats m 0 c).before 10 t d)) ∗ (∃ d, owns (c : Thread nD τ) (st0_11 t) fullShare ((dats m 0 c).before 11 t d)) ∗
    (∃ d, owns (c : Thread nD τ) (st0_12 t) fullShare ((dats m 0 c).before 12 t d)) ∗ (∃ d, owns (c : Thread nD τ) (st0_13 t) fullShare ((dats m 0 c).before 13 t d)) ∗
    (∃ d, owns (c : Thread nD τ) (st0_14 t) fullShare ((dats m 0 c).before 14 t d)) ∗ (∃ d, owns (c : Thread nD τ) (st0_15 t) fullShare ((dats m 0 c).before 15 t d)) ∗
    (∃ d, owns (c : Thread nD τ) (st0_16 t) fullShare ((dats m 0 c).before 16 t d)) ∗ (∃ d, owns (c : Thread nD τ) (st0_17 t) fullShare ((dats m 0 c).before 17 t d)) ∗
    (∃ d, owns (c : Thread nD τ) (st0_18 t) fullShare ((dats m 0 c).before 18 t d)) ∗ (∃ d, owns (c : Thread nD τ) (st0_19 t) fullShare ((dats m 0 c).before 19 t d)) ∗
    (∃ d, owns (c : Thread nD τ) (st0_20 t) fullShare ((dats m 0 c).before 20 t d)) ∗ (∃ d, owns (c : Thread nD τ) (st0_21 t) fullShare ((dats m 0 c).before 21 t d)) ∗
    (∃ d, owns (c : Thread nD τ) (st0_22 t) fullShare ((dats m 0 c).before 22 t d)) ∗ (∃ d, owns (c : Thread nD τ) (st0_23 t) fullShare ((dats m 0 c).before 23 t d)) ∗
    (∃ d, owns (c : Thread nD τ) (st0_24 t) fullShare ((dats m 0 c).before 24 t d)) ∗ (∃ d, owns (c : Thread nD τ) (st0_25 t) fullShare ((dats m 0 c).before 25 t d)) ∗
    (∃ d, owns (c : Thread nD τ) (st0_26 t) fullShare ((dats m 0 c).before 26 t d)) ∗ (∃ d, owns (c : Thread nD τ) (st0_27 t) fullShare ((dats m 0 c).before 27 t d)) ∗
    (∃ d, owns (c : Thread nD τ) (st0_28 t) fullShare ((dats m 0 c).before 28 t d)) ∗ (∃ d, owns (c : Thread nD τ) (st0_29 t) fullShare ((dats m 0 c).before 29 t d)) ∗
    (∃ d, owns (c : Thread nD τ) (st0_30 t) fullShare ((dats m 0 c).before 30 t d)) ∗ (∃ d, owns (c : Thread nD τ) (st0_31 t) fullShare ((dats m 0 c).before 31 t d)) ∗
    (∃ d, owns (c : Thread nD τ) (st0_32 t) fullShare ((dats m 0 c).before 32 t d)) ∗ (∃ d, owns (c : Thread nD τ) (st0_33 t) fullShare ((dats m 0 c).before 33 t d)) ∗
    (∃ d, owns (c : Thread nD τ) (st0_34 t) fullShare ((dats m 0 c).before 34 t d)) ∗ (∃ d, owns (c : Thread nD τ) (st0_35 t) fullShare ((dats m 0 c).before 35 t d)) ∗
    (∃ d, owns (c : Thread nD τ) (st0_36 t) fullShare ((dats m 0 c).before 36 t d)) ∗ (∃ d, owns (c : Thread nD τ) (st0_37 t) fullShare ((dats m 0 c).before 37 t d)) ∗
    (∃ d, owns (c : Thread nD τ) (st0_38 t) fullShare ((dats m 0 c).before 38 t d)) ∗ (∃ d, owns (c : Thread nD τ) (st0_39 t) fullShare ((dats m 0 c).before 39 t d)) ∗
    (∃ d, owns (c : Thread nD τ) (st0_40 t) fullShare ((dats m 0 c).before 40 t d)) ∗ (∃ d, owns (c : Thread nD τ) (st0_41 t) fullShare ((dats m 0 c).before 41 t d)) ∗
    (∃ d, owns (c : Thread nD τ) (st0_42 t) fullShare ((dats m 0 c).before 42 t d)) ∗ (∃ d, owns (c : Thread nD τ) (st0_43 t) fullShare ((dats m 0 c).before 43 t d)) ∗
    (∃ d, owns (c : Thread nD τ) (st0_44 t) fullShare ((dats m 0 c).before 44 t d)) ∗ (∃ d, owns (c : Thread nD τ) (st0_45 t) fullShare ((dats m 0 c).before 45 t d)) ∗
    (∃ d, owns (c : Thread nD τ) (st0_46 t) fullShare ((dats m 0 c).before 46 t d)) ∗ (∃ d, owns (c : Thread nD τ) (st0_47 t) fullShare ((dats m 0 c).before 47 t d)) ∗
    (∃ d, owns (c : Thread nD τ) (st0_48 t) fullShare ((dats m 0 c).before 48 t d)) ∗ (∃ d, owns (c : Thread nD τ) (st0_49 t) fullShare ((dats m 0 c).before 49 t d)) ∗
    (∃ d, owns (c : Thread nD τ) (st0_50 t) fullShare ((dats m 0 c).before 50 t d)) ∗ (∃ d, owns (c : Thread nD τ) (st0_51 t) fullShare ((dats m 0 c).before 51 t d)) ∗
    (∃ d, owns (c : Thread nD τ) (st0_52 t) fullShare ((dats m 0 c).before 52 t d)) ∗ (∃ d, owns (c : Thread nD τ) (st0_53 t) fullShare ((dats m 0 c).before 53 t d)) ∗
    (∃ d, owns (c : Thread nD τ) (st0_54 t) fullShare ((dats m 0 c).before 54 t d)) ∗ (∃ d, owns (c : Thread nD τ) (st0_55 t) fullShare ((dats m 0 c).before 55 t d)) ∗
    (∃ d, owns (c : Thread nD τ) (st0_56 t) fullShare ((dats m 0 c).before 56 t d)) ∗ (∃ d, owns (c : Thread nD τ) (st0_57 t) fullShare ((dats m 0 c).before 57 t d)) ∗
    (∃ d, owns (c : Thread nD τ) (st0_58 t) fullShare ((dats m 0 c).before 58 t d)) ∗ (∃ d, owns (c : Thread nD τ) (st0_59 t) fullShare ((dats m 0 c).before 59 t d)) ∗
    (∃ d, owns (c : Thread nD τ) (st0_60 t) fullShare ((dats m 0 c).before 60 t d)) ∗ (∃ d, owns (c : Thread nD τ) (st0_61 t) fullShare ((dats m 0 c).before 61 t d)) ∗
    (∃ d, owns (c : Thread nD τ) (st0_62 t) fullShare ((dats m 0 c).before 62 t d)) ∗ (∃ d, owns (c : Thread nD τ) (st0_63 t) fullShare ((dats m 0 c).before 63 t d)))

/-- and what it leaves. -/
def post (c : Dev nD) (t : Fin cfg0.N) : sProp (MT nD τ sig Unit (Elt F) ℕ (UR sig nD τ) ℕ) :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗
    owns (c : Thread nD τ) (st0_2 t) fullShare ((dats m 0 c).after 2 t) ∗ owns (c : Thread nD τ) (st0_3 t) fullShare ((dats m 0 c).after 3 t) ∗
    owns (c : Thread nD τ) (st0_4 t) fullShare ((dats m 0 c).after 4 t) ∗ owns (c : Thread nD τ) (st0_5 t) fullShare ((dats m 0 c).after 5 t) ∗
    owns (c : Thread nD τ) (st0_6 t) fullShare ((dats m 0 c).after 6 t) ∗ owns (c : Thread nD τ) (st0_7 t) fullShare ((dats m 0 c).after 7 t) ∗
    owns (c : Thread nD τ) (st0_8 t) fullShare ((dats m 0 c).after 8 t) ∗ owns (c : Thread nD τ) (st0_9 t) fullShare ((dats m 0 c).after 9 t) ∗
    owns (c : Thread nD τ) (st0_10 t) fullShare ((dats m 0 c).after 10 t) ∗ owns (c : Thread nD τ) (st0_11 t) fullShare ((dats m 0 c).after 11 t) ∗
    owns (c : Thread nD τ) (st0_12 t) fullShare ((dats m 0 c).after 12 t) ∗ owns (c : Thread nD τ) (st0_13 t) fullShare ((dats m 0 c).after 13 t) ∗
    owns (c : Thread nD τ) (st0_14 t) fullShare ((dats m 0 c).after 14 t) ∗ owns (c : Thread nD τ) (st0_15 t) fullShare ((dats m 0 c).after 15 t) ∗
    owns (c : Thread nD τ) (st0_16 t) fullShare ((dats m 0 c).after 16 t) ∗ owns (c : Thread nD τ) (st0_17 t) fullShare ((dats m 0 c).after 17 t) ∗
    owns (c : Thread nD τ) (st0_18 t) fullShare ((dats m 0 c).after 18 t) ∗ owns (c : Thread nD τ) (st0_19 t) fullShare ((dats m 0 c).after 19 t) ∗
    owns (c : Thread nD τ) (st0_20 t) fullShare ((dats m 0 c).after 20 t) ∗ owns (c : Thread nD τ) (st0_21 t) fullShare ((dats m 0 c).after 21 t) ∗
    owns (c : Thread nD τ) (st0_22 t) fullShare ((dats m 0 c).after 22 t) ∗ owns (c : Thread nD τ) (st0_23 t) fullShare ((dats m 0 c).after 23 t) ∗
    owns (c : Thread nD τ) (st0_24 t) fullShare ((dats m 0 c).after 24 t) ∗ owns (c : Thread nD τ) (st0_25 t) fullShare ((dats m 0 c).after 25 t) ∗
    owns (c : Thread nD τ) (st0_26 t) fullShare ((dats m 0 c).after 26 t) ∗ owns (c : Thread nD τ) (st0_27 t) fullShare ((dats m 0 c).after 27 t) ∗
    owns (c : Thread nD τ) (st0_28 t) fullShare ((dats m 0 c).after 28 t) ∗ owns (c : Thread nD τ) (st0_29 t) fullShare ((dats m 0 c).after 29 t) ∗
    owns (c : Thread nD τ) (st0_30 t) fullShare ((dats m 0 c).after 30 t) ∗ owns (c : Thread nD τ) (st0_31 t) fullShare ((dats m 0 c).after 31 t) ∗
    owns (c : Thread nD τ) (st0_32 t) fullShare ((dats m 0 c).after 32 t) ∗ owns (c : Thread nD τ) (st0_33 t) fullShare ((dats m 0 c).after 33 t) ∗
    owns (c : Thread nD τ) (st0_34 t) fullShare ((dats m 0 c).after 34 t) ∗ owns (c : Thread nD τ) (st0_35 t) fullShare ((dats m 0 c).after 35 t) ∗
    owns (c : Thread nD τ) (st0_36 t) fullShare ((dats m 0 c).after 36 t) ∗ owns (c : Thread nD τ) (st0_37 t) fullShare ((dats m 0 c).after 37 t) ∗
    owns (c : Thread nD τ) (st0_38 t) fullShare ((dats m 0 c).after 38 t) ∗ owns (c : Thread nD τ) (st0_39 t) fullShare ((dats m 0 c).after 39 t) ∗
    owns (c : Thread nD τ) (st0_40 t) fullShare ((dats m 0 c).after 40 t) ∗ owns (c : Thread nD τ) (st0_41 t) fullShare ((dats m 0 c).after 41 t) ∗
    owns (c : Thread nD τ) (st0_42 t) fullShare ((dats m 0 c).after 42 t) ∗ owns (c : Thread nD τ) (st0_43 t) fullShare ((dats m 0 c).after 43 t) ∗
    owns (c : Thread nD τ) (st0_44 t) fullShare ((dats m 0 c).after 44 t) ∗ owns (c : Thread nD τ) (st0_45 t) fullShare ((dats m 0 c).after 45 t) ∗
    owns (c : Thread nD τ) (st0_46 t) fullShare ((dats m 0 c).after 46 t) ∗ owns (c : Thread nD τ) (st0_47 t) fullShare ((dats m 0 c).after 47 t) ∗
    owns (c : Thread nD τ) (st0_48 t) fullShare ((dats m 0 c).after 48 t) ∗ owns (c : Thread nD τ) (st0_49 t) fullShare ((dats m 0 c).after 49 t) ∗
    owns (c : Thread nD τ) (st0_50 t) fullShare ((dats m 0 c).after 50 t) ∗ owns (c : Thread nD τ) (st0_51 t) fullShare ((dats m 0 c).after 51 t) ∗
    owns (c : Thread nD τ) (st0_52 t) fullShare ((dats m 0 c).after 52 t) ∗ owns (c : Thread nD τ) (st0_53 t) fullShare ((dats m 0 c).after 53 t) ∗
    owns (c : Thread nD τ) (st0_54 t) fullShare ((dats m 0 c).after 54 t) ∗ owns (c : Thread nD τ) (st0_55 t) fullShare ((dats m 0 c).after 55 t) ∗
    owns (c : Thread nD τ) (st0_56 t) fullShare ((dats m 0 c).after 56 t) ∗ owns (c : Thread nD τ) (st0_57 t) fullShare ((dats m 0 c).after 57 t) ∗
    owns (c : Thread nD τ) (st0_58 t) fullShare ((dats m 0 c).after 58 t) ∗ owns (c : Thread nD τ) (st0_59 t) fullShare ((dats m 0 c).after 59 t) ∗
    owns (c : Thread nD τ) (st0_60 t) fullShare ((dats m 0 c).after 60 t) ∗ owns (c : Thread nD τ) (st0_61 t) fullShare ((dats m 0 c).after 61 t) ∗
    owns (c : Thread nD τ) (st0_62 t) fullShare ((dats m 0 c).after 62 t) ∗ owns (c : Thread nD τ) (st0_63 t) fullShare ((dats m 0 c).after 63 t))

set_option maxHeartbeats 16000000 in
/-- The body does so. -/
theorem step (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, before6, before7, before8, before9, before10, before11,
    before12, before13, before14, before15, before16, before17, before18, before19, before20, before21, before22, before23,
    before24, before25, before26, before27, before28, before29, before30, before31]
  rw [show (dats m 0 c).Φ t.succ = (dats m 0 c).Φ t.castSucc from rfl, show (dats m 0 c).owesAt () t.succ = (dats m 0 c).owesAt () t.castSucc from rfl]
  simp only [after0, after1, after2, after3, after4, after5, after6, after7, after8, after9, after10, after11,
    after12, after13, after14, after15, after16, after17, after18, after19, after20, after21, after22, after23,
    after24, after25, after26, after27, after28, after29, after30, after31, after32, after33, after34, after35,
    after36, after37, after38, after39, after40, after41, after42, after43, after44, after45, after46, after47,
    after48, after49, after50, after51, after52, after53, after54, after55, after56, after57, after58, after59,
    after60, after61, after62, after63]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩,
    ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩,
    ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩,
    ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩,
    ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩,
    ⟨%d60, H60⟩, ⟨%d61, H61⟩, ⟨%d62, H62⟩, ⟨%d63, H63⟩⟩
  iapply (body c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t)
    (iblk m c 16 t) (iblk m c 17 t) (iblk m c 18 t) (iblk m c 19 t) (iblk m c 20 t) (iblk m c 21 t) (iblk m c 22 t) (iblk m c 23 t)
    (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  iintro ⟨H0, H1, H2, H3, H4, H5, H6, H7, H8, H9, H10, H11, H12, H13, H14, H15,
    H16, H17, H18, H19, H20, H21, H22, H23, H24, H25, H26, H27, H28, H29, H30, H31,
    H32, H33, H34, H35, H36, H37, H38, H39, H40, H41, H42, H43, H44, H45, H46, H47,
    H48, H49, H50, H51, H52, H53, H54, H55, H56, H57, H58, H59, H60, H61, H62, H63⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  iexact H63

theorem row (t : Fin cfg0.N) : defs₀ (F := F) .tc cfg0.body (cfg0.bodyArgs t (cfg0.slots t)) = bodyAt0 t := by
  unfold defs₀; rw [Defs.onTc_tc]

set_option maxHeartbeats 16000000 in
/-- The body's triple at the call's buffers. -/
theorem obligation (c : Dev nD) : BodyObligation (dats (F := F) m 0 c) (defs₀ (F := F)) Variants.none () Set.univ := fun t => by
  rw [bigSep_W0, bigSep_W0, row]
  exact triple_restated (step m c t) rfl .rfl fun _ => .rfl

set_option backward.isDefEq.respectTransparency.types false in
set_option maxHeartbeats 4000000 in
/-- The launch: the arrays as the call leaves them, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The call runs to an end, keeps its arguments and leaves every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31))
      ∧ r.2.sem = fun _ => 0) :=
  (θ_run defs _ _).mono (fun _ h => ⟨fun c => ⟨
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8)),
      ((h.1 c).1 9).trans (((dats m 0 c).arrAt_in 9 rfl _).trans (A_eq m c 9)),
      ((h.1 c).1 10).trans (((dats m 0 c).arrAt_in 10 rfl _).trans (A_eq m c 10)),
      ((h.1 c).1 11).trans (((dats m 0 c).arrAt_in 11 rfl _).trans (A_eq m c 11)),
      ((h.1 c).1 12).trans (((dats m 0 c).arrAt_in 12 rfl _).trans (A_eq m c 12)),
      ((h.1 c).1 13).trans (((dats m 0 c).arrAt_in 13 rfl _).trans (A_eq m c 13)),
      ((h.1 c).1 14).trans (((dats m 0 c).arrAt_in 14 rfl _).trans (A_eq m c 14)),
      ((h.1 c).1 15).trans (((dats m 0 c).arrAt_in 15 rfl _).trans (A_eq m c 15)),
      ((h.1 c).1 16).trans (((dats m 0 c).arrAt_in 16 rfl _).trans (A_eq m c 16)),
      ((h.1 c).1 17).trans (((dats m 0 c).arrAt_in 17 rfl _).trans (A_eq m c 17)),
      ((h.1 c).1 18).trans (((dats m 0 c).arrAt_in 18 rfl _).trans (A_eq m c 18)),
      ((h.1 c).1 19).trans (((dats m 0 c).arrAt_in 19 rfl _).trans (A_eq m c 19)),
      ((h.1 c).1 20).trans (((dats m 0 c).arrAt_in 20 rfl _).trans (A_eq m c 20)),
      ((h.1 c).1 21).trans (((dats m 0 c).arrAt_in 21 rfl _).trans (A_eq m c 21)),
      ((h.1 c).1 22).trans (((dats m 0 c).arrAt_in 22 rfl _).trans (A_eq m c 22)),
      ((h.1 c).1 23).trans (((dats m 0 c).arrAt_in 23 rfl _).trans (A_eq m c 23)),
      ((h.1 c).1 24).trans (((dats m 0 c).arrAt_in 24 rfl _).trans (A_eq m c 24)),
      ((h.1 c).1 25).trans (((dats m 0 c).arrAt_in 25 rfl _).trans (A_eq m c 25)),
      ((h.1 c).1 26).trans (((dats m 0 c).arrAt_in 26 rfl _).trans (A_eq m c 26)),
      ((h.1 c).1 27).trans (((dats m 0 c).arrAt_in 27 rfl _).trans (A_eq m c 27)),
      ((h.1 c).1 28).trans (((dats m 0 c).arrAt_in 28 rfl _).trans (A_eq m c 28)),
      ((h.1 c).1 29).trans (((dats m 0 c).arrAt_in 29 rfl _).trans (A_eq m c 29)),
      ((h.1 c).1 30).trans (((dats m 0 c).arrAt_in 30 rfl _).trans (A_eq m c 30)),
      ((h.1 c).1 31).trans (((dats m 0 c).arrAt_in 31 rfl _).trans (A_eq m c 31))⟩, h.2⟩) (run_quiescent m ρ)

end Cert.AdamSmallIdeal.Small

end
-- ==== Proof.SmallOut0.lean ====
/- The optimiser's call on the small parameters: the results of the filter's weight. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx0 : ∀ t : Fin cfg0.N, win0_0.index t = ![0, 0] ∧ win0_1.index t = ![0, 0] ∧ win0_2.index t = ![0, 0] ∧ win0_3.index t = ![0, 0] ∧ win0_32.index t = ![0, 0] ∧ win0_33.index t = ![0, 0] ∧ win0_34.index t = ![0, 0] ∧ win0_35.index t = ![0, 0] :=
  (by decide +kernel : ∀ t : Fin grid0.N, _)

/-- Result 0: the gradient, as it came. -/
theorem final32 (c : Dev nD) : (dats m 0 c).arrAt 32 cfg0.N = fun y => (m ((c : Thread nD τ).loc main_arg3)) y := by
  refine (dats m 0 c).arrAt_eq_of_covers 32 _ (by decide +kernel) fun t _ y => ?_
  blk_simp
  rw [after32]; unfold out32; frame_out
  pointwise
  blk_point [iblk, V, idx0 t]

/-- Result 1: the step of the weight. -/
theorem final33 (c : Dev nD) : (dats m 0 c).arrAt 33 cfg0.N = fun y => Cert.Adam.step ((m ((c : Thread nD τ).loc main_arg0)) y) ((m ((c : Thread nD τ).loc main_arg1)) y) ((m ((c : Thread nD τ).loc main_arg2)) y) ((m ((c : Thread nD τ).loc main_arg3)) y) := by
  refine (dats m 0 c).arrAt_eq_of_covers 33 _ (by decide +kernel) fun t _ y => ?_
  blk_simp
  rw [after33]; unfold out33; frame_out
  pointwise [Cert.Adam.step, moment1, moment2, k0_pay1, k0_pay2, k0_pay3]
  blk_point [iblk, V, idx0 t]

/-- Result 2: the first moment. -/
theorem final34 (c : Dev nD) : (dats m 0 c).arrAt 34 cfg0.N = fun y => moment1 ((m ((c : Thread nD τ).loc main_arg1)) y) ((m ((c : Thread nD τ).loc main_arg3)) y) := by
  refine (dats m 0 c).arrAt_eq_of_covers 34 _ (by decide +kernel) fun t _ y => ?_
  blk_simp
  rw [after34]; unfold out34; frame_out
  pointwise [moment1, k0_pay1]
  blk_point [iblk, V, idx0 t]

/-- Result 3: the second moment. -/
theorem final35 (c : Dev nD) : (dats m 0 c).arrAt 35 cfg0.N = fun y => moment2 ((m ((c : Thread nD τ).loc main_arg2)) y) ((m ((c : Thread nD τ).loc main_arg3)) y) := by
  refine (dats m 0 c).arrAt_eq_of_covers 35 _ (by decide +kernel) fun t _ y => ?_
  blk_simp
  rw [after35]; unfold out35; frame_out
  pointwise [moment2, k0_pay2]
  blk_point [iblk, V, idx0 t]

end Cert.AdamSmallIdeal.Small

end
-- ==== Proof.SmallOut1.lean ====
/- The optimiser's call on the small parameters: the results of the filter's bias. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx1 : ∀ t : Fin cfg0.N, win0_4.index t = ![0, 0] ∧ win0_5.index t = ![0, 0] ∧ win0_6.index t = ![0, 0] ∧ win0_7.index t = ![0, 0] ∧ win0_36.index t = ![0, 0] ∧ win0_37.index t = ![0, 0] ∧ win0_38.index t = ![0, 0] ∧ win0_39.index t = ![0, 0] :=
  (by decide +kernel : ∀ t : Fin grid0.N, _)

/-- Result 4: the gradient, as it came. -/
theorem final36 (c : Dev nD) : (dats m 0 c).arrAt 36 cfg0.N = fun y => (m ((c : Thread nD τ).loc main_arg7)) y := by
  refine (dats m 0 c).arrAt_eq_of_covers 36 _ (by decide +kernel) fun t _ y => ?_
  blk_simp
  rw [after36]; unfold out36; frame_out
  pointwise
  blk_point [iblk, V, idx1 t]

/-- Result 5: the step of the weight. -/
theorem final37 (c : Dev nD) : (dats m 0 c).arrAt 37 cfg0.N = fun y => Cert.Adam.step ((m ((c : Thread nD τ).loc main_arg4)) y) ((m ((c : Thread nD τ).loc main_arg5)) y) ((m ((c : Thread nD τ).loc main_arg6)) y) ((m ((c : Thread nD τ).loc main_arg7)) y) := by
  refine (dats m 0 c).arrAt_eq_of_covers 37 _ (by decide +kernel) fun t _ y => ?_
  blk_simp
  rw [after37]; unfold out37; frame_out
  pointwise [Cert.Adam.step, moment1, moment2, k0_pay4, k0_pay5, k0_pay6]
  blk_point [iblk, V, idx1 t]

/-- Result 6: the first moment. -/
theorem final38 (c : Dev nD) : (dats m 0 c).arrAt 38 cfg0.N = fun y => moment1 ((m ((c : Thread nD τ).loc main_arg5)) y) ((m ((c : Thread nD τ).loc main_arg7)) y) := by
  refine (dats m 0 c).arrAt_eq_of_covers 38 _ (by decide +kernel) fun t _ y => ?_
  blk_simp
  rw [after38]; unfold out38; frame_out
  pointwise [moment1, k0_pay4]
  blk_point [iblk, V, idx1 t]

/-- Result 7: the second moment. -/
theorem final39 (c : Dev nD) : (dats m 0 c).arrAt 39 cfg0.N = fun y => moment2 ((m ((c : Thread nD τ).loc main_arg6)) y) ((m ((c : Thread nD τ).loc main_arg7)) y) := by
  refine (dats m 0 c).arrAt_eq_of_covers 39 _ (by decide +kernel) fun t _ y => ?_
  blk_simp
  rw [after39]; unfold out39; frame_out
  pointwise [moment2, k0_pay5]
  blk_point [iblk, V, idx1 t]

end Cert.AdamSmallIdeal.Small

end
-- ==== Proof.SmallOut2.lean ====
/- The optimiser's call on the small parameters: the results of the first gain. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx2 : ∀ t : Fin cfg0.N, win0_8.index t = ![0, 0] ∧ win0_9.index t = ![0, 0] ∧ win0_10.index t = ![0, 0] ∧ win0_11.index t = ![0, 0] ∧ win0_40.index t = ![0, 0] ∧ win0_41.index t = ![0, 0] ∧ win0_42.index t = ![0, 0] ∧ win0_43.index t = ![0, 0] :=
  (by decide +kernel : ∀ t : Fin grid0.N, _)

/-- Result 8: the gradient, as it came. -/
theorem final40 (c : Dev nD) : (dats m 0 c).arrAt 40 cfg0.N = fun y => (m ((c : Thread nD τ).loc main_arg11)) y := by
  refine (dats m 0 c).arrAt_eq_of_covers 40 _ (by decide +kernel) fun t _ y => ?_
  blk_simp
  rw [after40]; unfold out40; frame_out
  pointwise
  blk_point [iblk, V, idx2 t]

/-- Result 9: the step of the weight. -/
theorem final41 (c : Dev nD) : (dats m 0 c).arrAt 41 cfg0.N = fun y => Cert.Adam.step ((m ((c : Thread nD τ).loc main_arg8)) y) ((m ((c : Thread nD τ).loc main_arg9)) y) ((m ((c : Thread nD τ).loc main_arg10)) y) ((m ((c : Thread nD τ).loc main_arg11)) y) := by
  refine (dats m 0 c).arrAt_eq_of_covers 41 _ (by decide +kernel) fun t _ y => ?_
  blk_simp
  rw [after41]; unfold out41; frame_out
  pointwise [Cert.Adam.step, moment1, moment2, k0_pay7, k0_pay8, k0_pay9]
  blk_point [iblk, V, idx2 t]

/-- Result 10: the first moment. -/
theorem final42 (c : Dev nD) : (dats m 0 c).arrAt 42 cfg0.N = fun y => moment1 ((m ((c : Thread nD τ).loc main_arg9)) y) ((m ((c : Thread nD τ).loc main_arg11)) y) := by
  refine (dats m 0 c).arrAt_eq_of_covers 42 _ (by decide +kernel) fun t _ y => ?_
  blk_simp
  rw [after42]; unfold out42; frame_out
  pointwise [moment1, k0_pay7]
  blk_point [iblk, V, idx2 t]

/-- Result 11: the second moment. -/
theorem final43 (c : Dev nD) : (dats m 0 c).arrAt 43 cfg0.N = fun y => moment2 ((m ((c : Thread nD τ).loc main_arg10)) y) ((m ((c : Thread nD τ).loc main_arg11)) y) := by
  refine (dats m 0 c).arrAt_eq_of_covers 43 _ (by decide +kernel) fun t _ y => ?_
  blk_simp
  rw [after43]; unfold out43; frame_out
  pointwise [moment2, k0_pay8]
  blk_point [iblk, V, idx2 t]

end Cert.AdamSmallIdeal.Small

end
-- ==== Proof.SmallOut3.lean ====
/- The optimiser's call on the small parameters: the results of the second gain. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx3 : ∀ t : Fin cfg0.N, win0_12.index t = ![0, 0] ∧ win0_13.index t = ![0, 0] ∧ win0_14.index t = ![0, 0] ∧ win0_15.index t = ![0, 0] ∧ win0_44.index t = ![0, 0] ∧ win0_45.index t = ![0, 0] ∧ win0_46.index t = ![0, 0] ∧ win0_47.index t = ![0, 0] :=
  (by decide +kernel : ∀ t : Fin grid0.N, _)

/-- Result 12: the gradient, as it came. -/
theorem final44 (c : Dev nD) : (dats m 0 c).arrAt 44 cfg0.N = fun y => (m ((c : Thread nD τ).loc main_arg15)) y := by
  refine (dats m 0 c).arrAt_eq_of_covers 44 _ (by decide +kernel) fun t _ y => ?_
  blk_simp
  rw [after44]; unfold out44; frame_out
  pointwise
  blk_point [iblk, V, idx3 t]

/-- Result 13: the step of the weight. -/
theorem final45 (c : Dev nD) : (dats m 0 c).arrAt 45 cfg0.N = fun y => Cert.Adam.step ((m ((c : Thread nD τ).loc main_arg12)) y) ((m ((c : Thread nD τ).loc main_arg13)) y) ((m ((c : Thread nD τ).loc main_arg14)) y) ((m ((c : Thread nD τ).loc main_arg15)) y) := by
  refine (dats m 0 c).arrAt_eq_of_covers 45 _ (by decide +kernel) fun t _ y => ?_
  blk_simp
  rw [after45]; unfold out45; frame_out
  pointwise [Cert.Adam.step, moment1, moment2, k0_pay10, k0_pay11, k0_pay12]
  blk_point [iblk, V, idx3 t]

/-- Result 14: the first moment. -/
theorem final46 (c : Dev nD) : (dats m 0 c).arrAt 46 cfg0.N = fun y => moment1 ((m ((c : Thread nD τ).loc main_arg13)) y) ((m ((c : Thread nD τ).loc main_arg15)) y) := by
  refine (dats m 0 c).arrAt_eq_of_covers 46 _ (by decide +kernel) fun t _ y => ?_
  blk_simp
  rw [after46]; unfold out46; frame_out
  pointwise [moment1, k0_pay10]
  blk_point [iblk, V, idx3 t]

/-- Result 15: the second moment. -/
theorem final47 (c : Dev nD) : (dats m 0 c).arrAt 47 cfg0.N = fun y => moment2 ((m ((c : Thread nD τ).loc main_arg14)) y) ((m ((c : Thread nD τ).loc main_arg15)) y) := by
  refine (dats m 0 c).arrAt_eq_of_covers 47 _ (by decide +kernel) fun t _ y => ?_
  blk_simp
  rw [after47]; unfold out47; frame_out
  pointwise [moment2, k0_pay11]
  blk_point [iblk, V, idx3 t]

end Cert.AdamSmallIdeal.Small

end
-- ==== Proof.SmallOut4.lean ====
/- The optimiser's call on the small parameters: the results of the third gain. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx4 : ∀ t : Fin cfg0.N, win0_16.index t = ![0, 0] ∧ win0_17.index t = ![0, 0] ∧ win0_18.index t = ![0, 0] ∧ win0_19.index t = ![0, 0] ∧ win0_48.index t = ![0, 0] ∧ win0_49.index t = ![0, 0] ∧ win0_50.index t = ![0, 0] ∧ win0_51.index t = ![0, 0] :=
  (by decide +kernel : ∀ t : Fin grid0.N, _)

/-- Result 16: the gradient, as it came. -/
theorem final48 (c : Dev nD) : (dats m 0 c).arrAt 48 cfg0.N = fun y => (m ((c : Thread nD τ).loc main_arg19)) y := by
  refine (dats m 0 c).arrAt_eq_of_covers 48 _ (by decide +kernel) fun t _ y => ?_
  blk_simp
  rw [after48]; unfold out48; frame_out
  pointwise
  blk_point [iblk, V, idx4 t]

/-- Result 17: the step of the weight. -/
theorem final49 (c : Dev nD) : (dats m 0 c).arrAt 49 cfg0.N = fun y => Cert.Adam.step ((m ((c : Thread nD τ).loc main_arg16)) y) ((m ((c : Thread nD τ).loc main_arg17)) y) ((m ((c : Thread nD τ).loc main_arg18)) y) ((m ((c : Thread nD τ).loc main_arg19)) y) := by
  refine (dats m 0 c).arrAt_eq_of_covers 49 _ (by decide +kernel) fun t _ y => ?_
  blk_simp
  rw [after49]; unfold out49; frame_out
  pointwise [Cert.Adam.step, moment1, moment2, k0_pay13, k0_pay14, k0_pay15]
  blk_point [iblk, V, idx4 t]

/-- Result 18: the first moment. -/
theorem final50 (c : Dev nD) : (dats m 0 c).arrAt 50 cfg0.N = fun y => moment1 ((m ((c : Thread nD τ).loc main_arg17)) y) ((m ((c : Thread nD τ).loc main_arg19)) y) := by
  refine (dats m 0 c).arrAt_eq_of_covers 50 _ (by decide +kernel) fun t _ y => ?_
  blk_simp
  rw [after50]; unfold out50; frame_out
  pointwise [moment1, k0_pay13]
  blk_point [iblk, V, idx4 t]

/-- Result 19: the second moment. -/
theorem final51 (c : Dev nD) : (dats m 0 c).arrAt 51 cfg0.N = fun y => moment2 ((m ((c : Thread nD τ).loc main_arg18)) y) ((m ((c : Thread nD τ).loc main_arg19)) y) := by
  refine (dats m 0 c).arrAt_eq_of_covers 51 _ (by decide +kernel) fun t _ y => ?_
  blk_simp
  rw [after51]; unfold out51; frame_out
  pointwise [moment2, k0_pay14]
  blk_point [iblk, V, idx4 t]

end Cert.AdamSmallIdeal.Small

end
-- ==== Proof.SmallOut5.lean ====
/- The optimiser's call on the small parameters: the results of the fourth gain. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx5 : ∀ t : Fin cfg0.N, win0_20.index t = ![0, 0] ∧ win0_21.index t = ![0, 0] ∧ win0_22.index t = ![0, 0] ∧ win0_23.index t = ![0, 0] ∧ win0_52.index t = ![0, 0] ∧ win0_53.index t = ![0, 0] ∧ win0_54.index t = ![0, 0] ∧ win0_55.index t = ![0, 0] :=
  (by decide +kernel : ∀ t : Fin grid0.N, _)

/-- Result 20: the gradient, as it came. -/
theorem final52 (c : Dev nD) : (dats m 0 c).arrAt 52 cfg0.N = fun y => (m ((c : Thread nD τ).loc main_arg23)) y := by
  refine (dats m 0 c).arrAt_eq_of_covers 52 _ (by decide +kernel) fun t _ y => ?_
  blk_simp
  rw [after52]; unfold out52; frame_out
  pointwise
  blk_point [iblk, V, idx5 t]

/-- Result 21: the step of the weight. -/
theorem final53 (c : Dev nD) : (dats m 0 c).arrAt 53 cfg0.N = fun y => Cert.Adam.step ((m ((c : Thread nD τ).loc main_arg20)) y) ((m ((c : Thread nD τ).loc main_arg21)) y) ((m ((c : Thread nD τ).loc main_arg22)) y) ((m ((c : Thread nD τ).loc main_arg23)) y) := by
  refine (dats m 0 c).arrAt_eq_of_covers 53 _ (by decide +kernel) fun t _ y => ?_
  blk_simp
  rw [after53]; unfold out53; frame_out
  pointwise [Cert.Adam.step, moment1, moment2, k0_pay16, k0_pay17, k0_pay18]
  blk_point [iblk, V, idx5 t]

/-- Result 22: the first moment. -/
theorem final54 (c : Dev nD) : (dats m 0 c).arrAt 54 cfg0.N = fun y => moment1 ((m ((c : Thread nD τ).loc main_arg21)) y) ((m ((c : Thread nD τ).loc main_arg23)) y) := by
  refine (dats m 0 c).arrAt_eq_of_covers 54 _ (by decide +kernel) fun t _ y => ?_
  blk_simp
  rw [after54]; unfold out54; frame_out
  pointwise [moment1, k0_pay16]
  blk_point [iblk, V, idx5 t]

/-- Result 23: the second moment. -/
theorem final55 (c : Dev nD) : (dats m 0 c).arrAt 55 cfg0.N = fun y => moment2 ((m ((c : Thread nD τ).loc main_arg22)) y) ((m ((c : Thread nD τ).loc main_arg23)) y) := by
  refine (dats m 0 c).arrAt_eq_of_covers 55 _ (by decide +kernel) fun t _ y => ?_
  blk_simp
  rw [after55]; unfold out55; frame_out
  pointwise [moment2, k0_pay17]
  blk_point [iblk, V, idx5 t]

end Cert.AdamSmallIdeal.Small

end
-- ==== Proof.SmallOut6.lean ====
/- The optimiser's call on the small parameters: the results of the first group of heads' gain. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx6 : ∀ t : Fin cfg0.N, win0_24.index t = ![0, 0] ∧ win0_25.index t = ![0, 0] ∧ win0_26.index t = ![0, 0] ∧ win0_27.index t = ![0, 0] ∧ win0_56.index t = ![0, 0] ∧ win0_57.index t = ![0, 0] ∧ win0_58.index t = ![0, 0] ∧ win0_59.index t = ![0, 0] :=
  (by decide +kernel : ∀ t : Fin grid0.N, _)

/-- Result 24: the gradient, as it came. -/
theorem final56 (c : Dev nD) : (dats m 0 c).arrAt 56 cfg0.N = fun y => (m ((c : Thread nD τ).loc main_arg27)) y := by
  refine (dats m 0 c).arrAt_eq_of_covers 56 _ (by decide +kernel) fun t _ y => ?_
  blk_simp
  rw [after56]; unfold out56; frame_out
  pointwise
  blk_point [iblk, V, idx6 t]

/-- Result 25: the step of the weight. -/
theorem final57 (c : Dev nD) : (dats m 0 c).arrAt 57 cfg0.N = fun y => Cert.Adam.step ((m ((c : Thread nD τ).loc main_arg24)) y) ((m ((c : Thread nD τ).loc main_arg25)) y) ((m ((c : Thread nD τ).loc main_arg26)) y) ((m ((c : Thread nD τ).loc main_arg27)) y) := by
  refine (dats m 0 c).arrAt_eq_of_covers 57 _ (by decide +kernel) fun t _ y => ?_
  blk_simp
  rw [after57]; unfold out57; frame_out
  pointwise [Cert.Adam.step, moment1, moment2, k0_pay19, k0_pay20, k0_pay21]
  blk_point [iblk, V, idx6 t]

/-- Result 26: the first moment. -/
theorem final58 (c : Dev nD) : (dats m 0 c).arrAt 58 cfg0.N = fun y => moment1 ((m ((c : Thread nD τ).loc main_arg25)) y) ((m ((c : Thread nD τ).loc main_arg27)) y) := by
  refine (dats m 0 c).arrAt_eq_of_covers 58 _ (by decide +kernel) fun t _ y => ?_
  blk_simp
  rw [after58]; unfold out58; frame_out
  pointwise [moment1, k0_pay19]
  blk_point [iblk, V, idx6 t]

/-- Result 27: the second moment. -/
theorem final59 (c : Dev nD) : (dats m 0 c).arrAt 59 cfg0.N = fun y => moment2 ((m ((c : Thread nD τ).loc main_arg26)) y) ((m ((c : Thread nD τ).loc main_arg27)) y) := by
  refine (dats m 0 c).arrAt_eq_of_covers 59 _ (by decide +kernel) fun t _ y => ?_
  blk_simp
  rw [after59]; unfold out59; frame_out
  pointwise [moment2, k0_pay20]
  blk_point [iblk, V, idx6 t]

end Cert.AdamSmallIdeal.Small

end
-- ==== Proof.SmallOut7.lean ====
/- The optimiser's call on the small parameters: the results of the other groups' gain. -/
module

public import proofs.«01_k».proof.Defs
public import proofs.«01_k».proof.Proof.Adam
public import proofs.«01_k».proof.Proof.SmallRun
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

/-- Every window is the whole array. -/
theorem idx7 : ∀ t : Fin cfg0.N, win0_28.index t = ![0, 0] ∧ win0_29.index t = ![0, 0] ∧ win0_30.index t = ![0, 0] ∧ win0_31.index t = ![0, 0] ∧ win0_60.index t = ![0, 0] ∧ win0_61.index t = ![0, 0] ∧ win0_62.index t = ![0, 0] ∧ win0_63.index t = ![0, 0] :=
  (by decide +kernel : ∀ t : Fin grid0.N, _)

/-- Result 28: the gradient, as it came. -/
theorem final60 (c : Dev nD) : (dats m 0 c).arrAt 60 cfg0.N = fun y => (m ((c : Thread nD τ).loc main_arg31)) y := by
  refine (dats m 0 c).arrAt_eq_of_covers 60 _ (by decide +kernel) fun t _ y => ?_
  blk_simp
  rw [after60]; unfold out60; frame_out
  pointwise
  blk_point [iblk, V, idx7 t]

/-- Result 29: the step of the weight. -/
theorem final61 (c : Dev nD) : (dats m 0 c).arrAt 61 cfg0.N = fun y => Cert.Adam.step ((m ((c : Thread nD τ).loc main_arg28)) y) ((m ((c : Thread nD τ).loc main_arg29)) y) ((m ((c : Thread nD τ).loc main_arg30)) y) ((m ((c : Thread nD τ).loc main_arg31)) y) := by
  refine (dats m 0 c).arrAt_eq_of_covers 61 _ (by decide +kernel) fun t _ y => ?_
  blk_simp
  rw [after61]; unfold out61; frame_out
  pointwise [Cert.Adam.step, moment1, moment2, k0_pay22, k0_pay23, k0_pay24]
  blk_point [iblk, V, idx7 t]

/-- Result 30: the first moment. -/
theorem final62 (c : Dev nD) : (dats m 0 c).arrAt 62 cfg0.N = fun y => moment1 ((m ((c : Thread nD τ).loc main_arg29)) y) ((m ((c : Thread nD τ).loc main_arg31)) y) := by
  refine (dats m 0 c).arrAt_eq_of_covers 62 _ (by decide +kernel) fun t _ y => ?_
  blk_simp
  rw [after62]; unfold out62; frame_out
  pointwise [moment1, k0_pay22]
  blk_point [iblk, V, idx7 t]

/-- Result 31: the second moment. -/
theorem final63 (c : Dev nD) : (dats m 0 c).arrAt 63 cfg0.N = fun y => moment2 ((m ((c : Thread nD τ).loc main_arg30)) y) ((m ((c : Thread nD τ).loc main_arg31)) y) := by
  refine (dats m 0 c).arrAt_eq_of_covers 63 _ (by decide +kernel) fun t _ y => ?_
  blk_simp
  rw [after63]; unfold out63; frame_out
  pointwise [moment2, k0_pay23]
  blk_point [iblk, V, idx7 t]

end Cert.AdamSmallIdeal.Small

end
-- ==== Proof.AdamSmall.lean ====
/- The optimiser's call on the eight small parameters: the filter's weight and bias, and six gains. -/
module

public import proofs.«01_k».proof.Defs
public import proofs.«01_k».proof.Proof.Adam
public import proofs.«01_k».proof.Proof.SmallRun
public import proofs.«01_k».proof.Proof.SmallOut0
public import proofs.«01_k».proof.Proof.SmallOut1
public import proofs.«01_k».proof.Proof.SmallOut2
public import proofs.«01_k».proof.Proof.SmallOut3
public import proofs.«01_k».proof.Proof.SmallOut4
public import proofs.«01_k».proof.Proof.SmallOut5
public import proofs.«01_k».proof.Proof.SmallOut6
public import proofs.«01_k».proof.Proof.SmallOut7
public import proofs.«01_k».proof.Proof.SmallRunBits
public import proofs.«01_k».proof.Proof.Gen.AdamSmallRefIdeal
public import proofs.«01_k».proof.Proof.Gen.AdamSmallRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdamSmallIdeal.Small

open Cert.AdamSmallIdeal Cert.AdamSmallIdeal.Gen Cert.Adam

variable (m : (ℓ : Loc nD τ sig) → Buf (Elt Ideal) ℓ) (ρ : Dev nD → PrngReg)

set_option maxHeartbeats 4000000 in
/-- The run, result by result. -/
theorem runs : θ_run defs (onTc (τ := τ) (main (F := Ideal))) ⟨m, fun _ => 0, ρ⟩ fun r => ∀ c : Dev nD,
      r.2.mem ((c.tc : Thread nD τ).loc main_v0_0) = (dats m 0 c).arrAt 32 cfg0.N
      ∧ r.2.mem ((c.tc : Thread nD τ).loc main_v0_1) = (dats m 0 c).arrAt 33 cfg0.N
      ∧ r.2.mem ((c.tc : Thread nD τ).loc main_v0_2) = (dats m 0 c).arrAt 34 cfg0.N
      ∧ r.2.mem ((c.tc : Thread nD τ).loc main_v0_3) = (dats m 0 c).arrAt 35 cfg0.N
      ∧ r.2.mem ((c.tc : Thread nD τ).loc main_v0_4) = (dats m 0 c).arrAt 36 cfg0.N
      ∧ r.2.mem ((c.tc : Thread nD τ).loc main_v0_5) = (dats m 0 c).arrAt 37 cfg0.N
      ∧ r.2.mem ((c.tc : Thread nD τ).loc main_v0_6) = (dats m 0 c).arrAt 38 cfg0.N
      ∧ r.2.mem ((c.tc : Thread nD τ).loc main_v0_7) = (dats m 0 c).arrAt 39 cfg0.N
      ∧ r.2.mem ((c.tc : Thread nD τ).loc main_v0_8) = (dats m 0 c).arrAt 40 cfg0.N
      ∧ r.2.mem ((c.tc : Thread nD τ).loc main_v0_9) = (dats m 0 c).arrAt 41 cfg0.N
      ∧ r.2.mem ((c.tc : Thread nD τ).loc main_v0_10) = (dats m 0 c).arrAt 42 cfg0.N
      ∧ r.2.mem ((c.tc : Thread nD τ).loc main_v0_11) = (dats m 0 c).arrAt 43 cfg0.N
      ∧ r.2.mem ((c.tc : Thread nD τ).loc main_v0_12) = (dats m 0 c).arrAt 44 cfg0.N
      ∧ r.2.mem ((c.tc : Thread nD τ).loc main_v0_13) = (dats m 0 c).arrAt 45 cfg0.N
      ∧ r.2.mem ((c.tc : Thread nD τ).loc main_v0_14) = (dats m 0 c).arrAt 46 cfg0.N
      ∧ r.2.mem ((c.tc : Thread nD τ).loc main_v0_15) = (dats m 0 c).arrAt 47 cfg0.N
      ∧ r.2.mem ((c.tc : Thread nD τ).loc main_v0_16) = (dats m 0 c).arrAt 48 cfg0.N
      ∧ r.2.mem ((c.tc : Thread nD τ).loc main_v0_17) = (dats m 0 c).arrAt 49 cfg0.N
      ∧ r.2.mem ((c.tc : Thread nD τ).loc main_v0_18) = (dats m 0 c).arrAt 50 cfg0.N
      ∧ r.2.mem ((c.tc : Thread nD τ).loc main_v0_19) = (dats m 0 c).arrAt 51 cfg0.N
      ∧ r.2.mem ((c.tc : Thread nD τ).loc main_v0_20) = (dats m 0 c).arrAt 52 cfg0.N
      ∧ r.2.mem ((c.tc : Thread nD τ).loc main_v0_21) = (dats m 0 c).arrAt 53 cfg0.N
      ∧ r.2.mem ((c.tc : Thread nD τ).loc main_v0_22) = (dats m 0 c).arrAt 54 cfg0.N
      ∧ r.2.mem ((c.tc : Thread nD τ).loc main_v0_23) = (dats m 0 c).arrAt 55 cfg0.N
      ∧ r.2.mem ((c.tc : Thread nD τ).loc main_v0_24) = (dats m 0 c).arrAt 56 cfg0.N
      ∧ r.2.mem ((c.tc : Thread nD τ).loc main_v0_25) = (dats m 0 c).arrAt 57 cfg0.N
      ∧ r.2.mem ((c.tc : Thread nD τ).loc main_v0_26) = (dats m 0 c).arrAt 58 cfg0.N
      ∧ r.2.mem ((c.tc : Thread nD τ).loc main_v0_27) = (dats m 0 c).arrAt 59 cfg0.N
      ∧ r.2.mem ((c.tc : Thread nD τ).loc main_v0_28) = (dats m 0 c).arrAt 60 cfg0.N
      ∧ r.2.mem ((c.tc : Thread nD τ).loc main_v0_29) = (dats m 0 c).arrAt 61 cfg0.N
      ∧ r.2.mem ((c.tc : Thread nD τ).loc main_v0_30) = (dats m 0 c).arrAt 62 cfg0.N
      ∧ r.2.mem ((c.tc : Thread nD τ).loc main_v0_31) = (dats m 0 c).arrAt 63 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run defs _ _).mono (fun _ h c => ⟨(h.1 c).1 32,
      (h.1 c).1 33,
      (h.1 c).1 34,
      (h.1 c).1 35,
      (h.1 c).1 36,
      (h.1 c).1 37,
      (h.1 c).1 38,
      (h.1 c).1 39,
      (h.1 c).1 40,
      (h.1 c).1 41,
      (h.1 c).1 42,
      (h.1 c).1 43,
      (h.1 c).1 44,
      (h.1 c).1 45,
      (h.1 c).1 46,
      (h.1 c).1 47,
      (h.1 c).1 48,
      (h.1 c).1 49,
      (h.1 c).1 50,
      (h.1 c).1 51,
      (h.1 c).1 52,
      (h.1 c).1 53,
      (h.1 c).1 54,
      (h.1 c).1 55,
      (h.1 c).1 56,
      (h.1 c).1 57,
      (h.1 c).1 58,
      (h.1 c).1 59,
      (h.1 c).1 60,
      (h.1 c).1 61,
      (h.1 c).1 62,
      (h.1 c).1 63,
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 7).trans (((dats m 0 c).arrAt_in 7 rfl _).trans (A_eq m c 7)),
      ((h.1 c).1 8).trans (((dats m 0 c).arrAt_in 8 rfl _).trans (A_eq m c 8)),
      ((h.1 c).1 9).trans (((dats m 0 c).arrAt_in 9 rfl _).trans (A_eq m c 9)),
      ((h.1 c).1 10).trans (((dats m 0 c).arrAt_in 10 rfl _).trans (A_eq m c 10)),
      ((h.1 c).1 11).trans (((dats m 0 c).arrAt_in 11 rfl _).trans (A_eq m c 11)),
      ((h.1 c).1 12).trans (((dats m 0 c).arrAt_in 12 rfl _).trans (A_eq m c 12)),
      ((h.1 c).1 13).trans (((dats m 0 c).arrAt_in 13 rfl _).trans (A_eq m c 13)),
      ((h.1 c).1 14).trans (((dats m 0 c).arrAt_in 14 rfl _).trans (A_eq m c 14)),
      ((h.1 c).1 15).trans (((dats m 0 c).arrAt_in 15 rfl _).trans (A_eq m c 15)),
      ((h.1 c).1 16).trans (((dats m 0 c).arrAt_in 16 rfl _).trans (A_eq m c 16)),
      ((h.1 c).1 17).trans (((dats m 0 c).arrAt_in 17 rfl _).trans (A_eq m c 17)),
      ((h.1 c).1 18).trans (((dats m 0 c).arrAt_in 18 rfl _).trans (A_eq m c 18)),
      ((h.1 c).1 19).trans (((dats m 0 c).arrAt_in 19 rfl _).trans (A_eq m c 19)),
      ((h.1 c).1 20).trans (((dats m 0 c).arrAt_in 20 rfl _).trans (A_eq m c 20)),
      ((h.1 c).1 21).trans (((dats m 0 c).arrAt_in 21 rfl _).trans (A_eq m c 21)),
      ((h.1 c).1 22).trans (((dats m 0 c).arrAt_in 22 rfl _).trans (A_eq m c 22)),
      ((h.1 c).1 23).trans (((dats m 0 c).arrAt_in 23 rfl _).trans (A_eq m c 23)),
      ((h.1 c).1 24).trans (((dats m 0 c).arrAt_in 24 rfl _).trans (A_eq m c 24)),
      ((h.1 c).1 25).trans (((dats m 0 c).arrAt_in 25 rfl _).trans (A_eq m c 25)),
      ((h.1 c).1 26).trans (((dats m 0 c).arrAt_in 26 rfl _).trans (A_eq m c 26)),
      ((h.1 c).1 27).trans (((dats m 0 c).arrAt_in 27 rfl _).trans (A_eq m c 27)),
      ((h.1 c).1 28).trans (((dats m 0 c).arrAt_in 28 rfl _).trans (A_eq m c 28)),
      ((h.1 c).1 29).trans (((dats m 0 c).arrAt_in 29 rfl _).trans (A_eq m c 29)),
      ((h.1 c).1 30).trans (((dats m 0 c).arrAt_in 30 rfl _).trans (A_eq m c 30)),
      ((h.1 c).1 31).trans (((dats m 0 c).arrAt_in 31 rfl _).trans (A_eq m c 31))⟩) (run_quiescent m ρ)

end Cert.AdamSmallIdeal.Small

namespace Cert.AdamSmall

/-- The call runs to an end, keeps its arguments and leaves every semaphore at zero. -/
theorem quiescent : Cert.quiescent_AdamSmall := fun m g _ => Cert.AdamSmall.Small.quiescent m g

/-- So does the idealized call. -/
theorem quiescent_ideal : Cert.quiescent_AdamSmallIdeal := fun m g _ => Cert.AdamSmallIdeal.Small.quiescent m g

/-- So does its reference. -/
theorem quiescent_ref : Cert.quiescent_AdamSmallRefIdeal := fun m g _ =>
  (θ_run Cert.AdamSmallRefIdeal.defs _ _).mono (fun r h => ⟨fun c => (h c).2.2.2.2.2.2.2.2.2.2.2.2.2.2.2.2.2.2.2.2.2.2.2.2.2.2.2.2.2.2.2.2, sem_eq_zero_of_no_sems (by decide) r.2⟩)
    (Cert.AdamSmallRefIdeal.Value.run (F := Ideal) m g)

open Cert.Adam (step moment1 moment2)

set_option maxHeartbeats 16000000 in
/-- The call's results are the reference's. -/
theorem algebraic : Cert.algebraic_AdamSmallIdeal_AdamSmallRefIdeal := by
  intro m g m' g' _ hagree
  refine ⟨_, _, _, _, _, _, _, _, _, _, _, _, _, _, _, _, _, _, _, _, _, _, _, _, _, _, _, _, _, _, _, _, Cert.AdamSmallIdeal.Small.runs m g, ?_⟩
  refine (θ_run Cert.AdamSmallRefIdeal.defs _ _).mono (fun _ h c => ?_) (Cert.AdamSmallRefIdeal.Value.run (F := Ideal) m' g')
  obtain ⟨a0, a1, a2, a3, a4, a5, a6, a7, a8, a9, a10, a11, a12, a13, a14, a15, a16, a17, a18, a19, a20, a21, a22, a23, a24, a25, a26, a27, a28, a29, a30, a31⟩ := hagree c
  obtain ⟨h0, h1, h2, h3, h4, h5, h6, h7, h8, h9, h10, h11, h12, h13, h14, h15, h16, h17, h18, h19, h20, h21, h22, h23, h24, h25, h26, h27, h28, h29, h30, h31, k⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, h29.trans ?_, h30.trans ?_, h31.trans ?_, k⟩
  · rw [Cert.AdamSmallIdeal.Small.final32]; exact a3
  · rw [Cert.AdamSmallIdeal.Small.final33, ← a0, ← a1, ← a2, ← a3]; funext y; pointwise [Cert.Adam.step, moment1, moment2]
  · rw [Cert.AdamSmallIdeal.Small.final34, ← a1, ← a3]; funext y; pointwise [moment1]
  · rw [Cert.AdamSmallIdeal.Small.final35, ← a2, ← a3]; funext y; pointwise [moment2]
  · rw [Cert.AdamSmallIdeal.Small.final36]; exact a7
  · rw [Cert.AdamSmallIdeal.Small.final37, ← a4, ← a5, ← a6, ← a7]; funext y; pointwise [Cert.Adam.step, moment1, moment2]
  · rw [Cert.AdamSmallIdeal.Small.final38, ← a5, ← a7]; funext y; pointwise [moment1]
  · rw [Cert.AdamSmallIdeal.Small.final39, ← a6, ← a7]; funext y; pointwise [moment2]
  · rw [Cert.AdamSmallIdeal.Small.final40]; exact a11
  · rw [Cert.AdamSmallIdeal.Small.final41, ← a8, ← a9, ← a10, ← a11]; funext y; pointwise [Cert.Adam.step, moment1, moment2]
  · rw [Cert.AdamSmallIdeal.Small.final42, ← a9, ← a11]; funext y; pointwise [moment1]
  · rw [Cert.AdamSmallIdeal.Small.final43, ← a10, ← a11]; funext y; pointwise [moment2]
  · rw [Cert.AdamSmallIdeal.Small.final44]; exact a15
  · rw [Cert.AdamSmallIdeal.Small.final45, ← a12, ← a13, ← a14, ← a15]; funext y; pointwise [Cert.Adam.step, moment1, moment2]
  · rw [Cert.AdamSmallIdeal.Small.final46, ← a13, ← a15]; funext y; pointwise [moment1]
  · rw [Cert.AdamSmallIdeal.Small.final47, ← a14, ← a15]; funext y; pointwise [moment2]
  · rw [Cert.AdamSmallIdeal.Small.final48]; exact a19
  · rw [Cert.AdamSmallIdeal.Small.final49, ← a16, ← a17, ← a18, ← a19]; funext y; pointwise [Cert.Adam.step, moment1, moment2]
  · rw [Cert.AdamSmallIdeal.Small.final50, ← a17, ← a19]; funext y; pointwise [moment1]
  · rw [Cert.AdamSmallIdeal.Small.final51, ← a18, ← a19]; funext y; pointwise [moment2]
  · rw [Cert.AdamSmallIdeal.Small.final52]; exact a23
  · rw [Cert.AdamSmallIdeal.Small.final53, ← a20, ← a21, ← a22, ← a23]; funext y; pointwise [Cert.Adam.step, moment1, moment2]
  · rw [Cert.AdamSmallIdeal.Small.final54, ← a21, ← a23]; funext y; pointwise [moment1]
  · rw [Cert.AdamSmallIdeal.Small.final55, ← a22, ← a23]; funext y; pointwise [moment2]
  · rw [Cert.AdamSmallIdeal.Small.final56]; exact a27
  · rw [Cert.AdamSmallIdeal.Small.final57, ← a24, ← a25, ← a26, ← a27]; funext y; pointwise [Cert.Adam.step, moment1, moment2]
  · rw [Cert.AdamSmallIdeal.Small.final58, ← a25, ← a27]; funext y; pointwise [moment1]
  · rw [Cert.AdamSmallIdeal.Small.final59, ← a26, ← a27]; funext y; pointwise [moment2]
  · rw [Cert.AdamSmallIdeal.Small.final60]; exact a31
  · rw [Cert.AdamSmallIdeal.Small.final61, ← a28, ← a29, ← a30, ← a31]; funext y; pointwise [Cert.Adam.step, moment1, moment2]
  · rw [Cert.AdamSmallIdeal.Small.final62, ← a29, ← a31]; funext y; pointwise [moment1]
  · rw [Cert.AdamSmallIdeal.Small.final63, ← a30, ← a31]; funext y; pointwise [moment2]

end Cert.AdamSmall

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Finite
public import proofs.«01_k».proof.Proof.Ref2
public import Idealize.ShloMosaic.Lib.Quiescent
public import Idealize.ShloMosaic.Adequacy
public import Idealize.ShloMosaic.Init
public import proofs.«01_k».proof.Proof.Gen.DH2.Frame
public import proofs.«01_k».proof.Proof.Gen.DH2Ideal.Frame
public import proofs.«01_k».proof.Proof.Gen.DH2Ideal.Value
public import proofs.«01_k».proof.Proof.Gen.DH2RefIdeal
public import proofs.«01_k».proof.Proof.Gen.DH2RefIdeal.Run
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.DWin.Frame
public import proofs.«01_k».proof.Proof.Gen.DWinIdeal.Frame
public import proofs.«01_k».proof.Proof.Gen.DWinIdeal.Value
public import proofs.«01_k».proof.Proof.Gen.DWinRefIdeal
public import proofs.«01_k».proof.Proof.Gen.DWinRefIdeal.Run
public import proofs.«01_k».proof.Proof.Gen.DH1.Frame
public import proofs.«01_k».proof.Proof.Gen.DH1Ideal.Frame
public import proofs.«01_k».proof.Proof.Gen.DH1Ideal.Value
public import proofs.«01_k».proof.Proof.Gen.DH1RefIdeal
public import proofs.«01_k».proof.Proof.Gen.DH1RefIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.DMixed.Frame
public import proofs.«01_k».proof.Proof.Gen.DMixedIdeal.Frame
public import proofs.«01_k».proof.Proof.Gen.DMixedIdeal.Value
public import proofs.«01_k».proof.Proof.Gen.DMixedRefIdeal
public import proofs.«01_k».proof.Proof.Gen.DMixedRefIdeal.Run
public import proofs.«01_k».proof.Proof.Gen.DWout.Frame
public import proofs.«01_k».proof.Proof.Gen.DWoutIdeal.Frame
public import proofs.«01_k».proof.Proof.Gen.DWoutIdeal.Value
public import proofs.«01_k».proof.Proof.Gen.DWoutRefIdeal
public import proofs.«01_k».proof.Proof.Gen.DWoutRefIdeal.Run
public import proofs.«01_k».proof.Proof.Gen.Middle.Frame
public import proofs.«01_k».proof.Proof.Gen.MiddleIdeal.Frame
public import proofs.«01_k».proof.Proof.Gen.MiddleIdeal.Value
public import proofs.«01_k».proof.Proof.Gen.MiddleRefIdeal
public import proofs.«01_k».proof.Proof.Gen.MiddleRefIdeal.Run
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.First.Frame
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Run
public import proofs.«01_k».proof.Proof.Gen.Mid.Frame
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.Head.Frame
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.AdamSmall.Launch
public import proofs.«01_k».proof.Proof.Gen.AdamSmall.Skeleton
public import proofs.«01_k».proof.Proof.Gen.AdamSmall.Points
public import proofs.«01_k».proof.Proof.Gen.AdamSmallIdeal.Launch
public import proofs.«01_k».proof.Proof.Gen.AdamSmallIdeal.Skeleton
public import proofs.«01_k».proof.Proof.Gen.AdamSmallIdeal.Points
public import proofs.«01_k».proof.Proof.Gen.AdamSmallRefIdeal
public import proofs.«01_k».proof.Proof.Gen.AdamSmallRefIdeal.Run
public import proofs.«01_k».proof.Proof.DH2
public import proofs.«01_k».proof.Proof.Up
public import proofs.«01_k».proof.Proof.Down
public import proofs.«01_k».proof.Proof.Qkv
public import proofs.«01_k».proof.Proof.DWin
public import proofs.«01_k».proof.Proof.DH1
public import proofs.«01_k».proof.Proof.Mix
public import proofs.«01_k».proof.Proof.DMixed
public import proofs.«01_k».proof.Proof.DWout
public import proofs.«01_k».proof.Proof.Middle
public import proofs.«01_k».proof.Proof.Norm
public import proofs.«01_k».proof.Proof.AdamIn
public import proofs.«01_k».proof.Proof.AdamOut
public import proofs.«01_k».proof.Proof.AdamUp
public import proofs.«01_k».proof.Proof.AdamDown
public import proofs.«01_k».proof.Proof.First
public import proofs.«01_k».proof.Proof.Mid
public import proofs.«01_k».proof.Proof.Head
public import proofs.«01_k».proof.Proof.AdamSmall

@[expose] public section

noncomputable section

namespace Cert.Proof

open Idealize.ShloMosaic Idealize.SL.Sem

/-- The reference runs to an end, keeps its arguments and leaves every semaphore at zero. -/
theorem frame_reference : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

/-- The table gives `cube` the value 44715/10⁶ and `cube3` three times that. -/
theorem preserves : Cert.preserves_Kernel_KernelIdeal :=
  ⟨IdealRules.named_const.statement Cert.KernelIdeal.κ "cube" .f32 0x3D372713#32 ((8943 / 200000 : ℝ) : EReal) rfl,
   IdealRules.named_const.statement Cert.KernelIdeal.κ "cube3" .f32 0x3E095D4F#32 ((26829 / 200000 : ℝ) : EReal) rfl⟩

section Value

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal.Vecs Cert.ReferenceIdeal.Value in
/-- The two programs take the same arrays on device `c`. -/
structure Same (c : Dev Cert.KernelIdeal.nD) : Prop where
  e0 : B0 (StableHlo.launchContents m' c) = A0 m c
  e1 : B1 (StableHlo.launchContents m' c) = A1 m c
  e2 : B2 (StableHlo.launchContents m' c) = A2 m c
  e3 : B3 (StableHlo.launchContents m' c) = A3 m c
  e4 : B4 (StableHlo.launchContents m' c) = A4 m c
  e5 : B5 (StableHlo.launchContents m' c) = A5 m c

variable {m m'} {c : Dev Cert.KernelIdeal.nD}

/-- The columns are then the same. -/
theorem Same.data (h : Same m m' c) (q : Fin 5632) :
    Cert.ReferenceIdeal.Value.data (StableHlo.launchContents m' c) q = Cert.KernelIdeal.Vecs.data m c q := by
  unfold Cert.ReferenceIdeal.Value.data Cert.KernelIdeal.Vecs.data
  rw [h.e0, h.e1, h.e2, h.e3, h.e4, h.e5]

/-- Real entries of the kernel's arrays are real entries of the reference's. -/
theorem Same.real (h : Same m m' c) (hp : Cert.Pre_KernelIdeal_finite m) :
    Cert.ReferenceIdeal.Value.Real' (StableHlo.launchContents m' c) := by
  have H := Cert.Finite.args hp c
  exact ⟨fun x => by rw [h.e0]; exact H.1 x, fun x => by rw [h.e1]; exact H.2.1 x, fun x => by rw [h.e2]; exact H.2.2.1 x,
    fun x => by rw [h.e3]; exact H.2.2.2.1 x, fun x => by rw [h.e4]; exact H.2.2.2.2.1 x,
    fun x => by rw [h.e5]; exact H.2.2.2.2.2 x⟩

end Value

/-- The kernel's five results are the reference's. -/
theorem algebraic : Cert.algebraic_KernelIdeal_ReferenceIdeal_pre_finite := by
  intro m g m' g' hp hagree
  have hs : ∀ c, Same m m' c := fun c =>
    ⟨(hagree c).1, (hagree c).2.1, (hagree c).2.2.1, (hagree c).2.2.2.1, (hagree c).2.2.2.2.1, (hagree c).2.2.2.2.2⟩
  refine ⟨_, _, _, _, _, Cert.KernelIdeal.Value.run_blocks m g, ?_⟩
  refine (θ_run Cert.ReferenceIdeal.defs _ _).mono (fun _ h c => ⟨(h c).1.trans ?_, (h c).2.1.trans ?_, (h c).2.2.1.trans ?_,
    (h c).2.2.2.1.trans ?_, (h c).2.2.2.2.1.trans ?_, (h c).2.2.2.2.2⟩) (Cert.ReferenceIdeal.Value.run (F := Ideal) m' g')
  · refine Eq.trans ?_ (Cert.KernelIdeal.Vecs.final8 m c).symm
    funext y
    obtain ⟨i, s, q, rfl⟩ : ∃ (a : Fin 2) (b : Fin 2048) (e : Fin 5632), y = ix3 a b e := ⟨y 0, y 1, y 2, eq_ix3 y⟩
    refine (Cert.ReferenceIdeal.Value.v118_at _ ((hs c).real hp) i s q).trans ?_
    rw [(hs c).data]; rfl
  · refine Eq.trans ?_ (Cert.KernelIdeal.Vecs.final9 m c).symm
    funext y
    obtain ⟨q, k, rfl⟩ : ∃ (a : Fin 5632) (b : Fin 2048), y = ix2 a b := ⟨y 0, y 1, eq_ix2 y⟩
    refine (Cert.ReferenceIdeal.Value.v119_at _ q k).trans ?_
    rw [(hs c).data, (hs c).e0]; rfl
  · refine Eq.trans ?_ (Cert.KernelIdeal.Vecs.final10 m c).symm
    funext y
    obtain ⟨i, q, k, rfl⟩ : ∃ (a : Fin 2) (b : Fin 5632) (e : Fin 2048), y = ix3 a b e := ⟨y 0, y 1, y 2, eq_ix3 y⟩
    refine (Cert.ReferenceIdeal.Value.v122_at _ ((hs c).real hp) i q k).trans ?_
    rw [(hs c).data, (hs c).e1]; rfl
  · refine Eq.trans ?_ (Cert.KernelIdeal.Vecs.final11 m c).symm
    funext y
    obtain ⟨i, j, q, rfl⟩ : ∃ (a : Fin 2) (b : Fin 3) (e : Fin 5632), y = ix3 a b e := ⟨y 0, y 1, y 2, eq_ix3 y⟩
    refine (Cert.ReferenceIdeal.Value.v124_at _ ((hs c).real hp) i j q).trans ?_
    rw [(hs c).data]; rfl
  · refine Eq.trans ?_ (Cert.KernelIdeal.Vecs.final12 m c).symm
    funext y
    obtain ⟨i, j, q, rfl⟩ : ∃ (a : Fin 2) (b : Fin 1) (e : Fin 5632), y = ix3 a b e := ⟨y 0, y 1, y 2, eq_ix3 y⟩
    refine (Cert.ReferenceIdeal.Value.v125_at _ ((hs c).real hp) i j q).trans ?_
    rw [(hs c).data]; rfl

theorem claim : Cert.Claim :=
  ⟨Cert.Kernel.Gen.facts, Cert.KernelIdeal.Gen.facts, Cert.ReferenceIdeal.Gen.facts,
   Cert.DH2.Gen.facts, Cert.DH2Ideal.Gen.facts, Cert.DH2RefIdeal.Gen.facts,
   Cert.Up.Gen.facts, Cert.UpIdeal.Gen.facts, Cert.UpRefIdeal.Gen.facts,
   Cert.Down.Gen.facts, Cert.DownIdeal.Gen.facts, Cert.DownRefIdeal.Gen.facts,
   Cert.Qkv.Gen.facts, Cert.QkvIdeal.Gen.facts, Cert.QkvRefIdeal.Gen.facts,
   Cert.DWin.Gen.facts, Cert.DWinIdeal.Gen.facts, Cert.DWinRefIdeal.Gen.facts,
   Cert.DH1.Gen.facts, Cert.DH1Ideal.Gen.facts, Cert.DH1RefIdeal.Gen.facts,
   Cert.Mix.Gen.facts, Cert.MixIdeal.Gen.facts, Cert.MixRefIdeal.Gen.facts,
   Cert.DMixed.Gen.facts, Cert.DMixedIdeal.Gen.facts, Cert.DMixedRefIdeal.Gen.facts,
   Cert.DWout.Gen.facts, Cert.DWoutIdeal.Gen.facts, Cert.DWoutRefIdeal.Gen.facts,
   Cert.Middle.Gen.facts, Cert.MiddleIdeal.Gen.facts, Cert.MiddleRefIdeal.Gen.facts,
   Cert.Norm.Gen.facts, Cert.NormIdeal.Gen.facts, Cert.NormRefIdeal.Gen.facts,
   Cert.AdamIn.Gen.facts, Cert.AdamInIdeal.Gen.facts, Cert.AdamInRefIdeal.Gen.facts,
   Cert.AdamOut.Gen.facts, Cert.AdamOutIdeal.Gen.facts, Cert.AdamOutRefIdeal.Gen.facts,
   Cert.AdamUp.Gen.facts, Cert.AdamUpIdeal.Gen.facts, Cert.AdamUpRefIdeal.Gen.facts,
   Cert.AdamDown.Gen.facts, Cert.AdamDownIdeal.Gen.facts, Cert.AdamDownRefIdeal.Gen.facts,
   Cert.First.Gen.facts, Cert.FirstIdeal.Gen.facts, Cert.FirstRefIdeal.Gen.facts,
   Cert.Mid.Gen.facts, Cert.MidIdeal.Gen.facts, Cert.MidRefIdeal.Gen.facts,
   Cert.Head.Gen.facts, Cert.HeadIdeal.Gen.facts, Cert.HeadRefIdeal.Gen.facts,
   Cert.AdamSmall.Gen.facts, Cert.AdamSmallIdeal.Gen.facts, Cert.AdamSmallRefIdeal.Gen.facts,
   Cert.Pre_finite.Gen.facts,
   fun m g _ => Cert.Kernel.Gen.frame m g, fun m g _ => Cert.KernelIdeal.Gen.frame m g, fun m g _ => Cert.KernelIdeal.Gen.frame m g,
   frame_reference, fun m g _ => frame_reference m g trivial,
   Cert.DH2.quiescent, Cert.DH2.quiescent_ideal, Cert.DH2.quiescent_ref,
   Cert.Up.quiescent, Cert.Up.quiescent_ideal, Cert.Up.quiescent_ref,
   Cert.Down.quiescent, Cert.Down.quiescent_ideal, Cert.Down.quiescent_ref,
   Cert.Qkv.quiescent, Cert.Qkv.quiescent_ideal, Cert.Qkv.quiescent_ref,
   Cert.DWin.quiescent, Cert.DWin.quiescent_ideal, Cert.DWin.quiescent_ref,
   Cert.DH1.quiescent, Cert.DH1.quiescent_ideal, Cert.DH1.quiescent_ref,
   Cert.Mix.quiescent, Cert.Mix.quiescent_ideal, Cert.Mix.quiescent_ref,
   Cert.DMixed.quiescent, Cert.DMixed.quiescent_ideal, Cert.DMixed.quiescent_ref,
   Cert.DWout.quiescent, Cert.DWout.quiescent_ideal, Cert.DWout.quiescent_ref,
   Cert.Middle.quiescent, Cert.Middle.quiescent_ideal, Cert.Middle.quiescent_ref,
   Cert.Norm.quiescent, Cert.Norm.quiescent_ideal, Cert.Norm.quiescent_ref,
   Cert.AdamIn.quiescent, Cert.AdamIn.quiescent_ideal, Cert.AdamIn.quiescent_ref,
   Cert.AdamOut.quiescent, Cert.AdamOut.quiescent_ideal, Cert.AdamOut.quiescent_ref,
   Cert.AdamUp.quiescent, Cert.AdamUp.quiescent_ideal, Cert.AdamUp.quiescent_ref,
   Cert.AdamDown.quiescent, Cert.AdamDown.quiescent_ideal, Cert.AdamDown.quiescent_ref,
   Cert.First.quiescent, Cert.First.quiescent_ideal, Cert.First.quiescent_ref,
   Cert.Mid.quiescent, Cert.Mid.quiescent_ideal, Cert.Mid.quiescent_ref,
   Cert.Head.quiescent, Cert.Head.quiescent_ideal, Cert.Head.quiescent_ref,
   Cert.AdamSmall.quiescent, Cert.AdamSmall.quiescent_ideal, Cert.AdamSmall.quiescent_ref,
   preserves, algebraic,
   trivial, Cert.DH2.algebraic, Cert.Up.preserves,
   Cert.Up.algebraic, trivial, Cert.Down.algebraic,
   trivial, Cert.Qkv.algebraic, trivial,
   Cert.DWin.algebraic, trivial, Cert.DH1.algebraic,
   trivial, Cert.Mix.algebraic, trivial,
   Cert.DMixed.algebraic, trivial, Cert.DWout.algebraic,
   trivial, Cert.Middle.algebraic, trivial,
   Cert.Norm.algebraic, trivial, Cert.AdamIn.algebraic,
   trivial, Cert.AdamOut.algebraic, trivial,
   Cert.AdamUp.algebraic, trivial, Cert.AdamDown.algebraic,
   trivial, Cert.First.algebraic, trivial,
   Cert.Mid.algebraic, trivial, Cert.Head.algebraic,
   trivial, Cert.AdamSmall.algebraic⟩

end Cert.Proof

end
